-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scales [hPre_finite_scales : Cert.Pre_finite_scales.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scales.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 = (fun _ => 1#1)
    ∧ (Cert.Pre_finite_scales.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.1 = (fun _ => 1#1)
    ∧ (Cert.Pre_finite_scales.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.1 = (fun _ => 1#1)
    ∧ (Cert.Pre_finite_scales.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.1 = (fun _ => 1#1)
    ∧ (Cert.Pre_finite_scales.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scales [hPre_finite_scales : Cert.Pre_finite_scales.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scales.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).1 = (fun _ => 1#1)
    ∧ (Cert.Pre_finite_scales.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.1 = (fun _ => 1#1)
    ∧ (Cert.Pre_finite_scales.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.1 = (fun _ => 1#1)
    ∧ (Cert.Pre_finite_scales.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.1 = (fun _ => 1#1)
    ∧ (Cert.Pre_finite_scales.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_qk [hPre_finite_qk : Cert.Pre_finite_qk.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_qk [hPre_finite_qk : Cert.Pre_finite_qk.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_scales [hKernel2Ideal : Cert.Kernel2Ideal.Facts] [hPre_finite_scales : Cert.Pre_finite_scales.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scales m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_scales [hReference2Ideal : Cert.Reference2Ideal.Facts] [hPre_finite_scales : Cert.Pre_finite_scales.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scales m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_qk [hKernel6Ideal : Cert.Kernel6Ideal.Facts] [hPre_finite_qk : Cert.Pre_finite_qk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_qk m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_qk [hReference6Ideal : Cert.Reference6Ideal.Facts] [hPre_finite_qk : Cert.Pre_finite_qk.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_qk m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel2_Kernel2Ideal : Prop :=
  True

def algebraic_Kernel2Ideal_Reference2Ideal_pre_finite_scales [hKernel2Ideal : Cert.Kernel2Ideal.Facts] [hReference2Ideal : Cert.Reference2Ideal.Facts] [hPre_finite_scales : Cert.Pre_finite_scales.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scales m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v167) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "mask" .f32 0xF149F2CA#32 ⊥

def algebraic_Kernel6Ideal_Reference6Ideal_pre_finite_qk [hKernel6Ideal : Cert.Kernel6Ideal.Facts] [hReference6Ideal : Cert.Reference6Ideal.Facts] [hPre_finite_qk : Cert.Pre_finite_qk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_qk m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v68_0)) (v1 : (c : Dev Cert.Kernel7Ideal.nD) → Buf (Elt Ideal) ((c.tc : Thread Cert.Kernel7Ideal.nD Cert.Kernel7Ideal.τ).loc Cert.Kernel7Ideal.main_v68_1)) (v2 : (c : Dev Cert.Kernel7Ideal.nD) → Buf (Elt Ideal) ((c.tc : Thread Cert.Kernel7Ideal.nD Cert.Kernel7Ideal.τ).loc Cert.Kernel7Ideal.main_v68_2)) (v3 : (c : Dev Cert.Kernel7Ideal.nD) → Buf (Elt Ideal) ((c.tc : Thread Cert.Kernel7Ideal.nD Cert.Kernel7Ideal.τ).loc Cert.Kernel7Ideal.main_v68_3)) (v4 : (c : Dev Cert.Kernel7Ideal.nD) → Buf (Elt Ideal) ((c.tc : Thread Cert.Kernel7Ideal.nD Cert.Kernel7Ideal.τ).loc Cert.Kernel7Ideal.main_v68_4)) (v5 : (c : Dev Cert.Kernel7Ideal.nD) → Buf (Elt Ideal) ((c.tc : Thread Cert.Kernel7Ideal.nD Cert.Kernel7Ideal.τ).loc Cert.Kernel7Ideal.main_v68_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v68_0) = v0 c
          ∧ r.2.mem ((c.tc : Thread Cert.Kernel7Ideal.nD Cert.Kernel7Ideal.τ).loc Cert.Kernel7Ideal.main_v68_1) = v1 c
          ∧ r.2.mem ((c.tc : Thread Cert.Kernel7Ideal.nD Cert.Kernel7Ideal.τ).loc Cert.Kernel7Ideal.main_v68_2) = v2 c
          ∧ r.2.mem ((c.tc : Thread Cert.Kernel7Ideal.nD Cert.Kernel7Ideal.τ).loc Cert.Kernel7Ideal.main_v68_3) = v3 c
          ∧ r.2.mem ((c.tc : Thread Cert.Kernel7Ideal.nD Cert.Kernel7Ideal.τ).loc Cert.Kernel7Ideal.main_v68_4) = v4 c
          ∧ r.2.mem ((c.tc : Thread Cert.Kernel7Ideal.nD Cert.Kernel7Ideal.τ).loc Cert.Kernel7Ideal.main_v68_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v153) = v0 c
          ∧ r.2.mem ((c.tc : Thread Cert.Reference7Ideal.nD Cert.Reference7Ideal.τ).loc Cert.Reference7Ideal.main_v155) = v1 c
          ∧ r.2.mem ((c.tc : Thread Cert.Reference7Ideal.nD Cert.Reference7Ideal.τ).loc Cert.Reference7Ideal.main_v157) = v2 c
          ∧ r.2.mem ((c.tc : Thread Cert.Reference7Ideal.nD Cert.Reference7Ideal.τ).loc Cert.Reference7Ideal.main_v159) = v3 c
          ∧ r.2.mem ((c.tc : Thread Cert.Reference7Ideal.nD Cert.Reference7Ideal.τ).loc Cert.Reference7Ideal.main_v161) = v4 c
          ∧ r.2.mem ((c.tc : Thread Cert.Reference7Ideal.nD Cert.Reference7Ideal.τ).loc Cert.Reference7Ideal.main_v162) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scales : Cert.Pre_finite_scales.Facts) (hPre_finite_qk : Cert.Pre_finite_qk.Facts),
    quiescent_Kernel (hKernel := hKernel)
    ∧ quiescent_Kernel2 (hKernel2 := hKernel2)
    ∧ quiescent_Kernel2Ideal (hKernel2Ideal := hKernel2Ideal)
    ∧ quiescent_Kernel2Ideal_pre_finite_scales (hKernel2Ideal := hKernel2Ideal) (hPre_finite_scales := hPre_finite_scales)
    ∧ quiescent_Reference2Ideal (hReference2Ideal := hReference2Ideal)
    ∧ quiescent_Reference2Ideal_pre_finite_scales (hReference2Ideal := hReference2Ideal) (hPre_finite_scales := hPre_finite_scales)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_qk (hKernel6Ideal := hKernel6Ideal) (hPre_finite_qk := hPre_finite_qk)
    ∧ quiescent_Reference6Ideal (hReference6Ideal := hReference6Ideal)
    ∧ quiescent_Reference6Ideal_pre_finite_qk (hReference6Ideal := hReference6Ideal) (hPre_finite_qk := hPre_finite_qk)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel2_Kernel2Ideal
    ∧ algebraic_Kernel2Ideal_Reference2Ideal_pre_finite_scales (hKernel2Ideal := hKernel2Ideal) (hReference2Ideal := hReference2Ideal) (hPre_finite_scales := hPre_finite_scales)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_qk (hKernel6Ideal := hKernel6Ideal) (hReference6Ideal := hReference6Ideal) (hPre_finite_qk := hPre_finite_qk)
    ∧ preserves_Kernel7_Kernel7Ideal
    ∧ algebraic_Kernel7Ideal_Reference7Ideal (hKernel7Ideal := hKernel7Ideal) (hReference7Ideal := hReference7Ideal)
-- ==== Pre_finite_qk.lean ====
abbrev S4x8192x8x192 : Shape := ⟨4, ![4, 8192, 8, 192]⟩
abbrev S4x8192x8x128 : Shape := ⟨4, ![4, 8192, 8, 128]⟩
abbrev S_ : Shape := ⟨0, ![]⟩

class Facts : Prop where
  bcast_S_S4x8192x8x192 : S_.BroadcastsInDim S4x8192x8x192 (![] : Fin 0 → Fin S4x8192x8x192.rank)

variable [Facts]

def fn {F : FTy → Type} [FloatOps F] (main_arg0 : FVec F S4x8192x8x192 .f32) (main_arg1 : FVec F S4x8192x8x192 .f32) (main_arg2 : FVec F S4x8192x8x128 .f32) : IVec S4x8192x8x192 1 × IVec S4x8192x8x192 1 :=
  let main_v0 : FVec F S4x8192x8x192 .f32 := Host.absf main_arg0
  let main_cst : FVec F S_ .f32 := constant S_ .f32 0x7F800000#32
  let main_v1 : FVec F S4x8192x8x192 .f32 := broadcastInDim S4x8192x8x192 ![] bcast_S_S4x8192x8x192 main_cst
  let main_v2 : IVec S4x8192x8x192 1 := cmpf .olt main_v0 main_v1
  let main_v3 : FVec F S4x8192x8x192 .f32 := Host.absf main_arg1
  let main_cst_0 : FVec F S_ .f32 := constant S_ .f32 0x7F800000#32
  let main_v4 : FVec F S4x8192x8x192 .f32 := broadcastInDim S4x8192x8x192 ![] bcast_S_S4x8192x8x192 main_cst_0
  let main_v5 : IVec S4x8192x8x192 1 := cmpf .olt main_v3 main_v4
  (main_v2, main_v5)
-- ==== Pre_finite_scales.lean ====
abbrev S4x8192x1024 : Shape := ⟨3, ![4, 8192, 1024]⟩
abbrev S1024 : Shape := ⟨1, ![1024]⟩
abbrev S4x1x1024 : Shape := ⟨3, ![4, 1, 1024]⟩
abbrev S1024x8 : Shape := ⟨2, ![1024, 8]⟩
abbrev S8 : Shape := ⟨1, ![8]⟩
abbrev S8x1024x2816 : Shape := ⟨3, ![8, 1024, 2816]⟩
abbrev S8x1408x1024 : Shape := ⟨3, ![8, 1408, 1024]⟩
abbrev S_ : Shape := ⟨0, ![]⟩

class Facts : Prop where
  bcast_S_S1024 : S_.BroadcastsInDim S1024 (![] : Fin 0 → Fin S1024.rank)
  bcast_S_S4x1x1024 : S_.BroadcastsInDim S4x1x1024 (![] : Fin 0 → Fin S4x1x1024.rank)
  bcast_S_S1024x8 : S_.BroadcastsInDim S1024x8 (![] : Fin 0 → Fin S1024x8.rank)
  bcast_S_S8 : S_.BroadcastsInDim S8 (![] : Fin 0 → Fin S8.rank)

variable [Facts]

def fn {F : FTy → Type} [FloatOps F] (main_arg0 : FVec F S4x8192x1024 .f32) (main_arg1 : FVec F S1024 .f32) (main_arg2 : FVec F S4x1x1024 .f32) (main_arg3 : FVec F S4x1x1024 .f32) (main_arg4 : FVec F S1024x8 .f32) (main_arg5 : FVec F S8 .f32) (main_arg6 : FVec F S8x1024x2816 .f32) (main_arg7 : FVec F S8x1408x1024 .f32) (main_arg8 : FVec F S1024 .f32) (main_arg9 : FVec F S4x1x1024 .f32) : IVec S1024 1 × IVec S4x1x1024 1 × IVec S4x1x1024 1 × IVec S1024x8 1 × IVec S8 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S4x1x1024 .f32 := Host.absf main_arg2
  let main_cst_0 : FVec F S_ .f32 := constant S_ .f32 0x7F800000#32
  let main_v4 : FVec F S4x1x1024 .f32 := broadcastInDim S4x1x1024 ![] bcast_S_S4x1x1024 main_cst_0
  let main_v5 : IVec S4x1x1024 1 := cmpf .olt main_v3 main_v4
  let main_v6 : FVec F S4x1x1024 .f32 := Host.absf main_arg3
  let main_cst_1 : FVec F S_ .f32 := constant S_ .f32 0x7F800000#32
  let main_v7 : FVec F S4x1x1024 .f32 := broadcastInDim S4x1x1024 ![] bcast_S_S4x1x1024 main_cst_1
  let main_v8 : IVec S4x1x1024 1 := cmpf .olt main_v6 main_v7
  let main_v9 : FVec F S1024x8 .f32 := Host.absf main_arg4
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_v12 : FVec F S8 .f32 := Host.absf main_arg5
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  (main_v2, main_v5, main_v8, main_v11, main_v14)
-- ==== Kernel.lean ====
abbrev S4x8192x1024 : Shape := ⟨3, ![4, 8192, 1024]⟩
abbrev S4x8192x512 : Shape := ⟨3, ![4, 8192, 512]⟩
abbrev S4x8192x128 : Shape := ⟨3, ![4, 8192, 128]⟩
abbrev S4x8192x256 : Shape := ⟨3, ![4, 8192, 256]⟩
abbrev S4x288x8192 : Shape := ⟨3, ![4, 288, 8192]⟩
abbrev S1x128x1024 : Shape := ⟨3, ![1, 128, 1024]⟩
abbrev S1x128x512 : Shape := ⟨3, ![1, 128, 512]⟩
abbrev S1x128x128 : Shape := ⟨3, ![1, 128, 128]⟩
abbrev S1x8192x128 : Shape := ⟨3, ![1, 8192, 128]⟩
abbrev S1x8192x256 : Shape := ⟨3, ![1, 8192, 256]⟩
abbrev S1x288x8192 : Shape := ⟨3, ![1, 288, 8192]⟩
abbrev S8192x128 : Shape := ⟨2, ![8192, 128]⟩
abbrev S512x128 : Shape := ⟨2, ![512, 128]⟩
abbrev S1x128 : Shape := ⟨2, ![1, 128]⟩
abbrev S128x128 : Shape := ⟨2, ![128, 128]⟩
abbrev S128x512 : Shape := ⟨2, ![128, 512]⟩
abbrev S1024x128 : Shape := ⟨2, ![1024, 128]⟩
abbrev S1x512x128 : Shape := ⟨3, ![1, 512, 128]⟩
abbrev S512x1024 : Shape := ⟨2, ![512, 1024]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S64x8x128 : Shape := ⟨3, ![64, 8, 128]⟩
abbrev S128x1024 : Shape := ⟨2, ![128, 1024]⟩
abbrev S1x512 : Shape := ⟨2, ![1, 512]⟩
abbrev S144x512 : Shape := ⟨2, ![144, 512]⟩
abbrev S512x512 : Shape := ⟨2, ![512, 512]⟩
abbrev S1x144x512 : Shape := ⟨3, ![1, 144, 512]⟩
abbrev S512 : Shape := ⟨1, ![512]⟩
abbrev S144x128 : Shape := ⟨2, ![144, 128]⟩

abbrev nBuf : Space → Nat
  | .hbm => 7
  | .vmem => 15
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x512, .bf16⟩
  | .hbm, ⟨2, _⟩ => ⟨S4x8192x128, .f32⟩
  | .hbm, ⟨3, _⟩ => ⟨S4x8192x128, .bf16⟩
  | .hbm, ⟨4, _⟩ => ⟨S4x8192x256, .bf16⟩
  | .hbm, ⟨5, _⟩ => ⟨S4x288x8192, .bf16⟩
  | .hbm, ⟨6, _⟩ => ⟨S4x8192x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x128, .f32⟩
  | .local _ .vmem, ⟨5, _⟩ => ⟨S1x128x128, .f32⟩
  | .local _ .vmem, ⟨6, _⟩ => ⟨S1x8192x128, .bf16⟩
  | .local _ .vmem, ⟨7, _⟩ => ⟨S1x8192x128, .bf16⟩
  | .local _ .vmem, ⟨8, _⟩ => ⟨S1x8192x256, .bf16⟩
  | .local _ .vmem, ⟨9, _⟩ => ⟨S1x8192x256, .bf16⟩
  | .local _ .vmem, ⟨10, _⟩ => ⟨S1x288x8192, .bf16⟩
  | .local _ .vmem, ⟨11, _⟩ => ⟨S1x288x8192, .bf16⟩
  | .local _ .vmem, ⟨12, _⟩ => ⟨S1x128x1024, .bf16⟩
  | .local _ .vmem, ⟨13, _⟩ => ⟨S1x128x1024, .bf16⟩
  | .local _ .vmem, ⟨14, _⟩ => ⟨S8192x128, .i32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 64], ![false, false]⟩

@[reducible] def k0_t1_loop (i : grid0.Coords) : Scf.Loop 32 :=
  let c0_i32_34 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v98 : BitVec 32 := Scalar.subi v20 c0_i32_34
  let c1_i32_36 : BitVec 32 := 1#32
  let v100 : BitVec 32 := Scalar.divsi v98 c1_i32_36
  let v101 : BitVec 32 := Scalar.muli v100 c1_i32_36
  let v102 : BitVec 32 := Scalar.addi c0_i32_34 v101
  let c1_i32_37 : BitVec 32 := 1#32
  ⟨c0_i32_34, v102, c1_i32_37⟩
def k0_mult1 (i : grid0.Coords) (k0_t1 : Fin (k0_t1_loop i).trips) : BitVec 32 :=
  let c0_i32_34 : BitVec 32 := 0#32
  let c1_i32_37 : BitVec 32 := 1#32
  let arg10 : BitVec 32 := Scf.iv c0_i32_34 c1_i32_37 k0_t1
  let c512_i32_78 : BitVec 32 := 512#32
  let v239 : BitVec 32 := Scalar.muli arg10 c512_i32_78
  v239
def k0_off1 (i : grid0.Coords) (k0_t1 : Fin (k0_t1_loop i).trips) : Fin 3 → Nat :=
  let c0_79 : Index := 0#32
  let c0_i32_34 : BitVec 32 := 0#32
  let c1_i32_37 : BitVec 32 := 1#32
  let arg10 : BitVec 32 := Scf.iv c0_i32_34 c1_i32_37 k0_t1
  let c512_i32_78 : BitVec 32 := 512#32
  let v239 : BitVec 32 := Scalar.muli arg10 c512_i32_78
  let v240 : BitVec 32 := v239
  let v241 : Index := Scalar.indexCast v240
  let c0_80 : Index := 0#32
  ![0, v241.toNat, 0]
def k0_off2 (i : grid0.Coords) (k0_t1 : Fin (k0_t1_loop i).trips) : Fin 2 → Nat :=
  let c0_i32_34 : BitVec 32 := 0#32
  let c1_i32_37 : BitVec 32 := 1#32
  let arg10 : BitVec 32 := Scf.iv c0_i32_34 c1_i32_37 k0_t1
  let c512_i32_78 : BitVec 32 := 512#32
  let v239 : BitVec 32 := Scalar.muli arg10 c512_i32_78
  let v240 : BitVec 32 := v239
  let v318 : Index := Scalar.indexCast v240
  let c0_95 : Index := 0#32
  ![v318.toNat, 0]
@[reducible] def k0_t2_loop (i : grid0.Coords) : Scf.Loop 32 :=
  let c0_i32_34 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v98 : BitVec 32 := Scalar.subi v20 c0_i32_34
  let c1_i32_36 : BitVec 32 := 1#32
  let v100 : BitVec 32 := Scalar.divsi v98 c1_i32_36
  let v101 : BitVec 32 := Scalar.muli v100 c1_i32_36
  let v102 : BitVec 32 := Scalar.addi c0_i32_34 v101
  let v99 : BitVec 32 := Scalar.addi c0_i32_34 v98
  let c1_i32_38 : BitVec 32 := 1#32
  ⟨v102, v99, c1_i32_38⟩
def k0_mult2 (i : grid0.Coords) (k0_t2 : Fin (k0_t2_loop i).trips) : BitVec 32 :=
  let c0_i32_34 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v98 : BitVec 32 := Scalar.subi v20 c0_i32_34
  let c1_i32_36 : BitVec 32 := 1#32
  let v100 : BitVec 32 := Scalar.divsi v98 c1_i32_36
  let v101 : BitVec 32 := Scalar.muli v100 c1_i32_36
  let v102 : BitVec 32 := Scalar.addi c0_i32_34 v101
  let c1_i32_38 : BitVec 32 := 1#32
  let arg10 : BitVec 32 := Scf.iv v102 c1_i32_38 k0_t2
  let c512_i32_78 : BitVec 32 := 512#32
  let v239 : BitVec 32 := Scalar.muli arg10 c512_i32_78
  v239
def k0_off3 (i : grid0.Coords) (k0_t2 : Fin (k0_t2_loop i).trips) : Fin 3 → Nat :=
  let c0_79 : Index := 0#32
  let c0_i32_34 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v98 : BitVec 32 := Scalar.subi v20 c0_i32_34
  let c1_i32_36 : BitVec 32 := 1#32
  let v100 : BitVec 32 := Scalar.divsi v98 c1_i32_36
  let v101 : BitVec 32 := Scalar.muli v100 c1_i32_36
  let v102 : BitVec 32 := Scalar.addi c0_i32_34 v101
  let c1_i32_38 : BitVec 32 := 1#32
  let arg10 : BitVec 32 := Scf.iv v102 c1_i32_38 k0_t2
  let c512_i32_78 : BitVec 32 := 512#32
  let v239 : BitVec 32 := Scalar.muli arg10 c512_i32_78
  let v240 : BitVec 32 := v239
  let v241 : Index := Scalar.indexCast v240
  let c0_80 : Index := 0#32
  ![0, v241.toNat, 0]
def k0_off4 (i : grid0.Coords) (k0_t2 : Fin (k0_t2_loop i).trips) : Fin 2 → Nat :=
  let c0_i32_34 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v98 : BitVec 32 := Scalar.subi v20 c0_i32_34
  let c1_i32_36 : BitVec 32 := 1#32
  let v100 : BitVec 32 := Scalar.divsi v98 c1_i32_36
  let v101 : BitVec 32 := Scalar.muli v100 c1_i32_36
  let v102 : BitVec 32 := Scalar.addi c0_i32_34 v101
  let c1_i32_38 : BitVec 32 := 1#32
  let arg10 : BitVec 32 := Scf.iv v102 c1_i32_38 k0_t2
  let c512_i32_78 : BitVec 32 := 512#32
  let v239 : BitVec 32 := Scalar.muli arg10 c512_i32_78
  let v240 : BitVec 32 := v239
  let v318 : Index := Scalar.indexCast v240
  let c0_95 : Index := 0#32
  ![v318.toNat, 0]
@[reducible] def k0_t3_loop (i : grid0.Coords) : Scf.Loop 32 :=
  let c0_i32_81 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v245 : BitVec 32 := Scalar.subi v20 c0_i32_81
  let c1_i32_82 : BitVec 32 := 1#32
  let v247 : BitVec 32 := Scalar.divsi v245 c1_i32_82
  let v248 : BitVec 32 := Scalar.muli v247 c1_i32_82
  let v249 : BitVec 32 := Scalar.addi c0_i32_81 v248
  let c1_i32_83 : BitVec 32 := 1#32
  ⟨c0_i32_81, v249, c1_i32_83⟩
def k0_mult3 (i : grid0.Coords) (k0_t3 : Fin (k0_t3_loop i).trips) : BitVec 32 :=
  let c0_i32_81 : BitVec 32 := 0#32
  let c1_i32_83 : BitVec 32 := 1#32
  let arg14 : BitVec 32 := Scf.iv c0_i32_81 c1_i32_83 k0_t3
  let c512_i32_135 : BitVec 32 := 512#32
  let v360 : BitVec 32 := Scalar.muli arg14 c512_i32_135
  v360
def k0_off5 (i : grid0.Coords) (k0_t3 : Fin (k0_t3_loop i).trips) : Fin 2 → Nat :=
  let c0_i32_81 : BitVec 32 := 0#32
  let c1_i32_83 : BitVec 32 := 1#32
  let arg14 : BitVec 32 := Scf.iv c0_i32_81 c1_i32_83 k0_t3
  let c512_i32_135 : BitVec 32 := 512#32
  let v360 : BitVec 32 := Scalar.muli arg14 c512_i32_135
  let v361 : BitVec 32 := v360
  let v362 : Index := Scalar.indexCast v361
  let c0_136 : Index := 0#32
  ![v362.toNat, 0]
@[reducible] def k0_t4_loop (i : grid0.Coords) : Scf.Loop 32 :=
  let c0_i32_81 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v245 : BitVec 32 := Scalar.subi v20 c0_i32_81
  let c1_i32_82 : BitVec 32 := 1#32
  let v247 : BitVec 32 := Scalar.divsi v245 c1_i32_82
  let v248 : BitVec 32 := Scalar.muli v247 c1_i32_82
  let v249 : BitVec 32 := Scalar.addi c0_i32_81 v248
  let v246 : BitVec 32 := Scalar.addi c0_i32_81 v245
  let c1_i32_84 : BitVec 32 := 1#32
  ⟨v249, v246, c1_i32_84⟩
def k0_mult4 (i : grid0.Coords) (k0_t4 : Fin (k0_t4_loop i).trips) : BitVec 32 :=
  let c0_i32_81 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v245 : BitVec 32 := Scalar.subi v20 c0_i32_81
  let c1_i32_82 : BitVec 32 := 1#32
  let v247 : BitVec 32 := Scalar.divsi v245 c1_i32_82
  let v248 : BitVec 32 := Scalar.muli v247 c1_i32_82
  let v249 : BitVec 32 := Scalar.addi c0_i32_81 v248
  let c1_i32_84 : BitVec 32 := 1#32
  let arg14 : BitVec 32 := Scf.iv v249 c1_i32_84 k0_t4
  let c512_i32_135 : BitVec 32 := 512#32
  let v360 : BitVec 32 := Scalar.muli arg14 c512_i32_135
  v360
def k0_off6 (i : grid0.Coords) (k0_t4 : Fin (k0_t4_loop i).trips) : Fin 2 → Nat :=
  let c0_i32_81 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v245 : BitVec 32 := Scalar.subi v20 c0_i32_81
  let c1_i32_82 : BitVec 32 := 1#32
  let v247 : BitVec 32 := Scalar.divsi v245 c1_i32_82
  let v248 : BitVec 32 := Scalar.muli v247 c1_i32_82
  let v249 : BitVec 32 := Scalar.addi c0_i32_81 v248
  let c1_i32_84 : BitVec 32 := 1#32
  let arg14 : BitVec 32 := Scf.iv v249 c1_i32_84 k0_t4
  let c512_i32_135 : BitVec 32 := 512#32
  let v360 : BitVec 32 := Scalar.muli arg14 c512_i32_135
  let v361 : BitVec 32 := v360
  let v362 : Index := Scalar.indexCast v361
  let c0_136 : Index := 0#32
  ![v362.toNat, 0]
@[reducible] def k0_t5_loop (i : grid0.Coords) : Scf.Loop 32 :=
  let c0_i32_94 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v275 : BitVec 32 := Scalar.subi v20 c0_i32_94
  let c1_i32_95 : BitVec 32 := 1#32
  let v277 : BitVec 32 := Scalar.divsi v275 c1_i32_95
  let v278 : BitVec 32 := Scalar.muli v277 c1_i32_95
  let v279 : BitVec 32 := Scalar.addi c0_i32_94 v278
  let c1_i32_96 : BitVec 32 := 1#32
  ⟨c0_i32_94, v279, c1_i32_96⟩
def k0_mult5 (i : grid0.Coords) (k0_t5 : Fin (k0_t5_loop i).trips) : BitVec 32 :=
  let c0_i32_94 : BitVec 32 := 0#32
  let c1_i32_96 : BitVec 32 := 1#32
  let arg14 : BitVec 32 := Scf.iv c0_i32_94 c1_i32_96 k0_t5
  let c512_i32_135 : BitVec 32 := 512#32
  let v360 : BitVec 32 := Scalar.muli arg14 c512_i32_135
  v360
def k0_off7 (i : grid0.Coords) (k0_t5 : Fin (k0_t5_loop i).trips) : Fin 2 → Nat :=
  let c0_i32_94 : BitVec 32 := 0#32
  let c1_i32_96 : BitVec 32 := 1#32
  let arg14 : BitVec 32 := Scf.iv c0_i32_94 c1_i32_96 k0_t5
  let c512_i32_135 : BitVec 32 := 512#32
  let v360 : BitVec 32 := Scalar.muli arg14 c512_i32_135
  let v361 : BitVec 32 := v360
  let v362 : Index := Scalar.indexCast v361
  let c0_136 : Index := 0#32
  ![v362.toNat, 0]
@[reducible] def k0_t6_loop (i : grid0.Coords) : Scf.Loop 32 :=
  let c0_i32_94 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v275 : BitVec 32 := Scalar.subi v20 c0_i32_94
  let c1_i32_95 : BitVec 32 := 1#32
  let v277 : BitVec 32 := Scalar.divsi v275 c1_i32_95
  let v278 : BitVec 32 := Scalar.muli v277 c1_i32_95
  let v279 : BitVec 32 := Scalar.addi c0_i32_94 v278
  let v276 : BitVec 32 := Scalar.addi c0_i32_94 v275
  let c1_i32_97 : BitVec 32 := 1#32
  ⟨v279, v276, c1_i32_97⟩
def k0_mult6 (i : grid0.Coords) (k0_t6 : Fin (k0_t6_loop i).trips) : BitVec 32 :=
  let c0_i32_94 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v275 : BitVec 32 := Scalar.subi v20 c0_i32_94
  let c1_i32_95 : BitVec 32 := 1#32
  let v277 : BitVec 32 := Scalar.divsi v275 c1_i32_95
  let v278 : BitVec 32 := Scalar.muli v277 c1_i32_95
  let v279 : BitVec 32 := Scalar.addi c0_i32_94 v278
  let c1_i32_97 : BitVec 32 := 1#32
  let arg14 : BitVec 32 := Scf.iv v279 c1_i32_97 k0_t6
  let c512_i32_135 : BitVec 32 := 512#32
  let v360 : BitVec 32 := Scalar.muli arg14 c512_i32_135
  v360
def k0_off8 (i : grid0.Coords) (k0_t6 : Fin (k0_t6_loop i).trips) : Fin 2 → Nat :=
  let c0_i32_94 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v275 : BitVec 32 := Scalar.subi v20 c0_i32_94
  let c1_i32_95 : BitVec 32 := 1#32
  let v277 : BitVec 32 := Scalar.divsi v275 c1_i32_95
  let v278 : BitVec 32 := Scalar.muli v277 c1_i32_95
  let v279 : BitVec 32 := Scalar.addi c0_i32_94 v278
  let c1_i32_97 : BitVec 32 := 1#32
  let arg14 : BitVec 32 := Scf.iv v279 c1_i32_97 k0_t6
  let c512_i32_135 : BitVec 32 := 512#32
  let v360 : BitVec 32 := Scalar.muli arg14 c512_i32_135
  let v361 : BitVec 32 := v360
  let v362 : Index := Scalar.indexCast v361
  let c0_136 : Index := 0#32
  ![v362.toNat, 0]
@[reducible] def k0_t7_loop (i : grid0.Coords) : Scf.Loop 32 :=
  let c0_i32_109 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v305 : BitVec 32 := Scalar.subi v20 c0_i32_109
  let c1_i32_110 : BitVec 32 := 1#32
  let v307 : BitVec 32 := Scalar.divsi v305 c1_i32_110
  let v308 : BitVec 32 := Scalar.muli v307 c1_i32_110
  let v309 : BitVec 32 := Scalar.addi c0_i32_109 v308
  let c1_i32_111 : BitVec 32 := 1#32
  ⟨c0_i32_109, v309, c1_i32_111⟩
def k0_mult7 (i : grid0.Coords) (k0_t7 : Fin (k0_t7_loop i).trips) : BitVec 32 :=
  let c0_i32_109 : BitVec 32 := 0#32
  let c1_i32_111 : BitVec 32 := 1#32
  let arg14 : BitVec 32 := Scf.iv c0_i32_109 c1_i32_111 k0_t7
  let c512_i32_135 : BitVec 32 := 512#32
  let v360 : BitVec 32 := Scalar.muli arg14 c512_i32_135
  v360
def k0_off9 (i : grid0.Coords) (k0_t7 : Fin (k0_t7_loop i).trips) : Fin 2 → Nat :=
  let c0_i32_109 : BitVec 32 := 0#32
  let c1_i32_111 : BitVec 32 := 1#32
  let arg14 : BitVec 32 := Scf.iv c0_i32_109 c1_i32_111 k0_t7
  let c512_i32_135 : BitVec 32 := 512#32
  let v360 : BitVec 32 := Scalar.muli arg14 c512_i32_135
  let v361 : BitVec 32 := v360
  let v362 : Index := Scalar.indexCast v361
  let c0_136 : Index := 0#32
  ![v362.toNat, 0]
@[reducible] def k0_t8_loop (i : grid0.Coords) : Scf.Loop 32 :=
  let c0_i32_109 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v305 : BitVec 32 := Scalar.subi v20 c0_i32_109
  let c1_i32_110 : BitVec 32 := 1#32
  let v307 : BitVec 32 := Scalar.divsi v305 c1_i32_110
  let v308 : BitVec 32 := Scalar.muli v307 c1_i32_110
  let v309 : BitVec 32 := Scalar.addi c0_i32_109 v308
  let v306 : BitVec 32 := Scalar.addi c0_i32_109 v305
  let c1_i32_112 : BitVec 32 := 1#32
  ⟨v309, v306, c1_i32_112⟩
def k0_mult8 (i : grid0.Coords) (k0_t8 : Fin (k0_t8_loop i).trips) : BitVec 32 :=
  let c0_i32_109 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v305 : BitVec 32 := Scalar.subi v20 c0_i32_109
  let c1_i32_110 : BitVec 32 := 1#32
  let v307 : BitVec 32 := Scalar.divsi v305 c1_i32_110
  let v308 : BitVec 32 := Scalar.muli v307 c1_i32_110
  let v309 : BitVec 32 := Scalar.addi c0_i32_109 v308
  let c1_i32_112 : BitVec 32 := 1#32
  let arg14 : BitVec 32 := Scf.iv v309 c1_i32_112 k0_t8
  let c512_i32_135 : BitVec 32 := 512#32
  let v360 : BitVec 32 := Scalar.muli arg14 c512_i32_135
  v360
def k0_off10 (i : grid0.Coords) (k0_t8 : Fin (k0_t8_loop i).trips) : Fin 2 → Nat :=
  let c0_i32_109 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v305 : BitVec 32 := Scalar.subi v20 c0_i32_109
  let c1_i32_110 : BitVec 32 := 1#32
  let v307 : BitVec 32 := Scalar.divsi v305 c1_i32_110
  let v308 : BitVec 32 := Scalar.muli v307 c1_i32_110
  let v309 : BitVec 32 := Scalar.addi c0_i32_109 v308
  let c1_i32_112 : BitVec 32 := 1#32
  let arg14 : BitVec 32 := Scf.iv v309 c1_i32_112 k0_t8
  let c512_i32_135 : BitVec 32 := 512#32
  let v360 : BitVec 32 := Scalar.muli arg14 c512_i32_135
  let v361 : BitVec 32 := v360
  let v362 : Index := Scalar.indexCast v361
  let c0_136 : Index := 0#32
  ![v362.toNat, 0]
@[reducible] def k0_t9_loop (i : grid0.Coords) : Scf.Loop 32 :=
  let c0_i32_123 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v335 : BitVec 32 := Scalar.subi v20 c0_i32_123
  let c1_i32_124 : BitVec 32 := 1#32
  let v337 : BitVec 32 := Scalar.divsi v335 c1_i32_124
  let v338 : BitVec 32 := Scalar.muli v337 c1_i32_124
  let v339 : BitVec 32 := Scalar.addi c0_i32_123 v338
  let c1_i32_125 : BitVec 32 := 1#32
  ⟨c0_i32_123, v339, c1_i32_125⟩
def k0_mult9 (i : grid0.Coords) (k0_t9 : Fin (k0_t9_loop i).trips) : BitVec 32 :=
  let c0_i32_123 : BitVec 32 := 0#32
  let c1_i32_125 : BitVec 32 := 1#32
  let arg14 : BitVec 32 := Scf.iv c0_i32_123 c1_i32_125 k0_t9
  let c512_i32_135 : BitVec 32 := 512#32
  let v360 : BitVec 32 := Scalar.muli arg14 c512_i32_135
  v360
def k0_off11 (i : grid0.Coords) (k0_t9 : Fin (k0_t9_loop i).trips) : Fin 2 → Nat :=
  let c0_i32_123 : BitVec 32 := 0#32
  let c1_i32_125 : BitVec 32 := 1#32
  let arg14 : BitVec 32 := Scf.iv c0_i32_123 c1_i32_125 k0_t9
  let c512_i32_135 : BitVec 32 := 512#32
  let v360 : BitVec 32 := Scalar.muli arg14 c512_i32_135
  let v361 : BitVec 32 := v360
  let v362 : Index := Scalar.indexCast v361
  let c0_136 : Index := 0#32
  ![v362.toNat, 0]
@[reducible] def k0_t10_loop (i : grid0.Coords) : Scf.Loop 32 :=
  let c0_i32_123 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v335 : BitVec 32 := Scalar.subi v20 c0_i32_123
  let c1_i32_124 : BitVec 32 := 1#32
  let v337 : BitVec 32 := Scalar.divsi v335 c1_i32_124
  let v338 : BitVec 32 := Scalar.muli v337 c1_i32_124
  let v339 : BitVec 32 := Scalar.addi c0_i32_123 v338
  let v336 : BitVec 32 := Scalar.addi c0_i32_123 v335
  let c1_i32_126 : BitVec 32 := 1#32
  ⟨v339, v336, c1_i32_126⟩
def k0_mult10 (i : grid0.Coords) (k0_t10 : Fin (k0_t10_loop i).trips) : BitVec 32 :=
  let c0_i32_123 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v335 : BitVec 32 := Scalar.subi v20 c0_i32_123
  let c1_i32_124 : BitVec 32 := 1#32
  let v337 : BitVec 32 := Scalar.divsi v335 c1_i32_124
  let v338 : BitVec 32 := Scalar.muli v337 c1_i32_124
  let v339 : BitVec 32 := Scalar.addi c0_i32_123 v338
  let c1_i32_126 : BitVec 32 := 1#32
  let arg14 : BitVec 32 := Scf.iv v339 c1_i32_126 k0_t10
  let c512_i32_135 : BitVec 32 := 512#32
  let v360 : BitVec 32 := Scalar.muli arg14 c512_i32_135
  v360
def k0_off12 (i : grid0.Coords) (k0_t10 : Fin (k0_t10_loop i).trips) : Fin 2 → Nat :=
  let c0_i32_123 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v335 : BitVec 32 := Scalar.subi v20 c0_i32_123
  let c1_i32_124 : BitVec 32 := 1#32
  let v337 : BitVec 32 := Scalar.divsi v335 c1_i32_124
  let v338 : BitVec 32 := Scalar.muli v337 c1_i32_124
  let v339 : BitVec 32 := Scalar.addi c0_i32_123 v338
  let c1_i32_126 : BitVec 32 := 1#32
  let arg14 : BitVec 32 := Scf.iv v339 c1_i32_126 k0_t10
  let c512_i32_135 : BitVec 32 := 512#32
  let v360 : BitVec 32 := Scalar.muli arg14 c512_i32_135
  let v361 : BitVec 32 := v360
  let v362 : Index := Scalar.indexCast v361
  let c0_136 : Index := 0#32
  ![v362.toNat, 0]
@[reducible] def k0_t11_loop (i : grid0.Coords) : Scf.Loop 32 :=
  let c0_i32_79 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v240 : BitVec 32 := Scalar.subi v20 c0_i32_79
  let c1_i32_80 : BitVec 32 := 1#32
  let v242 : BitVec 32 := Scalar.divsi v240 c1_i32_80
  let v243 : BitVec 32 := Scalar.muli v242 c1_i32_80
  let v244 : BitVec 32 := Scalar.addi c0_i32_79 v243
  let c1_i32_81 : BitVec 32 := 1#32
  ⟨c0_i32_79, v244, c1_i32_81⟩
def k0_mult11 (i : grid0.Coords) (k0_t11 : Fin (k0_t11_loop i).trips) : BitVec 32 :=
  let c0_i32_79 : BitVec 32 := 0#32
  let c1_i32_81 : BitVec 32 := 1#32
  let arg10 : BitVec 32 := Scf.iv c0_i32_79 c1_i32_81 k0_t11
  let c512_i32_89 : BitVec 32 := 512#32
  let v258 : BitVec 32 := Scalar.muli arg10 c512_i32_89
  v258
def k0_off13 (i : grid0.Coords) (k0_t11 : Fin (k0_t11_loop i).trips) : Fin 2 → Nat :=
  let c0_i32_79 : BitVec 32 := 0#32
  let c1_i32_81 : BitVec 32 := 1#32
  let arg10 : BitVec 32 := Scf.iv c0_i32_79 c1_i32_81 k0_t11
  let c512_i32_89 : BitVec 32 := 512#32
  let v258 : BitVec 32 := Scalar.muli arg10 c512_i32_89
  let v259 : BitVec 32 := v258
  let v260 : Index := Scalar.indexCast v259
  let c0_90 : Index := 0#32
  ![v260.toNat, 0]
@[reducible] def k0_t12_loop (i : grid0.Coords) : Scf.Loop 32 :=
  let c0_i32_79 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v240 : BitVec 32 := Scalar.subi v20 c0_i32_79
  let c1_i32_80 : BitVec 32 := 1#32
  let v242 : BitVec 32 := Scalar.divsi v240 c1_i32_80
  let v243 : BitVec 32 := Scalar.muli v242 c1_i32_80
  let v244 : BitVec 32 := Scalar.addi c0_i32_79 v243
  let v241 : BitVec 32 := Scalar.addi c0_i32_79 v240
  let c1_i32_82 : BitVec 32 := 1#32
  ⟨v244, v241, c1_i32_82⟩
def k0_mult12 (i : grid0.Coords) (k0_t12 : Fin (k0_t12_loop i).trips) : BitVec 32 :=
  let c0_i32_79 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v240 : BitVec 32 := Scalar.subi v20 c0_i32_79
  let c1_i32_80 : BitVec 32 := 1#32
  let v242 : BitVec 32 := Scalar.divsi v240 c1_i32_80
  let v243 : BitVec 32 := Scalar.muli v242 c1_i32_80
  let v244 : BitVec 32 := Scalar.addi c0_i32_79 v243
  let c1_i32_82 : BitVec 32 := 1#32
  let arg10 : BitVec 32 := Scf.iv v244 c1_i32_82 k0_t12
  let c512_i32_89 : BitVec 32 := 512#32
  let v258 : BitVec 32 := Scalar.muli arg10 c512_i32_89
  v258
def k0_off14 (i : grid0.Coords) (k0_t12 : Fin (k0_t12_loop i).trips) : Fin 2 → Nat :=
  let c0_i32_79 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v240 : BitVec 32 := Scalar.subi v20 c0_i32_79
  let c1_i32_80 : BitVec 32 := 1#32
  let v242 : BitVec 32 := Scalar.divsi v240 c1_i32_80
  let v243 : BitVec 32 := Scalar.muli v242 c1_i32_80
  let v244 : BitVec 32 := Scalar.addi c0_i32_79 v243
  let c1_i32_82 : BitVec 32 := 1#32
  let arg10 : BitVec 32 := Scf.iv v244 c1_i32_82 k0_t12
  let c512_i32_89 : BitVec 32 := 512#32
  let v258 : BitVec 32 := Scalar.muli arg10 c512_i32_89
  let v259 : BitVec 32 := v258
  let v260 : Index := Scalar.indexCast v259
  let c0_90 : Index := 0#32
  ![v260.toNat, 0]
@[reducible] def k0_t13_loop : Scf.Loop 32 :=
  let c0_i32_86 : BitVec 32 := 0#32
  let c14_i32 : BitVec 32 := 14#32
  let v256 : BitVec 32 := Scalar.addi c0_i32_86 c14_i32
  let c1_i32_87 : BitVec 32 := 1#32
  ⟨c0_i32_86, v256, c1_i32_87⟩
@[reducible] def k0_t14_loop (i : grid0.Coords) : Scf.Loop 32 :=
  let c0_i32_91 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v263 : BitVec 32 := Scalar.subi v20 c0_i32_91
  let c1_i32_92 : BitVec 32 := 1#32
  let v265 : BitVec 32 := Scalar.divsi v263 c1_i32_92
  let v266 : BitVec 32 := Scalar.muli v265 c1_i32_92
  let v267 : BitVec 32 := Scalar.addi c0_i32_91 v266
  let c1_i32_93 : BitVec 32 := 1#32
  ⟨c0_i32_91, v267, c1_i32_93⟩
def k0_mult13 (i : grid0.Coords) (k0_t14 : Fin (k0_t14_loop i).trips) : BitVec 32 :=
  let c0_i32_91 : BitVec 32 := 0#32
  let c1_i32_93 : BitVec 32 := 1#32
  let arg12 : BitVec 32 := Scf.iv c0_i32_91 c1_i32_93 k0_t14
  let c512_i32_98 : BitVec 32 := 512#32
  let v278 : BitVec 32 := Scalar.muli arg12 c512_i32_98
  v278
def k0_off15 (i : grid0.Coords) (k0_t14 : Fin (k0_t14_loop i).trips) : Fin 2 → Nat :=
  let c0_i32_91 : BitVec 32 := 0#32
  let c1_i32_93 : BitVec 32 := 1#32
  let arg12 : BitVec 32 := Scf.iv c0_i32_91 c1_i32_93 k0_t14
  let c512_i32_98 : BitVec 32 := 512#32
  let v278 : BitVec 32 := Scalar.muli arg12 c512_i32_98
  let v279 : BitVec 32 := v278
  let v280 : Index := Scalar.indexCast v279
  let c0_99 : Index := 0#32
  ![v280.toNat, 0]
@[reducible] def k0_t15_loop (i : grid0.Coords) : Scf.Loop 32 :=
  let c0_i32_91 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v263 : BitVec 32 := Scalar.subi v20 c0_i32_91
  let c1_i32_92 : BitVec 32 := 1#32
  let v265 : BitVec 32 := Scalar.divsi v263 c1_i32_92
  let v266 : BitVec 32 := Scalar.muli v265 c1_i32_92
  let v267 : BitVec 32 := Scalar.addi c0_i32_91 v266
  let v264 : BitVec 32 := Scalar.addi c0_i32_91 v263
  let c1_i32_94 : BitVec 32 := 1#32
  ⟨v267, v264, c1_i32_94⟩
def k0_mult14 (i : grid0.Coords) (k0_t15 : Fin (k0_t15_loop i).trips) : BitVec 32 :=
  let c0_i32_91 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v263 : BitVec 32 := Scalar.subi v20 c0_i32_91
  let c1_i32_92 : BitVec 32 := 1#32
  let v265 : BitVec 32 := Scalar.divsi v263 c1_i32_92
  let v266 : BitVec 32 := Scalar.muli v265 c1_i32_92
  let v267 : BitVec 32 := Scalar.addi c0_i32_91 v266
  let c1_i32_94 : BitVec 32 := 1#32
  let arg12 : BitVec 32 := Scf.iv v267 c1_i32_94 k0_t15
  let c512_i32_98 : BitVec 32 := 512#32
  let v278 : BitVec 32 := Scalar.muli arg12 c512_i32_98
  v278
def k0_off16 (i : grid0.Coords) (k0_t15 : Fin (k0_t15_loop i).trips) : Fin 2 → Nat :=
  let c0_i32_91 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v263 : BitVec 32 := Scalar.subi v20 c0_i32_91
  let c1_i32_92 : BitVec 32 := 1#32
  let v265 : BitVec 32 := Scalar.divsi v263 c1_i32_92
  let v266 : BitVec 32 := Scalar.muli v265 c1_i32_92
  let v267 : BitVec 32 := Scalar.addi c0_i32_91 v266
  let c1_i32_94 : BitVec 32 := 1#32
  let arg12 : BitVec 32 := Scf.iv v267 c1_i32_94 k0_t15
  let c512_i32_98 : BitVec 32 := 512#32
  let v278 : BitVec 32 := Scalar.muli arg12 c512_i32_98
  let v279 : BitVec 32 := v278
  let v280 : Index := Scalar.indexCast v279
  let c0_99 : Index := 0#32
  ![v280.toNat, 0]
@[reducible] def k0_t16_loop (i : grid0.Coords) : Scf.Loop 32 :=
  let c0_i32_57 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v152 : BitVec 32 := Scalar.subi v20 c0_i32_57
  let c1_i32_58 : BitVec 32 := 1#32
  let v154 : BitVec 32 := Scalar.divsi v152 c1_i32_58
  let v155 : BitVec 32 := Scalar.muli v154 c1_i32_58
  let v156 : BitVec 32 := Scalar.addi c0_i32_57 v155
  let c1_i32_59 : BitVec 32 := 1#32
  ⟨c0_i32_57, v156, c1_i32_59⟩
def k0_mult15 (i : grid0.Coords) (k0_t16 : Fin (k0_t16_loop i).trips) : BitVec 32 :=
  let c0_i32_57 : BitVec 32 := 0#32
  let c1_i32_59 : BitVec 32 := 1#32
  let arg10 : BitVec 32 := Scf.iv c0_i32_57 c1_i32_59 k0_t16
  let c512_i32_78 : BitVec 32 := 512#32
  let v239 : BitVec 32 := Scalar.muli arg10 c512_i32_78
  v239
def k0_off17 (i : grid0.Coords) (k0_t16 : Fin (k0_t16_loop i).trips) : Fin 2 → Nat :=
  let c0_i32_57 : BitVec 32 := 0#32
  let c1_i32_59 : BitVec 32 := 1#32
  let arg10 : BitVec 32 := Scf.iv c0_i32_57 c1_i32_59 k0_t16
  let c512_i32_78 : BitVec 32 := 512#32
  let v239 : BitVec 32 := Scalar.muli arg10 c512_i32_78
  let v240 : BitVec 32 := v239
  let v241 : Index := Scalar.indexCast v240
  let c0_79 : Index := 0#32
  ![v241.toNat, 0]
def k0_off18 (i : grid0.Coords) (k0_t16 : Fin (k0_t16_loop i).trips) : Fin 3 → Nat :=
  let c0_82 : Index := 0#32
  let c0_i32_57 : BitVec 32 := 0#32
  let c1_i32_59 : BitVec 32 := 1#32
  let arg10 : BitVec 32 := Scf.iv c0_i32_57 c1_i32_59 k0_t16
  let c512_i32_78 : BitVec 32 := 512#32
  let v239 : BitVec 32 := Scalar.muli arg10 c512_i32_78
  let v240 : BitVec 32 := v239
  let v260 : Index := Scalar.indexCast v240
  let c0_83 : Index := 0#32
  ![0, v260.toNat, 0]
def k0_off19 (i : grid0.Coords) (k0_t16 : Fin (k0_t16_loop i).trips) : Fin 3 → Nat :=
  let c0_85 : Index := 0#32
  let c0_86 : Index := 0#32
  let c0_i32_57 : BitVec 32 := 0#32
  let c1_i32_59 : BitVec 32 := 1#32
  let arg10 : BitVec 32 := Scf.iv c0_i32_57 c1_i32_59 k0_t16
  let c512_i32_78 : BitVec 32 := 512#32
  let v239 : BitVec 32 := Scalar.muli arg10 c512_i32_78
  let v240 : BitVec 32 := v239
  let v265 : Index := Scalar.indexCast v240
  ![0, 0, v265.toNat]
def k0_off20 (i : grid0.Coords) (k0_t16 : Fin (k0_t16_loop i).trips) : Fin 3 → Nat :=
  let c0_89 : Index := 0#32
  let c0_i32_57 : BitVec 32 := 0#32
  let c1_i32_59 : BitVec 32 := 1#32
  let arg10 : BitVec 32 := Scf.iv c0_i32_57 c1_i32_59 k0_t16
  let c512_i32_78 : BitVec 32 := 512#32
  let v239 : BitVec 32 := Scalar.muli arg10 c512_i32_78
  let v240 : BitVec 32 := v239
  let v281 : Index := Scalar.indexCast v240
  let c128_90 : Index := 128#32
  ![0, v281.toNat, 128]
def k0_off21 (i : grid0.Coords) (k0_t16 : Fin (k0_t16_loop i).trips) : Fin 3 → Nat :=
  let c0_92 : Index := 0#32
  let c144 : Index := 144#32
  let c0_i32_57 : BitVec 32 := 0#32
  let c1_i32_59 : BitVec 32 := 1#32
  let arg10 : BitVec 32 := Scf.iv c0_i32_57 c1_i32_59 k0_t16
  let c512_i32_78 : BitVec 32 := 512#32
  let v239 : BitVec 32 := Scalar.muli arg10 c512_i32_78
  let v240 : BitVec 32 := v239
  let v286 : Index := Scalar.indexCast v240
  ![0, 144, v286.toNat]
@[reducible] def k0_t17_loop (i : grid0.Coords) : Scf.Loop 32 :=
  let c0_i32_57 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v152 : BitVec 32 := Scalar.subi v20 c0_i32_57
  let c1_i32_58 : BitVec 32 := 1#32
  let v154 : BitVec 32 := Scalar.divsi v152 c1_i32_58
  let v155 : BitVec 32 := Scalar.muli v154 c1_i32_58
  let v156 : BitVec 32 := Scalar.addi c0_i32_57 v155
  let v153 : BitVec 32 := Scalar.addi c0_i32_57 v152
  let c1_i32_60 : BitVec 32 := 1#32
  ⟨v156, v153, c1_i32_60⟩
def k0_mult16 (i : grid0.Coords) (k0_t17 : Fin (k0_t17_loop i).trips) : BitVec 32 :=
  let c0_i32_57 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v152 : BitVec 32 := Scalar.subi v20 c0_i32_57
  let c1_i32_58 : BitVec 32 := 1#32
  let v154 : BitVec 32 := Scalar.divsi v152 c1_i32_58
  let v155 : BitVec 32 := Scalar.muli v154 c1_i32_58
  let v156 : BitVec 32 := Scalar.addi c0_i32_57 v155
  let c1_i32_60 : BitVec 32 := 1#32
  let arg10 : BitVec 32 := Scf.iv v156 c1_i32_60 k0_t17
  let c512_i32_78 : BitVec 32 := 512#32
  let v239 : BitVec 32 := Scalar.muli arg10 c512_i32_78
  v239
def k0_off22 (i : grid0.Coords) (k0_t17 : Fin (k0_t17_loop i).trips) : Fin 2 → Nat :=
  let c0_i32_57 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v152 : BitVec 32 := Scalar.subi v20 c0_i32_57
  let c1_i32_58 : BitVec 32 := 1#32
  let v154 : BitVec 32 := Scalar.divsi v152 c1_i32_58
  let v155 : BitVec 32 := Scalar.muli v154 c1_i32_58
  let v156 : BitVec 32 := Scalar.addi c0_i32_57 v155
  let c1_i32_60 : BitVec 32 := 1#32
  let arg10 : BitVec 32 := Scf.iv v156 c1_i32_60 k0_t17
  let c512_i32_78 : BitVec 32 := 512#32
  let v239 : BitVec 32 := Scalar.muli arg10 c512_i32_78
  let v240 : BitVec 32 := v239
  let v241 : Index := Scalar.indexCast v240
  let c0_79 : Index := 0#32
  ![v241.toNat, 0]
def k0_off23 (i : grid0.Coords) (k0_t17 : Fin (k0_t17_loop i).trips) : Fin 3 → Nat :=
  let c0_82 : Index := 0#32
  let c0_i32_57 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v152 : BitVec 32 := Scalar.subi v20 c0_i32_57
  let c1_i32_58 : BitVec 32 := 1#32
  let v154 : BitVec 32 := Scalar.divsi v152 c1_i32_58
  let v155 : BitVec 32 := Scalar.muli v154 c1_i32_58
  let v156 : BitVec 32 := Scalar.addi c0_i32_57 v155
  let c1_i32_60 : BitVec 32 := 1#32
  let arg10 : BitVec 32 := Scf.iv v156 c1_i32_60 k0_t17
  let c512_i32_78 : BitVec 32 := 512#32
  let v239 : BitVec 32 := Scalar.muli arg10 c512_i32_78
  let v240 : BitVec 32 := v239
  let v260 : Index := Scalar.indexCast v240
  let c0_83 : Index := 0#32
  ![0, v260.toNat, 0]
def k0_off24 (i : grid0.Coords) (k0_t17 : Fin (k0_t17_loop i).trips) : Fin 3 → Nat :=
  let c0_85 : Index := 0#32
  let c0_86 : Index := 0#32
  let c0_i32_57 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v152 : BitVec 32 := Scalar.subi v20 c0_i32_57
  let c1_i32_58 : BitVec 32 := 1#32
  let v154 : BitVec 32 := Scalar.divsi v152 c1_i32_58
  let v155 : BitVec 32 := Scalar.muli v154 c1_i32_58
  let v156 : BitVec 32 := Scalar.addi c0_i32_57 v155
  let c1_i32_60 : BitVec 32 := 1#32
  let arg10 : BitVec 32 := Scf.iv v156 c1_i32_60 k0_t17
  let c512_i32_78 : BitVec 32 := 512#32
  let v239 : BitVec 32 := Scalar.muli arg10 c512_i32_78
  let v240 : BitVec 32 := v239
  let v265 : Index := Scalar.indexCast v240
  ![0, 0, v265.toNat]
def k0_off25 (i : grid0.Coords) (k0_t17 : Fin (k0_t17_loop i).trips) : Fin 3 → Nat :=
  let c0_89 : Index := 0#32
  let c0_i32_57 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v152 : BitVec 32 := Scalar.subi v20 c0_i32_57
  let c1_i32_58 : BitVec 32 := 1#32
  let v154 : BitVec 32 := Scalar.divsi v152 c1_i32_58
  let v155 : BitVec 32 := Scalar.muli v154 c1_i32_58
  let v156 : BitVec 32 := Scalar.addi c0_i32_57 v155
  let c1_i32_60 : BitVec 32 := 1#32
  let arg10 : BitVec 32 := Scf.iv v156 c1_i32_60 k0_t17
  let c512_i32_78 : BitVec 32 := 512#32
  let v239 : BitVec 32 := Scalar.muli arg10 c512_i32_78
  let v240 : BitVec 32 := v239
  let v281 : Index := Scalar.indexCast v240
  let c128_90 : Index := 128#32
  ![0, v281.toNat, 128]
def k0_off26 (i : grid0.Coords) (k0_t17 : Fin (k0_t17_loop i).trips) : Fin 3 → Nat :=
  let c0_92 : Index := 0#32
  let c144 : Index := 144#32
  let c0_i32_57 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v152 : BitVec 32 := Scalar.subi v20 c0_i32_57
  let c1_i32_58 : BitVec 32 := 1#32
  let v154 : BitVec 32 := Scalar.divsi v152 c1_i32_58
  let v155 : BitVec 32 := Scalar.muli v154 c1_i32_58
  let v156 : BitVec 32 := Scalar.addi c0_i32_57 v155
  let c1_i32_60 : BitVec 32 := 1#32
  let arg10 : BitVec 32 := Scf.iv v156 c1_i32_60 k0_t17
  let c512_i32_78 : BitVec 32 := 512#32
  let v239 : BitVec 32 := Scalar.muli arg10 c512_i32_78
  let v240 : BitVec 32 := v239
  let v286 : Index := Scalar.indexCast v240
  ![0, 144, v286.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x288x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S4x8192x1024 : Shape := ⟨3, ![4, 8192, 1024]⟩
abbrev S1024 : Shape := ⟨1, ![1024]⟩
abbrev S4x1x1024 : Shape := ⟨3, ![4, 1, 1024]⟩
abbrev S1024x8 : Shape := ⟨2, ![1024, 8]⟩
abbrev S8 : Shape := ⟨1, ![8]⟩
abbrev S8x1024x2816 : Shape := ⟨3, ![8, 1024, 2816]⟩
abbrev S8x1408x1024 : Shape := ⟨3, ![8, 1408, 1024]⟩
abbrev S8x1024x1408 : Shape := ⟨3, ![8, 1024, 1408]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩
abbrev S1x8 : Shape := ⟨2, ![1, 8]⟩
abbrev S1x128 : Shape := ⟨2, ![1, 128]⟩
abbrev S1x1024 : Shape := ⟨2, ![1, 1024]⟩
abbrev S1x512x1024 : Shape := ⟨3, ![1, 512, 1024]⟩
abbrev S1x1x1024 : Shape := ⟨3, ![1, 1, 1024]⟩
abbrev S1x1024x1408 : Shape := ⟨3, ![1, 1024, 1408]⟩
abbrev S1x1408x1024 : Shape := ⟨3, ![1, 1408, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 32
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x8, .f32⟩
  | .hbm, ⟨5, _⟩ => ⟨S8, .f32⟩
  | .hbm, ⟨6, _⟩ => ⟨S8x1024x2816, .f32⟩
  | .hbm, ⟨7, _⟩ => ⟨S8x1408x1024, .f32⟩
  | .hbm, ⟨8, _⟩ => ⟨S1024, .f32⟩
  | .hbm, ⟨9, _⟩ => ⟨S4x1x1024, .f32⟩
  | .hbm, ⟨10, _⟩ => ⟨S8x1024x1408, .f32⟩
  | .hbm, ⟨11, _⟩ => ⟨S8x1024x1408, .bf16⟩
  | .hbm, ⟨12, _⟩ => ⟨S8x1024x1408, .f32⟩
  | .hbm, ⟨13, _⟩ => ⟨S8x1024x1408, .bf16⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S1024x128, .f32⟩
  | .hbm, ⟨19, _⟩ => ⟨S1024x128, .f32⟩
  | .hbm, ⟨20, _⟩ => ⟨S1024x128, .bf16⟩
  | .hbm, ⟨21, _⟩ => ⟨S1x1024x128, .bf16⟩
  | .hbm, ⟨22, _⟩ => ⟨S1x1024x128, .bf16⟩
  | .hbm, ⟨23, _⟩ => ⟨S2x1024x128, .bf16⟩
  | .hbm, ⟨24, _⟩ => ⟨S1x8, .f32⟩
  | .hbm, ⟨25, _⟩ => ⟨S_, .i32⟩
  | .hbm, ⟨26, _⟩ => ⟨S_, .f32⟩
  | .hbm, ⟨27, _⟩ => ⟨S1x128, .f32⟩
  | .hbm, ⟨28, _⟩ => ⟨S1x1024, .f32⟩
  | .hbm, ⟨29, _⟩ => ⟨S8x1408x1024, .bf16⟩
  | .hbm, ⟨30, _⟩ => ⟨S1x1024, .f32⟩
  | .hbm, ⟨31, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S2x1024x128, .bf16⟩
  | .local _ .vmem, ⟨8, _⟩ => ⟨S1x128, .f32⟩
  | .local _ .vmem, ⟨9, _⟩ => ⟨S1x1024x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S1x1024x1408, .bf16⟩
  | .local _ .vmem, ⟨13, _⟩ => ⟨S1x1408x1024, .bf16⟩
  | .local _ .vmem, ⟨14, _⟩ => ⟨S1x1408x1024, .bf16⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x512x1024, .f32⟩
  | .local _ .vmem, ⟨19, _⟩ => ⟨S1x512x1024, .f32⟩
  | .local _ .vmem, ⟨20, _⟩ => ⟨S512x1024, .bf16⟩
  | .local _ .vmem, ⟨21, _⟩ => ⟨S512x128, .f32⟩
  | .local _ .vmem, ⟨22, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v36 : BitVec 1 := Scalar.cmpi .eq arg2 c7_i32
  let v37 : BitVec 32 := Scalar.extui v36
  let c0_i32_23 : BitVec 32 := 0#32
  let v38 : BitVec 1 := Scalar.cmpi .ne v37 c0_i32_23
  v38

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S2x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1408x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference2Ideal.lean ====
abbrev S4x8192x1024 : Shape := ⟨3, ![4, 8192, 1024]⟩
abbrev S1024 : Shape := ⟨1, ![1024]⟩
abbrev S4x1x1024 : Shape := ⟨3, ![4, 1, 1024]⟩
abbrev S1024x8 : Shape := ⟨2, ![1024, 8]⟩
abbrev S8 : Shape := ⟨1, ![8]⟩
abbrev S8x1024x2816 : Shape := ⟨3, ![8, 1024, 2816]⟩
abbrev S8x1408x1024 : Shape := ⟨3, ![8, 1408, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x8 : Shape := ⟨3, ![4, 8192, 8]⟩
abbrev S1x1x8 : Shape := ⟨3, ![1, 1, 8]⟩
abbrev S4x8192x2 : Shape := ⟨3, ![4, 8192, 2]⟩
abbrev S4x8192x2x1 : Shape := ⟨4, ![4, 8192, 2, 1]⟩
abbrev S1x1x1x8 : Shape := ⟨4, ![1, 1, 1, 8]⟩
abbrev S4x8192x2x8 : Shape := ⟨4, ![4, 8192, 2, 8]⟩
abbrev S1x1024x2816 : Shape := ⟨3, ![1, 1024, 2816]⟩
abbrev S1024x2816 : Shape := ⟨2, ![1024, 2816]⟩
abbrev S1x1408x1024 : Shape := ⟨3, ![1, 1408, 1024]⟩
abbrev S1408x1024 : Shape := ⟨2, ![1408, 1024]⟩
abbrev S4x8192x2816 : Shape := ⟨3, ![4, 8192, 2816]⟩
abbrev S4x8192x1408 : Shape := ⟨3, ![4, 8192, 1408]⟩

abbrev nBuf : Space → Nat
  | .hbm => 261
  | .vmem => 0
  | .smem => 0
  | _ => 0

abbrev hbmTy0_0 (i : Nat) : BufTy := match i % 128 with
  | 0 => ⟨S4x8192x1024, .f32⟩
  | 1 => ⟨S1024, .f32⟩
  | 2 => ⟨S4x1x1024, .f32⟩
  | 3 => ⟨S4x1x1024, .f32⟩
  | 4 => ⟨S1024x8, .f32⟩
  | 5 => ⟨S8, .f32⟩
  | 6 => ⟨S8x1024x2816, .f32⟩
  | 7 => ⟨S8x1408x1024, .f32⟩
  | 8 => ⟨S1024, .f32⟩
  | 9 => ⟨S4x1x1024, .f32⟩
  | 10 => ⟨S4x8192x1024, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1024, .f32⟩
  | 22 => ⟨S4x8192x1024, .f32⟩
  | 23 => ⟨S1x1x1024, .f32⟩
  | 24 => ⟨S4x8192x1024, .f32⟩
  | 25 => ⟨S4x8192x1024, .f32⟩
  | 26 => ⟨S_, .f32⟩
  | 27 => ⟨S4x1x1024, .f32⟩
  | 28 => ⟨S4x1x1024, .f32⟩
  | 29 => ⟨S4x8192x1024, .f32⟩
  | 30 => ⟨S4x8192x1024, .f32⟩
  | 31 => ⟨S4x8192x1024, .f32⟩
  | 32 => ⟨S4x8192x1024, .f32⟩
  | 33 => ⟨S4x8192x8, .f32⟩
  | 34 => ⟨S1x1x8, .f32⟩
  | 35 => ⟨S4x8192x8, .f32⟩
  | 36 => ⟨S4x8192x8, .f32⟩
  | 37 => ⟨S4x8192x2, .f32⟩
  | 38 => ⟨S4x8192x2, .i32⟩
  | 39 => ⟨S_, .f32⟩
  | 40 => ⟨S4x8192, .f32⟩
  | 41 => ⟨S_, .f32⟩
  | 42 => ⟨S4x8192, .f32⟩
  | 43 => ⟨S4x8192, .f32⟩
  | 44 => ⟨S4x8192x1, .f32⟩
  | 45 => ⟨S4x8192x2, .f32⟩
  | 46 => ⟨S4x8192x2, .f32⟩
  | 47 => ⟨S4x8192x2, .f32⟩
  | 48 => ⟨S_, .f32⟩
  | 49 => ⟨S4x8192, .f32⟩
  | 50 => ⟨S4x8192x1, .f32⟩
  | 51 => ⟨S4x8192x2, .f32⟩
  | 52 => ⟨S4x8192x2, .f32⟩
  | 53 => ⟨S4x8192x2x1, .i32⟩
  | 54 => ⟨S1x1x1x8, .i32⟩
  | 55 => ⟨S4x8192x2x8, .i32⟩
  | 56 => ⟨S4x8192x2x8, .i32⟩
  | 57 => ⟨S4x8192x2x8, .i1⟩
  | 58 => ⟨S4x8192x2x8, .f32⟩
  | 59 => ⟨S4x8192x2x1, .f32⟩
  | 60 => ⟨S4x8192x2x8, .f32⟩
  | 61 => ⟨S4x8192x2x8, .f32⟩
  | 62 => ⟨S_, .f32⟩
  | 63 => ⟨S4x8192x8, .f32⟩
  | 64 => ⟨S_, .f32⟩
  | 65 => ⟨S4x8192x1024, .f32⟩
  | 66 => ⟨S4x8192x1, .f32⟩
  | 67 => ⟨S1x1024x2816, .f32⟩
  | 68 => ⟨S1024x2816, .f32⟩
  | 69 => ⟨S1x1408x1024, .f32⟩
  | 70 => ⟨S1408x1024, .f32⟩
  | 71 => ⟨S4x8192x2816, .f32⟩
  | 72 => ⟨S4x8192x1408, .f32⟩
  | 73 => ⟨S4x8192x1408, .f32⟩
  | 74 => ⟨S4x8192x1408, .f32⟩
  | 75 => ⟨S4x8192x1408, .f32⟩
  | 76 => ⟨S_, .f32⟩
  | 77 => ⟨S4x8192x1408, .f32⟩
  | 78 => ⟨S4x8192x1408, .f32⟩
  | 79 => ⟨S_, .f32⟩
  | 80 => ⟨S4x8192x1408, .f32⟩
  | 81 => ⟨S4x8192x1408, .f32⟩
  | 82 => ⟨S4x8192x1408, .f32⟩
  | 83 => ⟨S4x8192x1408, .f32⟩
  | 84 => ⟨S4x8192x1024, .f32⟩
  | 85 => ⟨S4x8192x1024, .f32⟩
  | 86 => ⟨S4x8192x1024, .f32⟩
  | 87 => ⟨S4x8192x1024, .f32⟩
  | 88 => ⟨S4x8192x1, .f32⟩
  | 89 => ⟨S1x1024x2816, .f32⟩
  | 90 => ⟨S1024x2816, .f32⟩
  | 91 => ⟨S1x1408x1024, .f32⟩
  | 92 => ⟨S1408x1024, .f32⟩
  | 93 => ⟨S4x8192x2816, .f32⟩
  | 94 => ⟨S4x8192x1408, .f32⟩
  | 95 => ⟨S4x8192x1408, .f32⟩
  | 96 => ⟨S4x8192x1408, .f32⟩
  | 97 => ⟨S4x8192x1408, .f32⟩
  | 98 => ⟨S_, .f32⟩
  | 99 => ⟨S4x8192x1408, .f32⟩
  | 100 => ⟨S4x8192x1408, .f32⟩
  | 101 => ⟨S_, .f32⟩
  | 102 => ⟨S4x8192x1408, .f32⟩
  | 103 => ⟨S4x8192x1408, .f32⟩
  | 104 => ⟨S4x8192x1408, .f32⟩
  | 105 => ⟨S4x8192x1408, .f32⟩
  | 106 => ⟨S4x8192x1024, .f32⟩
  | 107 => ⟨S4x8192x1024, .f32⟩
  | 108 => ⟨S4x8192x1024, .f32⟩
  | 109 => ⟨S4x8192x1024, .f32⟩
  | 110 => ⟨S4x8192x1, .f32⟩
  | 111 => ⟨S1x1024x2816, .f32⟩
  | 112 => ⟨S1024x2816, .f32⟩
  | 113 => ⟨S1x1408x1024, .f32⟩
  | 114 => ⟨S1408x1024, .f32⟩
  | 115 => ⟨S4x8192x2816, .f32⟩
  | 116 => ⟨S4x8192x1408, .f32⟩
  | 117 => ⟨S4x8192x1408, .f32⟩
  | 118 => ⟨S4x8192x1408, .f32⟩
  | 119 => ⟨S4x8192x1408, .f32⟩
  | 120 => ⟨S_, .f32⟩
  | 121 => ⟨S4x8192x1408, .f32⟩
  | 122 => ⟨S4x8192x1408, .f32⟩
  | 123 => ⟨S_, .f32⟩
  | 124 => ⟨S4x8192x1408, .f32⟩
  | 125 => ⟨S4x8192x1408, .f32⟩
  | 126 => ⟨S4x8192x1408, .f32⟩
  | 127 => ⟨S4x8192x1408, .f32⟩
  | _ => ⟨S4x8192x1024, .f32⟩

abbrev hbmTy0_1 (i : Nat) : BufTy := match i % 128 with
  | 0 => ⟨S4x8192x1024, .f32⟩
  | 1 => ⟨S4x8192x1024, .f32⟩
  | 2 => ⟨S4x8192x1024, .f32⟩
  | 3 => ⟨S4x8192x1024, .f32⟩
  | 4 => ⟨S4x8192x1, .f32⟩
  | 5 => ⟨S1x1024x2816, .f32⟩
  | 6 => ⟨S1024x2816, .f32⟩
  | 7 => ⟨S1x1408x1024, .f32⟩
  | 8 => ⟨S1408x1024, .f32⟩
  | 9 => ⟨S4x8192x2816, .f32⟩
  | 10 => ⟨S4x8192x1408, .f32⟩
  | 11 => ⟨S4x8192x1408, .f32⟩
  | 12 => ⟨S4x8192x1408, .f32⟩
  | 13 => ⟨S4x8192x1408, .f32⟩
  | 14 => ⟨S_, .f32⟩
  | 15 => ⟨S4x8192x1408, .f32⟩
  | 16 => ⟨S4x8192x1408, .f32⟩
  | 17 => ⟨S_, .f32⟩
  | 18 => ⟨S4x8192x1408, .f32⟩
  | 19 => ⟨S4x8192x1408, .f32⟩
  | 20 => ⟨S4x8192x1408, .f32⟩
  | 21 => ⟨S4x8192x1408, .f32⟩
  | 22 => ⟨S4x8192x1024, .f32⟩
  | 23 => ⟨S4x8192x1024, .f32⟩
  | 24 => ⟨S4x8192x1024, .f32⟩
  | 25 => ⟨S4x8192x1024, .f32⟩
  | 26 => ⟨S4x8192x1, .f32⟩
  | 27 => ⟨S1x1024x2816, .f32⟩
  | 28 => ⟨S1024x2816, .f32⟩
  | 29 => ⟨S1x1408x1024, .f32⟩
  | 30 => ⟨S1408x1024, .f32⟩
  | 31 => ⟨S4x8192x2816, .f32⟩
  | 32 => ⟨S4x8192x1408, .f32⟩
  | 33 => ⟨S4x8192x1408, .f32⟩
  | 34 => ⟨S4x8192x1408, .f32⟩
  | 35 => ⟨S4x8192x1408, .f32⟩
  | 36 => ⟨S_, .f32⟩
  | 37 => ⟨S4x8192x1408, .f32⟩
  | 38 => ⟨S4x8192x1408, .f32⟩
  | 39 => ⟨S_, .f32⟩
  | 40 => ⟨S4x8192x1408, .f32⟩
  | 41 => ⟨S4x8192x1408, .f32⟩
  | 42 => ⟨S4x8192x1408, .f32⟩
  | 43 => ⟨S4x8192x1408, .f32⟩
  | 44 => ⟨S4x8192x1024, .f32⟩
  | 45 => ⟨S4x8192x1024, .f32⟩
  | 46 => ⟨S4x8192x1024, .f32⟩
  | 47 => ⟨S4x8192x1024, .f32⟩
  | 48 => ⟨S4x8192x1, .f32⟩
  | 49 => ⟨S1x1024x2816, .f32⟩
  | 50 => ⟨S1024x2816, .f32⟩
  | 51 => ⟨S1x1408x1024, .f32⟩
  | 52 => ⟨S1408x1024, .f32⟩
  | 53 => ⟨S4x8192x2816, .f32⟩
  | 54 => ⟨S4x8192x1408, .f32⟩
  | 55 => ⟨S4x8192x1408, .f32⟩
  | 56 => ⟨S4x8192x1408, .f32⟩
  | 57 => ⟨S4x8192x1408, .f32⟩
  | 58 => ⟨S_, .f32⟩
  | 59 => ⟨S4x8192x1408, .f32⟩
  | 60 => ⟨S4x8192x1408, .f32⟩
  | 61 => ⟨S_, .f32⟩
  | 62 => ⟨S4x8192x1408, .f32⟩
  | 63 => ⟨S4x8192x1408, .f32⟩
  | 64 => ⟨S4x8192x1408, .f32⟩
  | 65 => ⟨S4x8192x1408, .f32⟩
  | 66 => ⟨S4x8192x1024, .f32⟩
  | 67 => ⟨S4x8192x1024, .f32⟩
  | 68 => ⟨S4x8192x1024, .f32⟩
  | 69 => ⟨S4x8192x1024, .f32⟩
  | 70 => ⟨S4x8192x1, .f32⟩
  | 71 => ⟨S1x1024x2816, .f32⟩
  | 72 => ⟨S1024x2816, .f32⟩
  | 73 => ⟨S1x1408x1024, .f32⟩
  | 74 => ⟨S1408x1024, .f32⟩
  | 75 => ⟨S4x8192x2816, .f32⟩
  | 76 => ⟨S4x8192x1408, .f32⟩
  | 77 => ⟨S4x8192x1408, .f32⟩
  | 78 => ⟨S4x8192x1408, .f32⟩
  | 79 => ⟨S4x8192x1408, .f32⟩
  | 80 => ⟨S_, .f32⟩
  | 81 => ⟨S4x8192x1408, .f32⟩
  | 82 => ⟨S4x8192x1408, .f32⟩
  | 83 => ⟨S_, .f32⟩
  | 84 => ⟨S4x8192x1408, .f32⟩
  | 85 => ⟨S4x8192x1408, .f32⟩
  | 86 => ⟨S4x8192x1408, .f32⟩
  | 87 => ⟨S4x8192x1408, .f32⟩
  | 88 => ⟨S4x8192x1024, .f32⟩
  | 89 => ⟨S4x8192x1024, .f32⟩
  | 90 => ⟨S4x8192x1024, .f32⟩
  | 91 => ⟨S4x8192x1024, .f32⟩
  | 92 => ⟨S4x8192x1, .f32⟩
  | 93 => ⟨S1x1024x2816, .f32⟩
  | 94 => ⟨S1024x2816, .f32⟩
  | 95 => ⟨S1x1408x1024, .f32⟩
  | 96 => ⟨S1408x1024, .f32⟩
  | 97 => ⟨S4x8192x2816, .f32⟩
  | 98 => ⟨S4x8192x1408, .f32⟩
  | 99 => ⟨S4x8192x1408, .f32⟩
  | 100 => ⟨S4x8192x1408, .f32⟩
  | 101 => ⟨S4x8192x1408, .f32⟩
  | 102 => ⟨S_, .f32⟩
  | 103 => ⟨S4x8192x1408, .f32⟩
  | 104 => ⟨S4x8192x1408, .f32⟩
  | 105 => ⟨S_, .f32⟩
  | 106 => ⟨S4x8192x1408, .f32⟩
  | 107 => ⟨S4x8192x1408, .f32⟩
  | 108 => ⟨S4x8192x1408, .f32⟩
  | 109 => ⟨S4x8192x1408, .f32⟩
  | 110 => ⟨S4x8192x1024, .f32⟩
  | 111 => ⟨S4x8192x1024, .f32⟩
  | 112 => ⟨S4x8192x1024, .f32⟩
  | 113 => ⟨S4x8192x1024, .f32⟩
  | 114 => ⟨S4x8192x1024, .f32⟩
  | 115 => ⟨S_, .f32⟩
  | 116 => ⟨S4x8192, .f32⟩
  | 117 => ⟨S4x8192x1, .f32⟩
  | 118 => ⟨S_, .f32⟩
  | 119 => ⟨S4x8192x1, .f32⟩
  | 120 => ⟨S4x8192x1, .f32⟩
  | 121 => ⟨S_, .f32⟩
  | 122 => ⟨S4x8192x1, .f32⟩
  | 123 => ⟨S4x8192x1, .f32⟩
  | 124 => ⟨S4x8192x1, .f32⟩
  | 125 => ⟨S4x8192x1024, .f32⟩
  | 126 => ⟨S4x8192x1024, .f32⟩
  | 127 => ⟨S1x1x1024, .f32⟩
  | _ => ⟨S4x8192x1024, .f32⟩

abbrev hbmTy0_2 (i : Nat) : BufTy := match i % 128 with
  | 0 => ⟨S4x8192x1024, .f32⟩
  | 1 => ⟨S4x8192x1024, .f32⟩
  | 2 => ⟨S4x8192x1024, .f32⟩
  | 3 => ⟨S4x8192x1024, .f32⟩
  | 4 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_values : Ref sig .tc := ⟨.hbm, 37, rfl⟩
abbrev main_indices : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_call3_v0 : Ref sig .tc := ⟨.hbm, 118, rfl⟩
abbrev main_call3_v1 : Ref sig .tc := ⟨.hbm, 119, rfl⟩
abbrev main_call3_cst : Ref sig .tc := ⟨.hbm, 120, rfl⟩
abbrev main_call3_v2 : Ref sig .tc := ⟨.hbm, 121, rfl⟩
abbrev main_call3_v3 : Ref sig .tc := ⟨.hbm, 122, rfl⟩
abbrev main_call3_cst_0 : Ref sig .tc := ⟨.hbm, 123, rfl⟩
abbrev main_call3_v4 : Ref sig .tc := ⟨.hbm, 124, rfl⟩
abbrev main_call3_v5 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_call4_v0 : Ref sig .tc := ⟨.hbm, 140, rfl⟩
abbrev main_call4_v1 : Ref sig .tc := ⟨.hbm, 141, rfl⟩
abbrev main_call4_cst : Ref sig .tc := ⟨.hbm, 142, rfl⟩
abbrev main_call4_v2 : Ref sig .tc := ⟨.hbm, 143, rfl⟩
abbrev main_call4_v3 : Ref sig .tc := ⟨.hbm, 144, rfl⟩
abbrev main_call4_cst_0 : Ref sig .tc := ⟨.hbm, 145, rfl⟩
abbrev main_call4_v4 : Ref sig .tc := ⟨.hbm, 146, rfl⟩
abbrev main_call4_v5 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_call5_v0 : Ref sig .tc := ⟨.hbm, 162, rfl⟩
abbrev main_call5_v1 : Ref sig .tc := ⟨.hbm, 163, rfl⟩
abbrev main_call5_cst : Ref sig .tc := ⟨.hbm, 164, rfl⟩
abbrev main_call5_v2 : Ref sig .tc := ⟨.hbm, 165, rfl⟩
abbrev main_call5_v3 : Ref sig .tc := ⟨.hbm, 166, rfl⟩
abbrev main_call5_cst_0 : Ref sig .tc := ⟨.hbm, 167, rfl⟩
abbrev main_call5_v4 : Ref sig .tc := ⟨.hbm, 168, rfl⟩
abbrev main_call5_v5 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_call6_v0 : Ref sig .tc := ⟨.hbm, 184, rfl⟩
abbrev main_call6_v1 : Ref sig .tc := ⟨.hbm, 185, rfl⟩
abbrev main_call6_cst : Ref sig .tc := ⟨.hbm, 186, rfl⟩
abbrev main_call6_v2 : Ref sig .tc := ⟨.hbm, 187, rfl⟩
abbrev main_call6_v3 : Ref sig .tc := ⟨.hbm, 188, rfl⟩
abbrev main_call6_cst_0 : Ref sig .tc := ⟨.hbm, 189, rfl⟩
abbrev main_call6_v4 : Ref sig .tc := ⟨.hbm, 190, rfl⟩
abbrev main_call6_v5 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_call7_v0 : Ref sig .tc := ⟨.hbm, 206, rfl⟩
abbrev main_call7_v1 : Ref sig .tc := ⟨.hbm, 207, rfl⟩
abbrev main_call7_cst : Ref sig .tc := ⟨.hbm, 208, rfl⟩
abbrev main_call7_v2 : Ref sig .tc := ⟨.hbm, 209, rfl⟩
abbrev main_call7_v3 : Ref sig .tc := ⟨.hbm, 210, rfl⟩
abbrev main_call7_cst_0 : Ref sig .tc := ⟨.hbm, 211, rfl⟩
abbrev main_call7_v4 : Ref sig .tc := ⟨.hbm, 212, rfl⟩
abbrev main_call7_v5 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_call8_v0 : Ref sig .tc := ⟨.hbm, 228, rfl⟩
abbrev main_call8_v1 : Ref sig .tc := ⟨.hbm, 229, rfl⟩
abbrev main_call8_cst : Ref sig .tc := ⟨.hbm, 230, rfl⟩
abbrev main_call8_v2 : Ref sig .tc := ⟨.hbm, 231, rfl⟩
abbrev main_call8_v3 : Ref sig .tc := ⟨.hbm, 232, rfl⟩
abbrev main_call8_cst_0 : Ref sig .tc := ⟨.hbm, 233, rfl⟩
abbrev main_call8_v4 : Ref sig .tc := ⟨.hbm, 234, rfl⟩
abbrev main_call8_v5 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_cst_8 : Ref sig .tc := ⟨.hbm, 243, rfl⟩
abbrev main_v153 : Ref sig .tc := ⟨.hbm, 244, rfl⟩
abbrev main_v154 : Ref sig .tc := ⟨.hbm, 245, rfl⟩
abbrev main_cst_9 : Ref sig .tc := ⟨.hbm, 246, rfl⟩
abbrev main_v155 : Ref sig .tc := ⟨.hbm, 247, rfl⟩
abbrev main_v156 : Ref sig .tc := ⟨.hbm, 248, rfl⟩
abbrev main_cst_10 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S4x1x1024 : Shape := ⟨3, ![4, 1, 1024]⟩
abbrev S1024x5632 : Shape := ⟨2, ![1024, 5632]⟩
abbrev S2816x1024 : Shape := ⟨2, ![2816, 1024]⟩
abbrev S1024x2816 : Shape := ⟨2, ![1024, 2816]⟩
abbrev S1024x2x1408 : Shape := ⟨3, ![1024, 2, 1408]⟩
abbrev S2x1024x1408 : Shape := ⟨3, ![2, 1024, 1408]⟩
abbrev S2x1408x1024 : Shape := ⟨3, ![2, 1408, 1024]⟩
abbrev S_ : Shape := ⟨0, ![]⟩
abbrev S2x1024x128 : Shape := ⟨3, ![2, 1024, 128]⟩
abbrev S1x128 : Shape := ⟨2, ![1, 128]⟩
abbrev S1x1024 : Shape := ⟨2, ![1, 1024]⟩
abbrev S1x512x1024 : Shape := ⟨3, ![1, 512, 1024]⟩
abbrev S1x1x1024 : Shape := ⟨3, ![1, 1, 1024]⟩
abbrev S1x1024x1408 : Shape := ⟨3, ![1, 1024, 1408]⟩
abbrev S1x1408x1024 : Shape := ⟨3, ![1, 1408, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 25
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S4x1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S1024x2x1408, .bf16⟩
  | .hbm, ⟨13, _⟩ => ⟨S2x1024x1408, .bf16⟩
  | .hbm, ⟨14, _⟩ => ⟨S1024x2x1408, .bf16⟩
  | .hbm, ⟨15, _⟩ => ⟨S2x1024x1408, .bf16⟩
  | .hbm, ⟨16, _⟩ => ⟨S2816x1024, .bf16⟩
  | .hbm, ⟨17, _⟩ => ⟨S2x1408x1024, .bf16⟩
  | .hbm, ⟨18, _⟩ => ⟨S_, .bf16⟩
  | .hbm, ⟨19, _⟩ => ⟨S2x1024x128, .bf16⟩
  | .hbm, ⟨20, _⟩ => ⟨S_, .f32⟩
  | .hbm, ⟨21, _⟩ => ⟨S1x128, .f32⟩
  | .hbm, ⟨22, _⟩ => ⟨S1x1024, .f32⟩
  | .hbm, ⟨23, _⟩ => ⟨S1x1024, .f32⟩
  | .hbm, ⟨24, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S2x1024x128, .bf16⟩
  | .local _ .vmem, ⟨8, _⟩ => ⟨S1x128, .f32⟩
  | .local _ .vmem, ⟨9, _⟩ => ⟨S1x1024x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S1x1024x1408, .bf16⟩
  | .local _ .vmem, ⟨13, _⟩ => ⟨S1x1408x1024, .bf16⟩
  | .local _ .vmem, ⟨14, _⟩ => ⟨S1x1408x1024, .bf16⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x512x1024, .f32⟩
  | .local _ .vmem, ⟨19, _⟩ => ⟨S1x512x1024, .f32⟩
  | .local _ .vmem, ⟨20, _⟩ => ⟨S512x1024, .bf16⟩
  | .local _ .vmem, ⟨21, _⟩ => ⟨S512x128, .f32⟩
  | .local _ .vmem, ⟨22, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v26 : BitVec 1 := Scalar.cmpi .eq arg2 c1_i32
  let v27 : BitVec 32 := Scalar.extui v26
  let c0_i32_19 : BitVec 32 := 0#32
  let v28 : BitVec 1 := Scalar.cmpi .ne v27 c0_i32_19
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S2x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1408x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference3Ideal.lean ====
abbrev S4x8192x1024 : Shape := ⟨3, ![4, 8192, 1024]⟩
abbrev S1024 : Shape := ⟨1, ![1024]⟩
abbrev S4x1x1024 : Shape := ⟨3, ![4, 1, 1024]⟩
abbrev S1024x5632 : Shape := ⟨2, ![1024, 5632]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 64
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S4x1x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x5632, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S_, .f32⟩
  | .hbm, ⟨37, _⟩ => ⟨S4x8192x2816, .f32⟩
  | .hbm, ⟨38, _⟩ => ⟨S4x8192x2816, .f32⟩
  | .hbm, ⟨39, _⟩ => ⟨S_, .f32⟩
  | .hbm, ⟨40, _⟩ => ⟨S4x8192x2816, .f32⟩
  | .hbm, ⟨41, _⟩ => ⟨S4x8192x2816, .f32⟩
  | .hbm, ⟨42, _⟩ => ⟨S4x8192x2816, .f32⟩
  | .hbm, ⟨43, _⟩ => ⟨S4x8192x2816, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x8192x1, .f32⟩
  | .hbm, ⟨56, _⟩ => ⟨S4x8192x1024, .f32⟩
  | .hbm, ⟨57, _⟩ => ⟨S4x8192x1024, .f32⟩
  | .hbm, ⟨58, _⟩ => ⟨S1x1x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S4x1x1024 : Shape := ⟨3, ![4, 1, 1024]⟩
abbrev S1024x3072 : Shape := ⟨2, ![1024, 3072]⟩
abbrev S1x1024 : Shape := ⟨2, ![1, 1024]⟩
abbrev S4x8192x3072 : Shape := ⟨3, ![4, 8192, 3072]⟩
abbrev S1x512x1024 : Shape := ⟨3, ![1, 512, 1024]⟩
abbrev S1x1x1024 : Shape := ⟨3, ![1, 1, 1024]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 8
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3072, .f32⟩
  | .hbm, ⟨5, _⟩ => ⟨S1x1024, .f32⟩
  | .hbm, ⟨6, _⟩ => ⟨S1024x3072, .bf16⟩
  | .hbm, ⟨7, _⟩ => ⟨S4x8192x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x512x3072, .bf16⟩
  | .local _ .vmem, ⟨9, _⟩ => ⟨S1x512x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x8192x1024 : Shape := ⟨3, ![4, 8192, 1024]⟩
abbrev S1024 : Shape := ⟨1, ![1024]⟩
abbrev S4x1x1024 : Shape := ⟨3, ![4, 1, 1024]⟩
abbrev S1024x3072 : Shape := ⟨2, ![1024, 3072]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3072, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x3072, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x8192x1024, .f32⟩
  | .hbm, ⟨34, _⟩ => ⟨S4x8192x1024, .f32⟩
  | .hbm, ⟨35, _⟩ => ⟨S4x8192x3072, .f32⟩
  | .hbm, ⟨36, _⟩ => ⟨S4x8192x3072, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel5.lean ====
abbrev S4x8192x1024 : Shape := ⟨3, ![4, 8192, 1024]⟩
abbrev S1024x1024 : Shape := ⟨2, ![1024, 1024]⟩
abbrev S1024 : Shape := ⟨1, ![1024]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x8192x1024, .f32⟩
  | .hbm, ⟨3, _⟩ => ⟨S1024, .f32⟩
  | .hbm, ⟨4, _⟩ => ⟨S4x1x1024, .f32⟩
  | .hbm, ⟨5, _⟩ => ⟨S1024x1024, .bf16⟩
  | .hbm, ⟨6, _⟩ => ⟨S1x1024, .f32⟩
  | .hbm, ⟨7, _⟩ => ⟨S4x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4x8192x1024 : Shape := ⟨3, ![4, 8192, 1024]⟩
abbrev S1024x1024 : Shape := ⟨2, ![1024, 1024]⟩
abbrev S1024 : Shape := ⟨1, ![1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x8192x1024, .f32⟩
  | .hbm, ⟨3, _⟩ => ⟨S1024, .f32⟩
  | .hbm, ⟨4, _⟩ => ⟨S4x1x1024, .f32⟩
  | .hbm, ⟨5, _⟩ => ⟨S4x8192x1024, .f32⟩
  | .hbm, ⟨6, _⟩ => ⟨S4x8192x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel6.lean ====
abbrev S4x8192x8x192 : Shape := ⟨4, ![4, 8192, 8, 192]⟩
abbrev S4x8192x8x128 : Shape := ⟨4, ![4, 8192, 8, 128]⟩
abbrev S_ : Shape := ⟨0, ![]⟩
abbrev S4x8192x8x256 : Shape := ⟨4, ![4, 8192, 8, 256]⟩
abbrev S4x8192x2048 : Shape := ⟨3, ![4, 8192, 2048]⟩
abbrev S4x8x128x8192 : Shape := ⟨4, ![4, 8, 128, 8192]⟩
abbrev S4x8x16x8192 : Shape := ⟨4, ![4, 8, 16, 8192]⟩
abbrev S4x8x144x8192 : Shape := ⟨4, ![4, 8, 144, 8192]⟩
abbrev S4x1152x8192 : Shape := ⟨3, ![4, 1152, 8192]⟩
abbrev S4x8192x1024 : Shape := ⟨3, ![4, 8192, 1024]⟩
abbrev S1x512x256 : Shape := ⟨3, ![1, 512, 256]⟩
abbrev S1x8192x256 : Shape := ⟨3, ![1, 8192, 256]⟩
abbrev S1x144x8192 : Shape := ⟨3, ![1, 144, 8192]⟩
abbrev S1x512x128 : Shape := ⟨3, ![1, 512, 128]⟩
abbrev S512x256 : Shape := ⟨2, ![512, 256]⟩
abbrev S1x512 : Shape := ⟨2, ![1, 512]⟩
abbrev S144x512 : Shape := ⟨2, ![144, 512]⟩
abbrev S512x512 : Shape := ⟨2, ![512, 512]⟩
abbrev S1x144x512 : Shape := ⟨3, ![1, 144, 512]⟩
abbrev S512 : Shape := ⟨1, ![512]⟩
abbrev S128x512 : Shape := ⟨2, ![128, 512]⟩
abbrev S512x128 : Shape := ⟨2, ![512, 128]⟩

abbrev nBuf : Space → Nat
  | .hbm => 23
  | .vmem => 8
  | .smem => 0
  | _ => 0

abbrev bufTy : (tb : Table) → Fin (tcTables nBuf tb) → BufTy
  | .hbm, ⟨0, _⟩ => ⟨S4x8192x8x192, .f32⟩
  | .hbm, ⟨1, _⟩ => ⟨S4x8192x8x192, .f32⟩
  | .hbm, ⟨2, _⟩ => ⟨S4x8192x8x128, .f32⟩
  | .hbm, ⟨3, _⟩ => ⟨S_, .f32⟩
  | .hbm, ⟨4, _⟩ => ⟨S4x8192x8x192, .f32⟩
  | .hbm, ⟨5, _⟩ => ⟨S4x8192x8x192, .f32⟩
  | .hbm, ⟨6, _⟩ => ⟨S_, .i32⟩
  | .hbm, ⟨7, _⟩ => ⟨S_, .f32⟩
  | .hbm, ⟨8, _⟩ => ⟨S4x8192x8x256, .f32⟩
  | .hbm, ⟨9, _⟩ => ⟨S4x8192x8x256, .bf16⟩
  | .hbm, ⟨10, _⟩ => ⟨S4x8192x2048, .bf16⟩
  | .hbm, ⟨11, _⟩ => ⟨S_, .i32⟩
  | .hbm, ⟨12, _⟩ => ⟨S_, .f32⟩
  | .hbm, ⟨13, _⟩ => ⟨S4x8192x8x256, .f32⟩
  | .hbm, ⟨14, _⟩ => ⟨S4x8192x8x256, .bf16⟩
  | .hbm, ⟨15, _⟩ => ⟨S4x8192x2048, .bf16⟩
  | .hbm, ⟨16, _⟩ => ⟨S4x8x128x8192, .f32⟩
  | .hbm, ⟨17, _⟩ => ⟨S4x8x128x8192, .bf16⟩
  | .hbm, ⟨18, _⟩ => ⟨S_, .bf16⟩
  | .hbm, ⟨19, _⟩ => ⟨S4x8x16x8192, .bf16⟩
  | .hbm, ⟨20, _⟩ => ⟨S4x8x144x8192, .bf16⟩
  | .hbm, ⟨21, _⟩ => ⟨S4x1152x8192, .bf16⟩
  | .hbm, ⟨22, _⟩ => ⟨S4x8192x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x144x8192, .bf16⟩
  | .local _ .vmem, ⟨5, _⟩ => ⟨S1x144x8192, .bf16⟩
  | .local _ .vmem, ⟨6, _⟩ => ⟨S1x512x128, .bf16⟩
  | .local _ .vmem, ⟨7, _⟩ => ⟨S1x512x128, .bf16⟩
  | _, _ => ⟨S4x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 16], ![false, false, false]⟩

@[reducible] def k0_t1_loop (i : grid0.Coords) : Scf.Loop 32 :=
  let c0_i32 : BitVec 32 := 0#32
  let arg2 : BitVec 32 := BitVec.ofNat 32 (i 2).val
  let v4 : BitVec 32 := Scalar.subi arg2 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_3 : BitVec 32 := 1#32
  ⟨c0_i32, v8, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c512_i32_16 : BitVec 32 := 512#32
  let v47 : BitVec 32 := Scalar.muli arg7 c512_i32_16
  v47
def k0_off1 (i : grid0.Coords) (k0_t1 : Fin (k0_t1_loop i).trips) : Fin 3 → Nat :=
  let c0_17 : Index := 0#32
  let c0_i32 : BitVec 32 := 0#32
  let c1_i32_3 : BitVec 32 := 1#32
  let arg7 : BitVec 32 := Scf.iv c0_i32 c1_i32_3 k0_t1
  let c512_i32_16 : BitVec 32 := 512#32
  let v47 : BitVec 32 := Scalar.muli arg7 c512_i32_16
  let v48 : BitVec 32 := v47
  let v49 : Index := Scalar.indexCast v48
  let c0_18 : Index := 0#32
  ![0, v49.toNat, 0]
def k0_off2 (i : grid0.Coords) (k0_t1 : Fin (k0_t1_loop i).trips) : Fin 3 → Nat :=
  let c0_20 : Index := 0#32
  let c0_21 : Index := 0#32
  let c0_i32 : BitVec 32 := 0#32
  let c1_i32_3 : BitVec 32 := 1#32
  let arg7 : BitVec 32 := Scf.iv c0_i32 c1_i32_3 k0_t1
  let c512_i32_16 : BitVec 32 := 512#32
  let v47 : BitVec 32 := Scalar.muli arg7 c512_i32_16
  let v48 : BitVec 32 := v47
  let v53 : Index := Scalar.indexCast v48
  ![0, 0, v53.toNat]
@[reducible] def k0_t2_loop (i : grid0.Coords) : Scf.Loop 32 :=
  let c0_i32 : BitVec 32 := 0#32
  let arg2 : BitVec 32 := BitVec.ofNat 32 (i 2).val
  let v4 : BitVec 32 := Scalar.subi arg2 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_4 : BitVec 32 := 1#32
  ⟨v8, v5, c1_i32_4⟩
def k0_mult2 (i : grid0.Coords) (k0_t2 : Fin (k0_t2_loop i).trips) : BitVec 32 :=
  let c0_i32 : BitVec 32 := 0#32
  let arg2 : BitVec 32 := BitVec.ofNat 32 (i 2).val
  let v4 : BitVec 32 := Scalar.subi arg2 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c512_i32_16 : BitVec 32 := 512#32
  let v47 : BitVec 32 := Scalar.muli arg7 c512_i32_16
  v47
def k0_off3 (i : grid0.Coords) (k0_t2 : Fin (k0_t2_loop i).trips) : Fin 3 → Nat :=
  let c0_17 : Index := 0#32
  let c0_i32 : BitVec 32 := 0#32
  let arg2 : BitVec 32 := BitVec.ofNat 32 (i 2).val
  let v4 : BitVec 32 := Scalar.subi arg2 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c512_i32_16 : BitVec 32 := 512#32
  let v47 : BitVec 32 := Scalar.muli arg7 c512_i32_16
  let v48 : BitVec 32 := v47
  let v49 : Index := Scalar.indexCast v48
  let c0_18 : Index := 0#32
  ![0, v49.toNat, 0]
def k0_off4 (i : grid0.Coords) (k0_t2 : Fin (k0_t2_loop i).trips) : Fin 3 → Nat :=
  let c0_20 : Index := 0#32
  let c0_21 : Index := 0#32
  let c0_i32 : BitVec 32 := 0#32
  let arg2 : BitVec 32 := BitVec.ofNat 32 (i 2).val
  let v4 : BitVec 32 := Scalar.subi arg2 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c512_i32_16 : BitVec 32 := 512#32
  let v47 : BitVec 32 := Scalar.muli arg7 c512_i32_16
  let v48 : BitVec 32 := v47
  let v53 : Index := Scalar.indexCast v48
  ![0, 0, v53.toNat]
def k0_mult3 (i : grid0.Coords) : BitVec 32 :=
  let arg2 : BitVec 32 := BitVec.ofNat 32 (i 2).val
  let c512_i32 : BitVec 32 := 512#32
  let v11 : BitVec 32 := Scalar.muli arg2 c512_i32
  v11
def k0_off5 (i : grid0.Coords) : Fin 3 → Nat :=
  let c0_5 : Index := 0#32
  let arg2 : BitVec 32 := BitVec.ofNat 32 (i 2).val
  let c512_i32 : BitVec 32 := 512#32
  let v11 : BitVec 32 := Scalar.muli arg2 c512_i32
  let v12 : BitVec 32 := v11
  let v13 : Index := Scalar.indexCast v12
  let c0_6 : Index := 0#32
  ![0, v13.toNat, 0]
def k0_off6 (i : grid0.Coords) : Fin 3 → Nat :=
  let c0_9 : Index := 0#32
  let c0_10 : Index := 0#32
  let arg2 : BitVec 32 := BitVec.ofNat 32 (i 2).val
  let c512_i32 : BitVec 32 := 512#32
  let v11 : BitVec 32 := Scalar.muli arg2 c512_i32
  let v12 : BitVec 32 := v11
  let v22 : Index := Scalar.indexCast v12
  ![0, 0, v22.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x144x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel6Ideal.lean ====
variable {F : FTy → Type} [FloatOps F] [Named F]
def κ : String → Option EReal := fun
  | "mask" => some ⊥
  | _ => none
-- ==== Reference6Ideal.lean ====
abbrev S4x8192x8x192 : Shape := ⟨4, ![4, 8192, 8, 192]⟩
abbrev S4x8192x8x128 : Shape := ⟨4, ![4, 8192, 8, 128]⟩
abbrev S4x8x8192x8192 : Shape := ⟨4, ![4, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S4x8192x1024 : Shape := ⟨3, ![4, 8192, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x8x192, .f32⟩
  | .hbm, ⟨1, _⟩ => ⟨S4x8192x8x192, .f32⟩
  | .hbm, ⟨2, _⟩ => ⟨S4x8192x8x128, .f32⟩
  | .hbm, ⟨3, _⟩ => ⟨S4x8x8192x8192, .f32⟩
  | .hbm, ⟨4, _⟩ => ⟨S_, .f32⟩
  | .hbm, ⟨5, _⟩ => ⟨S4x8x8192x8192, .f32⟩
  | .hbm, ⟨6, _⟩ => ⟨S4x8x8192x8192, .f32⟩
  | .hbm, ⟨7, _⟩ => ⟨S8192, .i32⟩
  | .hbm, ⟨8, _⟩ => ⟨S1x8192, .i32⟩
  | .hbm, ⟨9, _⟩ => ⟨S8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S4x8x8192x8192, .i1⟩
  | .hbm, ⟨17, _⟩ => ⟨S4x8x8192x8192, .f32⟩
  | .hbm, ⟨18, _⟩ => ⟨S4x8x8192x8192, .f32⟩
  | .hbm, ⟨19, _⟩ => ⟨S_, .f32⟩
  | .hbm, ⟨20, _⟩ => ⟨S4x8x8192, .f32⟩
  | .hbm, ⟨21, _⟩ => ⟨S_, .f32⟩
  | .hbm, ⟨22, _⟩ => ⟨S4x8x8192, .f32⟩
  | .hbm, ⟨23, _⟩ => ⟨S4x8x8192, .f32⟩
  | .hbm, ⟨24, _⟩ => ⟨S4x8x8192x1, .f32⟩
  | .hbm, ⟨25, _⟩ => ⟨S4x8x8192x8192, .f32⟩
  | .hbm, ⟨26, _⟩ => ⟨S4x8x8192x8192, .f32⟩
  | .hbm, ⟨27, _⟩ => ⟨S4x8x8192x8192, .f32⟩
  | .hbm, ⟨28, _⟩ => ⟨S_, .f32⟩
  | .hbm, ⟨29, _⟩ => ⟨S4x8x8192, .f32⟩
  | .hbm, ⟨30, _⟩ => ⟨S4x8x8192x1, .f32⟩
  | .hbm, ⟨31, _⟩ => ⟨S4x8x8192x8192, .f32⟩
  | .hbm, ⟨32, _⟩ => ⟨S4x8x8192x8192, .f32⟩
  | .hbm, ⟨33, _⟩ => ⟨S4x8x128x8192, .f32⟩
  | .hbm, ⟨34, _⟩ => ⟨S4x8192x8x128, .f32⟩
  | .hbm, ⟨35, _⟩ => ⟨S4x8192x1024, .f32⟩
  | .hbm, ⟨36, _⟩ => ⟨S4x8192x1024, .bf16⟩
  | _, _ => ⟨S4x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel7.lean ====
abbrev S4x8192x1024 : Shape := ⟨3, ![4, 8192, 1024]⟩
abbrev S1024 : Shape := ⟨1, ![1024]⟩
abbrev S4x1x1024 : Shape := ⟨3, ![4, 1, 1024]⟩
abbrev S4x8192 : Shape := ⟨2, ![4, 8192]⟩
abbrev S1024x2120 : Shape := ⟨2, ![1024, 2120]⟩
abbrev S64 : Shape := ⟨1, ![64]⟩
abbrev S16 : Shape := ⟨1, ![16]⟩
abbrev S_ : Shape := ⟨0, ![]⟩
abbrev S4x8192x1 : Shape := ⟨3, ![4, 8192, 1]⟩
abbrev S1x1x16 : Shape := ⟨3, ![1, 1, 16]⟩
abbrev S4x8192x16 : Shape := ⟨3, ![4, 8192, 16]⟩
abbrev S4x8192x96 : Shape := ⟨3, ![4, 8192, 96]⟩
abbrev S4x8192x128 : Shape := ⟨3, ![4, 8192, 128]⟩
abbrev S1x4x1x8192x1x128 : Shape := ⟨6, ![1, 4, 1, 8192, 1, 128]⟩
abbrev S8 : Shape := ⟨1, ![8]⟩
abbrev S1x1x8 : Shape := ⟨3, ![1, 1, 8]⟩
abbrev S4x8192x8 : Shape := ⟨3, ![4, 8192, 8]⟩
abbrev S4x8192x48 : Shape := ⟨3, ![4, 8192, 48]⟩
abbrev S4x8192x64 : Shape := ⟨3, ![4, 8192, 64]⟩
abbrev S1x4x1x8192x1x64 : Shape := ⟨6, ![1, 4, 1, 8192, 1, 64]⟩
abbrev S1x4x1x8192x2x64 : Shape := ⟨6, ![1, 4, 1, 8192, 2, 64]⟩
abbrev S1024x2048 : Shape := ⟨2, ![1024, 2048]⟩
abbrev S1024x64 : Shape := ⟨2, ![1024, 64]⟩
abbrev S1024x128 : Shape := ⟨2, ![1024, 128]⟩
abbrev S1024x8 : Shape := ⟨2, ![1024, 8]⟩
abbrev S1024x2304 : Shape := ⟨2, ![1024, 2304]⟩
abbrev S1x64 : Shape := ⟨2, ![1, 64]⟩
abbrev S1x128 : Shape := ⟨2, ![1, 128]⟩
abbrev S1x1024 : Shape := ⟨2, ![1, 1024]⟩
abbrev S4x8192x256 : Shape := ⟨3, ![4, 8192, 256]⟩
abbrev S4x288x8192 : Shape := ⟨3, ![4, 288, 8192]⟩
abbrev S4x8192x512 : Shape := ⟨3, ![4, 8192, 512]⟩
abbrev S1x512x1024 : Shape := ⟨3, ![1, 512, 1024]⟩
abbrev S1x1x1024 : Shape := ⟨3, ![1, 1, 1024]⟩
abbrev S1x512x128 : Shape := ⟨3, ![1, 512, 128]⟩
abbrev S1x512x256 : Shape := ⟨3, ![1, 512, 256]⟩
abbrev S1x288x512 : Shape := ⟨3, ![1, 288, 512]⟩
abbrev S1x512x512 : Shape := ⟨3, ![1, 512, 512]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩

abbrev nBuf : Space → Nat
  | .hbm => 99
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x8192, .i32⟩
  | .hbm, ⟨5, _⟩ => ⟨S1024x2120, .f32⟩
  | .hbm, ⟨6, _⟩ => ⟨S64, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4x8192, .f32⟩
  | .hbm, ⟨22, _⟩ => ⟨S4x8192x1, .f32⟩
  | .hbm, ⟨23, _⟩ => ⟨S1x1x16, .f32⟩
  | .hbm, ⟨24, _⟩ => ⟨S4x8192x16, .f32⟩
  | .hbm, ⟨25, _⟩ => ⟨S4x8192x16, .f32⟩
  | .hbm, ⟨26, _⟩ => ⟨S4x8192x16, .f32⟩
  | .hbm, ⟨27, _⟩ => ⟨S4x8192x16, .f32⟩
  | .hbm, ⟨28, _⟩ => ⟨S4x8192x16, .f32⟩
  | .hbm, ⟨29, _⟩ => ⟨S_, .f32⟩
  | .hbm, ⟨30, _⟩ => ⟨S4x8192x96, .f32⟩
  | .hbm, ⟨31, _⟩ => ⟨S_, .f32⟩
  | .hbm, ⟨32, _⟩ => ⟨S4x8192x96, .f32⟩
  | .hbm, ⟨33, _⟩ => ⟨S4x8192x128, .f32⟩
  | .hbm, ⟨34, _⟩ => ⟨S4x8192x16, .f32⟩
  | .hbm, ⟨35, _⟩ => ⟨S4x8192x128, .f32⟩
  | .hbm, ⟨36, _⟩ => ⟨S1x4x1x8192x1x128, .f32⟩
  | .hbm, ⟨37, _⟩ => ⟨S1x4x1x8192x1x128, .f32⟩
  | .hbm, ⟨38, _⟩ => ⟨S4x8192x128, .f32⟩
  | .hbm, ⟨39, _⟩ => ⟨S1x4x1x8192x1x128, .f32⟩
  | .hbm, ⟨40, _⟩ => ⟨S1x4x1x8192x1x128, .f32⟩
  | .hbm, ⟨41, _⟩ => ⟨S4x8192x128, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S4x8192, .f32⟩
  | .hbm, ⟨57, _⟩ => ⟨S4x8192x1, .f32⟩
  | .hbm, ⟨58, _⟩ => ⟨S1x1x8, .f32⟩
  | .hbm, ⟨59, _⟩ => ⟨S4x8192x8, .f32⟩
  | .hbm, ⟨60, _⟩ => ⟨S4x8192x8, .f32⟩
  | .hbm, ⟨61, _⟩ => ⟨S4x8192x8, .f32⟩
  | .hbm, ⟨62, _⟩ => ⟨S4x8192x8, .f32⟩
  | .hbm, ⟨63, _⟩ => ⟨S4x8192x8, .f32⟩
  | .hbm, ⟨64, _⟩ => ⟨S_, .f32⟩
  | .hbm, ⟨65, _⟩ => ⟨S4x8192x48, .f32⟩
  | .hbm, ⟨66, _⟩ => ⟨S_, .f32⟩
  | .hbm, ⟨67, _⟩ => ⟨S4x8192x48, .f32⟩
  | .hbm, ⟨68, _⟩ => ⟨S4x8192x64, .f32⟩
  | .hbm, ⟨69, _⟩ => ⟨S4x8192x8, .f32⟩
  | .hbm, ⟨70, _⟩ => ⟨S4x8192x64, .f32⟩
  | .hbm, ⟨71, _⟩ => ⟨S1x4x1x8192x1x64, .f32⟩
  | .hbm, ⟨72, _⟩ => ⟨S1x4x1x8192x2x64, .f32⟩
  | .hbm, ⟨73, _⟩ => ⟨S4x8192x128, .f32⟩
  | .hbm, ⟨74, _⟩ => ⟨S1x4x1x8192x1x64, .f32⟩
  | .hbm, ⟨75, _⟩ => ⟨S1x4x1x8192x2x64, .f32⟩
  | .hbm, ⟨76, _⟩ => ⟨S4x8192x128, .f32⟩
  | .hbm, ⟨77, _⟩ => ⟨S1024x2048, .f32⟩
  | .hbm, ⟨78, _⟩ => ⟨S1024x64, .f32⟩
  | .hbm, ⟨79, _⟩ => ⟨S_, .i32⟩
  | .hbm, ⟨80, _⟩ => ⟨S_, .f32⟩
  | .hbm, ⟨81, _⟩ => ⟨S1024x128, .f32⟩
  | .hbm, ⟨82, _⟩ => ⟨S1024x8, .f32⟩
  | .hbm, ⟨83, _⟩ => ⟨S_, .i32⟩
  | .hbm, ⟨84, _⟩ => ⟨S_, .f32⟩
  | .hbm, ⟨85, _⟩ => ⟨S1024x128, .f32⟩
  | .hbm, ⟨86, _⟩ => ⟨S1024x2304, .f32⟩
  | .hbm, ⟨87, _⟩ => ⟨S1024x2304, .bf16⟩
  | .hbm, ⟨88, _⟩ => ⟨S1x64, .f32⟩
  | .hbm, ⟨89, _⟩ => ⟨S_, .i32⟩
  | .hbm, ⟨90, _⟩ => ⟨S_, .f32⟩
  | .hbm, ⟨91, _⟩ => ⟨S1x128, .f32⟩
  | .hbm, ⟨92, _⟩ => ⟨S1x1024, .f32⟩
  | .hbm, ⟨93, _⟩ => ⟨S4x8192x1024, .bf16⟩
  | .hbm, ⟨94, _⟩ => ⟨S4x8192x256, .bf16⟩
  | .hbm, ⟨95, _⟩ => ⟨S4x288x8192, .bf16⟩
  | .hbm, ⟨96, _⟩ => ⟨S4x8192x512, .bf16⟩
  | .hbm, ⟨97, _⟩ => ⟨S4x8192x128, .bf16⟩
  | .hbm, ⟨98, _⟩ => ⟨S4x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2304, .bf16⟩
  | .local _ .vmem, ⟨8, _⟩ => ⟨S1x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x256, .bf16⟩
  | .local _ .vmem, ⟨20, _⟩ => ⟨S1x512x256, .bf16⟩
  | .local _ .vmem, ⟨21, _⟩ => ⟨S1x288x512, .bf16⟩
  | .local _ .vmem, ⟨22, _⟩ => ⟨S1x288x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x128, .bf16⟩
  | .local _ .vmem, ⟨26, _⟩ => ⟨S1x512x128, .bf16⟩
  | .local _ .vmem, ⟨27, _⟩ => ⟨S1x512x128, .f32⟩
  | .local _ .vmem, ⟨28, _⟩ => ⟨S1x512x128, .f32⟩
  | .local _ .vmem, ⟨29, _⟩ => ⟨S512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c : Ref sig .tc := ⟨.hbm, 79, rfl⟩
abbrev main_call0_v0 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_call1_v0 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_call2_v0 : Ref sig .tc := ⟨.hbm, 90, rfl⟩
abbrev main_v66 : Ref sig .tc := ⟨.hbm, 91, rfl⟩
abbrev main_v67 : Ref sig .tc := ⟨.hbm, 92, rfl⟩
abbrev main_v68_0 : Ref sig .tc := ⟨.hbm, 93, rfl⟩
abbrev main_v68_1 : Ref sig .tc := ⟨.hbm, 94, rfl⟩
abbrev main_v68_2 : Ref sig .tc := ⟨.hbm, 95, rfl⟩
abbrev main_v68_3 : Ref sig .tc := ⟨.hbm, 96, rfl⟩
abbrev main_v68_4 : Ref sig .tc := ⟨.hbm, 97, rfl⟩
abbrev main_v68_5 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x288x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference7Ideal.lean ====
abbrev S4x8192x1024 : Shape := ⟨3, ![4, 8192, 1024]⟩
abbrev S1024 : Shape := ⟨1, ![1024]⟩
abbrev S4x1x1024 : Shape := ⟨3, ![4, 1, 1024]⟩
abbrev S4x8192 : Shape := ⟨2, ![4, 8192]⟩
abbrev S1024x2120 : Shape := ⟨2, ![1024, 2120]⟩
abbrev S64 : Shape := ⟨1, ![64]⟩
abbrev S16 : Shape := ⟨1, ![16]⟩
abbrev S_ : Shape := ⟨0, ![]⟩
abbrev S4x8192x1 : Shape := ⟨3, ![4, 8192, 1]⟩
abbrev S1x1x16 : Shape := ⟨3, ![1, 1, 16]⟩
abbrev S4x8192x16 : Shape := ⟨3, ![4, 8192, 16]⟩
abbrev S8 : Shape := ⟨1, ![8]⟩
abbrev S1x1x8 : Shape := ⟨3, ![1, 1, 8]⟩
abbrev S4x8192x8 : Shape := ⟨3, ![4, 8192, 8]⟩
abbrev S1x1x1024 : Shape := ⟨3, ![1, 1, 1024]⟩
abbrev S4x8192x2120 : Shape := ⟨3, ![4, 8192, 2120]⟩
abbrev S4x8192x256 : Shape := ⟨3, ![4, 8192, 256]⟩
abbrev S4x8192x512 : Shape := ⟨3, ![4, 8192, 512]⟩
abbrev S4x8192x64 : Shape := ⟨3, ![4, 8192, 64]⟩
abbrev S4x8192x8x128 : Shape := ⟨4, ![4, 8192, 8, 128]⟩
abbrev S4x8192x1x16 : Shape := ⟨4, ![4, 8192, 1, 16]⟩
abbrev S4x8192x8x32 : Shape := ⟨4, ![4, 8192, 8, 32]⟩
abbrev S4x8192x8x16 : Shape := ⟨4, ![4, 8192, 8, 16]⟩
abbrev S4x8192x8x96 : Shape := ⟨4, ![4, 8192, 8, 96]⟩
abbrev S4x8192x2x128 : Shape := ⟨4, ![4, 8192, 2, 128]⟩
abbrev S4x8192x2x32 : Shape := ⟨4, ![4, 8192, 2, 32]⟩
abbrev S4x8192x2x16 : Shape := ⟨4, ![4, 8192, 2, 16]⟩
abbrev S4x8192x2x96 : Shape := ⟨4, ![4, 8192, 2, 96]⟩
abbrev S4x2x128x8192 : Shape := ⟨4, ![4, 2, 128, 8192]⟩
abbrev S4x2x16x8192 : Shape := ⟨4, ![4, 2, 16, 8192]⟩
abbrev S4x2x144x8192 : Shape := ⟨4, ![4, 2, 144, 8192]⟩
abbrev S4x8192x8x64 : Shape := ⟨4, ![4, 8192, 8, 64]⟩
abbrev S4x8192x1x8 : Shape := ⟨4, ![4, 8192, 1, 8]⟩
abbrev S4x8192x8x8 : Shape := ⟨4, ![4, 8192, 8, 8]⟩
abbrev S4x8192x8x48 : Shape := ⟨4, ![4, 8192, 8, 48]⟩
abbrev S1x1x64 : Shape := ⟨3, ![1, 1, 64]⟩
abbrev S4x8192x48 : Shape := ⟨3, ![4, 8192, 48]⟩
abbrev S4x288x8192 : Shape := ⟨3, ![4, 288, 8192]⟩
abbrev S4x8192x128 : Shape := ⟨3, ![4, 8192, 128]⟩

abbrev nBuf : Space → Nat
  | .hbm => 190
  | .vmem => 0
  | .smem => 0
  | _ => 0

abbrev hbmTy0_0 (i : Nat) : BufTy := match i % 128 with
  | 0 => ⟨S4x8192x1024, .f32⟩
  | 1 => ⟨S1024, .f32⟩
  | 2 => ⟨S4x1x1024, .f32⟩
  | 3 => ⟨S4x1x1024, .f32⟩
  | 4 => ⟨S4x8192, .i32⟩
  | 5 => ⟨S1024x2120, .f32⟩
  | 6 => ⟨S64, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S4x8192, .f32⟩
  | 22 => ⟨S4x8192x1, .f32⟩
  | 23 => ⟨S1x1x16, .f32⟩
  | 24 => ⟨S4x8192x16, .f32⟩
  | 25 => ⟨S4x8192x16, .f32⟩
  | 26 => ⟨S4x8192x16, .f32⟩
  | 27 => ⟨S4x8192x16, .f32⟩
  | 28 => ⟨S4x8192x16, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S4x8192, .f32⟩
  | 44 => ⟨S4x8192x1, .f32⟩
  | 45 => ⟨S1x1x8, .f32⟩
  | 46 => ⟨S4x8192x8, .f32⟩
  | 47 => ⟨S4x8192x8, .f32⟩
  | 48 => ⟨S4x8192x8, .f32⟩
  | 49 => ⟨S4x8192x8, .f32⟩
  | 50 => ⟨S4x8192x8, .f32⟩
  | 51 => ⟨S4x8192x1024, .f32⟩
  | 52 => ⟨S_, .f32⟩
  | 53 => ⟨S4x8192, .f32⟩
  | 54 => ⟨S4x8192x1, .f32⟩
  | 55 => ⟨S_, .f32⟩
  | 56 => ⟨S4x8192x1, .f32⟩
  | 57 => ⟨S4x8192x1, .f32⟩
  | 58 => ⟨S_, .f32⟩
  | 59 => ⟨S4x8192x1, .f32⟩
  | 60 => ⟨S4x8192x1, .f32⟩
  | 61 => ⟨S4x8192x1, .f32⟩
  | 62 => ⟨S4x8192x1024, .f32⟩
  | 63 => ⟨S4x8192x1024, .f32⟩
  | 64 => ⟨S1x1x1024, .f32⟩
  | 65 => ⟨S4x8192x1024, .f32⟩
  | 66 => ⟨S4x8192x1024, .f32⟩
  | 67 => ⟨S_, .f32⟩
  | 68 => ⟨S4x1x1024, .f32⟩
  | 69 => ⟨S4x1x1024, .f32⟩
  | 70 => ⟨S4x8192x1024, .f32⟩
  | 71 => ⟨S4x8192x1024, .f32⟩
  | 72 => ⟨S4x8192x1024, .f32⟩
  | 73 => ⟨S4x8192x1024, .f32⟩
  | 74 => ⟨S4x8192x2120, .f32⟩
  | 75 => ⟨S4x8192x1024, .f32⟩
  | 76 => ⟨S4x8192x256, .f32⟩
  | 77 => ⟨S4x8192x256, .f32⟩
  | 78 => ⟨S4x8192x512, .f32⟩
  | 79 => ⟨S4x8192x64, .f32⟩
  | 80 => ⟨S4x8192x8, .f32⟩
  | 81 => ⟨S4x8192x8x128, .f32⟩
  | 82 => ⟨S4x8192x1x16, .f32⟩
  | 83 => ⟨S4x8192x1x16, .f32⟩
  | 84 => ⟨S4x8192x8x32, .f32⟩
  | 85 => ⟨S4x8192x8x16, .f32⟩
  | 86 => ⟨S4x8192x8x16, .f32⟩
  | 87 => ⟨S4x8192x8x16, .f32⟩
  | 88 => ⟨S4x8192x8x16, .f32⟩
  | 89 => ⟨S4x8192x8x16, .f32⟩
  | 90 => ⟨S4x8192x8x16, .f32⟩
  | 91 => ⟨S4x8192x8x16, .f32⟩
  | 92 => ⟨S4x8192x8x16, .f32⟩
  | 93 => ⟨S4x8192x8x16, .f32⟩
  | 94 => ⟨S4x8192x8x16, .f32⟩
  | 95 => ⟨S4x8192x8x16, .f32⟩
  | 96 => ⟨S4x8192x8x16, .f32⟩
  | 97 => ⟨S4x8192x8x32, .f32⟩
  | 98 => ⟨S4x8192x8x96, .f32⟩
  | 99 => ⟨S4x8192x8x128, .f32⟩
  | 100 => ⟨S_, .f32⟩
  | 101 => ⟨S4x8192x8x128, .f32⟩
  | 102 => ⟨S4x8192x8x128, .f32⟩
  | 103 => ⟨S4x8192x2x128, .f32⟩
  | 104 => ⟨S4x8192x1x16, .f32⟩
  | 105 => ⟨S4x8192x1x16, .f32⟩
  | 106 => ⟨S4x8192x2x32, .f32⟩
  | 107 => ⟨S4x8192x2x16, .f32⟩
  | 108 => ⟨S4x8192x2x16, .f32⟩
  | 109 => ⟨S4x8192x2x16, .f32⟩
  | 110 => ⟨S4x8192x2x16, .f32⟩
  | 111 => ⟨S4x8192x2x16, .f32⟩
  | 112 => ⟨S4x8192x2x16, .f32⟩
  | 113 => ⟨S4x8192x2x16, .f32⟩
  | 114 => ⟨S4x8192x2x16, .f32⟩
  | 115 => ⟨S4x8192x2x16, .f32⟩
  | 116 => ⟨S4x8192x2x16, .f32⟩
  | 117 => ⟨S4x8192x2x16, .f32⟩
  | 118 => ⟨S4x8192x2x16, .f32⟩
  | 119 => ⟨S4x8192x2x32, .f32⟩
  | 120 => ⟨S4x8192x2x96, .f32⟩
  | 121 => ⟨S4x8192x2x128, .f32⟩
  | 122 => ⟨S4x8192x2x128, .f32⟩
  | 123 => ⟨S4x2x128x8192, .f32⟩
  | 124 => ⟨S_, .f32⟩
  | 125 => ⟨S4x2x16x8192, .f32⟩
  | 126 => ⟨S4x2x144x8192, .f32⟩
  | 127 => ⟨S4x8192x8x64, .f32⟩
  | _ => ⟨S4x8192x1024, .f32⟩

abbrev hbmTy0_1 (i : Nat) : BufTy := match i % 128 with
  | 0 => ⟨S4x8192x1x8, .f32⟩
  | 1 => ⟨S4x8192x1x8, .f32⟩
  | 2 => ⟨S4x8192x8x16, .f32⟩
  | 3 => ⟨S4x8192x8x8, .f32⟩
  | 4 => ⟨S4x8192x8x8, .f32⟩
  | 5 => ⟨S4x8192x8x8, .f32⟩
  | 6 => ⟨S4x8192x8x8, .f32⟩
  | 7 => ⟨S4x8192x8x8, .f32⟩
  | 8 => ⟨S4x8192x8x8, .f32⟩
  | 9 => ⟨S4x8192x8x8, .f32⟩
  | 10 => ⟨S4x8192x8x8, .f32⟩
  | 11 => ⟨S4x8192x8x8, .f32⟩
  | 12 => ⟨S4x8192x8x8, .f32⟩
  | 13 => ⟨S4x8192x8x8, .f32⟩
  | 14 => ⟨S4x8192x8x8, .f32⟩
  | 15 => ⟨S4x8192x8x16, .f32⟩
  | 16 => ⟨S4x8192x8x48, .f32⟩
  | 17 => ⟨S4x8192x8x64, .f32⟩
  | 18 => ⟨S4x8192x64, .f32⟩
  | 19 => ⟨S_, .f32⟩
  | 20 => ⟨S4x8192, .f32⟩
  | 21 => ⟨S4x8192x1, .f32⟩
  | 22 => ⟨S_, .f32⟩
  | 23 => ⟨S4x8192x1, .f32⟩
  | 24 => ⟨S4x8192x1, .f32⟩
  | 25 => ⟨S_, .f32⟩
  | 26 => ⟨S4x8192x1, .f32⟩
  | 27 => ⟨S4x8192x1, .f32⟩
  | 28 => ⟨S4x8192x1, .f32⟩
  | 29 => ⟨S4x8192x64, .f32⟩
  | 30 => ⟨S4x8192x64, .f32⟩
  | 31 => ⟨S1x1x64, .f32⟩
  | 32 => ⟨S4x8192x64, .f32⟩
  | 33 => ⟨S4x8192x64, .f32⟩
  | 34 => ⟨S4x8192x16, .f32⟩
  | 35 => ⟨S4x8192x8, .f32⟩
  | 36 => ⟨S4x8192x8, .f32⟩
  | 37 => ⟨S4x8192x8, .f32⟩
  | 38 => ⟨S4x8192x8, .f32⟩
  | 39 => ⟨S4x8192x8, .f32⟩
  | 40 => ⟨S4x8192x8, .f32⟩
  | 41 => ⟨S4x8192x8, .f32⟩
  | 42 => ⟨S4x8192x8, .f32⟩
  | 43 => ⟨S4x8192x16, .f32⟩
  | 44 => ⟨S4x8192x48, .f32⟩
  | 45 => ⟨S4x8192x64, .f32⟩
  | 46 => ⟨S_, .f32⟩
  | 47 => ⟨S4x8192x8, .f32⟩
  | 48 => ⟨S4x8192x8, .f32⟩
  | 49 => ⟨S4x8192x1024, .f32⟩
  | 50 => ⟨S4x8192x1024, .bf16⟩
  | 51 => ⟨S4x8192x256, .f32⟩
  | 52 => ⟨S4x8192x256, .bf16⟩
  | 53 => ⟨S4x288x8192, .f32⟩
  | 54 => ⟨S4x288x8192, .bf16⟩
  | 55 => ⟨S4x8192x512, .f32⟩
  | 56 => ⟨S4x8192x512, .bf16⟩
  | 57 => ⟨S4x8192x128, .f32⟩
  | 58 => ⟨S4x8192x128, .bf16⟩
  | 59 => ⟨S_, .i32⟩
  | 60 => ⟨S_, .f32⟩
  | 61 => ⟨S4x8192x128, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_12 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_13 : Ref sig .tc := ⟨.hbm, 147, rfl⟩
abbrev main_v126 : Ref sig .tc := ⟨.hbm, 148, rfl⟩
abbrev main_v127 : Ref sig .tc := ⟨.hbm, 149, rfl⟩
abbrev main_cst_14 : Ref sig .tc := ⟨.hbm, 150, rfl⟩
abbrev main_v128 : Ref sig .tc := ⟨.hbm, 151, rfl⟩
abbrev main_v129 : Ref sig .tc := ⟨.hbm, 152, rfl⟩
abbrev main_cst_15 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_cst_16 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_c : Ref sig .tc := ⟨.hbm, 187, rfl⟩
abbrev main_call0_v0 : Ref sig .tc := ⟨.hbm, 188, rfl⟩
abbrev main_v162 : Ref sig .tc := ⟨.hbm, 189, rfl⟩

abbrev nD : Nat := 1
abbrev τ : Topo := Topo.v7x

variable {F : FTy → Type} [FloatOps F]
-- ==== Proof.DsaWhile.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Tactic

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

set_option warn.classDefReducibility false in
/-- The tie-break's outer loop (one bit of the cut per trip) only reads the key scratch: it holds the same contents before every trip. -/
@[sl_loop] def loopInv_k0_t13 (𝒱 : Variants) (c : Dev nD) (bd : Option 𝒱.V) (i : grid0.Coords) (arg2 : Memref sig .tc .vmem S1x128x1024 .bf16) (harg2 : arg2.IsWhole) (arg3 : Memref sig .tc .vmem S1x128x512 .bf16) (harg3 : arg3.IsWhole) (arg4 : Memref sig .tc .vmem S1x128x128 .f32) (harg4 : arg4.IsWhole) (arg5 : Memref sig .tc .vmem S1x8192x128 .bf16) (harg5 : arg5.IsWhole) (arg6 : Memref sig .tc .vmem S1x8192x256 .bf16) (harg6 : arg6.IsWhole) (arg7 : Memref sig .tc .vmem S1x288x8192 .bf16) (harg7 : arg7.IsWhole) (arg8 : Memref sig .tc .vmem S1x128x1024 .bf16) (harg8 : arg8.IsWhole) (arg9 : Memref sig .tc .vmem S8192x128 .i32) (harg9 : arg9.IsWhole) (v20 : BitVec 32) (v21 : IVec S512x128 32) (v25 : IVec S1x128 32) (v119_1 : IVec S8x128 32) (v119_2 : IVec S8x128 32) (v120 : IVec S8x128 32) (v246 : IVec S8x128 32) (X : BufTy.Contents (Elt F) arg9.view.ty) (init : IVec S8x128 32) :
    Cert.Kernel.Gen.LoopInvTy_k0_t13 (F := F) Unit ℕ (UR sig nD τ) ℕ 𝒱 c bd Set.univ i arg2 harg2 arg3 harg3 arg4 harg4 arg5 harg5 arg6 harg6 arg7 harg7 arg8 harg8 arg9 harg9 v20 v21 v25 v119_1 v119_2 v120 v246 init where
  inv := fun _ _ => (arg9.view.loc (c : Thread nD τ) ↦[arg9.view.set]{fullShare} X)
  step := fun k acc => by
    unfold k0_t13_body
    iintro H9
    sl_exec
    sl_step
    iexact H9

set_option maxHeartbeats 8000000 in
theorem part10_spec (c : Dev nD) (bd : Option Variants.nat.V) (i : grid0.Coords) (arg9 : Memref sig .tc .vmem S8192x128 .i32) (harg9 : arg9.IsWhole) (v21 : IVec S512x128 32) (arg10 : BitVec 32) (arg11 : IVec S8x128 32) (arg12 : IVec S8x128 32) (arg13 : IVec S8x128 32) (v20 : BitVec 32) (f9 : BufTy.Contents (Elt F) arg9.view.ty) :
    (arg9.view.loc (c : Thread nD τ) ↦[arg9.view.set]{fullShare} f9)
      ⊢ wp Idealize.ShloMosaic.frame (wpE (defs₀ (F := F)) Variants.nat (c : Thread nD τ) bd) Set.univ (k0_part10 (F := F) i arg9 harg9 v21 arg10 arg11 arg12 arg13 v20)
        (fun _ => ((arg9.view.loc (c : Thread nD τ) ↦[arg9.view.set]{fullShare} f9) : sProp 𝕄)) := by
  simp only [k0_part10_eq_skeleton]; unfold k0_part10_skel
  iintro H9
  sl_exec
  sl_step
  iexact H9

set_option maxHeartbeats 8000000 in
theorem part11_spec (c : Dev nD) (bd : Option Variants.nat.V) (i : grid0.Coords) (arg9 : Memref sig .tc .vmem S8192x128 .i32) (harg9 : arg9.IsWhole) (v21 : IVec S512x128 32) (arg10 : BitVec 32) (arg11 : IVec S8x128 32) (arg12 : IVec S8x128 32) (arg13 : IVec S8x128 32) (v20 : BitVec 32) (v263 : IVec S8x128 32) (v264 : IVec S8x128 32) (v268 : IVec S8x128 32) (v273 : IVec S8x128 32) (v274 : IVec S8x128 32) (c0_i32_94 : BitVec 32) (c1_i32_95 : BitVec 32) (v277 : BitVec 32) (f9 : BufTy.Contents (Elt F) arg9.view.ty) :
    (arg9.view.loc (c : Thread nD τ) ↦[arg9.view.set]{fullShare} f9)
      ⊢ wp Idealize.ShloMosaic.frame (wpE (defs₀ (F := F)) Variants.nat (c : Thread nD τ) bd) Set.univ (k0_part11 (F := F) i arg9 harg9 v21 arg10 arg11 arg12 arg13 v20 v263 v264 v268 v273 v274 c0_i32_94 c1_i32_95 v277)
        (fun _ => ((arg9.view.loc (c : Thread nD τ) ↦[arg9.view.set]{fullShare} f9) : sProp 𝕄)) := by
  simp only [k0_part11_eq_skeleton]; unfold k0_part11_skel
  iintro H9
  sl_exec
  sl_step
  iexact H9

set_option maxHeartbeats 8000000 in
theorem part12_spec (c : Dev nD) (bd : Option Variants.nat.V) (i : grid0.Coords) (arg9 : Memref sig .tc .vmem S8192x128 .i32) (harg9 : arg9.IsWhole) (v21 : IVec S512x128 32) (arg10 : BitVec 32) (arg11 : IVec S8x128 32) (arg12 : IVec S8x128 32) (arg13 : IVec S8x128 32) (v20 : BitVec 32) (v293 : IVec S8x128 32) (v294 : IVec S8x128 32) (v298 : IVec S8x128 32) (v303 : IVec S8x128 32) (v317 : IVec S8x128 32) (f9 : BufTy.Contents (Elt F) arg9.view.ty) :
    (arg9.view.loc (c : Thread nD τ) ↦[arg9.view.set]{fullShare} f9)
      ⊢ wp Idealize.ShloMosaic.frame (wpE (defs₀ (F := F)) Variants.nat (c : Thread nD τ) bd) Set.univ (k0_part12 (F := F) i arg9 harg9 v21 arg10 arg11 arg12 arg13 v20 v293 v294 v298 v303 v317)
        (fun _ => ((arg9.view.loc (c : Thread nD τ) ↦[arg9.view.set]{fullShare} f9) : sProp 𝕄)) := by
  simp only [k0_part12_eq_skeleton]; unfold k0_part12_skel
  iintro H9
  sl_exec
  sl_step
  iexact H9

/-- What the search loop's label takes and gives: the key scratch, unchanged; its results are any. -/
def searchSpec (c : Dev nD) (arg9 : Memref sig .tc .vmem S8192x128 .i32) : sWPT 𝕄 (BitVec 32 × IVec S8x128 32 × IVec S8x128 32 × IVec S8x128 32) := do
  sWPT.consume iprop((∃ f, (arg9.view.loc (c : Thread nD τ) ↦[arg9.view.set]{fullShare} f)))
  let r ← sWPT.arbitrary
  sWPT.produce iprop((∃ f, (arg9.view.loc (c : Thread nD τ) ↦[arg9.view.set]{fullShare} f)))
  pure r

theorem searchSpec_apply (c : Dev nD) (arg9 : Memref sig .tc .vmem S8192x128 .i32) (K : BitVec 32 × IVec S8x128 32 × IVec S8x128 32 × IVec S8x128 32 → sProp 𝕄) :
    searchSpec c arg9 K = iprop((∃ f, (arg9.view.loc (c : Thread nD τ) ↦[arg9.view.set]{fullShare} f)) ∗ ∀ r, ((∃ f, (arg9.view.loc (c : Thread nD τ) ↦[arg9.view.set]{fullShare} f)) -∗ K r)) := rfl

/-- The search counter steps by four. -/
theorem count_step : ∀ j, j < 8 → Scalar.addi (BitVec.ofNat 32 (4 * j)) 4#32 = BitVec.ofNat 32 (4 * (j + 1)) := by decide

/-- At its ninth test the search's counter has reached the bound. -/
theorem count_stop (x : BitVec 1) : ¬ Scalar.andi (Scalar.cmpi .slt (BitVec.ofNat 32 (4 * 8)) 32#32) x = 1#1 := by
  revert x; decide

set_option maxHeartbeats 8000000 in
/-- The search, entered with `k` trips of at most eight left, terminates and leaves the key scratch as it was:
    by induction on `k`, the label's own call answered at `k - 1`. -/
theorem search_le (c : Dev nD) (i : grid0.Coords) (arg9 : Memref sig .tc .vmem S8192x128 .i32) (harg9 : arg9.IsWhole) (v21 : IVec S512x128 32) :
    ∀ k j, j + k = 8 → ∀ (a11 a12 a13 : IVec S8x128 32) K, searchSpec c arg9 K
      ⊢ wp Idealize.ShloMosaic.frame (wpE (defs₀ (F := F)) Variants.nat (c : Thread nD τ) (some k)) Set.univ
          (defs₀ (F := F) .tc 1 ⟨i, arg9, harg9, v21, BitVec.ofNat 32 (4 * j), a11, a12, a13⟩) K := by
  intro k
  induction k with
  | zero =>
    intro j hj a11 a12 a13 K
    obtain rfl : j = 8 := by omega
    rw [searchSpec_apply]
    show _ ⊢ wp Idealize.ShloMosaic.frame (wpE (defs₀ (F := F)) Variants.nat (c : Thread nD τ) (some 0)) Set.univ
      (cc0_while1 i arg9 harg9 v21 (BitVec.ofNat 32 (4 * 8)) a11 a12 a13) K
    simp only [cc0_while1_eq_skeleton]; unfold cc0_while1_skel
    simp only [count_stop, ↓reduceIte, Prog.pure_eq_ret]
    iintro ⟨H9, Hk⟩
    rw [wp_ret]; imodintro
    iapply Hk
    iexact H9
  | succ k ih =>
    intro j hj a11 a12 a13 K
    rw [searchSpec_apply]
    show _ ⊢ wp Idealize.ShloMosaic.frame (wpE (defs₀ (F := F)) Variants.nat (c : Thread nD τ) (some (k + 1))) Set.univ
      (cc0_while1 i arg9 harg9 v21 (BitVec.ofNat 32 (4 * j)) a11 a12 a13) K
    simp only [cc0_while1_eq_skeleton]; unfold cc0_while1_skel
    dsimp only
    split
    · iintro ⟨⟨%f9, H9⟩, Hk⟩
      rw [wp_bind]
      iapply (wp_wand_r Idealize.ShloMosaic.frame (wpE (defs₀ (F := F)) Variants.nat (c : Thread nD τ) (some (k + 1))) Set.univ)
      isplitl [H9]
      · iapply (part10_spec c (some (k + 1)) i arg9 harg9)
        iexact H9
      iintro %r10 H9
      obtain ⟨b1, b2, b3, b4, b5, b6, b7, b8⟩ := r10
      dsimp only
      rw [wp_bind]
      iapply (wp_wand_r Idealize.ShloMosaic.frame (wpE (defs₀ (F := F)) Variants.nat (c : Thread nD τ) (some (k + 1))) Set.univ)
      isplitl [H9]
      · iapply (part11_spec c (some (k + 1)) i arg9 harg9)
        iexact H9
      iintro %r11 H9
      obtain ⟨d1, d2, d3, d4, d5⟩ := r11
      dsimp only
      rw [wp_bind]
      iapply (wp_wand_r Idealize.ShloMosaic.frame (wpE (defs₀ (F := F)) Variants.nat (c : Thread nD τ) (some (k + 1))) Set.univ)
      isplitl [H9]
      · iapply (part12_spec c (some (k + 1)) i arg9 harg9)
        iexact H9
      iintro %r12 H9
      obtain ⟨e1, e2, e3⟩ := r12
      dsimp only
      simp only [count_step j (by omega), Prog.lift]
      iapply (wp_call_spec Variants.nat (c : Thread nD τ) (some (k + 1)) Set.univ (searchSpec c arg9) k
        (fun u hu => by cases hu; exact Nat.lt_succ_self k) (ih (j + 1) (by omega) _ _ _))
      rw [searchSpec_apply]
      isplitl [H9]; · (iexists f9; iexact H9)
      iintro %r H9
      rw [wp_ret]; imodintro
      iapply Hk
      iexact H9
    · simp only [Prog.pure_eq_ret]
      iintro ⟨H9, Hk⟩
      rw [wp_ret]; imodintro
      iapply Hk
      iexact H9

end Cert.Proof.Dsa

end
-- ==== Proof.DsaParts.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Tactic
public import proofs.«01_k».proof.Proof.DsaWhile

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-- The eight operands of the body, whole: the six inputs at fixed contents, the result's block and the key scratch at
    contents that nothing names. -/
def held (c : Dev nD) (arg2 : Memref sig .tc .vmem S1x128x1024 .bf16) (arg3 : Memref sig .tc .vmem S1x128x512 .bf16) (arg4 : Memref sig .tc .vmem S1x128x128 .f32) (arg5 : Memref sig .tc .vmem S1x8192x128 .bf16) (arg6 : Memref sig .tc .vmem S1x8192x256 .bf16) (arg7 : Memref sig .tc .vmem S1x288x8192 .bf16) (arg8 : Memref sig .tc .vmem S1x128x1024 .bf16) (arg9 : Memref sig .tc .vmem S8192x128 .i32) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
    ∗ (∃ f, (arg8.view.loc (c : Thread nD τ) ↦[arg8.view.set]{fullShare} f)) ∗ (∃ f, (arg9.view.loc (c : Thread nD τ) ↦[arg9.view.set]{fullShare} f)))

set_option maxHeartbeats 8000000 in
set_option maxRecDepth 16384 in
theorem part5_spec (c : Dev nD) (bd : Option Variants.nat.V) (i : grid0.Coords) (arg2 : Memref sig .tc .vmem S1x128x1024 .bf16) (harg2 : arg2.IsWhole) (arg3 : Memref sig .tc .vmem S1x128x512 .bf16) (harg3 : arg3.IsWhole) (arg4 : Memref sig .tc .vmem S1x128x128 .f32) (harg4 : arg4.IsWhole) (arg5 : Memref sig .tc .vmem S1x8192x128 .bf16) (harg5 : arg5.IsWhole) (arg6 : Memref sig .tc .vmem S1x8192x256 .bf16) (harg6 : arg6.IsWhole) (arg7 : Memref sig .tc .vmem S1x288x8192 .bf16) (harg7 : arg7.IsWhole) (arg8 : Memref sig .tc .vmem S1x128x1024 .bf16) (harg8 : arg8.IsWhole) (arg9 : Memref sig .tc .vmem S8192x128 .i32) (harg9 : arg9.IsWhole)  (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) :
    held (F := F) c arg2 arg3 arg4 arg5 arg6 arg7 arg8 arg9 f2 f3 f4 f5 f6 f7
      ⊢ wp Idealize.ShloMosaic.frame (wpE (defs₀ (F := F)) Variants.nat (c : Thread nD τ) bd) Set.univ (k0_part5 (F := F) i arg2 harg2 arg3 harg3 arg4 harg4 arg5 harg5 arg6 harg6 arg7 harg7 arg8 harg8 arg9 harg9 )
        (fun _ => held (F := F) c arg2 arg3 arg4 arg5 arg6 arg7 arg8 arg9 f2 f3 f4 f5 f6 f7) := by
  simp only [k0_part5_eq_skeleton]; unfold k0_part5_skel held
  iintro ⟨H2, H3, H4, H5, H6, H7, ⟨%f8, H8⟩, ⟨%f9, H9⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · (iexists _; iexact H8)
  iexists _; iexact H9

set_option maxHeartbeats 8000000 in
set_option maxRecDepth 16384 in
theorem part6_spec (c : Dev nD) (bd : Option Variants.nat.V) (i : grid0.Coords) (arg2 : Memref sig .tc .vmem S1x128x1024 .bf16) (harg2 : arg2.IsWhole) (arg3 : Memref sig .tc .vmem S1x128x512 .bf16) (harg3 : arg3.IsWhole) (arg4 : Memref sig .tc .vmem S1x128x128 .f32) (harg4 : arg4.IsWhole) (arg5 : Memref sig .tc .vmem S1x8192x128 .bf16) (harg5 : arg5.IsWhole) (arg6 : Memref sig .tc .vmem S1x8192x256 .bf16) (harg6 : arg6.IsWhole) (arg7 : Memref sig .tc .vmem S1x288x8192 .bf16) (harg7 : arg7.IsWhole) (arg8 : Memref sig .tc .vmem S1x128x1024 .bf16) (harg8 : arg8.IsWhole) (arg9 : Memref sig .tc .vmem S8192x128 .i32) (harg9 : arg9.IsWhole) (v26 : IVec S128x128 32) (v28 : FVec F S128x512 .bf16) (v29 : FVec F S128x128 .bf16) (v38 : FVec F S128x128 .bf16) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) :
    held (F := F) c arg2 arg3 arg4 arg5 arg6 arg7 arg8 arg9 f2 f3 f4 f5 f6 f7
      ⊢ wp Idealize.ShloMosaic.frame (wpE (defs₀ (F := F)) Variants.nat (c : Thread nD τ) bd) Set.univ (k0_part6 (F := F) i arg2 harg2 arg3 harg3 arg4 harg4 arg5 harg5 arg6 harg6 arg7 harg7 arg8 harg8 arg9 harg9 v26 v28 v29 v38)
        (fun _ => held (F := F) c arg2 arg3 arg4 arg5 arg6 arg7 arg8 arg9 f2 f3 f4 f5 f6 f7) := by
  simp only [k0_part6_eq_skeleton]; unfold k0_part6_skel held
  iintro ⟨H2, H3, H4, H5, H6, H7, ⟨%f8, H8⟩, ⟨%f9, H9⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · (iexists _; iexact H8)
  iexists _; iexact H9

set_option maxHeartbeats 8000000 in
set_option maxRecDepth 16384 in
theorem part7_spec (c : Dev nD) (i : grid0.Coords) (arg2 : Memref sig .tc .vmem S1x128x1024 .bf16) (harg2 : arg2.IsWhole) (arg3 : Memref sig .tc .vmem S1x128x512 .bf16) (harg3 : arg3.IsWhole) (arg4 : Memref sig .tc .vmem S1x128x128 .f32) (harg4 : arg4.IsWhole) (arg5 : Memref sig .tc .vmem S1x8192x128 .bf16) (harg5 : arg5.IsWhole) (arg6 : Memref sig .tc .vmem S1x8192x256 .bf16) (harg6 : arg6.IsWhole) (arg7 : Memref sig .tc .vmem S1x288x8192 .bf16) (harg7 : arg7.IsWhole) (arg8 : Memref sig .tc .vmem S1x128x1024 .bf16) (harg8 : arg8.IsWhole) (arg9 : Memref sig .tc .vmem S8192x128 .i32) (harg9 : arg9.IsWhole) (v20 : BitVec 32) (v21 : IVec S512x128 32) (v25 : IVec S1x128 32) (v26 : IVec S128x128 32) (v28 : FVec F S128x512 .bf16) (v29 : FVec F S128x128 .bf16) (v37 : FVec F S128x128 .bf16) (v45 : FVec F S128x128 .bf16) (v53 : FVec F S128x128 .bf16) (v61 : FVec F S128x128 .bf16) (v69 : FVec F S128x128 .bf16) (v77 : FVec F S128x128 .bf16) (v78 : FVec F S128x128 .bf16) (v80 : IVec S128x128 1) (v81 : IVec S128x128 1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) :
    held (F := F) c arg2 arg3 arg4 arg5 arg6 arg7 arg8 arg9 f2 f3 f4 f5 f6 f7
      ⊢ wp Idealize.ShloMosaic.frame (wpE (defs₀ (F := F)) Variants.nat (c : Thread nD τ) none) Set.univ (k0_part7 (F := F) i arg2 harg2 arg3 harg3 arg4 harg4 arg5 harg5 arg6 harg6 arg7 harg7 arg8 harg8 arg9 harg9 v20 v21 v25 v26 v28 v29 v37 v45 v53 v61 v69 v77 v78 v80 v81)
        (fun _ => held (F := F) c arg2 arg3 arg4 arg5 arg6 arg7 arg8 arg9 f2 f3 f4 f5 f6 f7) := by
  simp only [k0_part7_eq_skeleton]; unfold k0_part7_skel held
  iintro ⟨H2, H3, H4, H5, H6, H7, ⟨%f8, H8⟩, ⟨%f9, H9⟩⟩
  sl_exec
  iapply (wp_call_spec Variants.nat (c : Thread nD τ) none Set.univ (searchSpec c arg9) 8
    (fun u hu => nomatch hu) (search_le c i arg9 harg9 v21 8 0 rfl _ _ _))
  rw [searchSpec_apply]
  isplitl [H9]; · (iexists _; iexact H9)
  iintro %r ⟨%g9, H9⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · (iexists _; iexact H8)
  iexists _; iexact H9

set_option maxHeartbeats 8000000 in
set_option maxRecDepth 16384 in
theorem part8_spec (c : Dev nD) (bd : Option Variants.nat.V) (i : grid0.Coords) (arg2 : Memref sig .tc .vmem S1x128x1024 .bf16) (harg2 : arg2.IsWhole) (arg3 : Memref sig .tc .vmem S1x128x512 .bf16) (harg3 : arg3.IsWhole) (arg4 : Memref sig .tc .vmem S1x128x128 .f32) (harg4 : arg4.IsWhole) (arg5 : Memref sig .tc .vmem S1x8192x128 .bf16) (harg5 : arg5.IsWhole) (arg6 : Memref sig .tc .vmem S1x8192x256 .bf16) (harg6 : arg6.IsWhole) (arg7 : Memref sig .tc .vmem S1x288x8192 .bf16) (harg7 : arg7.IsWhole) (arg8 : Memref sig .tc .vmem S1x128x1024 .bf16) (harg8 : arg8.IsWhole) (arg9 : Memref sig .tc .vmem S8192x128 .i32) (harg9 : arg9.IsWhole) (v20 : BitVec 32) (v21 : IVec S512x128 32) (v25 : IVec S1x128 32) (v119_1 : IVec S8x128 32) (v119_2 : IVec S8x128 32) (v120 : IVec S8x128 32) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) :
    held (F := F) c arg2 arg3 arg4 arg5 arg6 arg7 arg8 arg9 f2 f3 f4 f5 f6 f7
      ⊢ wp Idealize.ShloMosaic.frame (wpE (defs₀ (F := F)) Variants.nat (c : Thread nD τ) bd) Set.univ (k0_part8 (F := F) i arg2 harg2 arg3 harg3 arg4 harg4 arg5 harg5 arg6 harg6 arg7 harg7 arg8 harg8 arg9 harg9 v20 v21 v25 v119_1 v119_2 v120)
        (fun _ => held (F := F) c arg2 arg3 arg4 arg5 arg6 arg7 arg8 arg9 f2 f3 f4 f5 f6 f7) := by
  simp only [k0_part8_eq_skeleton]; unfold k0_part8_skel held
  iintro ⟨H2, H3, H4, H5, H6, H7, ⟨%f8, H8⟩, ⟨%f9, H9⟩⟩
  sl_exec
  generalize part8_spec.sl.v134 v119_1 v119_2 v120 = w
  by_cases h134 : w = 1#1
  · simp only [h134, ↓reduceIte]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · (iexists _; iexact H8)
    iexists _; iexact H9
  · simp only [h134, ↓reduceIte]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · (iexists _; iexact H8)
    iexists _; iexact H9

set_option maxHeartbeats 8000000 in
set_option maxRecDepth 16384 in
theorem part9_spec (c : Dev nD) (bd : Option Variants.nat.V) (i : grid0.Coords) (arg2 : Memref sig .tc .vmem S1x128x1024 .bf16) (harg2 : arg2.IsWhole) (arg3 : Memref sig .tc .vmem S1x128x512 .bf16) (harg3 : arg3.IsWhole) (arg4 : Memref sig .tc .vmem S1x128x128 .f32) (harg4 : arg4.IsWhole) (arg5 : Memref sig .tc .vmem S1x8192x128 .bf16) (harg5 : arg5.IsWhole) (arg6 : Memref sig .tc .vmem S1x8192x256 .bf16) (harg6 : arg6.IsWhole) (arg7 : Memref sig .tc .vmem S1x288x8192 .bf16) (harg7 : arg7.IsWhole) (arg8 : Memref sig .tc .vmem S1x128x1024 .bf16) (harg8 : arg8.IsWhole) (arg9 : Memref sig .tc .vmem S8192x128 .i32) (harg9 : arg9.IsWhole) (v158_1 : FVec F S144x512 .f32) (v158_3 : FVec F S144x512 .f32) (v165 : FVec F S128x128 .bf16) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) :
    held (F := F) c arg2 arg3 arg4 arg5 arg6 arg7 arg8 arg9 f2 f3 f4 f5 f6 f7
      ⊢ wp Idealize.ShloMosaic.frame (wpE (defs₀ (F := F)) Variants.nat (c : Thread nD τ) bd) Set.univ (k0_part9 (F := F) i arg2 harg2 arg3 harg3 arg4 harg4 arg5 harg5 arg6 harg6 arg7 harg7 arg8 harg8 arg9 harg9 v158_1 v158_3 v165)
        (fun _ => held (F := F) c arg2 arg3 arg4 arg5 arg6 arg7 arg8 arg9 f2 f3 f4 f5 f6 f7) := by
  simp only [k0_part9_eq_skeleton]; unfold k0_part9_skel held
  iintro ⟨H2, H3, H4, H5, H6, H7, ⟨%f8, H8⟩, ⟨%f9, H9⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · (iexists _; iexact H8)
  iexists _; iexact H9

/-- One step of a sequence: its precondition's program, then the rest from what it leaves. -/
theorem seq_spec {α β : Type} (c : Dev nD) {P : sProp 𝕄} {e : Prog (TpuEff nD τ sig (Elt F) (Λ₀ F) .tc) α} {k : α → Prog (TpuEff nD τ sig (Elt F) (Λ₀ F) .tc) β}
    {R : sProp 𝕄} {Q : β → sProp 𝕄}
    (h₁ : P ⊢ wp Idealize.ShloMosaic.frame (wpE (defs₀ (F := F)) Variants.nat (c : Thread nD τ) none) Set.univ e (fun _ => R))
    (h₂ : ∀ r, R ⊢ wp Idealize.ShloMosaic.frame (wpE (defs₀ (F := F)) Variants.nat (c : Thread nD τ) none) Set.univ (k r) Q) :
    P ⊢ wp Idealize.ShloMosaic.frame (wpE (defs₀ (F := F)) Variants.nat (c : Thread nD τ) none) Set.univ (e >>= k) Q := by
  rw [wp_bind]
  iintro H
  iapply (wp_wand_r Idealize.ShloMosaic.frame (wpE (defs₀ (F := F)) Variants.nat (c : Thread nD τ) none) Set.univ)
  isplitl [H]
  · iapply h₁
    iexact H
  iintro %r H
  iapply (h₂ r)
  iexact H

set_option maxHeartbeats 8000000 in
set_option maxRecDepth 16384 in
/-- The whole body: its parts in turn, then the last four columns of the result's block. -/
theorem body_spec (c : Dev nD) (i : grid0.Coords) (arg2 : Memref sig .tc .vmem S1x128x1024 .bf16) (harg2 : arg2.IsWhole) (arg3 : Memref sig .tc .vmem S1x128x512 .bf16) (harg3 : arg3.IsWhole) (arg4 : Memref sig .tc .vmem S1x128x128 .f32) (harg4 : arg4.IsWhole) (arg5 : Memref sig .tc .vmem S1x8192x128 .bf16) (harg5 : arg5.IsWhole) (arg6 : Memref sig .tc .vmem S1x8192x256 .bf16) (harg6 : arg6.IsWhole) (arg7 : Memref sig .tc .vmem S1x288x8192 .bf16) (harg7 : arg7.IsWhole) (arg8 : Memref sig .tc .vmem S1x128x1024 .bf16) (harg8 : arg8.IsWhole) (arg9 : Memref sig .tc .vmem S8192x128 .i32) (harg9 : arg9.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) :
    held (F := F) c arg2 arg3 arg4 arg5 arg6 arg7 arg8 arg9 f2 f3 f4 f5 f6 f7
      ⊢ wp Idealize.ShloMosaic.frame (wpE (defs₀ (F := F)) Variants.nat (c : Thread nD τ) none) Set.univ (cc0_dsa_attn (F := F) i arg2 harg2 arg3 harg3 arg4 harg4 arg5 harg5 arg6 harg6 arg7 harg7 arg8 harg8 arg9 harg9)
        (fun _ => held (F := F) c arg2 arg3 arg4 arg5 arg6 arg7 arg8 arg9 f2 f3 f4 f5 f6 f7) := by
  simp only [cc0_dsa_attn_eq_skeleton]; unfold cc0_dsa_attn_skel
  with_reducible refine seq_spec c (part5_spec c none i arg2 harg2 arg3 harg3 arg4 harg4 arg5 harg5 arg6 harg6 arg7 harg7 arg8 harg8 arg9 harg9  f2 f3 f4 f5 f6 f7) (fun r5 => ?_)
  obtain ⟨v20, v21, v25, v26, v28, v29, v37, v38⟩ := r5
  try dsimp only
  with_reducible refine seq_spec c (part6_spec c none i arg2 harg2 arg3 harg3 arg4 harg4 arg5 harg5 arg6 harg6 arg7 harg7 arg8 harg8 arg9 harg9 v26 v28 v29 v38 f2 f3 f4 f5 f6 f7) (fun r6 => ?_)
  obtain ⟨v45, v53, v61, v69, v77, v78, v80, v81⟩ := r6
  try dsimp only
  with_reducible refine seq_spec c (part7_spec c i arg2 harg2 arg3 harg3 arg4 harg4 arg5 harg5 arg6 harg6 arg7 harg7 arg8 harg8 arg9 harg9 v20 v21 v25 v26 v28 v29 v37 v45 v53 v61 v69 v77 v78 v80 v81 f2 f3 f4 f5 f6 f7) (fun r7 => ?_)
  obtain ⟨v119_1, v119_2, v120⟩ := r7
  try dsimp only
  with_reducible refine seq_spec c (part8_spec c none i arg2 harg2 arg3 harg3 arg4 harg4 arg5 harg5 arg6 harg6 arg7 harg7 arg8 harg8 arg9 harg9 v20 v21 v25 v119_1 v119_2 v120 f2 f3 f4 f5 f6 f7) (fun r8 => ?_)
  obtain ⟨v158_1, v158_3, v165⟩ := r8
  try dsimp only
  with_reducible refine seq_spec c (part9_spec c none i arg2 harg2 arg3 harg3 arg4 harg4 arg5 harg5 arg6 harg6 arg7 harg7 arg8 harg8 arg9 harg9 v158_1 v158_3 v165 f2 f3 f4 f5 f6 f7) (fun r9 => ?_)
  obtain ⟨v205, v206⟩ := r9
  try dsimp only
  unfold held
  iintro ⟨H2, H3, H4, H5, H6, H7, ⟨%f8, H8⟩, ⟨%f9, H9⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · (iexists _; iexact H8)
  iexists _; iexact H9

end Cert.Proof.Dsa

end
-- ==== Proof.DsaFrame.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Tactic
public import proofs.«01_k».proof.Proof.DsaParts

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- No host operation comes before the region: it finds every buffer as launched. -/
abbrev V (c : Dev nD) (b : Ref sig .tc) : Buf (Elt F) ((c : Thread nD τ).loc b) := m ((c : Thread nD τ).loc b)

/-- Window `w`'s block at point `t`, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The proof data: each input's buffer is left at its block; of the result's buffer nothing that is written here is read,
    since its window is forgotten. The scratch and the generator register are the class invariant. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- The window the frame does not describe: the result's. -/
def fgt (w : Fin 7) : Bool := w == 6

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem before_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem after_1 (c : Dev nD) (t : Fin (cfg0 (F := F)).N) : (dats m 0 c).after 1 t = iblk m c 1 t := by dsimp only [dats]; rfl
theorem before_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem after_2 (c : Dev nD) (t : Fin (cfg0 (F := F)).N) : (dats m 0 c).after 2 t = iblk m c 2 t := by dsimp only [dats]; rfl
theorem before_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem after_3 (c : Dev nD) (t : Fin (cfg0 (F := F)).N) : (dats m 0 c).after 3 t = iblk m c 3 t := by dsimp only [dats]; rfl
theorem before_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem after_4 (c : Dev nD) (t : Fin (cfg0 (F := F)).N) : (dats m 0 c).after 4 t = iblk m c 4 t := by dsimp only [dats]; rfl
theorem before_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem after_5 (c : Dev nD) (t : Fin (cfg0 (F := F)).N) : (dats m 0 c).after 5 t = iblk m c 5 t := by dsimp only [dats]; rfl
theorem before_5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- What the body is called with at point `t`, window by window: the result's buffer at anything, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- and what it returns, the result's buffer again at anything. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

/-- The scratch whole, as the class invariant holds it and as the body addresses it. -/
theorem scratch_set : (Memref.whole cc0_scratch0 : Memref sig .tc .vmem S8192x128 .i32).view.set = Finset.univ :=
  View.set_whole cc0_scratch0

set_option maxHeartbeats 2000000 in
theorem sound_body (c : Dev nD) (t : Fin (cfg0 (F := F)).N) :
    bodyPre m c t ⊢ wp Idealize.ShloMosaic.frame (wpE (defs₀ (F := F)) Variants.nat (c : Thread nD τ) none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after_0, after_1, after_2, after_3, after_4, after_5]
  unfold Pipeline.ΦA
  rw [scopedRest0_eq]
  unfold owns
  iintro ⟨⟨⟨%fs, Hs⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%X, %f6, -, H6⟩⟩
  iapply (wp_wand_r Idealize.ShloMosaic.frame (wpE (defs₀ (F := F)) Variants.nat (c : Thread nD τ) none) Set.univ)
  isplitl [Hs H0 H1 H2 H3 H4 H5 H6]
  · iapply (body_spec c (grid0.coords t) _ _ _ _ _ _ _ _ _ _ _ _ _ _ _ _ f0 f1 f2 f3 f4 f5)
    unfold held
    isplitl [H0]; · iexact H0
    isplitl [H1]; · iexact H1
    isplitl [H2]; · iexact H2
    isplitl [H3]; · iexact H3
    isplitl [H4]; · iexact H4
    isplitl [H5]; · iexact H5
    isplitl [H6]; · (iexists _; iexact H6)
    iexists fs; rw [scratch_set]; iexact Hs
  iintro %r H
  unfold held
  icases H with ⟨H0, H1, H2, H3, H4, H5, ⟨%g6, H6⟩, ⟨%gs, Hs⟩⟩
  isplitl [Hs Hr]
  · isplitl [Hs]
    · iexists gs; rw [scratch_set]; iexact Hs
    iexact Hr
  isplitl [Ho]; · iexact Ho
  isplitl [H0]; · (iexists f0; isplitr; (· (ipureintro; exact hf0)); iexact H0)
  isplitl [H1]; · (iexists f1; isplitr; (· (ipureintro; exact hf1)); iexact H1)
  isplitl [H2]; · (iexists f2; isplitr; (· (ipureintro; exact hf2)); iexact H2)
  isplitl [H3]; · (iexists f3; isplitr; (· (ipureintro; exact hf3)); iexact H3)
  isplitl [H4]; · (iexists f4; isplitr; (· (ipureintro; exact hf4)); iexact H4)
  isplitl [H5]; · (iexists f5; isplitr; (· (ipureintro; exact hf5)); iexact H5)
  iexists _; iexists g6; isplitr
  · ipureintro; rfl
  iexact H6

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ fgt := fun t => by
  rw [bigSep_W0, bigSep_W0, defs₀_row]
  exact triple_restated (sound_body m c t) rfl .rfl fun _ => .rfl

theorem hmain : Pipeline.HMain (Ix := Unit) (Name := ℕ) (U := UR sig nD τ) (Lvl := ℕ) cfgs 0 defs₀ Variants.nat m (main (F := F)) (V m) :=
  Pipeline.hmain_region cfgs 0 defs₀ Variants.nat m main fun c => (main_chain c).trans rfl

set_option backward.isDefEq.respectTransparency.types false in
set_option maxHeartbeats 800000 in
/-- The launch: every staged array at what the data says (nothing said of the result), and every counter at zero. -/
theorem run_main : θ_run defs (onTc (τ := τ) (main (F := F))) (s₀ m ρ) (fun r => RDat.FramePost (cfg0 (F := F)) (fun c => (dats m 0 c).toRForget fgt) (V m) r ∧ r.2.sem = fun _ => 0) :=
  Pipeline.θ_run_frame_forget (Q' := _) cfgs (dats m) (0 : Fin 1) launch0 defs₀ Variants.nat fgt m ρ main
    (hbody := fun c => (body_obligation m c).loose) (hshare := fun c => (dats m 0 c).share_full fun _ => rfl)
    (howed := fun _ _ => rfl) (V := V m) (hmain := hmain m) (hA := A_eq m) (hΦ := fun _ _ => rfl)

/-- The frame: the six arguments end unchanged and every semaphore counter ends at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun _ h => ⟨fun c => ⟨(h.1.arr_in c 0 rfl).trans (A_eq m c 0),
    (h.1.arr_in c 1 rfl).trans (A_eq m c 1),
    (h.1.arr_in c 2 rfl).trans (A_eq m c 2),
    (h.1.arr_in c 3 rfl).trans (A_eq m c 3),
    (h.1.arr_in c 4 rfl).trans (A_eq m c 4),
    (h.1.arr_in c 5 rfl).trans (A_eq m c 5)⟩, h.2⟩) (run_main m ρ)

end Cert.Proof.Dsa

end
-- ==== Proof.MoeMath.lean ====
/- The mathematics the routed feed-forward layer needs, with no program in it: extended reals that are finite, the first
   lane holding a maximum, the two greatest of eight numbers, the stable sort's first two places, the softmax of two
   numbers and the gate it gives each expert. -/
module

public import Idealize.ShloMosaic.Lib.Pointwise
public import Idealize.ShloMosaic.Lib.SortFacts
public import Idealize.ShloMosaic.Lib.PlanTiles.StableSort

@[expose] public section

noncomputable section

open Idealize.ShloMosaic

namespace Cert.Proof.Moe

/-! ### Finite extended reals -/

/-- A number that is neither infinity. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.zero : Fin' 0 := ⟨0, rfl⟩
theorem Fin'.one : Fin' 1 := ⟨1, rfl⟩
theorem Fin'.sum {ι : Type} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem Fin'.sub_self {x : EReal} (hx : Fin' x) : x - x = 0 := by
  obtain ⟨a, rfl⟩ := hx; rw [← EReal.coe_sub, _root_.sub_self]; rfl
theorem Fin'.bot_lt {x : EReal} (hx : Fin' x) : ⊥ < x := by
  obtain ⟨a, rfl⟩ := hx; exact EReal.bot_lt_coe a
/-- A number whose absolute value is below `+∞` is finite. -/
theorem Fin'.of_ne {x : EReal} (h1 : x ≠ ⊥) (h2 : x ≠ ⊤) : Fin' x := ⟨x.toReal, (EReal.coe_toReal h2 h1).symm⟩

/-! ### The constants -/

theorem neg_inf_word : Ideal.ofBits .f32 4286578688#32 = ⊥ := by simp [Ideal.ofBits, Ideal.ieee]
theorem width_word : Ideal.ofBits .f32 1149239296#32 = ((1024 : ℝ) : EReal) := by
  simp [Ideal.ofBits, Ideal.ieee, -EReal.coe_mul]; norm_num
theorem eps_word : ∃ e : ℝ, 0 < e ∧ Ideal.ofBits .f32 897988541#32 = (e : EReal) := by
  refine ⟨_, ?_, by simp [Ideal.ofBits, Ideal.ieee, -EReal.coe_mul]; rfl⟩
  positivity

/-! ### The normalised row -/

/-- One over the root of a row's mean square, with the small constant inside the root. -/
def invRms (x : Fin 1024 → EReal) : EReal :=
  Ideal.rsqrt (Ideal.div (∑ k, x k * x k) (Ideal.ofBits .f32 1149239296#32) + Ideal.ofBits .f32 897988541#32)

/-- The row the router and the experts read: normalised, scaled by `g` and by `1 + sc`, shifted by `sh`. -/
def hid (x g sc sh : Fin 1024 → EReal) (k : Fin 1024) : EReal := x k * invRms x * g k * (1 + sc k) + sh k

theorem mul_self_nonneg' (x : EReal) : 0 ≤ x * x := by
  induction x using EReal.rec with
  | bot => simp
  | coe r => rw [← EReal.coe_mul]; exact_mod_cast mul_self_nonneg r
  | top => simp

/-- With an infinite entry in the row the reciprocal root is zero. -/
theorem invRms_infinite (x : Fin 1024 → EReal) (j : Fin 1024) (hj : ¬ Fin' (x j)) : invRms x = 0 := by
  have hsq : x j * x j = ⊤ := by
    induction hx : x j using EReal.rec with
    | bot => simp
    | coe r => exact absurd ⟨r, hx⟩ hj
    | top => simp
  have hsum : ∑ k, x k * x k = ⊤ := by
    refine top_le_iff.mp ?_
    rw [← hsq]
    exact Finset.single_le_sum (f := fun k => x k * x k) (fun k _ => mul_self_nonneg' (x k)) (Finset.mem_univ j)
  obtain ⟨e, _, he⟩ := eps_word
  unfold invRms
  rw [hsum, width_word, he, Ideal.div, if_neg (by norm_num)]
  rw [← EReal.coe_inv, EReal.top_mul_coe_of_pos (by norm_num), EReal.top_add_coe]
  rfl

/-- With every entry finite the reciprocal root is finite. -/
theorem invRms_finite (x : Fin 1024 → EReal) (hx : ∀ k, Fin' (x k)) : Fin' (invRms x) := by
  choose r hr using hx
  obtain ⟨e, he0, he⟩ := eps_word
  have hsum : ∑ k, x k * x k = ((∑ k, r k * r k : ℝ) : EReal) := by
    rw [coe_sum']
    exact Finset.sum_congr rfl fun k _ => by rw [hr k, EReal.coe_mul]
  have hpos : 0 ≤ ∑ k, r k * r k := Finset.sum_nonneg fun k _ => mul_self_nonneg (r k)
  unfold invRms
  rw [hsum, width_word, he, Ideal.div, if_neg (by norm_num), ← EReal.coe_inv, ← EReal.coe_mul, ← EReal.coe_add]
  have hp : 0 < (∑ k, r k * r k) * (1024 : ℝ)⁻¹ + e := by positivity
  refine ⟨(Real.sqrt ((∑ k, r k * r k) * (1024 : ℝ)⁻¹ + e))⁻¹, ?_⟩
  show (if _ then (⊥ : EReal) else if _ then ⊤ else _) = _
  rw [if_neg (not_lt.mpr hp.le), if_neg hp.ne']

/-- The row the router reads is finite whatever `x` is, when its scales and its shift are. -/
theorem hid_finite (x g sc sh : Fin 1024 → EReal) (hg : ∀ k, Fin' (g k)) (hsc : ∀ k, Fin' (sc k)) (hsh : ∀ k, Fin' (sh k))
    (k : Fin 1024) : Fin' (hid x g sc sh k) := by
  unfold hid
  by_cases h : ∀ j, Fin' (x j)
  · exact ((((h k).mul (invRms_finite x h)).mul (hg k)).mul (Fin'.one.add (hsc k))).add (hsh k)
  · obtain ⟨j, hj⟩ := not_forall.mp h
    rw [invRms_infinite x j hj, mul_zero, zero_mul, zero_mul, zero_add]
    exact hsh k

/-! ### The router's logits -/

/-- The router's two halves and the row's two halves add up to the plain product. -/
theorem split_logit (h w : Fin 1024 → EReal) (hh : ∀ k, Fin' (h k)) (hw : ∀ k, Fin' (w k)) (b : EReal) :
    ∑ k, h k * w k + (∑ k, h k * (w k - w k) + ∑ k, (h k - h k) * w k) + b = ∑ k, h k * w k + b := by
  have e1 : ∑ k, h k * (w k - w k) = 0 := Finset.sum_eq_zero fun k _ => by rw [(hw k).sub_self, mul_zero]
  have e2 : ∑ k, (h k - h k) * w k = 0 := Finset.sum_eq_zero fun k _ => by rw [(hh k).sub_self, zero_mul]
  rw [e1, e2, add_zero, add_zero]

/-! ### The gated expert -/

theorem one_add_exp_ne_zero (a : EReal) : 1 + Ideal.exp a ≠ 0 := by
  induction a using EReal.rec with
  | bot =>
    show (1 : EReal) + 0 ≠ 0
    rw [add_zero]; exact one_ne_zero
  | coe r =>
    show (1 : EReal) + ((Real.exp r : ℝ) : EReal) ≠ 0
    rw [show (1 : EReal) = ((1 : ℝ) : EReal) from rfl, ← EReal.coe_add]
    have := Real.exp_pos r
    exact_mod_cast (by positivity : (1 + Real.exp r) ≠ 0)
  | top =>
    show (1 : EReal) + ⊤ ≠ 0
    rw [show (1 : EReal) = ((1 : ℝ) : EReal) from rfl, EReal.coe_add_top]; exact EReal.top_ne_zero

/-- `a / (1 + exp (0 - a))` is `a · (1 / (1 + exp (-a)))`. -/
theorem silu_eq (a : EReal) : Ideal.div a (1 + Ideal.exp (0 - a)) = a * Ideal.div 1 (1 + Ideal.exp (-a)) := by
  have hz : (0 : EReal) - a = -a := by rw [sub_eq_add_neg, zero_add]
  rw [hz, Ideal.div, Ideal.div, if_neg (one_add_exp_ne_zero _), if_neg (one_add_exp_ne_zero _), one_mul]

/-! ### The two greatest of eight -/

/-- `p` is the first place of the greatest of eight numbers and `q` the first place of the greatest of the others. -/
structure Top2 (f : Fin 8 → EReal) (p q : Fin 8) : Prop where
  ne : q ≠ p
  le1 : ∀ k, f k ≤ f p
  first1 : ∀ k, f k = f p → p ≤ k
  le2 : ∀ k, k ≠ p → f k ≤ f q
  first2 : ∀ k, k ≠ p → f k = f q → q ≤ k

theorem fold_max {n : Nat} (L : Fin n → EReal) (p : Fin n) (h : ∀ x, L x ≤ L p) : Finset.univ.fold max ⊥ L = L p :=
  le_antisymm ((Finset.fold_max_le _).mpr ⟨bot_le, fun x _ => h x⟩) ((Finset.le_fold_max _).mpr (Or.inr ⟨p, Finset.mem_univ p, le_rfl⟩))

theorem minsi_toInt {w : Nat} (x y : BitVec w) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

theorem toInt_lane (n : Nat) (h : n ≤ 128) : (BitVec.ofNat 32 n).toInt = (n : Int) := by
  rw [BitVec.toInt_ofNat']
  simp only [Nat.reducePow, Nat.reduceSub]
  rw [Int.bmod_def]
  norm_num
  omega

/-- The least of the lanes where `P` holds, every other lane standing for 128, is the first such lane. -/
theorem fold_first (P : Fin 128 → Prop) [DecidablePred P] (p : Fin 128) (hp : P p) (hmin : ∀ x, P x → p ≤ x)
    [Std.Commutative (IntOp.minsi (w := 32))] [Std.Associative (IntOp.minsi (w := 32))] :
    Finset.univ.fold IntOp.minsi 2147483647#32 (fun x : Fin 128 => if P x then BitVec.ofNat 32 x.val else 128#32)
      = BitVec.ofNat 32 p.val := by
  apply BitVec.eq_of_toInt_eq
  have hom := Finset.fold_hom (s := (Finset.univ : Finset (Fin 128))) (op := IntOp.minsi (w := 32)) (op' := (min : Int → Int → Int))
    (f := fun x : Fin 128 => if P x then BitVec.ofNat 32 x.val else 128#32) (b := 2147483647#32)
    (m := BitVec.toInt) (fun x y => minsi_toInt x y)
  rw [← hom, toInt_lane p.val (by omega)]
  have hv : ∀ x : Fin 128, (if P x then BitVec.ofNat 32 x.val else 128#32).toInt = if P x then (x.val : Int) else 128 := fun x => by
    split
    · exact toInt_lane _ (by omega)
    · rfl
  refine le_antisymm ((Finset.fold_min_le _).mpr (Or.inr ⟨p, Finset.mem_univ p, ?_⟩)) ((Finset.le_fold_min _).mpr ⟨?_, fun x _ => ?_⟩)
  · rw [hv, if_pos hp]
  · have := p.isLt
    show (p.val : Int) ≤ 2147483647
    omega
  · rw [hv]
    split
    · next h => have := hmin x h; rw [Fin.le_def] at this; omega
    · have := p.isLt; omega

/-- Eight numbers on the first eight of 128 lanes, `⊥` on the others. -/
def lanes (f : Fin 8 → EReal) (x : Fin 128) : EReal := if h : x.val < 8 then f ⟨x.val, h⟩ else ⊥

/-- A place among eight, as a lane. -/
def lane (p : Fin 8) : Fin 128 := ⟨p.val, by omega⟩

theorem lanes_lane (f : Fin 8 → EReal) (p : Fin 8) : lanes f (lane p) = f p := dif_pos p.isLt

theorem lanes_le (f : Fin 8 → EReal) (p : Fin 8) (h : ∀ k, f k ≤ f p) (x : Fin 128) : lanes f x ≤ lanes f (lane p) := by
  rw [lanes_lane]
  unfold lanes
  split
  · exact h _
  · exact bot_le

section Kernel
variable {f : Fin 8 → EReal} {p q : Fin 8} (t : Top2 f p q) (hf : ∀ k, ⊥ < f k)
include t hf

theorem max1 : Finset.univ.fold max ⊥ (lanes f) = f p := (fold_max _ (lane p) (lanes_le f p t.le1)).trans (lanes_lane f p)

omit t in
theorem lane_of_eq {p : Fin 8} {x : Fin 128} (h : lanes f x = f p) : ∃ k : Fin 8, x = lane k ∧ f k = f p := by
  unfold lanes at h
  split at h
  · next hx => exact ⟨⟨x.val, hx⟩, rfl, h⟩
  · exact absurd h.symm (hf p).ne'

theorem arg1 [Std.Commutative (IntOp.minsi (w := 32))] [Std.Associative (IntOp.minsi (w := 32))] [DecidablePred fun x => lanes f x = f p] :
    Finset.univ.fold IntOp.minsi 2147483647#32 (fun x : Fin 128 => if lanes f x = f p then BitVec.ofNat 32 x.val else 128#32)
      = BitVec.ofNat 32 p.val :=
  fold_first (fun x => lanes f x = f p) (lane p) (lanes_lane f p) fun x hx => by
    obtain ⟨k, rfl, hk⟩ := lane_of_eq hf hx
    exact t.first1 k hk

/-- The lanes with the first pick taken out. -/
def lanes2 (f : Fin 8 → EReal) (p : Fin 8) (x : Fin 128) : EReal := if x = lane p then ⊥ else lanes f x

omit hf in
theorem lanes2_lane : lanes2 f p (lane q) = f q := by
  unfold lanes2
  rw [if_neg (fun h : lane q = lane p => t.ne (Fin.ext (congrArg (fun z : Fin 128 => z.val) h))), lanes_lane]

theorem max2 : Finset.univ.fold max ⊥ (lanes2 f p) = f q := by
  refine (fold_max _ (lane q) fun x => ?_).trans (lanes2_lane t)
  rw [lanes2_lane t]
  unfold lanes2 lanes
  split
  · exact bot_le
  · split
    · next h hx => exact t.le2 _ fun e => h (Fin.ext (congrArg (fun z : Fin 8 => z.val) e))
    · exact bot_le

theorem arg2 [Std.Commutative (IntOp.minsi (w := 32))] [Std.Associative (IntOp.minsi (w := 32))] [DecidablePred fun x => lanes2 f p x = f q] :
    Finset.univ.fold IntOp.minsi 2147483647#32 (fun x : Fin 128 => if lanes2 f p x = f q then BitVec.ofNat 32 x.val else 128#32)
      = BitVec.ofNat 32 q.val :=
  fold_first (fun x => lanes2 f p x = f q) (lane q) (lanes2_lane t) fun x hx => by
    unfold lanes2 at hx
    split at hx
    · exact absurd hx.symm (hf q).ne'
    · next hne =>
      obtain ⟨k, rfl, hk⟩ := lane_of_eq hf hx
      exact t.first2 k (fun e => hne (congrArg lane e)) hk

end Kernel

/-! ### The stable sort's first two places -/

/-- A number's rank among eight: how many of them lie below it. -/
def rank (f : Fin 8 → EReal) (k : Fin 8) : Nat := (Finset.univ.filter fun j => f j < f k).card

theorem rank_lt (f : Fin 8 → EReal) (a b : Fin 8) : rank f a < rank f b ↔ f a < f b := by
  constructor
  · intro h
    by_contra hn
    have hle : f b ≤ f a := not_lt.mp hn
    have : rank f b ≤ rank f a := Finset.card_le_card fun j hj => by
      rw [Finset.mem_filter] at hj ⊢
      exact ⟨hj.1, lt_of_lt_of_le hj.2 hle⟩
    omega
  · intro h
    refine Finset.card_lt_card ⟨fun j hj => ?_, fun hs => ?_⟩
    · rw [Finset.mem_filter] at hj ⊢
      exact ⟨hj.1, hj.2.trans h⟩
    · have := hs (Finset.mem_filter.mpr ⟨Finset.mem_univ a, h⟩)
      rw [Finset.mem_filter] at this
      exact lt_irrefl _ this.2

theorem rank_eq (f : Fin 8 → EReal) (a b : Fin 8) (h : rank f a = rank f b) : f a = f b := by
  refine le_antisymm (not_lt.mp fun hl => ?_) (not_lt.mp fun hl => ?_)
  · have := (rank_lt f b a).mpr hl; omega
  · have := (rank_lt f a b).mpr hl; omega

/-- The comparison a descending sort makes. -/
def descending (f : Fin 8 → EReal) (a b : Fin 8) : Bool := decide (f b < f a)

/-- Two places of the sorted order stand in it: the greater number first, of equal numbers the earlier. -/
theorem sorted_lex (f : Fin 8 → EReal) (i j : Fin 8) (hij : i < j) :
    f (sortedFrom (descending f) j) < f (sortedFrom (descending f) i)
      ∨ (f (sortedFrom (descending f) i) = f (sortedFrom (descending f) j) ∧ sortedFrom (descending f) i < sortedFrom (descending f) j) := by
  have hb : descending f = fun a b => decide (rank f b < rank f a) := by
    funext a b
    exact decide_eq_decide.mpr (rank_lt f b a).symm
  have hp := PlanTiles.pairwise_stableSort_lex (rank f) (· < ·) (List.finRange 8) (List.pairwise_lt_finRange 8)
  rw [← hb] at hp
  have hl : (stableSort (descending f) (List.finRange 8)).length = 8 := length_sortPositions 8 (descending f)
  have h := List.pairwise_iff_get.mp hp (i.cast hl.symm) (j.cast hl.symm) hij
  rcases h with h | ⟨h, h'⟩
  · exact Or.inl ((rank_lt f _ _).mp h)
  · exact Or.inr ⟨rank_eq f _ _ h, h'⟩

/-- The first two places of the stable descending sort are the two greatest. -/
theorem sorted_top2 (f : Fin 8 → EReal) : Top2 f (sortedFrom (descending f) 0) (sortedFrom (descending f) 1) := by
  have key : ∀ (i j : Fin 8), i < j → f (sortedFrom (descending f) j) ≤ f (sortedFrom (descending f) i)
      ∧ (f (sortedFrom (descending f) j) = f (sortedFrom (descending f) i) → sortedFrom (descending f) i ≤ sortedFrom (descending f) j) := by
    intro i j hij
    rcases sorted_lex f i j hij with h | ⟨h, h'⟩
    · exact ⟨h.le, fun e => absurd e h.ne⟩
    · exact ⟨h.ge, fun _ => h'.le⟩
  have surj : ∀ k, ∃ j, sortedFrom (descending f) j = k := sortedFrom_surjective _
  refine ⟨fun h => absurd (sortedFrom_injective _ h) (by decide), fun k => ?_, fun k hk => ?_, fun k hk => ?_, fun k hk hk' => ?_⟩
  · obtain ⟨j, rfl⟩ := surj k
    rcases Fin.eq_zero_or_eq_succ j with rfl | ⟨j', rfl⟩
    · exact le_rfl
    · exact (key 0 _ (Fin.succ_pos j')).1
  · obtain ⟨j, rfl⟩ := surj k
    rcases Fin.eq_zero_or_eq_succ j with rfl | ⟨j', rfl⟩
    · exact le_rfl
    · exact (key 0 _ (Fin.succ_pos j')).2 hk
  all_goals
    obtain ⟨j, rfl⟩ := surj k
    have hj0 : j ≠ 0 := fun h => hk (by rw [h])
    by_cases hj1 : j = 1
    · subst hj1; exact le_rfl
    · have hj : (1 : Fin 8) < j := by
        rw [Fin.lt_def]
        have h0 : j.val ≠ 0 := fun h => hj0 (Fin.ext h)
        have h1 : j.val ≠ 1 := fun h => hj1 (Fin.ext h)
        show 1 < j.val
        omega
      first
        | exact (key 1 j hj).2 hk'
        | exact (key 1 j hj).1

/-! ### The gates -/

/-- The weight of the greater of two numbers in their softmax. -/
def weight (a b : EReal) : EReal := Ideal.div 1 (1 + Ideal.exp (b - a))

/-- The gate of expert `e`: the greater weight at the first pick, the lesser at the second, zero elsewhere. -/
def gate (f : Fin 8 → EReal) (p q e : Fin 8) : EReal :=
  (if e = p then weight (f p) (f q) else 0) + (if e = q then Ideal.exp (f q - f p) * weight (f p) (f q) else 0)

theorem weight_second (a b : EReal) : Ideal.div (Ideal.exp (b - a)) (1 + Ideal.exp (b - a)) = Ideal.exp (b - a) * weight a b := by
  unfold weight
  rw [Ideal.div, Ideal.div, if_neg (one_add_exp_ne_zero _), if_neg (one_add_exp_ne_zero _), one_mul]

theorem exp_sub_self {a : EReal} (ha : Fin' a) : Ideal.exp (a - a) = 1 := by
  rw [ha.sub_self]
  show ((Real.exp 0 : ℝ) : EReal) = 1
  rw [Real.exp_zero]; rfl

/-! ### The layer, entry by entry -/

/-- The gate of expert `e` for the logits `f`. -/
def gateOf (f : Fin 8 → EReal) (e : Fin 8) : EReal := gate f (sortedFrom (descending f) 0) (sortedFrom (descending f) 1) e

/-- The router's logits of a row `h`. -/
def logits (h : Fin 1024 → EReal) (w : (⟨2, ![1024, 8]⟩ : Shape).Idx → EReal) (b : (⟨1, ![8]⟩ : Shape).Idx → EReal) (e : Fin 8) : EReal :=
  ∑ j, h j * w (ix2 j e) + b (ix1 e)

/-- One expert's output for a row `h`, at column `k`. -/
def expert (h : Fin 1024 → EReal) (wgu : (⟨3, ![8, 1024, 2816]⟩ : Shape).Idx → EReal) (wd : (⟨3, ![8, 1408, 1024]⟩ : Shape).Idx → EReal)
    (k : Fin 1024) (e : Fin 8) : EReal :=
  ∑ f : Fin 1408, (Ideal.div (∑ j, h j * wgu (ix3 e j ⟨f.val, by omega⟩)) (1 + Ideal.exp (0 - ∑ j, h j * wgu (ix3 e j ⟨f.val, by omega⟩)))
    * ∑ j, h j * wgu (ix3 e j ⟨1408 + f.val, by omega⟩)) * wd (ix3 e f k)

/-- The sum of the first `n + 1` of eight terms, from zero, in order. -/
def partialSum (t : Fin 8 → EReal) : (n : Nat) → n < 8 → EReal
  | 0, h => 0 + t ⟨0, h⟩
  | n + 1, h => partialSum t n (Nat.lt_of_succ_lt h) + t ⟨n + 1, h⟩

section Layer
variable (x : (⟨3, ![4, 8192, 1024]⟩ : Shape).Idx → EReal) (g : (⟨1, ![1024]⟩ : Shape).Idx → EReal)
  (sc sh : (⟨3, ![4, 1, 1024]⟩ : Shape).Idx → EReal) (w : (⟨2, ![1024, 8]⟩ : Shape).Idx → EReal) (bias : (⟨1, ![8]⟩ : Shape).Idx → EReal)
  (wgu : (⟨3, ![8, 1024, 2816]⟩ : Shape).Idx → EReal) (wd : (⟨3, ![8, 1408, 1024]⟩ : Shape).Idx → EReal)
  (gp : (⟨1, ![1024]⟩ : Shape).Idx → EReal) (ga : (⟨3, ![4, 1, 1024]⟩ : Shape).Idx → EReal)

/-- The row the router and the experts read at batch `b`, position `s`. -/
def hrow (b : Fin 4) (s : Fin 8192) : Fin 1024 → EReal :=
  hid (fun k => x (ix3 b s k)) (fun k => g (ix1 k)) (fun k => sc (ix3 b 0 k)) (fun k => sh (ix3 b 0 k))

/-- The gated sum of the experts. -/
def mixed (b : Fin 4) (s : Fin 8192) (k : Fin 1024) : EReal :=
  partialSum (fun e => expert (hrow x g sc sh b s) wgu wd k e * gateOf (logits (hrow x g sc sh b s) w bias) e) 7 (by decide)

/-- The layer's result. -/
def layer (b : Fin 4) (s : Fin 8192) (k : Fin 1024) : EReal :=
  x (ix3 b s k) + ga (ix3 b 0 k) * (mixed x g sc sh w bias wgu wd b s k * invRms (mixed x g sc sh w bias wgu wd b s) * gp (ix1 k))

end Layer

end Cert.Proof.Moe

end
-- ==== Proof.MoeCase.lean ====
/- What each of the three cases of the routed feed-forward body leaves in the carried buffers and in the output block,
   as the body's own payloads of the blocks it reads. -/
module

public import proofs.«01_k».proof.Defs
public import proofs.«01_k».proof.Proof.Gen.Kernel2Ideal.Value
public import Idealize.ShloMosaic.Lib.Tactic

@[expose] public section

noncomputable section

open Idealize.ShloMosaic Idealize.ShloMosaic.TcCoe Idealize.SL.Sem
open Idealize.ShloMosaic.Pipeline (Dat)

namespace Cert.Proof.Moe

open Cert.Kernel2Ideal Cert.Kernel2Ideal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The gates as the body computes them from the rows, the scales and the two halves of the router. -/
def gatesTerm (x0 : Vec F S1x512x1024 .f32) (x1 : Vec F S1x1024 .f32) (x2 : Vec F S1x1x1024 .f32)
    (x3 : Vec F S1x1x1024 .f32) (x4 : Vec F S2x1024x128 .bf16) (x5 : Vec F S1x128 .f32) : FVec F S512x128 .f32 :=
  let l := iota .tc S512x128 32 [1] iota_S512x128_d1_w32
  let a := k0_pay4 x0 x1 x2 x3
  let b := k0_pay7 x0 x1 x2 x3
  let w : Vec F S1x1024x128 .bf16 := View.ld x4 (Rect.unit (s := S2x1024x128) ![0, 0, 0] S1x1024x128.size inb_S2x1024x128_S1x1024x128_0_0_0)
  let w' : Vec F S1x1024x128 .bf16 := View.ld x4 (Rect.unit (s := S2x1024x128) ![1, 0, 0] S1x1024x128.size inb_S2x1024x128_S1x1024x128_1_0_0)
  k0_pay14 (k0_pay9 l a b w w' w x5) (k0_pay10 l a b w w' w x5) (k0_pay12 l a b w w' w x5) (k0_pay13 l a b w w' w x5)

/-- The first point of a block of rows leaves the normalised rows in the first carried buffer. -/
theorem first_h (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S2x1024x128 .bf16) (h4 : a4.IsWhole) (a5 : Memref sig .tc .vmem S1x128 .f32) (h5 : a5.IsWhole) (a6 : Memref sig .tc .vmem S1x1024x1408 .bf16) (h6 : a6.IsWhole) (a7 : Memref sig .tc .vmem S1x1024x1408 .bf16) (h7 : a7.IsWhole) (a8 : Memref sig .tc .vmem S1x1408x1024 .bf16) (h8 : a8.IsWhole) (a9 : Memref sig .tc .vmem S1x1024 .f32) (h9 : a9.IsWhole) (a10 : Memref sig .tc .vmem S1x1x1024 .f32) (h10 : a10.IsWhole) (a11 : Memref sig .tc .vmem S1x512x1024 .f32) (h11 : a11.IsWhole) (a12 : Memref sig .tc .vmem S512x1024 .bf16) (h12 : a12.IsWhole) (a13 : Memref sig .tc .vmem S512x128 .f32) (h13 : a13.IsWhole) (a14 : Memref sig .tc .vmem S512x1024 .f32) (h14 : a14.IsWhole) (hc0 : cond0_0 i) (hc1 : ¬cond0_1 i) (x0 : Vec F S1x512x1024 .f32) (x1 : Vec F S1x1024 .f32) (x2 : Vec F S1x1x1024 .f32) (x3 : Vec F S1x1x1024 .f32) (x4 : Vec F S2x1024x128 .bf16) (x5 : Vec F S1x128 .f32) (x6 : Vec F S1x1024x1408 .bf16) (x7 : Vec F S1x1024x1408 .bf16) (x8 : Vec F S1x1408x1024 .bf16) (x9 : Vec F S1x1024 .f32) (x10 : Vec F S1x1x1024 .f32) :
    sout0_A_0 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = k0_pay5 x0 x1 x2 x3 := by
  unfold sout0_A_0
  rw [View.read_writes_eq_canon _ _ _ (scover0_A_0 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) hz3, View.ld_unit_zero (S := S1x1024) hz2, View.ld_unit_zero (S := S1x1x1024) hz3, View.ld_unit_zero (S := S1x128) hz2, View.ld_unit_zero (S := S1x1024x1408) hz3, View.ld_unit_zero (S := S1x1408x1024) hz3, View.ld_unit_zero (S := S512x1024) hz2, View.ld_unit_zero (S := S512x128) hz2]

/-- The first point starts the sum of the experts from zero. -/
theorem first_acc (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S2x1024x128 .bf16) (h4 : a4.IsWhole) (a5 : Memref sig .tc .vmem S1x128 .f32) (h5 : a5.IsWhole) (a6 : Memref sig .tc .vmem S1x1024x1408 .bf16) (h6 : a6.IsWhole) (a7 : Memref sig .tc .vmem S1x1024x1408 .bf16) (h7 : a7.IsWhole) (a8 : Memref sig .tc .vmem S1x1408x1024 .bf16) (h8 : a8.IsWhole) (a9 : Memref sig .tc .vmem S1x1024 .f32) (h9 : a9.IsWhole) (a10 : Memref sig .tc .vmem S1x1x1024 .f32) (h10 : a10.IsWhole) (a11 : Memref sig .tc .vmem S1x512x1024 .f32) (h11 : a11.IsWhole) (a12 : Memref sig .tc .vmem S512x1024 .bf16) (h12 : a12.IsWhole) (a13 : Memref sig .tc .vmem S512x128 .f32) (h13 : a13.IsWhole) (a14 : Memref sig .tc .vmem S512x1024 .f32) (h14 : a14.IsWhole) (hc0 : cond0_0 i) (hc1 : ¬cond0_1 i) (x0 : Vec F S1x512x1024 .f32) (x1 : Vec F S1x1024 .f32) (x2 : Vec F S1x1x1024 .f32) (x3 : Vec F S1x1x1024 .f32) (x4 : Vec F S2x1024x128 .bf16) (x5 : Vec F S1x128 .f32) (x6 : Vec F S1x1024x1408 .bf16) (x7 : Vec F S1x1024x1408 .bf16) (x8 : Vec F S1x1408x1024 .bf16) (x9 : Vec F S1x1024 .f32) (x10 : Vec F S1x1x1024 .f32) :
    sout0_A_2 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = k0_pay1 (k0_pay15 i (k0_pay5 x0 x1 x2 x3) x6 x7 x8 (gatesTerm x0 x1 x2 x3 x4 x5)) k0_pay6 := by
  unfold sout0_A_2
  rw [View.read_writes_eq_canon _ _ _ (scover0_A_2 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_cons_unit_zero (S := S512x1024) hz2, View.readCov_unit_zero (S := S512x1024) _ hz2]
  simp only [View.readCov_unit_zero (S := S512x128) _ hz2, View.readCov_unit_zero (S := S512x1024) _ hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) hz3, View.ld_unit_zero (S := S1x1024) hz2, View.ld_unit_zero (S := S1x1x1024) hz3, View.ld_unit_zero (S := S1x128) hz2, View.ld_unit_zero (S := S1x1024x1408) hz3, View.ld_unit_zero (S := S1x1408x1024) hz3, View.ld_unit_zero (S := S512x1024) hz2, View.ld_unit_zero (S := S512x128) hz2]
  rfl

/-- A middle point adds its expert. -/
theorem next_acc (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S2x1024x128 .bf16) (h4 : a4.IsWhole) (a5 : Memref sig .tc .vmem S1x128 .f32) (h5 : a5.IsWhole) (a6 : Memref sig .tc .vmem S1x1024x1408 .bf16) (h6 : a6.IsWhole) (a7 : Memref sig .tc .vmem S1x1024x1408 .bf16) (h7 : a7.IsWhole) (a8 : Memref sig .tc .vmem S1x1408x1024 .bf16) (h8 : a8.IsWhole) (a9 : Memref sig .tc .vmem S1x1024 .f32) (h9 : a9.IsWhole) (a10 : Memref sig .tc .vmem S1x1x1024 .f32) (h10 : a10.IsWhole) (a11 : Memref sig .tc .vmem S1x512x1024 .f32) (h11 : a11.IsWhole) (a12 : Memref sig .tc .vmem S512x1024 .bf16) (h12 : a12.IsWhole) (a13 : Memref sig .tc .vmem S512x128 .f32) (h13 : a13.IsWhole) (a14 : Memref sig .tc .vmem S512x1024 .f32) (h14 : a14.IsWhole) (hc0 : ¬cond0_0 i) (hc1 : ¬cond0_1 i) (x0 : Vec F S1x512x1024 .f32) (x1 : Vec F S1x1024 .f32) (x2 : Vec F S1x1x1024 .f32) (x3 : Vec F S1x1x1024 .f32) (x4 : Vec F S2x1024x128 .bf16) (x5 : Vec F S1x128 .f32) (x6 : Vec F S1x1024x1408 .bf16) (x7 : Vec F S1x1024x1408 .bf16) (x8 : Vec F S1x1408x1024 .bf16) (x9 : Vec F S1x1024 .f32) (x10 : Vec F S1x1x1024 .f32) (y0 : Vec F S512x1024 .bf16) (y1 : Vec F S512x128 .f32) (y2 : Vec F S512x1024 .f32) :
    sout0_B_2 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 y0 y1 y2 = k0_pay1 (k0_pay15 i y0 x6 x7 x8 y1) y2 := by
  unfold sout0_B_2
  rw [View.read_writes_eq_canon _ _ _ (scover0_B_2 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 y0 y1 y2)]
  unfold kernelRun0_B
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) hz3, View.ld_unit_zero (S := S1x1024) hz2, View.ld_unit_zero (S := S1x1x1024) hz3, View.ld_unit_zero (S := S1x128) hz2, View.ld_unit_zero (S := S1x1024x1408) hz3, View.ld_unit_zero (S := S1x1408x1024) hz3, View.ld_unit_zero (S := S512x1024) hz2, View.ld_unit_zero (S := S512x128) hz2]

/-- The first point leaves the gates in the second carried buffer. -/
theorem first_gates (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S2x1024x128 .bf16) (h4 : a4.IsWhole) (a5 : Memref sig .tc .vmem S1x128 .f32) (h5 : a5.IsWhole) (a6 : Memref sig .tc .vmem S1x1024x1408 .bf16) (h6 : a6.IsWhole) (a7 : Memref sig .tc .vmem S1x1024x1408 .bf16) (h7 : a7.IsWhole) (a8 : Memref sig .tc .vmem S1x1408x1024 .bf16) (h8 : a8.IsWhole) (a9 : Memref sig .tc .vmem S1x1024 .f32) (h9 : a9.IsWhole) (a10 : Memref sig .tc .vmem S1x1x1024 .f32) (h10 : a10.IsWhole) (a11 : Memref sig .tc .vmem S1x512x1024 .f32) (h11 : a11.IsWhole) (a12 : Memref sig .tc .vmem S512x1024 .bf16) (h12 : a12.IsWhole) (a13 : Memref sig .tc .vmem S512x128 .f32) (h13 : a13.IsWhole) (a14 : Memref sig .tc .vmem S512x1024 .f32) (h14 : a14.IsWhole) (hc0 : cond0_0 i) (hc1 : ¬cond0_1 i) (x0 : Vec F S1x512x1024 .f32) (x1 : Vec F S1x1024 .f32) (x2 : Vec F S1x1x1024 .f32) (x3 : Vec F S1x1x1024 .f32) (x4 : Vec F S2x1024x128 .bf16) (x5 : Vec F S1x128 .f32) (x6 : Vec F S1x1024x1408 .bf16) (x7 : Vec F S1x1024x1408 .bf16) (x8 : Vec F S1x1408x1024 .bf16) (x9 : Vec F S1x1024 .f32) (x10 : Vec F S1x1x1024 .f32) :
    sout0_A_1 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = gatesTerm x0 x1 x2 x3 x4 x5 := by
  unfold sout0_A_1
  rw [View.read_writes_eq_canon _ _ _ (scover0_A_1 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) hz3, View.ld_unit_zero (S := S1x1024) hz2, View.ld_unit_zero (S := S1x1x1024) hz3, View.ld_unit_zero (S := S1x128) hz2, View.ld_unit_zero (S := S1x1024x1408) hz3, View.ld_unit_zero (S := S1x1408x1024) hz3, View.ld_unit_zero (S := S512x1024) hz2, View.ld_unit_zero (S := S512x128) hz2]
  rfl

/-- The last point adds its expert and writes the block of results. -/
theorem last_out (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S2x1024x128 .bf16) (h4 : a4.IsWhole) (a5 : Memref sig .tc .vmem S1x128 .f32) (h5 : a5.IsWhole) (a6 : Memref sig .tc .vmem S1x1024x1408 .bf16) (h6 : a6.IsWhole) (a7 : Memref sig .tc .vmem S1x1024x1408 .bf16) (h7 : a7.IsWhole) (a8 : Memref sig .tc .vmem S1x1408x1024 .bf16) (h8 : a8.IsWhole) (a9 : Memref sig .tc .vmem S1x1024 .f32) (h9 : a9.IsWhole) (a10 : Memref sig .tc .vmem S1x1x1024 .f32) (h10 : a10.IsWhole) (a11 : Memref sig .tc .vmem S1x512x1024 .f32) (h11 : a11.IsWhole) (a12 : Memref sig .tc .vmem S512x1024 .bf16) (h12 : a12.IsWhole) (a13 : Memref sig .tc .vmem S512x128 .f32) (h13 : a13.IsWhole) (a14 : Memref sig .tc .vmem S512x1024 .f32) (h14 : a14.IsWhole) (hc0 : ¬cond0_0 i) (hc1 : cond0_1 i) (x0 : Vec F S1x512x1024 .f32) (x1 : Vec F S1x1024 .f32) (x2 : Vec F S1x1x1024 .f32) (x3 : Vec F S1x1x1024 .f32) (x4 : Vec F S2x1024x128 .bf16) (x5 : Vec F S1x128 .f32) (x6 : Vec F S1x1024x1408 .bf16) (x7 : Vec F S1x1024x1408 .bf16) (x8 : Vec F S1x1408x1024 .bf16) (x9 : Vec F S1x1024 .f32) (x10 : Vec F S1x1x1024 .f32) (y0 : Vec F S512x1024 .bf16) (y1 : Vec F S512x128 .f32) (y2 : Vec F S512x1024 .f32) :
    out0_C_11 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 y0 y1 y2 = k0_pay2 x0 x10 (k0_pay1 (k0_pay15 i y0 x6 x7 x8 y1) y2) x9 := by
  unfold out0_C_11
  rw [View.read_writes_eq_canon _ _ _ (cover0_C_11 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 y0 y1 y2)]
  unfold kernelRun0_C
  dsimp only
  sl_unfold_words
  rw [View.canon_unit_zero hz3]
  rw [View.readCov_unit_zero (S := S512x1024) _ hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) hz3, View.ld_unit_zero (S := S1x1024) hz2, View.ld_unit_zero (S := S1x1x1024) hz3, View.ld_unit_zero (S := S1x128) hz2, View.ld_unit_zero (S := S1x1024x1408) hz3, View.ld_unit_zero (S := S1x1408x1024) hz3, View.ld_unit_zero (S := S512x1024) hz2, View.ld_unit_zero (S := S512x128) hz2]

end Cert.Proof.Moe

end
-- ==== Proof.MoeHost.lean ====
/- The blocks the routed feed-forward body reads, as entries of the layer's arrays: the arrays the host prepares before the
   launch (the halves of the gate-and-up weights, the padded router in two halves, the padded bias) and the block each
   window reads at each point. -/
module

public import proofs.«01_k».proof.Proof.MoeCase
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.Moe

open Cert.Kernel2Ideal Cert.Kernel2Ideal.Gen
variable (m : (ℓ : Loc nD τ sig) → Buf (Elt Ideal) ℓ)

/-- The point of the grid for batch `b`, row block `i`, expert `e`. -/
def point (b : Fin 4) (i : Fin 16) (e : Fin 8) : Fin cfg0.N :=
  ⟨128 * b.val + 8 * i.val + e.val, lt_of_lt_of_eq (by omega) N_0.symm⟩

theorem V_v14 (c : Dev nD) : V m c main_v14 = shapeCast S1x1024 (m ((c : Thread nD τ).loc main_arg1)) shapeCasts_S1024_S1x1024 := by
  show StableHlo.after (List.flatten [hostOps0, hostOps0_1, hostOps0_2, hostOps0_3, hostOps0_4]) _ (Proc.devRef .tc main_v14) = _
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
  rfl
theorem V_v16 (c : Dev nD) : V m c main_v16 = shapeCast S1x1024 (m ((c : Thread nD τ).loc main_arg8)) shapeCasts_S1024_S1x1024 := by
  show StableHlo.after (List.flatten [hostOps0, hostOps0_1, hostOps0_2, hostOps0_3, hostOps0_4]) _ (Proc.devRef .tc main_v16) = _
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
  rfl
theorem V_v1 (c : Dev nD) : V m c main_v1 = (truncf .bf16 (extractStridedSlice S8x1024x1408 ![0, 0, 0] (m ((c : Thread nD τ).loc main_arg6) : FVec Ideal S8x1024x2816 .f32) slices_S8x1024x2816_S8x1024x1408_0_0_0) bitsLt_bf16_f32 : FVec Ideal S8x1024x1408 .bf16) := by
  show StableHlo.after (List.flatten [hostOps0, hostOps0_1, hostOps0_2, hostOps0_3, hostOps0_4]) _ (Proc.devRef .tc main_v1) = _
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
theorem V_v3 (c : Dev nD) : V m c main_v3 = (truncf .bf16 (extractStridedSlice S8x1024x1408 ![0, 0, 1408] (m ((c : Thread nD τ).loc main_arg6) : FVec Ideal S8x1024x2816 .f32) slices_S8x1024x2816_S8x1024x1408_0_0_1408) bitsLt_bf16_f32 : FVec Ideal S8x1024x1408 .bf16) := by
  show StableHlo.after (List.flatten [hostOps0, hostOps0_1, hostOps0_2, hostOps0_3, hostOps0_4]) _ (Proc.devRef .tc main_v3) = _
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
theorem V_v15 (c : Dev nD) : V m c main_v15 = (truncf .bf16 (m ((c : Thread nD τ).loc main_arg7) : FVec Ideal S8x1408x1024 .f32) bitsLt_bf16_f32 : FVec Ideal S8x1408x1024 .bf16) := by
  show StableHlo.after (List.flatten [hostOps0, hostOps0_1, hostOps0_2, hostOps0_3, hostOps0_4]) _ (Proc.devRef .tc main_v15) = _
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
/-- The bias, padded with zeros to 128 lanes. -/
def padB (b : FVec Ideal S8 .f32) : FVec Ideal S1x128 .f32 :=
  pad S1x128 ![0, 0] ![0, 120] ![0, 0] (shapeCast S1x8 b shapeCasts_S8_S1x8) (sitofp .f32 (constantI S_ 32 0#32)) pads_S1x8_S1x128_000_01200 h_S_
/-- The router, padded with zeros to 128 lanes. -/
def padW (w : FVec Ideal S1024x8 .f32) : FVec Ideal S1024x128 .f32 :=
  pad S1024x128 ![0, 0] ![0, 120] ![0, 0] w (sitofp .f32 (constantI S_ 32 0#32)) pads_S1024x8_S1024x128_000_01200 h_S_
/-- The padded router in two halves: itself rounded, and what the rounding left. -/
def splitW (w : FVec Ideal S1024x128 .f32) : FVec Ideal S2x1024x128 .bf16 :=
  concatenate S2x1024x128 0 [⟨S1x1024x128, broadcastInDim S1x1024x128 ![1, 2] bcast_S1024x128_S1x1024x128_1_2 (truncf .bf16 w bitsLt_bf16_f32)⟩,
    ⟨S1x1024x128, broadcastInDim S1x1024x128 ![1, 2] bcast_S1024x128_S1x1024x128_1_2 (truncf .bf16 (subf w (extf .f32 (truncf .bf16 w bitsLt_bf16_f32) bitsLt_bf16_f32)) bitsLt_bf16_f32)⟩] concatenates_S1x1024x128_S1x1024x128_S2x1024x128_d0
theorem V_v13 (c : Dev nD) : V m c main_v13 = padB (m ((c : Thread nD τ).loc main_arg5)) := by
  show StableHlo.after (List.flatten [hostOps0, hostOps0_1, hostOps0_2, hostOps0_3, hostOps0_4]) _ (Proc.devRef .tc main_v13) = _
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
  rfl
theorem V_v11 (c : Dev nD) : V m c main_v11 = splitW (padW (m ((c : Thread nD τ).loc main_arg4))) := by
  show StableHlo.after (List.flatten [hostOps0, hostOps0_1, hostOps0_2, hostOps0_3, hostOps0_4]) _ (Proc.devRef .tc main_v11) = _
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
  rfl

theorem padB_at (b : FVec Ideal S8 .f32) (k : Fin 128) (h : k.val < 8) : padB b (ix2 0 k) = b (ix1 ⟨k.val, h⟩) := by
  pointwise [padB]
  rw [dif_pos h]
theorem padW_at (w : FVec Ideal S1024x8 .f32) (j : Fin 1024) (k : Fin 128) : padW w (ix2 j k) = if h : k.val < 8 then w (ix2 j ⟨k.val, h⟩) else 0 := by
  pointwise [padW]
  have h0 : FloatOps.sitofp (F := Ideal) .f32 (0#32 : BitVec 32) = (0 : EReal) := by
    show (((0#32 : BitVec 32).toInt : ℝ) : EReal) = 0
    simp
  rw [h0]
theorem splitW_at0 (w : FVec Ideal S1024x128 .f32) (j : Fin 1024) (k : Fin 128) : splitW w (ix3 0 j k) = w (ix2 j k) := by
  pointwise [splitW]
theorem splitW_at1 (w : FVec Ideal S1024x128 .f32) (j : Fin 1024) (k : Fin 128) : splitW w (ix3 1 j k) = w (ix2 j k) - w (ix2 j k) := by
  pointwise [splitW]

theorem idx0 : ∀ (b : Fin 4) (i : Fin 16) (e : Fin 8), win0_0.index (point b i e) = ![b.val, i.val, 0] ∧ win0_1.index (point b i e) = ![0, 0]
    ∧ win0_2.index (point b i e) = ![b.val, 0, 0] ∧ win0_3.index (point b i e) = ![b.val, 0, 0] ∧ win0_4.index (point b i e) = ![0, 0, 0]
    ∧ win0_5.index (point b i e) = ![0, 0] ∧ win0_6.index (point b i e) = ![e.val, 0, 0] ∧ win0_7.index (point b i e) = ![e.val, 0, 0]
    ∧ win0_8.index (point b i e) = ![e.val, 0, 0] ∧ win0_9.index (point b i e) = ![0, 0] ∧ win0_10.index (point b i e) = ![b.val, 0, 0]
    ∧ (grid0.coords (point b i e) 2).val = e.val := by
  decide +kernel

theorem blk0 (c : Dev nD) (b : Fin 4) (i : Fin 16) (e : Fin 8) (r : Fin 512) (k : Fin 1024) :
    (iblk m c 0 (point b i e) : Vec Ideal S1x512x1024 .f32) (ix3 0 r k)
      = m ((c : Thread nD τ).loc main_arg0) (ix3 b ⟨512 * i.val + r.val, by omega⟩ k) := by
  have hi := congrFun (idx0 b i e).1
  unfold iblk
  rw [View.read_apply]
  rw [← V_main_arg0 m c]
  show V m c main_arg0 _ = V m c main_arg0 _
  congr 1
  funext a
  apply Fin.ext
  match a with
  | ⟨0, _⟩ => show win0_0.index (point b i e) 0 * 1 + 1 * 0 = b.val; rw [hi 0]; show b.val * 1 + 1 * 0 = b.val; omega
  | ⟨1, _⟩ => show win0_0.index (point b i e) 1 * 512 + 1 * r.val = 512 * i.val + r.val; rw [hi 1]; show i.val * 512 + 1 * r.val = 512 * i.val + r.val; omega
  | ⟨2, _⟩ => show win0_0.index (point b i e) 2 * 1024 + 1 * k.val = k.val; rw [hi 2]; show 0 * 1024 + 1 * k.val = k.val; omega

theorem blk1 (c : Dev nD) (b : Fin 4) (i : Fin 16) (e : Fin 8) (k : Fin 1024) :
    (iblk m c 1 (point b i e) : Vec Ideal S1x1024 .f32) (ix2 0 k)
      = V m c main_v14 (ix2 0 k) := by
  have hi := congrFun (idx0 b i e).2.1
  unfold iblk
  rw [View.read_apply]
  show V m c main_v14 _ = V m c main_v14 _
  congr 1
  funext a
  apply Fin.ext
  match a with
  | ⟨0, _⟩ => show win0_1.index (point b i e) 0 * 1 + 1 * 0 = 0; rw [hi 0]; show 0 * 1 + 1 * 0 = 0; omega
  | ⟨1, _⟩ => show win0_1.index (point b i e) 1 * 1024 + 1 * k.val = k.val; rw [hi 1]; show 0 * 1024 + 1 * k.val = k.val; omega

theorem blk2 (c : Dev nD) (b : Fin 4) (i : Fin 16) (e : Fin 8) (k : Fin 1024) :
    (iblk m c 2 (point b i e) : Vec Ideal S1x1x1024 .f32) (ix3 0 0 k)
      = m ((c : Thread nD τ).loc main_arg2) (ix3 b 0 k) := by
  have hi := congrFun (idx0 b i e).2.2.1
  unfold iblk
  rw [View.read_apply]
  rw [← V_main_arg2 m c]
  show V m c main_arg2 _ = V m c main_arg2 _
  congr 1
  funext a
  apply Fin.ext
  match a with
  | ⟨0, _⟩ => show win0_2.index (point b i e) 0 * 1 + 1 * 0 = b.val; rw [hi 0]; show b.val * 1 + 1 * 0 = b.val; omega
  | ⟨1, _⟩ => show win0_2.index (point b i e) 1 * 1 + 1 * 0 = 0; rw [hi 1]; show 0 * 1 + 1 * 0 = 0; omega
  | ⟨2, _⟩ => show win0_2.index (point b i e) 2 * 1024 + 1 * k.val = k.val; rw [hi 2]; show 0 * 1024 + 1 * k.val = k.val; omega

theorem blk3 (c : Dev nD) (b : Fin 4) (i : Fin 16) (e : Fin 8) (k : Fin 1024) :
    (iblk m c 3 (point b i e) : Vec Ideal S1x1x1024 .f32) (ix3 0 0 k)
      = m ((c : Thread nD τ).loc main_arg3) (ix3 b 0 k) := by
  have hi := congrFun (idx0 b i e).2.2.2.1
  unfold iblk
  rw [View.read_apply]
  rw [← V_main_arg3 m c]
  show V m c main_arg3 _ = V m c main_arg3 _
  congr 1
  funext a
  apply Fin.ext
  match a with
  | ⟨0, _⟩ => show win0_3.index (point b i e) 0 * 1 + 1 * 0 = b.val; rw [hi 0]; show b.val * 1 + 1 * 0 = b.val; omega
  | ⟨1, _⟩ => show win0_3.index (point b i e) 1 * 1 + 1 * 0 = 0; rw [hi 1]; show 0 * 1 + 1 * 0 = 0; omega
  | ⟨2, _⟩ => show win0_3.index (point b i e) 2 * 1024 + 1 * k.val = k.val; rw [hi 2]; show 0 * 1024 + 1 * k.val = k.val; omega

theorem blk4 (c : Dev nD) (b : Fin 4) (i : Fin 16) (e : Fin 8) (z : Fin 2) (j : Fin 1024) (k : Fin 128) :
    (iblk m c 4 (point b i e) : Vec Ideal S2x1024x128 .bf16) (ix3 z j k)
      = V m c main_v11 (ix3 z j k) := by
  have hi := congrFun (idx0 b i e).2.2.2.2.1
  unfold iblk
  rw [View.read_apply]
  show V m c main_v11 _ = V m c main_v11 _
  congr 1
  funext a
  apply Fin.ext
  match a with
  | ⟨0, _⟩ => show win0_4.index (point b i e) 0 * 2 + 1 * z.val = z.val; rw [hi 0]; show 0 * 2 + 1 * z.val = z.val; omega
  | ⟨1, _⟩ => show win0_4.index (point b i e) 1 * 1024 + 1 * j.val = j.val; rw [hi 1]; show 0 * 1024 + 1 * j.val = j.val; omega
  | ⟨2, _⟩ => show win0_4.index (point b i e) 2 * 128 + 1 * k.val = k.val; rw [hi 2]; show 0 * 128 + 1 * k.val = k.val; omega

theorem blk5 (c : Dev nD) (b : Fin 4) (i : Fin 16) (e : Fin 8) (k : Fin 128) :
    (iblk m c 5 (point b i e) : Vec Ideal S1x128 .f32) (ix2 0 k)
      = V m c main_v13 (ix2 0 k) := by
  have hi := congrFun (idx0 b i e).2.2.2.2.2.1
  unfold iblk
  rw [View.read_apply]
  show V m c main_v13 _ = V m c main_v13 _
  congr 1
  funext a
  apply Fin.ext
  match a with
  | ⟨0, _⟩ => show win0_5.index (point b i e) 0 * 1 + 1 * 0 = 0; rw [hi 0]; show 0 * 1 + 1 * 0 = 0; omega
  | ⟨1, _⟩ => show win0_5.index (point b i e) 1 * 128 + 1 * k.val = k.val; rw [hi 1]; show 0 * 128 + 1 * k.val = k.val; omega

theorem blk6 (c : Dev nD) (b : Fin 4) (i : Fin 16) (e : Fin 8) (j : Fin 1024) (k : Fin 1408) :
    (iblk m c 6 (point b i e) : Vec Ideal S1x1024x1408 .bf16) (ix3 0 j k)
      = V m c main_v1 (ix3 e j k) := by
  have hi := congrFun (idx0 b i e).2.2.2.2.2.2.1
  unfold iblk
  rw [View.read_apply]
  show V m c main_v1 _ = V m c main_v1 _
  congr 1
  funext a
  apply Fin.ext
  match a with
  | ⟨0, _⟩ => show win0_6.index (point b i e) 0 * 1 + 1 * 0 = e.val; rw [hi 0]; show e.val * 1 + 1 * 0 = e.val; omega
  | ⟨1, _⟩ => show win0_6.index (point b i e) 1 * 1024 + 1 * j.val = j.val; rw [hi 1]; show 0 * 1024 + 1 * j.val = j.val; omega
  | ⟨2, _⟩ => show win0_6.index (point b i e) 2 * 1408 + 1 * k.val = k.val; rw [hi 2]; show 0 * 1408 + 1 * k.val = k.val; omega

theorem blk7 (c : Dev nD) (b : Fin 4) (i : Fin 16) (e : Fin 8) (j : Fin 1024) (k : Fin 1408) :
    (iblk m c 7 (point b i e) : Vec Ideal S1x1024x1408 .bf16) (ix3 0 j k)
      = V m c main_v3 (ix3 e j k) := by
  have hi := congrFun (idx0 b i e).2.2.2.2.2.2.2.1
  unfold iblk
  rw [View.read_apply]
  show V m c main_v3 _ = V m c main_v3 _
  congr 1
  funext a
  apply Fin.ext
  match a with
  | ⟨0, _⟩ => show win0_7.index (point b i e) 0 * 1 + 1 * 0 = e.val; rw [hi 0]; show e.val * 1 + 1 * 0 = e.val; omega
  | ⟨1, _⟩ => show win0_7.index (point b i e) 1 * 1024 + 1 * j.val = j.val; rw [hi 1]; show 0 * 1024 + 1 * j.val = j.val; omega
  | ⟨2, _⟩ => show win0_7.index (point b i e) 2 * 1408 + 1 * k.val = k.val; rw [hi 2]; show 0 * 1408 + 1 * k.val = k.val; omega

theorem blk8 (c : Dev nD) (b : Fin 4) (i : Fin 16) (e : Fin 8) (j : Fin 1408) (k : Fin 1024) :
    (iblk m c 8 (point b i e) : Vec Ideal S1x1408x1024 .bf16) (ix3 0 j k)
      = V m c main_v15 (ix3 e j k) := by
  have hi := congrFun (idx0 b i e).2.2.2.2.2.2.2.2.1
  unfold iblk
  rw [View.read_apply]
  show V m c main_v15 _ = V m c main_v15 _
  congr 1
  funext a
  apply Fin.ext
  match a with
  | ⟨0, _⟩ => show win0_8.index (point b i e) 0 * 1 + 1 * 0 = e.val; rw [hi 0]; show e.val * 1 + 1 * 0 = e.val; omega
  | ⟨1, _⟩ => show win0_8.index (point b i e) 1 * 1408 + 1 * j.val = j.val; rw [hi 1]; show 0 * 1408 + 1 * j.val = j.val; omega
  | ⟨2, _⟩ => show win0_8.index (point b i e) 2 * 1024 + 1 * k.val = k.val; rw [hi 2]; show 0 * 1024 + 1 * k.val = k.val; omega

theorem blk9 (c : Dev nD) (b : Fin 4) (i : Fin 16) (e : Fin 8) (k : Fin 1024) :
    (iblk m c 9 (point b i e) : Vec Ideal S1x1024 .f32) (ix2 0 k)
      = V m c main_v16 (ix2 0 k) := by
  have hi := congrFun (idx0 b i e).2.2.2.2.2.2.2.2.2.1
  unfold iblk
  rw [View.read_apply]
  show V m c main_v16 _ = V m c main_v16 _
  congr 1
  funext a
  apply Fin.ext
  match a with
  | ⟨0, _⟩ => show win0_9.index (point b i e) 0 * 1 + 1 * 0 = 0; rw [hi 0]; show 0 * 1 + 1 * 0 = 0; omega
  | ⟨1, _⟩ => show win0_9.index (point b i e) 1 * 1024 + 1 * k.val = k.val; rw [hi 1]; show 0 * 1024 + 1 * k.val = k.val; omega

theorem blk10 (c : Dev nD) (b : Fin 4) (i : Fin 16) (e : Fin 8) (k : Fin 1024) :
    (iblk m c 10 (point b i e) : Vec Ideal S1x1x1024 .f32) (ix3 0 0 k)
      = m ((c : Thread nD τ).loc main_arg9) (ix3 b 0 k) := by
  have hi := congrFun (idx0 b i e).2.2.2.2.2.2.2.2.2.2.1
  unfold iblk
  rw [View.read_apply]
  rw [← V_main_arg9 m c]
  show V m c main_arg9 _ = V m c main_arg9 _
  congr 1
  funext a
  apply Fin.ext
  match a with
  | ⟨0, _⟩ => show win0_10.index (point b i e) 0 * 1 + 1 * 0 = b.val; rw [hi 0]; show b.val * 1 + 1 * 0 = b.val; omega
  | ⟨1, _⟩ => show win0_10.index (point b i e) 1 * 1 + 1 * 0 = 0; rw [hi 1]; show 0 * 1 + 1 * 0 = 0; omega
  | ⟨2, _⟩ => show win0_10.index (point b i e) 2 * 1024 + 1 * k.val = k.val; rw [hi 2]; show 0 * 1024 + 1 * k.val = k.val; omega

/-! The blocks as entries of the arguments. -/

theorem gain_at (c : Dev nD) (k : Fin 1024) : V m c main_v14 (ix2 0 k) = m ((c : Thread nD τ).loc main_arg1) (ix1 k) := by
  rw [V_v14]
  generalize m ((c : Thread nD τ).loc main_arg1) = g
  clean_types
  pointwise
theorem post_at (c : Dev nD) (k : Fin 1024) : V m c main_v16 (ix2 0 k) = m ((c : Thread nD τ).loc main_arg8) (ix1 k) := by
  rw [V_v16]
  generalize m ((c : Thread nD τ).loc main_arg8) = g
  clean_types
  pointwise
theorem gateW_at (c : Dev nD) (e : Fin 8) (j : Fin 1024) (f : Fin 1408) :
    V m c main_v1 (ix3 e j f) = m ((c : Thread nD τ).loc main_arg6) (ix3 e j ⟨f.val, by omega⟩) := by
  rw [V_v1]
  generalize m ((c : Thread nD τ).loc main_arg6) = g
  clean_types
  pointwise
theorem upW_at (c : Dev nD) (e : Fin 8) (j : Fin 1024) (f : Fin 1408) :
    V m c main_v3 (ix3 e j f) = m ((c : Thread nD τ).loc main_arg6) (ix3 e j ⟨1408 + f.val, by omega⟩) := by
  rw [V_v3]
  generalize m ((c : Thread nD τ).loc main_arg6) = g
  clean_types
  pointwise
theorem downW_at (c : Dev nD) (e : Fin 8) (f : Fin 1408) (k : Fin 1024) :
    V m c main_v15 (ix3 e f k) = m ((c : Thread nD τ).loc main_arg7) (ix3 e f k) := by
  rw [V_v15]
  generalize m ((c : Thread nD τ).loc main_arg7) = g
  clean_types
  pointwise

end Cert.Proof.Moe

end
-- ==== Proof.MoeKernel.lean ====
/- The routed feed-forward kernel's result, entry by entry: the payloads of the body read at an index, the gates, the
   carried buffers after each point by induction on the expert, and the block of results the last expert's point writes. -/
module

public import proofs.«01_k».proof.Proof.MoeMath
public import proofs.«01_k».proof.Proof.MoeHost

@[expose] public section

set_option maxRecDepth 16384

noncomputable section

open Idealize.ShloMosaic Idealize.ShloMosaic.TcCoe Idealize.SL.Sem

namespace Cert.Proof.Moe

open Cert.Kernel2Ideal Cert.Kernel2Ideal.Gen

/-! ### Words -/

theorem select_eq {α : Type} {n : Nat} (x e : BitVec n) (a b : α) : Scalar.select (IntOp.cmpi .eq x e) a b = if x = e then a else b := by
  unfold Scalar.select
  by_cases h : x = e
  · rw [if_pos h]; exact if_pos (IntOp.cmpi_eq.mpr h)
  · rw [if_neg h]; exact if_neg fun h' => h (IntOp.cmpi_eq.mp h')

theorem word_inj {a b : Nat} (ha : a < 128) (hb : b < 128) : BitVec.ofNat 32 a = BitVec.ofNat 32 b ↔ a = b := by
  constructor
  · intro h
    have := congrArg BitVec.toNat h
    simp only [BitVec.toNat_ofNat] at this
    omega
  · rintro rfl; rfl

theorem below_eight : ∀ k : Fin 128, IntOp.cmpi .slt (BitVec.ofNat 32 k.val) 8#32 = if k.val < 8 then 1#1 else 0#1 := by decide

/-! ### The payloads at an index -/

variable (x0 : Vec Ideal S1x512x1024 .f32) (x1 : Vec Ideal S1x1024 .f32) (x2 x3 : Vec Ideal S1x1x1024 .f32)
  (x4 : Vec Ideal S2x1024x128 .bf16) (x5 : Vec Ideal S1x128 .f32) (x6 x7 : Vec Ideal S1x1024x1408 .bf16)
  (x8 : Vec Ideal S1x1408x1024 .bf16) (x9 : Vec Ideal S1x1024 .f32) (x10 : Vec Ideal S1x1x1024 .f32)

/-- A row of the block, normalised. -/
def brow (r : Fin 512) : Fin 1024 → EReal :=
  hid (fun k => x0 (ix3 0 r k)) (fun k => x1 (ix2 0 k)) (fun k => x2 (ix3 0 0 k)) (fun k => x3 (ix3 0 0 k))

theorem pay3_at (r : Fin 512) (k : Fin 1024) : k0_pay3 x0 x1 x2 x3 (ix2 r k) = brow x0 x1 x2 x3 r k := by
  pointwise [k0_pay3]
  rfl
theorem pay4_at (r : Fin 512) (k : Fin 1024) : k0_pay4 x0 x1 x2 x3 (ix2 r k) = brow x0 x1 x2 x3 r k := by
  pointwise [k0_pay4]
  exact pay3_at x0 x1 x2 x3 r k
theorem pay5_at (r : Fin 512) (k : Fin 1024) : k0_pay5 x0 x1 x2 x3 (ix2 r k) = brow x0 x1 x2 x3 r k := by
  pointwise [k0_pay5, k0_pay4]
  exact pay3_at x0 x1 x2 x3 r k
theorem pay7_at (r : Fin 512) (k : Fin 1024) :
    k0_pay7 x0 x1 x2 x3 (ix2 r k) = brow x0 x1 x2 x3 r k - brow x0 x1 x2 x3 r k := by
  pointwise [k0_pay7, k0_pay4]
  rw [pay3_at]

theorem iota_at (r : Fin 512) (k : Fin 128) : iota .tc S512x128 32 [1] iota_S512x128_d1_w32 (ix2 r k) = BitVec.ofNat 32 k.val := by
  pointwise

section Gates
variable (v0 : IVec S512x128 32) (v65 v75 : FVec Ideal S512x1024 .bf16) (v76 v79 v82 : Vec Ideal S1x1024x128 .bf16)
  (v89 : Vec Ideal S1x128 .f32)

/-- The masked logits at a lane. -/
theorem pay8_at (r : Fin 512) (k : Fin 128) (hv0 : v0 (ix2 r k) = BitVec.ofNat 32 k.val) :
    k0_pay8 (F := Ideal) v0 v65 v75 v76 v79 v82 v89 (ix2 r k)
      = if k.val < 8 then ∑ x, v65 (ix2 r x) * v76 (ix3 0 x k) + (∑ x, v65 (ix2 r x) * v79 (ix3 0 x k) + ∑ x, v75 (ix2 r x) * v82 (ix3 0 x k)) + v89 (ix2 0 k)
        else ⊥ := by
  pointwise [k0_pay8]
  rw [hv0, below_eight, neg_inf_word]
  by_cases h : k.val < 8
  · rw [if_pos h, if_pos h]; rfl
  · rw [if_neg h, if_neg h]; rfl

/-- The gates a row gets, when its masked logits are eight finite numbers. -/
theorem gates_of (r : Fin 512) (f : Fin 8 → EReal) (hf : ∀ k, Fin' (f k)) (hv0 : ∀ k : Fin 128, v0 (ix2 r k) = BitVec.ofNat 32 k.val)
    (hL : ∀ k : Fin 128, k0_pay8 (F := Ideal) v0 v65 v75 v76 v79 v82 v89 (ix2 r k) = lanes f k) (e : Fin 8) :
    k0_pay14 (k0_pay9 (F := Ideal) v0 v65 v75 v76 v79 v82 v89) (k0_pay10 (F := Ideal) v0 v65 v75 v76 v79 v82 v89)
      (k0_pay12 (F := Ideal) v0 v65 v75 v76 v79 v82 v89) (k0_pay13 (F := Ideal) v0 v65 v75 v76 v79 v82 v89) (ix2 r (lane e)) = gateOf f e := by
  have t := sorted_top2 f
  unfold gateOf
  generalize sortedFrom (descending f) 0 = p at t ⊢
  generalize sortedFrom (descending f) 1 = q at t ⊢
  have hb : ∀ k, ⊥ < f k := fun k => (hf k).bot_lt
  have h9 : k0_pay9 (F := Ideal) v0 v65 v75 v76 v79 v82 v89 (ix2 r 0) = f p := by
    pointwise [k0_pay9]
    rw [neg_inf_word]
    simp only [hL]
    exact max1 t hb
  have h10 : k0_pay10 (F := Ideal) v0 v65 v75 v76 v79 v82 v89 (ix2 r 0) = BitVec.ofNat 32 p.val := by
    pointwise [k0_pay10]
    simp only [hL, h9, hv0]
    exact arg1 t hb
  have h11 : ∀ k : Fin 128, k0_pay11 (F := Ideal) v0 v65 v75 v76 v79 v82 v89 (ix2 r k) = lanes2 f p k := fun k => by
    pointwise [k0_pay11]
    rw [h10, hv0, hL, neg_inf_word, select_eq]
    unfold lanes2
    refine if_congr ?_ rfl rfl
    rw [word_inj k.isLt (by omega), Fin.ext_iff]
    rfl
  have h12 : k0_pay12 (F := Ideal) v0 v65 v75 v76 v79 v82 v89 (ix2 r 0) = f q := by
    pointwise [k0_pay12]
    rw [neg_inf_word]
    simp only [h11]
    exact max2 t hb
  have h13 : k0_pay13 (F := Ideal) v0 v65 v75 v76 v79 v82 v89 (ix1 r) = BitVec.ofNat 32 q.val := by
    pointwise [k0_pay13]
    simp only [h11, h12, hv0]
    exact arg2 t hb
  pointwise [k0_pay14]
  rw [h9, h10, h12, h13, select_eq, select_eq]
  unfold gate weight
  have hw : ∀ a b : Fin 8, BitVec.ofNat 32 (lane a).val = BitVec.ofNat 32 b.val ↔ a = b := fun a b => by
    rw [word_inj (lane a).isLt (by omega), Fin.ext_iff]; rfl
  simp only [hw]

end Gates

/-- One expert's payload: its output times its gate. -/
theorem pay15_at (i : grid0.Coords) (e : Fin 8) (he : (i 2).val = e.val) (y0 : Vec Ideal S512x1024 .bf16) (y1 : Vec Ideal S512x128 .f32)
    (r : Fin 512) (k : Fin 1024) :
    k0_pay15 (F := Ideal) i y0 x6 x7 x8 y1 (ix2 r k)
      = (∑ f : Fin 1408, (Ideal.div (∑ j, y0 (ix2 r j) * x6 (ix3 0 j f)) (1 + Ideal.exp (0 - ∑ j, y0 (ix2 r j) * x6 (ix3 0 j f)))
          * ∑ j, y0 (ix2 r j) * x7 (ix3 0 j f)) * x8 (ix3 0 f k)) * y1 (ix2 r (lane e)) := by
  pointwise [k0_pay15]
  rw [he]
  congr 1
  rw [Finset.sum_eq_single (lane e)]
  · rw [select_eq]; exact if_pos rfl
  · intro x _ hx
    rw [select_eq, if_neg]
    rw [word_inj x.isLt (by omega)]
    exact fun h => hx (Fin.ext h)
  · exact fun h => absurd (Finset.mem_univ _) h

theorem pay1_at (a b : Vec Ideal S512x1024 .f32) (r : Fin 512) (k : Fin 1024) : k0_pay1 (F := Ideal) a b (ix2 r k) = b (ix2 r k) + a (ix2 r k) := by
  pointwise [k0_pay1]
theorem pay6_at (r : Fin 512) (k : Fin 1024) : k0_pay6 (F := Ideal) (ix2 r k) = 0 := by
  pointwise [k0_pay6]
theorem pay2_at (v : Vec Ideal S512x1024 .f32) (r : Fin 512) (k : Fin 1024) :
    k0_pay2 (F := Ideal) x0 x10 v x9 (ix3 0 r k)
      = x0 (ix3 0 r k) + x10 (ix3 0 0 k) * (v (ix2 r k) * invRms (fun k => v (ix2 r k)) * x9 (ix2 0 k)) := by
  pointwise [k0_pay2]
  rfl

/-- The gates of a row of the block. -/
theorem gatesTerm_at (r : Fin 512) (w : (⟨2, ![1024, 8]⟩ : Shape).Idx → EReal) (bias : (⟨1, ![8]⟩ : Shape).Idx → EReal)
    (hw : ∀ i, Fin' (w i)) (hbias : ∀ i, Fin' (bias i)) (hrowf : ∀ j, Fin' (brow x0 x1 x2 x3 r j))
    (h40 : ∀ (j : Fin 1024) (k : Fin 128) (h : k.val < 8), x4 (ix3 0 j k) = w (ix2 j ⟨k.val, h⟩))
    (h41 : ∀ (j : Fin 1024) (k : Fin 128) (h : k.val < 8), x4 (ix3 1 j k) = w (ix2 j ⟨k.val, h⟩) - w (ix2 j ⟨k.val, h⟩))
    (h5 : ∀ (k : Fin 128) (h : k.val < 8), x5 (ix2 0 k) = bias (ix1 ⟨k.val, h⟩)) (e : Fin 8) :
    gatesTerm x0 x1 x2 x3 x4 x5 (ix2 r (lane e)) = gateOf (logits (brow x0 x1 x2 x3 r) w bias) e := by
  unfold gatesTerm
  refine gates_of _ _ _ _ _ _ _ r _ (fun k => ?_) (fun k => iota_at r k) (fun k => ?_) e
  · exact (Fin'.sum _ _ fun j _ => (hrowf j).mul (hw _)).add (hbias _)
  · rw [pay8_at _ _ _ _ _ _ _ r k (iota_at r k)]
    unfold lanes
    by_cases h : k.val < 8
    · rw [if_pos h, dif_pos h]
      pointwise
      simp only [pay4_at, pay7_at, h40 _ k h, h41 _ k h, h5 k h]
      exact split_logit _ (fun j => w (ix2 j ⟨k.val, h⟩)) hrowf (fun j => hw _) _
    · rw [if_neg h, dif_neg h]

/-! ### The carried buffers after each point -/

section Points
variable (m : (ℓ : Loc nD τ sig) → Buf (Elt Ideal) ℓ) (c : Dev nD)

set_option maxHeartbeats 1000000 in
theorem first_point (t : Fin cfg0.N) (h0 : t.val % 8 = 0) (h1 : ¬t.val % 8 = 7) :
    (outsAt0 m c t.val t.isLt).2.1 = k0_pay5 (iblk m c 0 t) (iblk m c 1 t) (iblk m c 2 t) (iblk m c 3 t)
    ∧ (outsAt0 m c t.val t.isLt).2.2.1 = gatesTerm (iblk m c 0 t) (iblk m c 1 t) (iblk m c 2 t) (iblk m c 3 t) (iblk m c 4 t) (iblk m c 5 t)
    ∧ (outsAt0 m c t.val t.isLt).2.2.2 = k0_pay1 (k0_pay15 (grid0.coords t) (k0_pay5 (iblk m c 0 t) (iblk m c 1 t) (iblk m c 2 t) (iblk m c 3 t))
        (iblk m c 6 t) (iblk m c 7 t) (iblk m c 8 t)
        (gatesTerm (iblk m c 0 t) (iblk m c 1 t) (iblk m c 2 t) (iblk m c 3 t) (iblk m c 4 t) (iblk m c 5 t))) (k0_pay6 (F := Ideal)) := by
  rw [outsAt0_A m c t h0 h1]
  dsimp only
  rw [first_h, first_gates, first_acc]
  exact ⟨rfl, rfl, rfl⟩

set_option maxHeartbeats 1000000 in
theorem next_point (t : Fin cfg0.N) (h0 : ¬t.val % 8 = 0) (h1 : ¬t.val % 8 = 7) (n : Nat) (hn : n < cfg0.N) (hp : t.val - 1 = n) :
    (outsAt0 m c t.val t.isLt).2.1 = (outsAt0 m c n hn).2.1
    ∧ (outsAt0 m c t.val t.isLt).2.2.1 = (outsAt0 m c n hn).2.2.1
    ∧ (outsAt0 m c t.val t.isLt).2.2.2 = k0_pay1 (k0_pay15 (grid0.coords t) (outsAt0 m c n hn).2.1
        (iblk m c 6 t) (iblk m c 7 t) (iblk m c 8 t) (outsAt0 m c n hn).2.2.1) (outsAt0 m c n hn).2.2.2 := by
  subst hp
  generalize ho : outsAt0 m c (t.val - 1) hn = o
  rw [outsAt0_B m c t h0 h1]
  dsimp only
  rw [next_acc, ho]
  unfold sout0_B_0 sout0_B_1
  exact ⟨rfl, rfl, rfl⟩

set_option maxHeartbeats 1000000 in
theorem last_point (t : Fin cfg0.N) (h0 : ¬t.val % 8 = 0) (h1 : t.val % 8 = 7) (n : Nat) (hn : n < cfg0.N) (hp : t.val - 1 = n) :
    (outsAt0 m c t.val t.isLt).1 = k0_pay2 (iblk m c 0 t) (iblk m c 10 t) (k0_pay1 (k0_pay15 (grid0.coords t) (outsAt0 m c n hn).2.1
        (iblk m c 6 t) (iblk m c 7 t) (iblk m c 8 t) (outsAt0 m c n hn).2.2.1) (outsAt0 m c n hn).2.2.2) (iblk m c 9 t) := by
  subst hp
  generalize ho : outsAt0 m c (t.val - 1) hn = o
  rw [outsAt0_C m c t h0 h1]
  dsimp only
  rw [last_out, ho]

/-- The layer's arrays. -/
abbrev aX : (⟨3, ![4, 8192, 1024]⟩ : Shape).Idx → EReal := m ((c : Thread nD τ).loc main_arg0)
abbrev aG : (⟨1, ![1024]⟩ : Shape).Idx → EReal := m ((c : Thread nD τ).loc main_arg1)
abbrev aSc : (⟨3, ![4, 1, 1024]⟩ : Shape).Idx → EReal := m ((c : Thread nD τ).loc main_arg2)
abbrev aSh : (⟨3, ![4, 1, 1024]⟩ : Shape).Idx → EReal := m ((c : Thread nD τ).loc main_arg3)
abbrev aW : (⟨2, ![1024, 8]⟩ : Shape).Idx → EReal := m ((c : Thread nD τ).loc main_arg4)
abbrev aB : (⟨1, ![8]⟩ : Shape).Idx → EReal := m ((c : Thread nD τ).loc main_arg5)
abbrev aWgu : (⟨3, ![8, 1024, 2816]⟩ : Shape).Idx → EReal := m ((c : Thread nD τ).loc main_arg6)
abbrev aWd : (⟨3, ![8, 1408, 1024]⟩ : Shape).Idx → EReal := m ((c : Thread nD τ).loc main_arg7)
abbrev aGp : (⟨1, ![1024]⟩ : Shape).Idx → EReal := m ((c : Thread nD τ).loc main_arg8)
abbrev aGa : (⟨3, ![4, 1, 1024]⟩ : Shape).Idx → EReal := m ((c : Thread nD τ).loc main_arg9)

/-- The row of the sequence that row `r` of block `i` is. -/
def seqRow (i : Fin 16) (r : Fin 512) : Fin 8192 := ⟨512 * i.val + r.val, by omega⟩

/-- The normalised row. -/
abbrev rowH (b : Fin 4) (s : Fin 8192) : Fin 1024 → EReal := hrow (aX m c) (aG m c) (aSc m c) (aSh m c) b s
/-- The gates of the row. -/
abbrev rowG (b : Fin 4) (s : Fin 8192) : Fin 8 → EReal := gateOf (logits (rowH m c b s) (aW m c) (aB m c))

theorem blk1' (b : Fin 4) (i : Fin 16) (e : Fin 8) (k : Fin 1024) :
    (iblk m c 1 (point b i e) : Vec Ideal S1x1024 .f32) (ix2 0 k) = aG m c (ix1 k) := (blk1 m c b i e k).trans (gain_at m c k)
theorem blk6' (b : Fin 4) (i : Fin 16) (e : Fin 8) (j : Fin 1024) (f : Fin 1408) :
    (iblk m c 6 (point b i e) : Vec Ideal S1x1024x1408 .bf16) (ix3 0 j f) = aWgu m c (ix3 e j ⟨f.val, by omega⟩) :=
  (blk6 m c b i e j f).trans (gateW_at m c e j f)
theorem blk7' (b : Fin 4) (i : Fin 16) (e : Fin 8) (j : Fin 1024) (f : Fin 1408) :
    (iblk m c 7 (point b i e) : Vec Ideal S1x1024x1408 .bf16) (ix3 0 j f) = aWgu m c (ix3 e j ⟨1408 + f.val, by omega⟩) :=
  (blk7 m c b i e j f).trans (upW_at m c e j f)
theorem blk8' (b : Fin 4) (i : Fin 16) (e : Fin 8) (f : Fin 1408) (k : Fin 1024) :
    (iblk m c 8 (point b i e) : Vec Ideal S1x1408x1024 .bf16) (ix3 0 f k) = aWd m c (ix3 e f k) := (blk8 m c b i e f k).trans (downW_at m c e f k)
theorem blk9' (b : Fin 4) (i : Fin 16) (e : Fin 8) (k : Fin 1024) :
    (iblk m c 9 (point b i e) : Vec Ideal S1x1024 .f32) (ix2 0 k) = aGp m c (ix1 k) := (blk9 m c b i e k).trans (post_at m c k)

theorem brow_at (b : Fin 4) (i : Fin 16) (e : Fin 8) (r : Fin 512) :
    brow (iblk m c 0 (point b i e)) (iblk m c 1 (point b i e)) (iblk m c 2 (point b i e)) (iblk m c 3 (point b i e)) r
      = rowH m c b (seqRow i r) := by
  unfold brow rowH hrow
  simp only [blk0, blk1', blk2, blk3]
  rfl

/-- What the carried buffers hold after the point of expert `e`. -/
structure Held (b : Fin 4) (i : Fin 16) (e : Nat) (he : e < 8)
    (o : Vec Ideal S1x512x1024 .f32 × Vec Ideal S512x1024 .bf16 × Vec Ideal S512x128 .f32 × Vec Ideal S512x1024 .f32) : Prop where
  h : ∀ (r : Fin 512) (k : Fin 1024), o.2.1 (ix2 r k) = rowH m c b (seqRow i r) k
  g : ∀ (r : Fin 512) (e' : Fin 8), o.2.2.1 (ix2 r (lane e')) = rowG m c b (seqRow i r) e'
  s : ∀ (r : Fin 512) (k : Fin 1024), o.2.2.2 (ix2 r k)
    = partialSum (fun e => expert (rowH m c b (seqRow i r)) (aWgu m c) (aWd m c) k e * rowG m c b (seqRow i r) e) e he

theorem term_at (b : Fin 4) (i : Fin 16) (e : Fin 8) (r : Fin 512) (k : Fin 1024) (y0 : Vec Ideal S512x1024 .bf16) (y1 : Vec Ideal S512x128 .f32)
    (hy0 : ∀ k, y0 (ix2 r k) = rowH m c b (seqRow i r) k) (hy1 : ∀ e', y1 (ix2 r (lane e')) = rowG m c b (seqRow i r) e') :
    k0_pay15 (F := Ideal) (grid0.coords (point b i e)) y0 (iblk m c 6 (point b i e)) (iblk m c 7 (point b i e)) (iblk m c 8 (point b i e)) y1 (ix2 r k)
      = expert (rowH m c b (seqRow i r)) (aWgu m c) (aWd m c) k e * rowG m c b (seqRow i r) e := by
  rw [pay15_at _ _ _ _ e (idx0 b i e).2.2.2.2.2.2.2.2.2.2.2]
  simp only [hy0, hy1, blk6', blk7', blk8']
  rfl

theorem held (hg : ∀ i, Fin' (aG m c i)) (hsc : ∀ i, Fin' (aSc m c i)) (hsh : ∀ i, Fin' (aSh m c i))
    (hw : ∀ i, Fin' (aW m c i)) (hb : ∀ i, Fin' (aB m c i)) (b : Fin 4) (i : Fin 16) (e : Nat) :
    ∀ (he : e < 7) (n : Nat) (hn : n < cfg0.N) (_ : n = 128 * b.val + 8 * i.val + e), Held m c b i e (by omega) (outsAt0 m c n hn) := by
  induction e with
  | zero =>
    rintro he n hn rfl
    have hp := first_point m c (point b i 0) (by show (128 * b.val + 8 * i.val + 0) % 8 = 0; omega) (by show ¬(128 * b.val + 8 * i.val + 0) % 8 = 7; omega)
    have hh : ∀ r k, k0_pay5 (F := Ideal) (iblk m c 0 (point b i 0)) (iblk m c 1 (point b i 0)) (iblk m c 2 (point b i 0)) (iblk m c 3 (point b i 0)) (ix2 r k)
        = rowH m c b (seqRow i r) k := fun r k => by rw [pay5_at, brow_at]
    have hgt : ∀ r e', gatesTerm (F := Ideal) (iblk m c 0 (point b i 0)) (iblk m c 1 (point b i 0)) (iblk m c 2 (point b i 0)) (iblk m c 3 (point b i 0))
        (iblk m c 4 (point b i 0)) (iblk m c 5 (point b i 0)) (ix2 r (lane e')) = rowG m c b (seqRow i r) e' := fun r e' => by
      rw [gatesTerm_at _ _ _ _ _ _ r (aW m c) (aB m c) hw hb (fun j => ?_) (fun j k h => ?_) (fun j k h => ?_) (fun k h => ?_) e', brow_at]
      · rw [brow_at]; exact hid_finite _ _ _ _ (fun k => hg _) (fun k => hsc _) (fun k => hsh _) j
      · rw [blk4, V_v11, splitW_at0, padW_at, dif_pos h]
      · rw [blk4, V_v11, splitW_at1, padW_at, dif_pos h]
      · rw [blk5, V_v13, padB_at _ _ h]
    refine ⟨fun r k => ?_, fun r e' => ?_, fun r k => ?_⟩
    · exact (congrFun hp.1 _).trans (hh r k)
    · exact (congrFun hp.2.1 _).trans (hgt r e')
    · refine (congrFun hp.2.2 _).trans ?_
      rw [pay1_at, pay6_at, term_at m c b i 0 r k _ _ (fun k => hh r k) (fun e' => hgt r e')]
      rfl
  | succ e ih =>
    rintro he n hn rfl
    have hprev := ih (by omega) (128 * b.val + 8 * i.val + e) (by omega) rfl
    have hp := next_point m c (point b i ⟨e + 1, by omega⟩) (by show ¬(128 * b.val + 8 * i.val + (e + 1)) % 8 = 0; omega)
      (by show ¬(128 * b.val + 8 * i.val + (e + 1)) % 8 = 7; omega) (128 * b.val + 8 * i.val + e) (by omega) rfl
    refine ⟨fun r k => ?_, fun r e' => ?_, fun r k => ?_⟩
    · exact (congrFun hp.1 _).trans (hprev.h r k)
    · exact (congrFun hp.2.1 _).trans (hprev.g r e')
    · refine (congrFun hp.2.2 _).trans ?_
      rw [pay1_at, hprev.s, term_at m c b i _ r k _ _ (fun k => hprev.h r k) (fun e' => hprev.g r e')]
      rfl

/-- The block the last expert's point writes. -/
theorem out_at (hg : ∀ i, Fin' (aG m c i)) (hsc : ∀ i, Fin' (aSc m c i)) (hsh : ∀ i, Fin' (aSh m c i))
    (hw : ∀ i, Fin' (aW m c i)) (hb : ∀ i, Fin' (aB m c i)) (b : Fin 4) (i : Fin 16) (r : Fin 512) (k : Fin 1024) :
    (outsAt0 m c (point b i 7).val (point b i 7).isLt).1 (ix3 0 r k)
      = layer (aX m c) (aG m c) (aSc m c) (aSh m c) (aW m c) (aB m c) (aWgu m c) (aWd m c) (aGp m c) (aGa m c) b (seqRow i r) k := by
  have hN : 128 * b.val + 8 * i.val + 6 < cfg0.N := lt_of_lt_of_eq (by omega) N_0.symm
  have hprev := held m c hg hsc hsh hw hb b i 6 (by omega) (128 * b.val + 8 * i.val + 6) hN rfl
  have hp := last_point m c (point b i 7) (by show ¬(128 * b.val + 8 * i.val + 7) % 8 = 0; omega)
      (by show (128 * b.val + 8 * i.val + 7) % 8 = 7; omega) (128 * b.val + 8 * i.val + 6) hN rfl
  have hs : ∀ k, k0_pay1 (F := Ideal) (k0_pay15 (grid0.coords (point b i 7)) (outsAt0 m c (128 * b.val + 8 * i.val + 6) hN).2.1
        (iblk m c 6 (point b i 7)) (iblk m c 7 (point b i 7)) (iblk m c 8 (point b i 7)) (outsAt0 m c (128 * b.val + 8 * i.val + 6) hN).2.2.1)
        (outsAt0 m c (128 * b.val + 8 * i.val + 6) hN).2.2.2 (ix2 r k)
      = mixed (aX m c) (aG m c) (aSc m c) (aSh m c) (aW m c) (aB m c) (aWgu m c) (aWd m c) b (seqRow i r) k := fun k => by
    rw [pay1_at, hprev.s, term_at m c b i 7 r k _ _ (fun k => hprev.h r k) (fun e' => hprev.g r e')]
    rfl
  rw [hp, pay2_at]
  simp only [hs, blk0, blk9', blk10]
  rfl

/-- The result array, entry by entry. -/
theorem result_at (hg : ∀ i, Fin' (aG m c i)) (hsc : ∀ i, Fin' (aSc m c i)) (hsh : ∀ i, Fin' (aSh m c i))
    (hw : ∀ i, Fin' (aW m c i)) (hb : ∀ i, Fin' (aB m c i)) (b : Fin 4) (s : Fin 8192) (k : Fin 1024) :
    Value.G11 m c (ix3 b s k)
      = layer (aX m c) (aG m c) (aSc m c) (aSh m c) (aW m c) (aB m c) (aWgu m c) (aWd m c) (aGp m c) (aGa m c) b s k := by
  have hi : s.val / 512 < 16 := by omega
  have hr : s.val % 512 < 512 := by omega
  have hpt : Value.pt11Of (ix3 b s k) = (point b ⟨s.val / 512, hi⟩ 7).val := by
    unfold Value.pt11Of Value.run11Of
    show 8 * (16 * (b.val / 1 - 0) + 1 * (s.val / 512 - 0) + 1 * (k.val / 1024 - 0)) + 7 = 128 * b.val + 8 * (s.val / 512) + 7
    omega
  have hrow : seqRow ⟨s.val / 512, hi⟩ ⟨s.val % 512, hr⟩ = s := Fin.ext (Nat.div_add_mod s.val 512)
  have hloc : Value.loc11Of (ix3 b s k) = ix3 0 ⟨s.val % 512, hr⟩ k := by
    funext a
    match a with
    | ⟨0, _⟩ => exact Fin.ext (Nat.mod_one _)
    | ⟨1, _⟩ => rfl
    | ⟨2, _⟩ => exact Fin.ext (Nat.mod_eq_of_lt k.isLt)
  have h := out_at m c hg hsc hsh hw hb b ⟨s.val / 512, hi⟩ ⟨s.val % 512, hr⟩ k
  rw [hrow] at h
  rw [← h]
  unfold Value.G11
  rw [dif_pos (by rw [hpt]; exact (point b ⟨s.val / 512, hi⟩ 7).isLt), hloc]
  rw [Value.outsAt0_sweep]
  exact congrFun (congrArg Prod.fst (Value.fold0_congr m c _ _ _ _ hpt)) _

end Points

end Cert.Proof.Moe

end
-- ==== Proof.MoeRef.lean ====
/- The plain layer's result, entry by entry: its intermediate arrays read at an index. -/
module

public import proofs.«01_k».proof.Proof.MoeMath
public import proofs.«01_k».proof.Reference2Ideal
public import proofs.«01_k».proof.Proof.Gen.Reference2Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.Moe.Plain

open Cert.Reference2Ideal Cert.Reference2Ideal.Value

variable (V : Valuation τ sig (Elt Ideal))

/-- The layer's arrays. -/
abbrev aX : (⟨3, ![4, 8192, 1024]⟩ : Shape).Idx → EReal := V (Proc.devRef .tc main_arg0)
abbrev aG : (⟨1, ![1024]⟩ : Shape).Idx → EReal := V (Proc.devRef .tc main_arg1)
abbrev aSc : (⟨3, ![4, 1, 1024]⟩ : Shape).Idx → EReal := V (Proc.devRef .tc main_arg2)
abbrev aSh : (⟨3, ![4, 1, 1024]⟩ : Shape).Idx → EReal := V (Proc.devRef .tc main_arg3)
abbrev aW : (⟨2, ![1024, 8]⟩ : Shape).Idx → EReal := V (Proc.devRef .tc main_arg4)
abbrev aB : (⟨1, ![8]⟩ : Shape).Idx → EReal := V (Proc.devRef .tc main_arg5)
abbrev aWgu : (⟨3, ![8, 1024, 2816]⟩ : Shape).Idx → EReal := V (Proc.devRef .tc main_arg6)
abbrev aWd : (⟨3, ![8, 1408, 1024]⟩ : Shape).Idx → EReal := V (Proc.devRef .tc main_arg7)
abbrev aGp : (⟨1, ![1024]⟩ : Shape).Idx → EReal := V (Proc.devRef .tc main_arg8)
abbrev aGa : (⟨3, ![4, 1, 1024]⟩ : Shape).Idx → EReal := V (Proc.devRef .tc main_arg9)
abbrev rowH (b : Fin 4) (s : Fin 8192) : Fin 1024 → EReal := hrow (aX V) (aG V) (aSc V) (aSh V) b s
abbrev rowL (b : Fin 4) (s : Fin 8192) : Fin 8 → EReal := logits (rowH V b s) (aW V) (aB V)

theorem v18_at (b : Fin 4) (s : Fin 8192) (k : Fin 1024) : res_main_v18 V (ix3 b s k) = (rowH V b s k : EReal) := by
  clean_types
  pointwise [res_main_v18]
  rfl

theorem v22_at (b : Fin 4) (s : Fin 8192) (k : Fin 8) : res_main_v22 V (ix3 b s k) = (rowL V b s k : EReal) := by
  clean_types
  pointwise [res_main_v22]
  simp only [v18_at]
  rfl

theorem along_at (b : Fin 4) (s : Fin 8192) (k k' : Fin 8) :
    (ix3 b s k : S4x8192x8.Idx).along (2 : Fin 3) k' = ix3 b s k' := by
  funext a
  match a with
  | ⟨0, _⟩ => rfl
  | ⟨1, _⟩ => rfl
  | ⟨2, _⟩ => rfl

/-- The two greatest of a row and their places. -/
theorem topk_at (x : FVec Ideal S4x8192x8 .f32) (h : S4x8192x8.Slices (fun _ => 0) S4x8192x2) (b : Fin 4) (s : Fin 8192) (k : Fin 2) :
    (Host.topK S4x8192x2 2 (FloatOps.cmpfTotal (F := Ideal) (φ := .f32) .gt) x h).1 (ix3 b s k)
        = x (ix3 b s (sortedFrom (descending fun k => (x (ix3 b s k) : EReal)) ⟨k.val, by omega⟩))
    ∧ (Host.topK S4x8192x2 2 (FloatOps.cmpfTotal (F := Ideal) (φ := .f32) .gt) x h).2 (ix3 b s k)
        = BitVec.ofNat 32 (sortedFrom (descending fun k => (x (ix3 b s k) : EReal)) ⟨k.val, by omega⟩).val := by
  have key : ∀ (J : S4x8192x8.Idx) (p : Fin 8), J = ix3 b s ⟨k.val, by omega⟩ → p = ⟨k.val, by omega⟩ →
      J.along (2 : Fin 3) (sortedFrom (fun (k k' : Fin 8) => FloatOps.cmpfTotal (F := Ideal) (φ := .f32) .gt
        (x (J.along (2 : Fin 3) k)) (x (J.along (2 : Fin 3) k')) == 1#1) p)
      = ix3 b s (sortedFrom (descending fun k => (x (ix3 b s k) : EReal)) ⟨k.val, by omega⟩) := by
    rintro _ _ rfl rfl
    have hcmp : (fun (k' k'' : Fin 8) => FloatOps.cmpfTotal (F := Ideal) (φ := .f32) .gt
          (x ((ix3 b s (⟨k.val, by omega⟩ : Fin 8) : S4x8192x8.Idx).along (2 : Fin 3) k'))
          (x ((ix3 b s (⟨k.val, by omega⟩ : Fin 8) : S4x8192x8.Idx).along (2 : Fin 3) k'')) == 1#1)
        = descending fun k => (x (ix3 b s k) : EReal) := by
      funext k' k''
      refine (congrArg₂ (fun y z => FloatOps.cmpfTotal (F := Ideal) (φ := .f32) .gt (x y) (x z) == 1#1) (along_at b s _ k') (along_at b s _ k'')).trans ?_
      show (BitVec.ofBool (decide ((x (ix3 b s k'') : EReal) < x (ix3 b s k'))) == 1#1) = decide ((x (ix3 b s k'') : EReal) < x (ix3 b s k'))
      by_cases h : (x (ix3 b s k'') : EReal) < x (ix3 b s k')
      · rw [decide_eq_true h]; rfl
      · rw [decide_eq_false h]; rfl
    exact (along_at b s _ _).trans (congrArg (fun f => ix3 b s (sortedFrom f _)) hcmp)
  unfold Host.topK Host.sort2 extractStridedSlice
  simp only [show 2 < S4x8192x8.rank from by decide, ↓reduceDIte]
  have hJ := key (fun a => ⟨0 + ((ix3 b s k : S4x8192x2.Idx) (a.cast h.1.symm)).val,
    Nat.lt_of_lt_of_le (Nat.add_lt_add_left ((ix3 b s k : S4x8192x2.Idx) (a.cast h.1.symm)).isLt _) (h.2 a)⟩) ⟨0 + k.val, by omega⟩
    (by
      funext a
      match a with
      | ⟨0, _⟩ => exact Fin.ext (Nat.zero_add _)
      | ⟨1, _⟩ => exact Fin.ext (Nat.zero_add _)
      | ⟨2, _⟩ => exact Fin.ext (Nat.zero_add _)) (Fin.ext (Nat.zero_add _))
  exact ⟨congrArg x hJ, (congrArg (iotaInDim S4x8192x8 32 ⟨2, by decide⟩) hJ).trans rfl⟩

theorem logits_row (b : Fin 4) (s : Fin 8192) : (fun k => (res_main_v22 V (ix3 b s k) : EReal)) = rowL V b s := funext fun k => v22_at V b s k

theorem values_at (b : Fin 4) (s : Fin 8192) (k : Fin 2) :
    res_main_values V (ix3 b s k) = (rowL V b s (sortedFrom (descending (rowL V b s)) ⟨k.val, by omega⟩) : EReal) := by
  unfold res_main_values
  refine (topk_at (res_main_v22 V) _ b s k).1.trans ?_
  rw [logits_row, v22_at]

theorem places_at (b : Fin 4) (s : Fin 8192) (k : Fin 2) :
    (Host.topK S4x8192x2 2 (FloatOps.cmpfTotal .gt) (res_main_v22 V) Gen.sliceFits_S4x8192x8_S4x8192x2).2 (ix3 b s k)
      = BitVec.ofNat 32 (sortedFrom (descending (rowL V b s)) ⟨k.val, by omega⟩).val := by
  refine (topk_at (res_main_v22 V) _ b s k).2.trans ?_
  rw [logits_row]

/-- The exponentials of the softmax over the two greatest. -/
theorem v29_at (b : Fin 4) (s : Fin 8192) (k : Fin 2) :
    res_main_v29 V (ix3 b s k) = (Ideal.exp (rowL V b s (sortedFrom (descending (rowL V b s)) ⟨k.val, by omega⟩)
      - rowL V b s (sortedFrom (descending (rowL V b s)) 0)) : EReal) := by
  have hle := (sorted_top2 (rowL V b s)).le1
  clean_types
  pointwise [res_main_v29]
  rw [values_at, neg_inf_word]
  have hmax : Finset.fold max (⊥ : EReal) (res_main_values V) ({i | Gen.reducesTo_S4x8192x2_S4x8192_d2.drop i = ix2 b s} : Finset S4x8192x2.Idx)
      = rowL V b s (sortedFrom (descending (rowL V b s)) 0) := by
    refine le_antisymm ((Finset.fold_max_le _).2 ⟨bot_le, fun i hi => ?_⟩) (Finset.le_fold_max _ |>.2 (Or.inr ⟨ix3 b s 0, ?_, ?_⟩))
    · have hi := (Finset.mem_filter.1 hi).2
      have h0 : i 0 = b := congrFun hi 0
      have h1 : i 1 = s := congrFun hi 1
      have hi' : i = ix3 b s (i 2) := by
        funext a
        match a with
        | ⟨0, _⟩ => exact h0
        | ⟨1, _⟩ => exact h1
        | ⟨2, _⟩ => rfl
      have e : @Eq EReal (res_main_values V i) (rowL V b s (sortedFrom (descending (rowL V b s)) ⟨(i 2).val, Nat.lt_of_lt_of_le (i 2).isLt (by decide)⟩)) :=
        (congrArg (res_main_values V) hi').trans (values_at V b s (i 2))
      exact @le_of_eq_of_le EReal _ _ _ _ e (hle _)
    · refine Finset.mem_filter.2 ⟨Finset.mem_univ _, ?_⟩
      funext a
      match a with
      | ⟨0, _⟩ => rfl
      | ⟨1, _⟩ => rfl
    · rw [values_at]; exact le_refl _
  refine congrArg (fun z => Ideal.exp (_ - z)) ((max_eq_right bot_le).trans ?_)
  convert hmax

theorem uitofp_eq (a e : Fin 8) :
    FloatOps.uitofp (F := Ideal) .f32 (IntOp.cmpi .eq (BitVec.ofNat 32 a.val) (BitVec.ofNat 32 e.val)) = if e = a then (1 : EReal) else 0 := by
  by_cases h : e = a
  · subst h
    rw [if_pos rfl, IntOp.cmpi_eq.mpr rfl]
    show (((1#1 : BitVec 1).toNat : ℝ) : EReal) = 1
    simp
  · have : IntOp.cmpi .eq (BitVec.ofNat 32 a.val) (BitVec.ofNat 32 e.val) = 0#1 := by
      show BitVec.ofBool (BitVec.ofNat 32 a.val == BitVec.ofNat 32 e.val) = 0#1
      have hne : ¬BitVec.ofNat 32 a.val = BitVec.ofNat 32 e.val := fun h' => h (Fin.ext (by
        have := congrArg BitVec.toNat h'
        simp only [BitVec.toNat_ofNat] at this
        omega))
      rw [beq_eq_false_iff_ne.2 hne]; rfl
    rw [if_neg h, this]
    show (((0#1 : BitVec 1).toNat : ℝ) : EReal) = 0
    simp

/-- The gate of an expert. -/
theorem v38_at (b : Fin 4) (s : Fin 8192) (e : Fin 8) (hf : ∀ k, Fin' (rowL V b s k)) :
    res_main_v38 V (ix3 b s e) = (gateOf (rowL V b s) e : EReal) := by
  clean_types
  pointwise [res_main_v38]
  simp only [places_at, v29_at, Fin.sum_univ_two, uitofp_eq]
  show (if e = sortedFrom (descending (rowL V b s)) 0 then (1 : EReal) else 0)
      * Ideal.div (Ideal.exp (rowL V b s (sortedFrom (descending (rowL V b s)) 0) - rowL V b s (sortedFrom (descending (rowL V b s)) 0)))
          (Ideal.exp (rowL V b s (sortedFrom (descending (rowL V b s)) 0) - rowL V b s (sortedFrom (descending (rowL V b s)) 0))
            + Ideal.exp (rowL V b s (sortedFrom (descending (rowL V b s)) 1) - rowL V b s (sortedFrom (descending (rowL V b s)) 0)))
    + (if e = sortedFrom (descending (rowL V b s)) 1 then (1 : EReal) else 0)
      * Ideal.div (Ideal.exp (rowL V b s (sortedFrom (descending (rowL V b s)) 1) - rowL V b s (sortedFrom (descending (rowL V b s)) 0)))
          (Ideal.exp (rowL V b s (sortedFrom (descending (rowL V b s)) 0) - rowL V b s (sortedFrom (descending (rowL V b s)) 0))
            + Ideal.exp (rowL V b s (sortedFrom (descending (rowL V b s)) 1) - rowL V b s (sortedFrom (descending (rowL V b s)) 0)))
    = gateOf (rowL V b s) e
  unfold gateOf gate
  rw [exp_sub_self (hf _), weight_second]
  unfold weight
  simp only [ite_mul, one_mul, zero_mul]

/-- The reference's logistic unit. -/
theorem unit_eq (a : EReal) : a * Ideal.div 1 (1 + Ideal.exp (-a)) = Ideal.div a (1 + Ideal.exp (0 - a)) := (silu_eq a).symm

theorem v45_at (b : Fin 4) (s : Fin 8192) (k : Fin 2816) :
    res_main_v45 V (ix3 b s k) = (∑ j, rowH V b s j * aWgu V (ix3 0 j k) : EReal) := by
  clean_types
  pointwise [res_main_v45]
  simp only [v18_at]
theorem v46_at (b : Fin 4) (s : Fin 8192) (f : Fin 1408) :
    res_main_v46 V (ix3 b s f) = (∑ j, rowH V b s j * aWgu V (ix3 0 j ⟨f.val, by omega⟩) : EReal) := by
  clean_types
  pointwise [res_main_v46]
  rw [v45_at]
theorem v59_at (b : Fin 4) (s : Fin 8192) (k : Fin 2816) :
    res_main_v59 V (ix3 b s k) = (∑ j, rowH V b s j * aWgu V (ix3 1 j k) : EReal) := by
  clean_types
  pointwise [res_main_v59]
  simp only [v18_at]
theorem v60_at (b : Fin 4) (s : Fin 8192) (f : Fin 1408) :
    res_main_v60 V (ix3 b s f) = (∑ j, rowH V b s j * aWgu V (ix3 1 j ⟨f.val, by omega⟩) : EReal) := by
  clean_types
  pointwise [res_main_v60]
  rw [v59_at]
theorem v73_at (b : Fin 4) (s : Fin 8192) (k : Fin 2816) :
    res_main_v73 V (ix3 b s k) = (∑ j, rowH V b s j * aWgu V (ix3 2 j k) : EReal) := by
  clean_types
  pointwise [res_main_v73]
  simp only [v18_at]
theorem v74_at (b : Fin 4) (s : Fin 8192) (f : Fin 1408) :
    res_main_v74 V (ix3 b s f) = (∑ j, rowH V b s j * aWgu V (ix3 2 j ⟨f.val, by omega⟩) : EReal) := by
  clean_types
  pointwise [res_main_v74]
  rw [v73_at]
theorem v87_at (b : Fin 4) (s : Fin 8192) (k : Fin 2816) :
    res_main_v87 V (ix3 b s k) = (∑ j, rowH V b s j * aWgu V (ix3 3 j k) : EReal) := by
  clean_types
  pointwise [res_main_v87]
  simp only [v18_at]
theorem v88_at (b : Fin 4) (s : Fin 8192) (f : Fin 1408) :
    res_main_v88 V (ix3 b s f) = (∑ j, rowH V b s j * aWgu V (ix3 3 j ⟨f.val, by omega⟩) : EReal) := by
  clean_types
  pointwise [res_main_v88]
  rw [v87_at]
theorem v101_at (b : Fin 4) (s : Fin 8192) (k : Fin 2816) :
    res_main_v101 V (ix3 b s k) = (∑ j, rowH V b s j * aWgu V (ix3 4 j k) : EReal) := by
  clean_types
  pointwise [res_main_v101]
  simp only [v18_at]
theorem v102_at (b : Fin 4) (s : Fin 8192) (f : Fin 1408) :
    res_main_v102 V (ix3 b s f) = (∑ j, rowH V b s j * aWgu V (ix3 4 j ⟨f.val, by omega⟩) : EReal) := by
  clean_types
  pointwise [res_main_v102]
  rw [v101_at]
theorem v115_at (b : Fin 4) (s : Fin 8192) (k : Fin 2816) :
    res_main_v115 V (ix3 b s k) = (∑ j, rowH V b s j * aWgu V (ix3 5 j k) : EReal) := by
  clean_types
  pointwise [res_main_v115]
  simp only [v18_at]
theorem v116_at (b : Fin 4) (s : Fin 8192) (f : Fin 1408) :
    res_main_v116 V (ix3 b s f) = (∑ j, rowH V b s j * aWgu V (ix3 5 j ⟨f.val, by omega⟩) : EReal) := by
  clean_types
  pointwise [res_main_v116]
  rw [v115_at]
theorem v129_at (b : Fin 4) (s : Fin 8192) (k : Fin 2816) :
    res_main_v129 V (ix3 b s k) = (∑ j, rowH V b s j * aWgu V (ix3 6 j k) : EReal) := by
  clean_types
  pointwise [res_main_v129]
  simp only [v18_at]
theorem v130_at (b : Fin 4) (s : Fin 8192) (f : Fin 1408) :
    res_main_v130 V (ix3 b s f) = (∑ j, rowH V b s j * aWgu V (ix3 6 j ⟨f.val, by omega⟩) : EReal) := by
  clean_types
  pointwise [res_main_v130]
  rw [v129_at]
theorem v143_at (b : Fin 4) (s : Fin 8192) (k : Fin 2816) :
    res_main_v143 V (ix3 b s k) = (∑ j, rowH V b s j * aWgu V (ix3 7 j k) : EReal) := by
  clean_types
  pointwise [res_main_v143]
  simp only [v18_at]
theorem v144_at (b : Fin 4) (s : Fin 8192) (f : Fin 1408) :
    res_main_v144 V (ix3 b s f) = (∑ j, rowH V b s j * aWgu V (ix3 7 j ⟨f.val, by omega⟩) : EReal) := by
  clean_types
  pointwise [res_main_v144]
  rw [v143_at]

theorem partialSum_four (t : Fin 8 → EReal) (h : 4 < 8) : partialSum t 4 h = t 0 + t 1 + t 2 + t 3 + t 4 := by
  show 0 + t 0 + t 1 + t 2 + t 3 + t 4 = _
  rw [zero_add]

/-- The sum over the first five experts. -/
theorem v109_at (b : Fin 4) (s : Fin 8192) (k : Fin 1024) (hf : ∀ k, Fin' (rowL V b s k)) :
    res_main_v109 V (ix3 b s k) = (partialSum (fun e => expert (rowH V b s) (aWgu V) (aWd V) k e * gateOf (rowL V b s) e) 4 (by decide) : EReal) := by
  clean_types
  pointwise [res_main_v109]
  simp only [v38_at V _ _ _ hf, v45_at, v46_at, v59_at, v60_at, v73_at, v74_at, v87_at, v88_at, v101_at, v102_at, unit_eq]
  refine Eq.trans ?_ (partialSum_four _ _).symm
  exact congrArg₂ (· + ·) (congrArg₂ (· + ·) (congrArg₂ (· + ·) (congrArg₂ (· + ·) (mul_comm _ _) (mul_comm _ _)) (mul_comm _ _)) (mul_comm _ _)) (mul_comm _ _)

theorem v151_at (b : Fin 4) (s : Fin 8192) (k : Fin 1024) (hf : ∀ k, Fin' (rowL V b s k)) :
    res_main_v151 V (ix3 b s k) = (mixed (aX V) (aG V) (aSc V) (aSh V) (aW V) (aB V) (aWgu V) (aWd V) b s k : EReal) := by
  clean_types
  pointwise [res_main_v151]
  simp only [v109_at V _ _ _ hf, v38_at V _ _ _ hf, v115_at, v116_at, v129_at, v130_at, v143_at, v144_at, unit_eq]
  exact congrArg₂ (· + ·) (congrArg₂ (· + ·) (congrArg₂ (· + ·) rfl (mul_comm _ _)) (mul_comm _ _)) (mul_comm _ _)

open Cert.Reference2Ideal.Gen in
/-- The result the plain layer's run leaves. -/
def result : FVec Ideal S4x8192x1024 .f32 :=
  addf (V (Proc.devRef .tc main_arg0)) (mulf (broadcastInDim S4x8192x1024 ![0, 1, 2] bcast_S4x1x1024_S4x8192x1024_0_1_2 (V (Proc.devRef .tc main_arg9))) (mulf (mulf (res_main_v151 V) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v151 V) (res_main_v151 V)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (V (Proc.devRef .tc main_arg8))))))

theorem result_at (b : Fin 4) (s : Fin 8192) (k : Fin 1024) (hg : ∀ i, Fin' (aG V i)) (hsc : ∀ i, Fin' (aSc V i)) (hsh : ∀ i, Fin' (aSh V i))
    (hw : ∀ i, Fin' (aW V i)) (hb : ∀ i, Fin' (aB V i)) :
    result V (ix3 b s k) = (layer (aX V) (aG V) (aSc V) (aSh V) (aW V) (aB V) (aWgu V) (aWd V) (aGp V) (aGa V) b s k : EReal) := by
  have hf : ∀ e, Fin' (rowL V b s e) := fun e => (Fin'.sum _ _ fun j _ =>
    (hid_finite _ _ _ _ (fun k => hg _) (fun k => hsc _) (fun k => hsh _) j).mul (hw _)).add (hb _)
  clean_types
  pointwise [result]
  simp only [v151_at V _ _ _ hf]
  rfl

end Cert.Proof.Moe.Plain

end
-- ==== Proof.MoeTie.lean ====
/- The routed feed-forward layer: the finiteness its precondition states, and the two programs' results side by side. -/
module

public import proofs.«01_k».proof.Defs
public import proofs.«01_k».proof.Proof.MoeKernel
public import proofs.«01_k».proof.Proof.MoeRef
public import proofs.«01_k».proof.Proof.Gen.Kernel2Ideal.Value
public import Idealize.ShloMosaic.Adequacy
public import Idealize.ShloMosaic.Init
public import Idealize.ShloMosaic.Lib.Quiescent

@[expose] public section

noncomputable section

namespace Cert.Proof.Moe

open Idealize.ShloMosaic Idealize.ShloMosaic.TcCoe Idealize.SL.Sem

theorem inf_word : Ideal.ofBits .f32 2139095040#32 = ⊤ := by simp [Ideal.ofBits, Ideal.ieee]

/-- A value whose absolute value lies below infinity is finite. -/
theorem finite_of_abs (a : EReal) (h : Ideal.cmp .olt (max a (-a)) (Ideal.ofBits .f32 2139095040#32) = 1#1) : Fin' a := by
  rw [inf_word] at h
  have hlt : max a (-a) < ⊤ := by
    by_contra hn
    have : Ideal.cmp .olt (max a (-a)) ⊤ = 0#1 := by
      show BitVec.ofBool (decide (max a (-a) < ⊤)) = 0#1
      rw [decide_eq_false hn]; rfl
    rw [this] at h
    exact absurd h (by decide)
  refine Fin'.of_ne ?_ ?_
  · rintro rfl
    exact absurd hlt (by simp)
  · rintro rfl
    exact absurd hlt (by simp)

theorem pre_facts : Cert.Pre_finite_scales.Facts := by
  constructor <;> decide

/-- The five arrays the precondition speaks of are finite. -/
theorem pre_finite (m : (ℓ : Loc Cert.Kernel2Ideal.nD Cert.Kernel2Ideal.τ Cert.Kernel2Ideal.sig) → Buf (Elt Ideal) ℓ)
    (h : Cert.Pre_Kernel2Ideal_finite_scales (hPre_finite_scales := pre_facts) m) (c : Dev Cert.Kernel2Ideal.nD) :
    (∀ i, Fin' (aG m c i)) ∧ (∀ i, Fin' (aSc m c i)) ∧ (∀ i, Fin' (aSh m c i)) ∧ (∀ i, Fin' (aW m c i)) ∧ (∀ i, Fin' (aB m c i)) := by
  obtain ⟨h1, h2, h3, h4, h5⟩ := h c
  exact ⟨fun i => finite_of_abs _ (congrFun h1 i), fun i => finite_of_abs _ (congrFun h2 i), fun i => finite_of_abs _ (congrFun h3 i),
    fun i => finite_of_abs _ (congrFun h4 i), fun i => finite_of_abs _ (congrFun h5 i)⟩

/-- Every index of the result has its three coordinates. -/
theorem idx_eta (i : (⟨3, ![4, 8192, 1024]⟩ : Shape).Idx) : i = ix3 (i 0) (i 1) (i 2) := by
  funext a
  match a with
  | ⟨0, _⟩ => rfl
  | ⟨1, _⟩ => rfl
  | ⟨2, _⟩ => rfl

/-- The two results are equal. -/
theorem tie (m : (ℓ : Loc Cert.Kernel2Ideal.nD Cert.Kernel2Ideal.τ Cert.Kernel2Ideal.sig) → Buf (Elt Ideal) ℓ) (c : Dev Cert.Kernel2Ideal.nD)
    (V : Valuation Cert.Reference2Ideal.τ Cert.Reference2Ideal.sig (Elt Ideal))
    (h0 : Plain.aX V = aX m c) (h1 : Plain.aG V = aG m c) (h2 : Plain.aSc V = aSc m c) (h3 : Plain.aSh V = aSh m c)
    (h4 : Plain.aW V = aW m c) (h5 : Plain.aB V = aB m c) (h6 : Plain.aWgu V = aWgu m c) (h7 : Plain.aWd V = aWd m c)
    (h8 : Plain.aGp V = aGp m c) (h9 : Plain.aGa V = aGa m c)
    (hpre : Cert.Pre_Kernel2Ideal_finite_scales (hPre_finite_scales := pre_facts) m) :
    Plain.result V = Cert.Kernel2Ideal.Value.G11 m c := by
  obtain ⟨f1, f2, f3, f4, f5⟩ := pre_finite m hpre c
  refine funext fun (i : (⟨3, ![4, 8192, 1024]⟩ : Shape).Idx) => ?_
  rw [idx_eta i]
  refine (Plain.result_at V _ _ _ (by rw [h1]; exact f1) (by rw [h2]; exact f2) (by rw [h3]; exact f3) (by rw [h4]; exact f4)
    (by rw [h5]; exact f5)).trans ?_
  refine Eq.trans ?_ (result_at m c f1 f2 f3 f4 f5 _ _ _).symm
  rw [h0, h1, h2, h3, h4, h5, h6, h7, h8, h9]

end Cert.Proof.Moe

end
-- ==== Proof.OutMath.lean ====
/- The output projection's layer row by row. -/
module

public import proofs.«01_k».proof.Proof.MoeMath

@[expose] public section

set_option maxRecDepth 16384

noncomputable section

open Idealize.ShloMosaic Idealize.ShloMosaic.TcCoe Idealize.SL.Sem

namespace Cert.Proof.Out

open Cert.Proof.Moe (invRms)

/-- A row's product with the weights. -/
def mixed (o : (⟨3, ![4, 8192, 1024]⟩ : Shape).Idx → EReal) (w : (⟨2, ![1024, 1024]⟩ : Shape).Idx → EReal) (b : Fin 4) (s : Fin 8192)
    (k : Fin 1024) : EReal := ∑ j : Fin 1024, o (ix3 b s j) * w (ix2 j k)
/-- The layer's result. -/
def layer (o : (⟨3, ![4, 8192, 1024]⟩ : Shape).Idx → EReal) (w : (⟨2, ![1024, 1024]⟩ : Shape).Idx → EReal)
    (x : (⟨3, ![4, 8192, 1024]⟩ : Shape).Idx → EReal) (g : (⟨1, ![1024]⟩ : Shape).Idx → EReal)
    (ga : (⟨3, ![4, 1, 1024]⟩ : Shape).Idx → EReal) (b : Fin 4) (s : Fin 8192) (k : Fin 1024) : EReal :=
  x (ix3 b s k) + ga (ix3 b 0 k) * (mixed o w b s k * invRms (mixed o w b s) * g (ix1 k))

end Cert.Proof.Out

end
-- ==== Proof.OutKernel.lean ====
/- The output projection kernel's result, entry by entry. -/
module

public import proofs.«01_k».proof.Defs
public import proofs.«01_k».proof.Proof.OutMath
public import proofs.«01_k».proof.Proof.Gen.Kernel5Ideal.Value
public import Idealize.ShloMosaic.Lib.Tactic
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.Out

open Cert.Kernel5Ideal Cert.Kernel5Ideal.Gen
open Cert.Proof.Moe (invRms)
variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The point of the grid for batch `b`, row block `i`. -/
def point (b : Fin 4) (i : Fin 16) : Fin cfg0.N := ⟨16 * b.val + i.val, lt_of_lt_of_eq (by omega) N_0.symm⟩
/-- The row of the sequence that row `r` of block `i` is. -/
def seqRow (i : Fin 16) (r : Fin 512) : Fin 8192 := ⟨512 * i.val + r.val, by omega⟩

theorem V_v0 (c : Dev nD) : V m c main_v0 = (truncf .bf16 ((m ((c : Thread nD τ).loc main_arg1)) : FVec Ideal S1024x1024 .f32) bitsLt_bf16_f32 : FVec Ideal S1024x1024 .bf16) := by
  show StableHlo.after (List.flatten [hostOps0]) _ (Proc.devRef .tc main_v0) = _
  simp only [hostOps0, List.flatten_cons, List.flatten_nil, List.append_nil, List.cons_append, List.nil_append, TRef.binary, TRef.nullary, TRef.unary, TRef.toBuf, TRef.ofBuf, cast_eq]
  after_results_simp

theorem V_v1 (c : Dev nD) : V m c main_v1 = shapeCast S1x1024 (m ((c : Thread nD τ).loc main_arg3)) shapeCasts_S1024_S1x1024 := by
  show StableHlo.after (List.flatten [hostOps0]) _ (Proc.devRef .tc main_v1) = _
  simp only [hostOps0, List.flatten_cons, List.flatten_nil, List.append_nil, List.cons_append, List.nil_append, TRef.binary, TRef.nullary, TRef.unary, TRef.toBuf, TRef.ofBuf, cast_eq]
  after_results_simp
  rfl

theorem idx0 : ∀ (b : Fin 4) (i : Fin 16), win0_0.index (point b i) = ![b.val, i.val, 0]
    ∧ win0_1.index (point b i) = ![0, 0]
    ∧ win0_2.index (point b i) = ![b.val, i.val, 0]
    ∧ win0_3.index (point b i) = ![0, 0]
    ∧ win0_4.index (point b i) = ![b.val, 0, 0]
    ∧ win0_5.index (point b i) = ![b.val, i.val, 0] := by
  decide +kernel
theorem flushes : ∀ (b : Fin 4) (i : Fin 16), (cfg0.win 5).flush (point b i) = true := by
  decide +kernel

theorem blk0 (c : Dev nD) (b : Fin 4) (i : Fin 16) (r : Fin 512) (k : Fin 1024) :
    (iblk m c 0 (point b i) : Vec Ideal S1x512x1024 .bf16) (ix3 0 r k)
      = m ((c : Thread nD τ).loc main_arg0) (ix3 b (seqRow i r) k) := by
  have hi := congrFun (idx0 b i).1
  unfold iblk
  rw [View.read_apply]
  rw [← V_main_arg0 m c]
  show V m c main_arg0 _ = V m c main_arg0 _
  congr 1
  funext a
  apply Fin.ext
  match a with
  | ⟨0, _⟩ => show win0_0.index (point b i) 0 * 1 + 1 * 0 = b.val; rw [hi 0]; show b.val * 1 + 1 * 0 = b.val; omega
  | ⟨1, _⟩ => show win0_0.index (point b i) 1 * 512 + 1 * r.val = 512 * i.val + r.val; rw [hi 1]; show i.val * 512 + 1 * r.val = 512 * i.val + r.val; omega
  | ⟨2, _⟩ => show win0_0.index (point b i) 2 * 1024 + 1 * k.val = k.val; rw [hi 2]; show 0 * 1024 + 1 * k.val = k.val; omega

theorem blk1 (c : Dev nD) (b : Fin 4) (i : Fin 16) (j : Fin 1024) (k : Fin 1024) :
    (iblk m c 1 (point b i) : Vec Ideal S1024x1024 .bf16) (ix2 j k)
      = V m c main_v0 (ix2 j k) := by
  have hi := congrFun (idx0 b i).2.1
  unfold iblk
  rw [View.read_apply]
  show V m c main_v0 _ = V m c main_v0 _
  congr 1
  funext a
  apply Fin.ext
  match a with
  | ⟨0, _⟩ => show win0_1.index (point b i) 0 * 1024 + 1 * j.val = j.val; rw [hi 0]; show 0 * 1024 + 1 * j.val = j.val; omega
  | ⟨1, _⟩ => show win0_1.index (point b i) 1 * 1024 + 1 * k.val = k.val; rw [hi 1]; show 0 * 1024 + 1 * k.val = k.val; omega

theorem blk2 (c : Dev nD) (b : Fin 4) (i : Fin 16) (r : Fin 512) (k : Fin 1024) :
    (iblk m c 2 (point b i) : Vec Ideal S1x512x1024 .f32) (ix3 0 r k)
      = m ((c : Thread nD τ).loc main_arg2) (ix3 b (seqRow i r) k) := by
  have hi := congrFun (idx0 b i).2.2.1
  unfold iblk
  rw [View.read_apply]
  rw [← V_main_arg2 m c]
  show V m c main_arg2 _ = V m c main_arg2 _
  congr 1
  funext a
  apply Fin.ext
  match a with
  | ⟨0, _⟩ => show win0_2.index (point b i) 0 * 1 + 1 * 0 = b.val; rw [hi 0]; show b.val * 1 + 1 * 0 = b.val; omega
  | ⟨1, _⟩ => show win0_2.index (point b i) 1 * 512 + 1 * r.val = 512 * i.val + r.val; rw [hi 1]; show i.val * 512 + 1 * r.val = 512 * i.val + r.val; omega
  | ⟨2, _⟩ => show win0_2.index (point b i) 2 * 1024 + 1 * k.val = k.val; rw [hi 2]; show 0 * 1024 + 1 * k.val = k.val; omega

theorem blk3 (c : Dev nD) (b : Fin 4) (i : Fin 16) (k : Fin 1024) :
    (iblk m c 3 (point b i) : Vec Ideal S1x1024 .f32) (ix2 0 k)
      = V m c main_v1 (ix2 0 k) := by
  have hi := congrFun (idx0 b i).2.2.2.1
  unfold iblk
  rw [View.read_apply]
  show V m c main_v1 _ = V m c main_v1 _
  congr 1
  funext a
  apply Fin.ext
  match a with
  | ⟨0, _⟩ => show win0_3.index (point b i) 0 * 1 + 1 * 0 = 0; rw [hi 0]; show 0 * 1 + 1 * 0 = 0; omega
  | ⟨1, _⟩ => show win0_3.index (point b i) 1 * 1024 + 1 * k.val = k.val; rw [hi 1]; show 0 * 1024 + 1 * k.val = k.val; omega

theorem blk4 (c : Dev nD) (b : Fin 4) (i : Fin 16) (k : Fin 1024) :
    (iblk m c 4 (point b i) : Vec Ideal S1x1x1024 .f32) (ix3 0 0 k)
      = m ((c : Thread nD τ).loc main_arg4) (ix3 b 0 k) := by
  have hi := congrFun (idx0 b i).2.2.2.2.1
  unfold iblk
  rw [View.read_apply]
  rw [← V_main_arg4 m c]
  show V m c main_arg4 _ = V m c main_arg4 _
  congr 1
  funext a
  apply Fin.ext
  match a with
  | ⟨0, _⟩ => show win0_4.index (point b i) 0 * 1 + 1 * 0 = b.val; rw [hi 0]; show b.val * 1 + 1 * 0 = b.val; omega
  | ⟨1, _⟩ => show win0_4.index (point b i) 1 * 1 + 1 * 0 = 0; rw [hi 1]; show 0 * 1 + 1 * 0 = 0; omega
  | ⟨2, _⟩ => show win0_4.index (point b i) 2 * 1024 + 1 * k.val = k.val; rw [hi 2]; show 0 * 1024 + 1 * k.val = k.val; omega

/-- The array after the run at a point's block: what the point's body leaves in its output block. -/
theorem final_at (c : Dev nD) (b : Fin 4) (i : Fin 16) (r : Fin 512) (k : Fin 1024) :
    (dats m 0 c).arrAt 5 cfg0.N (ix3 b ⟨512 * i.val + r.val, by omega⟩ k) = out0_5 (iblk m c 0 (point b i)) (iblk m c 1 (point b i)) (iblk m c 2 (point b i)) (iblk m c 3 (point b i)) (iblk m c 4 (point b i)) (ix3 0 r k) := by
  have hi := congrFun (idx0 b i).2.2.2.2.2
  have h := Value.blocks5 m c (point b i) (flushes b i)
  rw [Value.flushed5] at h
  have h' := congrFun h (ix3 (0 : Fin 1) r k : S1x512x1024.Idx)
  rw [View.read_apply] at h'
  have he : ((cfg0.win 5).blk (point b i)).view.emb (ix3 (0 : Fin 1) r k : S1x512x1024.Idx) = ix3 b ⟨512 * i.val + r.val, by omega⟩ k := by
    funext a
    apply Fin.ext
    match a with
    | ⟨0, _⟩ => show win0_5.index (point b i) 0 * 1 + 1 * 0 = b.val; rw [hi 0]; show b.val * 1 + 1 * 0 = b.val; omega
    | ⟨1, _⟩ => show win0_5.index (point b i) 1 * 512 + 1 * r.val = 512 * i.val + r.val; rw [hi 1]; show i.val * 512 + 1 * r.val = 512 * i.val + r.val; omega
    | ⟨2, _⟩ => show win0_5.index (point b i) 2 * 1024 + 1 * k.val = k.val; rw [hi 2]; show 0 * 1024 + 1 * k.val = k.val; omega
  refine (congrArg _ he.symm).trans (h'.trans ?_)
  show out0_5 (iblk m c 0 (point b i)) (iblk m c 1 (point b i)) (iblk m c 2 (point b i)) (iblk m c 3 (point b i)) (iblk m c 4 (point b i)) ((cfg0.win 5).xinj (grid0.coords (point b i)) (ix3 (0 : Fin 1) r k : S1x512x1024.Idx)) = _
  refine congrArg _ ?_
  funext a
  match a with
  | ⟨0, _⟩ => rfl
  | ⟨1, _⟩ => rfl
  | ⟨2, _⟩ => rfl

/-- The layer's arrays. -/
abbrev aO (c : Dev nD) : (⟨3, ![4, 8192, 1024]⟩ : Shape).Idx → EReal := m ((c : Thread nD τ).loc main_arg0)
abbrev aW (c : Dev nD) : (⟨2, ![1024, 1024]⟩ : Shape).Idx → EReal := m ((c : Thread nD τ).loc main_arg1)
abbrev aX (c : Dev nD) : (⟨3, ![4, 8192, 1024]⟩ : Shape).Idx → EReal := m ((c : Thread nD τ).loc main_arg2)
abbrev aG (c : Dev nD) : (⟨1, ![1024]⟩ : Shape).Idx → EReal := m ((c : Thread nD τ).loc main_arg3)
abbrev aGa (c : Dev nD) : (⟨3, ![4, 1, 1024]⟩ : Shape).Idx → EReal := m ((c : Thread nD τ).loc main_arg4)

theorem w_at (c : Dev nD) (j k : Fin 1024) : V m c main_v0 (ix2 j k) = aW m c (ix2 j k) := by
  rw [V_v0]
  rfl
theorem gain_at (c : Dev nD) (k : Fin 1024) : V m c main_v1 (ix2 0 k) = aG m c (ix1 k) := by
  rw [V_v1]
  unfold aG
  generalize m ((c : Thread nD τ).loc main_arg3) = g
  clean_types
  pointwise
theorem blk1' (c : Dev nD) (b : Fin 4) (i : Fin 16) (j k : Fin 1024) :
    (iblk m c 1 (point b i) : Vec Ideal S1024x1024 .bf16) (ix2 j k) = aW m c (ix2 j k) := (blk1 m c b i j k).trans (w_at m c j k)
theorem blk3' (c : Dev nD) (b : Fin 4) (i : Fin 16) (k : Fin 1024) :
    (iblk m c 3 (point b i) : Vec Ideal S1x1024 .f32) (ix2 0 k) = aG m c (ix1 k) := (blk3 m c b i k).trans (gain_at m c k)

section Body
variable (x0 : Vec Ideal S1x512x1024 .bf16) (x1 : Vec Ideal S1024x1024 .bf16) (x2 : Vec Ideal S1x512x1024 .f32) (x3 : Vec Ideal S1x1024 .f32)
  (x4 : Vec Ideal S1x1x1024 .f32)

theorem body_at (r : Fin 512) (k : Fin 1024) : out0_5 x0 x1 x2 x3 x4 (ix3 0 r k)
    = x2 (ix3 0 r k) + x4 (ix3 0 0 k) * ((∑ j, x0 (ix3 0 r j) * x1 (ix2 j k)) * invRms (fun k => ∑ j, x0 (ix3 0 r j) * x1 (ix2 j k)) * x3 (ix2 0 k)) := by
  unfold out0_5
  rw [View.canon_unit_zero hz3]
  simp only [View.ld_unit_zero (S := S1x512x1024) hz3, View.ld_unit_zero (S := S1024x1024) hz2, View.ld_unit_zero (S := S1x1x1024) hz3, View.ld_unit_zero (S := S1x1024) hz2]
  pointwise [k0_pay1]
  rfl
end Body

/-- The result array, entry by entry. -/
theorem result_at (c : Dev nD) (b : Fin 4) (s : Fin 8192) (k : Fin 1024) :
    (dats m 0 c).arrAt 5 cfg0.N (ix3 b s k) = layer (aO m c) (aW m c) (aX m c) (aG m c) (aGa m c) b s k := by
  have hi : s.val / 512 < 16 := by omega
  have hr : s.val % 512 < 512 := by omega
  have hrow : seqRow ⟨s.val / 512, hi⟩ ⟨s.val % 512, hr⟩ = s := Fin.ext (Nat.div_add_mod s.val 512)
  have h := final_at m c b ⟨s.val / 512, hi⟩ ⟨s.val % 512, hr⟩ k
  rw [body_at] at h
  simp only [blk0, blk1', blk2, blk3', blk4, hrow] at h
  refine Eq.trans ?_ h
  exact congrArg (fun s => (dats m 0 c).arrAt 5 cfg0.N (ix3 b s k)) hrow.symm

end Cert.Proof.Out

end
-- ==== Proof.OutRef.lean ====
/- The plain output projection's result, entry by entry. -/
module

public import proofs.«01_k».proof.Proof.OutMath
public import proofs.«01_k».proof.Reference5Ideal
public import proofs.«01_k».proof.Proof.Gen.Reference5Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.Out.Plain

open Cert.Reference5Ideal Cert.Reference5Ideal.Gen

/-- The product. -/
def yT (a0 : FVec Ideal S4x8192x1024 .bf16) (a1 : FVec Ideal S1024x1024 .f32) : FVec Ideal S4x8192x1024 .f32 := Host.dotGeneral dot_S4x8192x1024_S1024x1024_S4x8192x1024_2_0_01_1_n_n none (extf .f32 a0 bitsLt_bf16_f32) a1
/-- The result. -/
def resT (a0 : FVec Ideal S4x8192x1024 .bf16) (a1 : FVec Ideal S1024x1024 .f32) (a2 : FVec Ideal S4x8192x1024 .f32) (a3 : FVec Ideal S1024 .f32) (a4 : FVec Ideal S4x1x1024 .f32) : FVec Ideal S4x8192x1024 .f32 := addf a2 (mulf (broadcastInDim S4x8192x1024 ![0, 1, 2] bcast_S4x1x1024_S4x8192x1024_0_1_2 a4) (mulf (mulf (yT a0 a1) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (yT a0 a1) (yT a0 a1)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a3))))

variable (a0 : FVec Ideal S4x8192x1024 .bf16) (a1 : FVec Ideal S1024x1024 .f32) (a2 : FVec Ideal S4x8192x1024 .f32) (a3 : FVec Ideal S1024 .f32) (a4 : FVec Ideal S4x1x1024 .f32)

theorem yT_at (b : Fin 4) (s : Fin 8192) (k : Fin 1024) : yT a0 a1 (ix3 b s k) = mixed a0 a1 b s k := by
  pointwise [yT]
  rfl
theorem resT_at (b : Fin 4) (s : Fin 8192) (k : Fin 1024) : resT a0 a1 a2 a3 a4 (ix3 b s k) = layer a0 a1 a2 a3 a4 b s k := by
  pointwise [resT]
  simp only [yT_at]
  rfl

end Cert.Proof.Out.Plain

end
-- ==== Proof.OutTie.lean ====
/- The two programs of the output projection: their results side by side. -/
module

public import proofs.«01_k».proof.Defs
public import proofs.«01_k».proof.Proof.OutKernel
public import proofs.«01_k».proof.Proof.OutRef
public import proofs.«01_k».proof.Proof.Gen.Kernel5Ideal.Value
public import proofs.«01_k».proof.Proof.Gen.Reference5Ideal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem Idealize.SL.Sem

namespace Cert.Proof.Out

/-- Every index of the result has its three coordinates. -/
theorem idx_eta (i : (⟨3, ![4, 8192, 1024]⟩ : Shape).Idx) : i = ix3 (i 0) (i 1) (i 2) := by
  funext a
  match a with
  | ⟨0, _⟩ => rfl
  | ⟨1, _⟩ => rfl
  | ⟨2, _⟩ => rfl

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- From memories that agree on the arguments the two programs' results are equal. -/
theorem algebraic_Kernel5Ideal_Reference5Ideal : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  obtain ⟨h0, h1, h2, h3, h4⟩ := hagree c
  refine Eq.trans (b := Plain.resT (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))) rfl ?_
  rw [h0, h1, h2, h3, h4]
  funext i
  rw [idx_eta i]
  exact (Plain.resT_at _ _ _ _ _ _ _ _).trans (result_at m c _ _ _).symm

end Cert.Proof.Out

end
-- ==== Proof.SbInMath.lean ====
/- The stick-breaking layer's projections row by row. -/
module

public import proofs.«01_k».proof.Proof.MoeMath

@[expose] public section

set_option maxRecDepth 16384

noncomputable section

open Idealize.ShloMosaic Idealize.ShloMosaic.TcCoe Idealize.SL.Sem

namespace Cert.Proof.SbIn

open Cert.Proof.Moe (hrow)

/-- The word of the scale: the reciprocal of the square root of 128. -/
abbrev scale : EReal := Ideal.ofBits .f32 0x3DB504F3#32

/-- The queries (scaled), keys and values, side by side. -/
def layer (x : (⟨3, ![4, 8192, 1024]⟩ : Shape).Idx → EReal) (g : (⟨1, ![1024]⟩ : Shape).Idx → EReal)
    (sc sh : (⟨3, ![4, 1, 1024]⟩ : Shape).Idx → EReal) (w : (⟨2, ![1024, 3072]⟩ : Shape).Idx → EReal)
    (b : Fin 4) (s : Fin 8192) (k : Fin 3072) : EReal :=
  if k.val < 1024 then (∑ j, hrow x g sc sh b s j * w (ix2 j k)) * scale else ∑ j, hrow x g sc sh b s j * w (ix2 j k)

end Cert.Proof.SbIn

end
-- ==== Proof.SbInKernel.lean ====
/- The result of the kernel of the stick-breaking layer's projections, entry by entry. -/
module

public import proofs.«01_k».proof.Defs
public import proofs.«01_k».proof.Proof.SbInMath
public import proofs.«01_k».proof.Proof.Gen.Kernel4Ideal.Value
public import Idealize.ShloMosaic.Lib.Tactic
public import Idealize.ShloMosaic.Lib.Pointwise
public import Idealize.ShloMosaic.Lib.Tactic.CleanTypes
public import Idealize.ShloMosaic.Lib.Pipeline.ValueKit.Tiles

@[expose] public section

set_option maxRecDepth 16384

noncomputable section

open Idealize.ShloMosaic Idealize.ShloMosaic.TcCoe Idealize.SL.Sem Idealize.ShloMosaic.StableHlo

namespace Cert.Proof.SbIn

open Cert.Kernel4Ideal Cert.Kernel4Ideal.Gen
open Cert.Proof.Moe (hid hrow)
variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The point of the grid for batch `b`, row block `i`. -/
def point (b : Fin 4) (i : Fin 16) : Fin cfg0.N := ⟨16 * b.val + i.val, lt_of_lt_of_eq (by omega) N_0.symm⟩
/-- The row of the sequence that row `r` of block `i` is. -/
def seqRow (i : Fin 16) (r : Fin 512) : Fin 8192 := ⟨512 * i.val + r.val, by omega⟩

theorem V_v0 (c : Dev nD) : V m c main_v0 = shapeCast S1x1024 (m ((c : Thread nD τ).loc main_arg1)) shapeCasts_S1024_S1x1024 := by
  show StableHlo.after (List.flatten [hostOps0]) _ (Proc.devRef .tc main_v0) = _
  simp only [hostOps0, List.flatten_cons, List.flatten_nil, List.append_nil, List.cons_append, List.nil_append, TRef.binary, TRef.nullary, TRef.unary, TRef.toBuf, TRef.ofBuf, cast_eq]
  after_results_simp
  rfl

theorem V_v1 (c : Dev nD) : V m c main_v1 = (truncf .bf16 ((m ((c : Thread nD τ).loc main_arg4)) : FVec Ideal S1024x3072 .f32) bitsLt_bf16_f32 : FVec Ideal S1024x3072 .bf16) := by
  show StableHlo.after (List.flatten [hostOps0]) _ (Proc.devRef .tc main_v1) = _
  simp only [hostOps0, List.flatten_cons, List.flatten_nil, List.append_nil, List.cons_append, List.nil_append, TRef.binary, TRef.nullary, TRef.unary, TRef.toBuf, TRef.ofBuf, cast_eq]
  after_results_simp

theorem idx0 : ∀ (b : Fin 4) (i : Fin 16), win0_0.index (point b i) = ![b.val, i.val, 0]
    ∧ win0_1.index (point b i) = ![0, 0]
    ∧ win0_2.index (point b i) = ![b.val, 0, 0]
    ∧ win0_3.index (point b i) = ![b.val, 0, 0]
    ∧ win0_4.index (point b i) = ![0, 0]
    ∧ win0_5.index (point b i) = ![b.val, i.val, 0] := by
  decide +kernel
theorem flushes : ∀ (b : Fin 4) (i : Fin 16), (cfg0.win 5).flush (point b i) = true := by
  decide +kernel

theorem blk0 (c : Dev nD) (b : Fin 4) (i : Fin 16) (r : Fin 512) (k : Fin 1024) :
    (iblk m c 0 (point b i) : Vec Ideal S1x512x1024 .f32) (ix3 0 r k)
      = m ((c : Thread nD τ).loc main_arg0) (ix3 b (seqRow i r) k) := by
  have hi := congrFun (idx0 b i).1
  unfold iblk
  rw [View.read_apply]
  rw [← V_main_arg0 m c]
  show V m c main_arg0 _ = V m c main_arg0 _
  congr 1
  funext a
  apply Fin.ext
  match a with
  | ⟨0, _⟩ => show win0_0.index (point b i) 0 * 1 + 1 * 0 = b.val; rw [hi 0]; show b.val * 1 + 1 * 0 = b.val; omega
  | ⟨1, _⟩ => show win0_0.index (point b i) 1 * 512 + 1 * r.val = 512 * i.val + r.val; rw [hi 1]; show i.val * 512 + 1 * r.val = 512 * i.val + r.val; omega
  | ⟨2, _⟩ => show win0_0.index (point b i) 2 * 1024 + 1 * k.val = k.val; rw [hi 2]; show 0 * 1024 + 1 * k.val = k.val; omega

theorem blk1 (c : Dev nD) (b : Fin 4) (i : Fin 16) (k : Fin 1024) :
    (iblk m c 1 (point b i) : Vec Ideal S1x1024 .f32) (ix2 0 k)
      = V m c main_v0 (ix2 0 k) := by
  have hi := congrFun (idx0 b i).2.1
  unfold iblk
  rw [View.read_apply]
  show V m c main_v0 _ = V m c main_v0 _
  congr 1
  funext a
  apply Fin.ext
  match a with
  | ⟨0, _⟩ => show win0_1.index (point b i) 0 * 1 + 1 * 0 = 0; rw [hi 0]; show 0 * 1 + 1 * 0 = 0; omega
  | ⟨1, _⟩ => show win0_1.index (point b i) 1 * 1024 + 1 * k.val = k.val; rw [hi 1]; show 0 * 1024 + 1 * k.val = k.val; omega

theorem blk2 (c : Dev nD) (b : Fin 4) (i : Fin 16) (k : Fin 1024) :
    (iblk m c 2 (point b i) : Vec Ideal S1x1x1024 .f32) (ix3 0 0 k)
      = m ((c : Thread nD τ).loc main_arg2) (ix3 b 0 k) := by
  have hi := congrFun (idx0 b i).2.2.1
  unfold iblk
  rw [View.read_apply]
  rw [← V_main_arg2 m c]
  show V m c main_arg2 _ = V m c main_arg2 _
  congr 1
  funext a
  apply Fin.ext
  match a with
  | ⟨0, _⟩ => show win0_2.index (point b i) 0 * 1 + 1 * 0 = b.val; rw [hi 0]; show b.val * 1 + 1 * 0 = b.val; omega
  | ⟨1, _⟩ => show win0_2.index (point b i) 1 * 1 + 1 * 0 = 0; rw [hi 1]; show 0 * 1 + 1 * 0 = 0; omega
  | ⟨2, _⟩ => show win0_2.index (point b i) 2 * 1024 + 1 * k.val = k.val; rw [hi 2]; show 0 * 1024 + 1 * k.val = k.val; omega

theorem blk3 (c : Dev nD) (b : Fin 4) (i : Fin 16) (k : Fin 1024) :
    (iblk m c 3 (point b i) : Vec Ideal S1x1x1024 .f32) (ix3 0 0 k)
      = m ((c : Thread nD τ).loc main_arg3) (ix3 b 0 k) := by
  have hi := congrFun (idx0 b i).2.2.2.1
  unfold iblk
  rw [View.read_apply]
  rw [← V_main_arg3 m c]
  show V m c main_arg3 _ = V m c main_arg3 _
  congr 1
  funext a
  apply Fin.ext
  match a with
  | ⟨0, _⟩ => show win0_3.index (point b i) 0 * 1 + 1 * 0 = b.val; rw [hi 0]; show b.val * 1 + 1 * 0 = b.val; omega
  | ⟨1, _⟩ => show win0_3.index (point b i) 1 * 1 + 1 * 0 = 0; rw [hi 1]; show 0 * 1 + 1 * 0 = 0; omega
  | ⟨2, _⟩ => show win0_3.index (point b i) 2 * 1024 + 1 * k.val = k.val; rw [hi 2]; show 0 * 1024 + 1 * k.val = k.val; omega

theorem blk4 (c : Dev nD) (b : Fin 4) (i : Fin 16) (j : Fin 1024) (k : Fin 3072) :
    (iblk m c 4 (point b i) : Vec Ideal S1024x3072 .bf16) (ix2 j k)
      = V m c main_v1 (ix2 j k) := by
  have hi := congrFun (idx0 b i).2.2.2.2.1
  unfold iblk
  rw [View.read_apply]
  show V m c main_v1 _ = V m c main_v1 _
  congr 1
  funext a
  apply Fin.ext
  match a with
  | ⟨0, _⟩ => show win0_4.index (point b i) 0 * 1024 + 1 * j.val = j.val; rw [hi 0]; show 0 * 1024 + 1 * j.val = j.val; omega
  | ⟨1, _⟩ => show win0_4.index (point b i) 1 * 3072 + 1 * k.val = k.val; rw [hi 1]; show 0 * 3072 + 1 * k.val = k.val; omega

/-- The array after the run at a point's block: what the point's body leaves in its output block. -/
theorem final_at (c : Dev nD) (b : Fin 4) (i : Fin 16) (r : Fin 512) (k : Fin 3072) :
    (dats m 0 c).arrAt 5 cfg0.N (ix3 b ⟨512 * i.val + r.val, by omega⟩ k) = out0_5 (iblk m c 0 (point b i)) (iblk m c 1 (point b i)) (iblk m c 2 (point b i)) (iblk m c 3 (point b i)) (iblk m c 4 (point b i)) (ix3 0 r k) := by
  have hi := congrFun (idx0 b i).2.2.2.2.2
  have h := Value.blocks5 m c (point b i) (flushes b i)
  rw [Value.flushed5] at h
  have h' := congrFun h (ix3 (0 : Fin 1) r k : S1x512x3072.Idx)
  rw [View.read_apply] at h'
  have he : ((cfg0.win 5).blk (point b i)).view.emb (ix3 (0 : Fin 1) r k : S1x512x3072.Idx) = ix3 b ⟨512 * i.val + r.val, by omega⟩ k := by
    funext a
    apply Fin.ext
    match a with
    | ⟨0, _⟩ => show win0_5.index (point b i) 0 * 1 + 1 * 0 = b.val; rw [hi 0]; show b.val * 1 + 1 * 0 = b.val; omega
    | ⟨1, _⟩ => show win0_5.index (point b i) 1 * 512 + 1 * r.val = 512 * i.val + r.val; rw [hi 1]; show i.val * 512 + 1 * r.val = 512 * i.val + r.val; omega
    | ⟨2, _⟩ => show win0_5.index (point b i) 2 * 3072 + 1 * k.val = k.val; rw [hi 2]; show 0 * 3072 + 1 * k.val = k.val; omega
  refine (congrArg _ he.symm).trans (h'.trans ?_)
  show out0_5 (iblk m c 0 (point b i)) (iblk m c 1 (point b i)) (iblk m c 2 (point b i)) (iblk m c 3 (point b i)) (iblk m c 4 (point b i)) ((cfg0.win 5).xinj (grid0.coords (point b i)) (ix3 (0 : Fin 1) r k : S1x512x3072.Idx)) = _
  refine congrArg _ ?_
  funext a
  match a with
  | ⟨0, _⟩ => rfl
  | ⟨1, _⟩ => rfl
  | ⟨2, _⟩ => rfl

/-- The layer's arrays. -/
abbrev aX (c : Dev nD) : (⟨3, ![4, 8192, 1024]⟩ : Shape).Idx → EReal := m ((c : Thread nD τ).loc main_arg0)
abbrev aG (c : Dev nD) : (⟨1, ![1024]⟩ : Shape).Idx → EReal := m ((c : Thread nD τ).loc main_arg1)
abbrev aSc (c : Dev nD) : (⟨3, ![4, 1, 1024]⟩ : Shape).Idx → EReal := m ((c : Thread nD τ).loc main_arg2)
abbrev aSh (c : Dev nD) : (⟨3, ![4, 1, 1024]⟩ : Shape).Idx → EReal := m ((c : Thread nD τ).loc main_arg3)
abbrev aW (c : Dev nD) : (⟨2, ![1024, 3072]⟩ : Shape).Idx → EReal := m ((c : Thread nD τ).loc main_arg4)

theorem w_at (c : Dev nD) (j : Fin 1024) (k : Fin 3072) : V m c main_v1 (ix2 j k) = aW m c (ix2 j k) := by
  rw [V_v1]
  rfl
theorem gain_at (c : Dev nD) (k : Fin 1024) : V m c main_v0 (ix2 0 k) = aG m c (ix1 k) := by
  rw [V_v0]
  unfold aG
  generalize m ((c : Thread nD τ).loc main_arg1) = g
  clean_types
  pointwise
theorem blk1' (c : Dev nD) (b : Fin 4) (i : Fin 16) (k : Fin 1024) :
    (iblk m c 1 (point b i) : Vec Ideal S1x1024 .f32) (ix2 0 k) = aG m c (ix1 k) := (blk1 m c b i k).trans (gain_at m c k)
theorem blk4' (c : Dev nD) (b : Fin 4) (i : Fin 16) (j : Fin 1024) (k : Fin 3072) :
    (iblk m c 4 (point b i) : Vec Ideal S1024x3072 .bf16) (ix2 j k) = aW m c (ix2 j k) := (blk4 m c b i j k).trans (w_at m c j k)

section Body
variable (x0 : Vec Ideal S1x512x1024 .f32) (x1 : Vec Ideal S1x1024 .f32) (x2 x3 : Vec Ideal S1x1x1024 .f32) (x4 : Vec Ideal S1024x3072 .bf16)

/-- A row of the block, normalised. -/
def brow (r : Fin 512) : Fin 1024 → EReal :=
  hid (fun k => x0 (ix3 0 r k)) (fun k => x1 (ix2 0 k)) (fun k => x2 (ix3 0 0 k)) (fun k => x3 (ix3 0 0 k))

theorem pay2_at (r : Fin 512) (k : Fin 1024) : k0_pay2 x0 x1 x2 x3 (ix2 r k) = brow x0 x1 x2 x3 r k := by
  pointwise [k0_pay2]
  rfl

section Pay
variable (h : FVec Ideal S512x1024 .bf16) (w : Vec Ideal S1024x512 .bf16) (r : Fin 512) (k : Fin 512)
theorem pay1_at : k0_pay1 (F := Ideal) h w (ix3 0 r k) = ∑ j, h (ix2 r j) * w (ix2 j k) := by
  pointwise [k0_pay1]
theorem pay5_at : k0_pay5 (F := Ideal) h w (ix3 0 r k) = ∑ j, h (ix2 r j) * w (ix2 j k) := by
  pointwise [k0_pay5]
theorem pay6_at : k0_pay6 (F := Ideal) h w (ix3 0 r k) = ∑ j, h (ix2 r j) * w (ix2 j k) := by
  pointwise [k0_pay6]
theorem pay7_at : k0_pay7 (F := Ideal) h w (ix3 0 r k) = ∑ j, h (ix2 r j) * w (ix2 j k) := by
  pointwise [k0_pay7]
theorem pay4_at : k0_pay4 (F := Ideal) h w (ix3 0 r k) = (∑ j, h (ix2 r j) * w (ix2 j k)) * scale := by
  pointwise [k0_pay4]
theorem pay3_at : k0_pay3 (F := Ideal) x0 x1 x2 x3 w (ix3 0 r k) = (∑ j, k0_pay2 x0 x1 x2 x3 (ix2 r j) * w (ix2 j k)) * scale := by
  pointwise [k0_pay3]
end Pay

/-- A block of columns of the weights, read at an index. -/
theorem cols_at (n : Nat) (inb : ∀ a, (![0, n] : Fin 2 → Nat) a + S1024x512.size a ≤ S1024x3072.size a) (j : Fin 1024) (k' : Fin 512) (k : Fin 3072)
    (h : k.val = n + k'.val) : View.ld x4 (Rect.unit (s := S1024x3072) ![0, n] S1024x512.size inb) (ix2 j k') = x4 (ix2 j k) :=
  View.ld_unit_apply_of x4 _ _ inb _ _ fun a => by
    match a with
    | ⟨0, _⟩ => exact (Nat.zero_add _).symm
    | ⟨1, _⟩ => exact h

/-- A stored block of columns holds a value at a column when its payload does at the column's place in it. -/
theorem tile (n : Nat) (w : S1x512x512.Idx → EReal) (r : Fin 512) (k : Fin 3072) (v : EReal)
    (H : ∀ k' : Fin 512, k.val = n + k'.val → w (ix3 0 r k') = v) :
    View.TileAt (Val := Elt Ideal) (e := .bf16) (ix3 0 r k : S1x512x3072.Idx) ![0, 0, n] S1x512x512.size w v := by
  intro x hx
  have h1 : r.val = 0 + (x 1).val := hx 1
  have h2 : k.val = n + (x 2).val := hx 2
  have hx' : x = ix3 0 r (x 2) := by
    funext a
    match a with
    | ⟨0, _⟩ => exact Fin.ext (by have : (x 0).val < 1 := (x 0).isLt; show (x 0).val = 0; omega)
    | ⟨1, _⟩ => exact Fin.ext (by show (x 1).val = r.val; omega)
    | ⟨2, _⟩ => rfl
  rw [hx']
  exact H _ h2

theorem body_at (r : Fin 512) (k : Fin 3072) : out0_5 x0 x1 x2 x3 x4 (ix3 0 r k)
    = if k.val < 1024 then (∑ j, brow x0 x1 x2 x3 r j * x4 (ix2 j k)) * scale else ∑ j, brow x0 x1 x2 x3 r j * x4 (ix2 j k) := by
  have h8 : k0_pay8 x0 x1 x2 x3 x4 = k0_pay2 x0 x1 x2 x3 := by
    unfold k0_pay8
    simp only [View.ld_unit_zero (S := S1x512x1024) hz3, View.ld_unit_zero (S := S1x1x1024) hz3, View.ld_unit_zero (S := S1x1024) hz2]
  unfold out0_5
  rw [h8]
  simp only [View.ld_unit_zero (S := S1x512x1024) hz3, View.ld_unit_zero (S := S1x1x1024) hz3, View.ld_unit_zero (S := S1x1024) hz2]
  refine View.canon_eq_of_allAt _ _ _ (cover0_5 _ _ _ _ _ _ _) ?_
  refine View.allAt_cons_unit _ _ _ _ _ (tile 2560 _ r k _ fun k' h => ?_) <| View.allAt_cons_unit _ _ _ _ _ (tile 2048 _ r k _ fun k' h => ?_)
    <| View.allAt_cons_unit _ _ _ _ _ (tile 1536 _ r k _ fun k' h => ?_) <| View.allAt_cons_unit _ _ _ _ _ (tile 1024 _ r k _ fun k' h => ?_)
    <| View.allAt_cons_unit _ _ _ _ _ (tile 512 _ r k _ fun k' h => ?_) <| View.allAt_cons_unit _ _ _ _ _ (tile 0 _ r k _ fun k' h => ?_)
    <| View.allAt_nil _ _
  · rw [if_neg (by omega), pay1_at]; simp only [pay2_at, cols_at x4 _ _ _ _ k h]
  · rw [if_neg (by omega), pay7_at]; simp only [pay2_at, cols_at x4 _ _ _ _ k h]
  · rw [if_neg (by omega), pay6_at]; simp only [pay2_at, cols_at x4 _ _ _ _ k h]
  · rw [if_neg (by omega), pay5_at]; simp only [pay2_at, cols_at x4 _ _ _ _ k h]
  · rw [if_pos (by omega), pay4_at]; simp only [pay2_at, cols_at x4 _ _ _ _ k h]
  · rw [if_pos (by omega), pay3_at]; simp only [pay2_at, cols_at x4 _ _ _ _ k h]
end Body

theorem brow_at (c : Dev nD) (b : Fin 4) (i : Fin 16) (r : Fin 512) :
    brow (iblk m c 0 (point b i)) (iblk m c 1 (point b i)) (iblk m c 2 (point b i)) (iblk m c 3 (point b i)) r
      = hrow (aX m c) (aG m c) (aSc m c) (aSh m c) b (seqRow i r) := by
  unfold brow hrow
  simp only [blk0, blk1', blk2, blk3]

/-- The result array, entry by entry. -/
theorem result_at (c : Dev nD) (b : Fin 4) (s : Fin 8192) (k : Fin 3072) :
    (dats m 0 c).arrAt 5 cfg0.N (ix3 b s k) = layer (aX m c) (aG m c) (aSc m c) (aSh m c) (aW m c) b s k := by
  have hi : s.val / 512 < 16 := by omega
  have hr : s.val % 512 < 512 := by omega
  have hrow : seqRow ⟨s.val / 512, hi⟩ ⟨s.val % 512, hr⟩ = s := Fin.ext (Nat.div_add_mod s.val 512)
  have h := final_at m c b ⟨s.val / 512, hi⟩ ⟨s.val % 512, hr⟩ k
  rw [body_at, brow_at] at h
  simp only [blk4', hrow] at h
  refine Eq.trans ?_ h
  exact congrArg (fun s => (dats m 0 c).arrAt 5 cfg0.N (ix3 b s k)) hrow.symm

end Cert.Proof.SbIn

end
-- ==== Proof.SbInRef.lean ====
/- The result of the stick-breaking layer's plain projections, entry by entry. -/
module

public import proofs.«01_k».proof.Proof.SbInMath
public import proofs.«01_k».proof.Reference4Ideal
public import proofs.«01_k».proof.Proof.Gen.Reference4Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.SbIn.Plain

open Cert.Reference4Ideal Cert.Reference4Ideal.Gen
open Cert.Proof.Moe (hrow)

/-- The normalised rows. -/
def hT (a0 : FVec Ideal S4x8192x1024 .f32) (a1 : FVec Ideal S1024 .f32) (a2 : FVec Ideal S4x1x1024 .f32) (a3 : FVec Ideal S4x1x1024 .f32) : FVec Ideal S4x8192x1024 .f32 := addf (mulf (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1))) (broadcastInDim S4x8192x1024 ![0, 1, 2] bcast_S4x1x1024_S4x8192x1024_0_1_2 (addf (broadcastInDim S4x1x1024 ![] bcast_S_S4x1x1024 (constant S_ .f32 0x3F800000#32)) a2))) (broadcastInDim S4x8192x1024 ![0, 1, 2] bcast_S4x1x1024_S4x8192x1024_0_1_2 a3)
/-- The joint product. -/
def yT (a0 : FVec Ideal S4x8192x1024 .f32) (a1 : FVec Ideal S1024 .f32) (a2 : FVec Ideal S4x1x1024 .f32) (a3 : FVec Ideal S4x1x1024 .f32) (a4 : FVec Ideal S1024x3072 .f32) : FVec Ideal S4x8192x3072 .f32 := Host.dotGeneral dot_S4x8192x1024_S1024x3072_S4x8192x3072_2_0_01_1_n_n none (hT a0 a1 a2 a3) a4
/-- The result. -/
def resT (a0 : FVec Ideal S4x8192x1024 .f32) (a1 : FVec Ideal S1024 .f32) (a2 : FVec Ideal S4x1x1024 .f32) (a3 : FVec Ideal S4x1x1024 .f32) (a4 : FVec Ideal S1024x3072 .f32) : FVec Ideal S4x8192x3072 .bf16 := truncf .bf16 ((concatenate S4x8192x3072 2 [⟨S4x8192x1024, ((mulf (extractStridedSlice S4x8192x1024 ![0, 0, 0] (yT a0 a1 a2 a3 a4) slices_S4x8192x3072_S4x8192x1024_0_0_0) (broadcastInDim S4x8192x1024 ![] bcast_S_S4x8192x1024 (constant S_ .f32 0x3DB504F3#32))) : (⟨S4x8192x1024, .f32⟩ : BufTy).Contents (Elt Ideal))⟩, ⟨S4x8192x1024, ((extractStridedSlice S4x8192x1024 ![0, 0, 1024] (yT a0 a1 a2 a3 a4) slices_S4x8192x3072_S4x8192x1024_0_0_1024) : (⟨S4x8192x1024, .f32⟩ : BufTy).Contents (Elt Ideal))⟩, ⟨S4x8192x1024, ((extractStridedSlice S4x8192x1024 ![0, 0, 2048] (yT a0 a1 a2 a3 a4) slices_S4x8192x3072_S4x8192x1024_0_0_2048) : (⟨S4x8192x1024, .f32⟩ : BufTy).Contents (Elt Ideal))⟩] concatenates_S4x8192x1024_S4x8192x1024_S4x8192x1024_S4x8192x3072_d2 : (⟨S4x8192x3072, .f32⟩ : BufTy).Contents (Elt Ideal))) bitsLt_bf16_f32

theorem res_eq (m : (ℓ : Loc nD τ sig) → Buf (Elt Ideal) ℓ) (c : Dev nD) :
    Value.res_main_v26 (F := Ideal) m c = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v26 resT yT hT
  rfl

variable (a0 : FVec Ideal S4x8192x1024 .f32) (a1 : FVec Ideal S1024 .f32) (a2 : FVec Ideal S4x1x1024 .f32) (a3 : FVec Ideal S4x1x1024 .f32) (a4 : FVec Ideal S1024x3072 .f32)

theorem hT_at (b : Fin 4) (s : Fin 8192) (k : Fin 1024) : hT a0 a1 a2 a3 (ix3 b s k) = hrow a0 a1 a2 a3 b s k := by
  pointwise [hT]
  rfl
theorem yT_at (b : Fin 4) (s : Fin 8192) (k : Fin 3072) : yT a0 a1 a2 a3 a4 (ix3 b s k) = ∑ j, hrow a0 a1 a2 a3 b s j * a4 (ix2 j k) := by
  pointwise [yT]
  simp only [hT_at]
theorem resT_at (b : Fin 4) (s : Fin 8192) (k : Fin 3072) : resT a0 a1 a2 a3 a4 (ix3 b s k) = layer a0 a1 a2 a3 a4 b s k := by
  pointwise [resT]
  simp only [yT_at]
  unfold layer
  by_cases h : k.val < 1024
  · rw [dif_pos h, if_pos h]
  · rw [dif_neg h, if_neg h]
    by_cases h' : k.val - 1024 < 1024
    · rw [dif_pos h']
      have e : (⟨1024 + (k.val - 1024), by omega⟩ : Fin 3072) = k := Fin.ext (by show 1024 + (k.val - 1024) = k.val; omega)
      rw [e]
    · rw [dif_neg h']
      have e : (⟨2048 + (k.val - 1024 - 1024), by omega⟩ : Fin 3072) = k := Fin.ext (by show 2048 + (k.val - 1024 - 1024) = k.val; omega)
      rw [e]

end Cert.Proof.SbIn.Plain

end
-- ==== Proof.SbInTie.lean ====
/- The two programs of the stick-breaking layer's projections: their results side by side. -/
module

public import proofs.«01_k».proof.Defs
public import proofs.«01_k».proof.Proof.SbInKernel
public import proofs.«01_k».proof.Proof.SbInRef
public import proofs.«01_k».proof.Proof.Gen.Kernel4Ideal.Value
public import proofs.«01_k».proof.Proof.Gen.Reference4Ideal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem Idealize.SL.Sem

namespace Cert.Proof.SbIn

/-- Every index of the result has its three coordinates. -/
theorem idx_eta (i : (⟨3, ![4, 8192, 3072]⟩ : Shape).Idx) : i = ix3 (i 0) (i 1) (i 2) := by
  funext a
  match a with
  | ⟨0, _⟩ => rfl
  | ⟨1, _⟩ => rfl
  | ⟨2, _⟩ => rfl

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From memories that agree on the arguments the two programs' results are equal. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1]
  obtain ⟨h0, h1, h2, h3, h4⟩ := hagree c
  refine Eq.trans (b := Plain.resT (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))) (Plain.res_eq m' c) ?_
  rw [h0, h1, h2, h3, h4]
  funext i
  rw [idx_eta i]
  exact (Plain.resT_at _ _ _ _ _ _ _ _).trans (result_at m c _ _ _).symm

end Cert.Proof.SbIn

end
-- ==== Proof.FfnMath.lean ====
/- The dense feed-forward layer row by row, and its sum over the hidden width in two halves. -/
module

public import proofs.«01_k».proof.Proof.MoeMath

@[expose] public section

set_option maxRecDepth 16384

noncomputable section

open Idealize.ShloMosaic Idealize.ShloMosaic.TcCoe Idealize.SL.Sem

namespace Cert.Proof.Ffn

open Cert.Proof.Moe (hid invRms hrow silu_eq)

section Layer
variable (x : (⟨3, ![4, 8192, 1024]⟩ : Shape).Idx → EReal) (g : (⟨1, ![1024]⟩ : Shape).Idx → EReal)
  (sc sh : (⟨3, ![4, 1, 1024]⟩ : Shape).Idx → EReal) (wgu : (⟨2, ![1024, 5632]⟩ : Shape).Idx → EReal)
  (wd : (⟨2, ![2816, 1024]⟩ : Shape).Idx → EReal) (gp : (⟨1, ![1024]⟩ : Shape).Idx → EReal)
  (ga : (⟨3, ![4, 1, 1024]⟩ : Shape).Idx → EReal)

/-- One hidden unit's part of a row's output at column `k`. -/
def unit (h : Fin 1024 → EReal) (k : Fin 1024) (f : Fin 2816) : EReal :=
  (Ideal.div (∑ j, h j * wgu (ix2 j ⟨f.val, by omega⟩)) (1 + Ideal.exp (0 - ∑ j, h j * wgu (ix2 j ⟨f.val, by omega⟩)))
    * ∑ j, h j * wgu (ix2 j ⟨2816 + f.val, by omega⟩)) * wd (ix2 f k)

/-- The part of one half of the hidden width. -/
def half (h : Fin 1024 → EReal) (k : Fin 1024) (e : Fin 2) : EReal := ∑ f : Fin 1408, unit wgu wd h k ⟨e.val * 1408 + f.val, by omega⟩

/-- The whole sum is the sum of its halves. -/
theorem halves (h : Fin 1024 → EReal) (k : Fin 1024) : ∑ f, unit wgu wd h k f = 0 + half wgu wd h k 0 + half wgu wd h k 1 := by
  rw [zero_add]
  refine (Fin.sum_univ_add (a := 1408) (b := 1408) (unit wgu wd h k)).trans ?_
  unfold half
  refine congrArg₂ (· + ·) (Finset.sum_congr rfl fun f _ => ?_) (Finset.sum_congr rfl fun f _ => ?_)
  · exact congrArg _ (Fin.ext (by show f.val = 0 * 1408 + f.val; omega))
  · exact congrArg _ (Fin.ext (by show 1408 + f.val = 1 * 1408 + f.val; omega))

/-- The row's output before the last normalisation. -/
def mixed (b : Fin 4) (s : Fin 8192) (k : Fin 1024) : EReal := ∑ f, unit wgu wd (hrow x g sc sh b s) k f

/-- The layer's result. -/
def layer (b : Fin 4) (s : Fin 8192) (k : Fin 1024) : EReal :=
  x (ix3 b s k) + ga (ix3 b 0 k) * (mixed x g sc sh wgu wd b s k * invRms (mixed x g sc sh wgu wd b s) * gp (ix1 k))

end Layer

end Cert.Proof.Ffn

end
-- ==== Proof.FfnCase.lean ====
/- What the two cases of the dense feed-forward body leave in the carried buffers and in the output block, as the body's own
   payloads of the blocks it reads. -/
module

public import proofs.«01_k».proof.Defs
public import proofs.«01_k».proof.Proof.Gen.Kernel3Ideal.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Ffn

open Cert.Kernel3Ideal Cert.Kernel3Ideal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first half leaves the normalised rows in the first carried buffer. -/
theorem first_h (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S2x1024x128 .bf16) (h4 : a4.IsWhole) (a5 : Memref sig .tc .vmem S1x128 .f32) (h5 : a5.IsWhole) (a6 : Memref sig .tc .vmem S1x1024x1408 .bf16) (h6 : a6.IsWhole) (a7 : Memref sig .tc .vmem S1x1024x1408 .bf16) (h7 : a7.IsWhole) (a8 : Memref sig .tc .vmem S1x1408x1024 .bf16) (h8 : a8.IsWhole) (a9 : Memref sig .tc .vmem S1x1024 .f32) (h9 : a9.IsWhole) (a10 : Memref sig .tc .vmem S1x1x1024 .f32) (h10 : a10.IsWhole) (a11 : Memref sig .tc .vmem S1x512x1024 .f32) (h11 : a11.IsWhole) (a12 : Memref sig .tc .vmem S512x1024 .bf16) (h12 : a12.IsWhole) (a13 : Memref sig .tc .vmem S512x128 .f32) (h13 : a13.IsWhole) (a14 : Memref sig .tc .vmem S512x1024 .f32) (h14 : a14.IsWhole) (hc0 : cond0_0 i) (hc1 : ¬cond0_1 i) (x0 : Vec F S1x512x1024 .f32) (x1 : Vec F S1x1024 .f32) (x2 : Vec F S1x1x1024 .f32) (x3 : Vec F S1x1x1024 .f32) (x4 : Vec F S2x1024x128 .bf16) (x5 : Vec F S1x128 .f32) (x6 : Vec F S1x1024x1408 .bf16) (x7 : Vec F S1x1024x1408 .bf16) (x8 : Vec F S1x1408x1024 .bf16) (x9 : Vec F S1x1024 .f32) (x10 : Vec F S1x1x1024 .f32) :
    sout0_A_0 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = k0_pay1 x0 x1 x2 x3 := by
  unfold sout0_A_0
  rw [View.read_writes_eq_canon _ _ _ (scover0_A_0 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) hz3, View.ld_unit_zero (S := S1x1024) hz2, View.ld_unit_zero (S := S1x1x1024) hz3, View.ld_unit_zero (S := S1x1024x1408) hz3, View.ld_unit_zero (S := S1x1408x1024) hz3, View.ld_unit_zero (S := S512x1024) hz2]

/-- The first half starts the sum from zero. -/
theorem first_acc (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S2x1024x128 .bf16) (h4 : a4.IsWhole) (a5 : Memref sig .tc .vmem S1x128 .f32) (h5 : a5.IsWhole) (a6 : Memref sig .tc .vmem S1x1024x1408 .bf16) (h6 : a6.IsWhole) (a7 : Memref sig .tc .vmem S1x1024x1408 .bf16) (h7 : a7.IsWhole) (a8 : Memref sig .tc .vmem S1x1408x1024 .bf16) (h8 : a8.IsWhole) (a9 : Memref sig .tc .vmem S1x1024 .f32) (h9 : a9.IsWhole) (a10 : Memref sig .tc .vmem S1x1x1024 .f32) (h10 : a10.IsWhole) (a11 : Memref sig .tc .vmem S1x512x1024 .f32) (h11 : a11.IsWhole) (a12 : Memref sig .tc .vmem S512x1024 .bf16) (h12 : a12.IsWhole) (a13 : Memref sig .tc .vmem S512x128 .f32) (h13 : a13.IsWhole) (a14 : Memref sig .tc .vmem S512x1024 .f32) (h14 : a14.IsWhole) (hc0 : cond0_0 i) (hc1 : ¬cond0_1 i) (x0 : Vec F S1x512x1024 .f32) (x1 : Vec F S1x1024 .f32) (x2 : Vec F S1x1x1024 .f32) (x3 : Vec F S1x1x1024 .f32) (x4 : Vec F S2x1024x128 .bf16) (x5 : Vec F S1x128 .f32) (x6 : Vec F S1x1024x1408 .bf16) (x7 : Vec F S1x1024x1408 .bf16) (x8 : Vec F S1x1408x1024 .bf16) (x9 : Vec F S1x1024 .f32) (x10 : Vec F S1x1x1024 .f32) :
    sout0_A_2 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = k0_pay3 (k0_pay1 x0 x1 x2 x3) x6 x7 x8 k0_pay2 := by
  unfold sout0_A_2
  rw [View.read_writes_eq_canon _ _ _ (scover0_A_2 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_cons_unit_zero (S := S512x1024) hz2]
  simp only [View.readCov_unit_zero (S := S512x1024) _ hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) hz3, View.ld_unit_zero (S := S1x1024) hz2, View.ld_unit_zero (S := S1x1x1024) hz3, View.ld_unit_zero (S := S1x1024x1408) hz3, View.ld_unit_zero (S := S1x1408x1024) hz3, View.ld_unit_zero (S := S512x1024) hz2]

/-- The second half adds its part and writes the block of results. -/
theorem last_out (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S2x1024x128 .bf16) (h4 : a4.IsWhole) (a5 : Memref sig .tc .vmem S1x128 .f32) (h5 : a5.IsWhole) (a6 : Memref sig .tc .vmem S1x1024x1408 .bf16) (h6 : a6.IsWhole) (a7 : Memref sig .tc .vmem S1x1024x1408 .bf16) (h7 : a7.IsWhole) (a8 : Memref sig .tc .vmem S1x1408x1024 .bf16) (h8 : a8.IsWhole) (a9 : Memref sig .tc .vmem S1x1024 .f32) (h9 : a9.IsWhole) (a10 : Memref sig .tc .vmem S1x1x1024 .f32) (h10 : a10.IsWhole) (a11 : Memref sig .tc .vmem S1x512x1024 .f32) (h11 : a11.IsWhole) (a12 : Memref sig .tc .vmem S512x1024 .bf16) (h12 : a12.IsWhole) (a13 : Memref sig .tc .vmem S512x128 .f32) (h13 : a13.IsWhole) (a14 : Memref sig .tc .vmem S512x1024 .f32) (h14 : a14.IsWhole) (hc0 : ¬cond0_0 i) (hc1 : cond0_1 i) (x0 : Vec F S1x512x1024 .f32) (x1 : Vec F S1x1024 .f32) (x2 : Vec F S1x1x1024 .f32) (x3 : Vec F S1x1x1024 .f32) (x4 : Vec F S2x1024x128 .bf16) (x5 : Vec F S1x128 .f32) (x6 : Vec F S1x1024x1408 .bf16) (x7 : Vec F S1x1024x1408 .bf16) (x8 : Vec F S1x1408x1024 .bf16) (x9 : Vec F S1x1024 .f32) (x10 : Vec F S1x1x1024 .f32) (y0 : Vec F S512x1024 .bf16) (y2 : Vec F S512x1024 .f32) :
    out0_B_11 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 y0 y2 = k0_pay4 x0 x10 (k0_pay3 y0 x6 x7 x8 y2) x9 := by
  unfold out0_B_11
  rw [View.read_writes_eq_canon _ _ _ (cover0_B_11 c i a0 h0 a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 y0 y2)]
  unfold kernelRun0_B
  dsimp only
  sl_unfold_words
  rw [View.canon_unit_zero hz3]
  rw [View.readCov_unit_zero (S := S512x1024) _ hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S1x512x1024) hz3, View.ld_unit_zero (S := S1x1024) hz2, View.ld_unit_zero (S := S1x1x1024) hz3, View.ld_unit_zero (S := S1x1024x1408) hz3, View.ld_unit_zero (S := S1x1408x1024) hz3, View.ld_unit_zero (S := S512x1024) hz2]

end Cert.Proof.Ffn

end
-- ==== Proof.FfnHost.lean ====
/- The blocks the dense feed-forward body reads, as entries of the layer's arrays. -/
module

public import proofs.«01_k».proof.Proof.FfnCase
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.Ffn

open Cert.Kernel3Ideal Cert.Kernel3Ideal.Gen
variable (m : (ℓ : Loc nD τ sig) → Buf (Elt Ideal) ℓ)

/-- The point of the grid for batch `b`, row block `i`, half `e`. -/
def point (b : Fin 4) (i : Fin 16) (e : Fin 2) : Fin cfg0.N :=
  ⟨32 * b.val + 2 * i.val + e.val, lt_of_lt_of_eq (by omega) N_0.symm⟩

/-- The gate half of the joint weights, in two blocks of columns. -/
def gateW (w : FVec Ideal S1024x5632 .f32) : FVec Ideal S2x1024x1408 .bf16 :=
  transpose S2x1024x1408 [1, 0, 2] (shapeCast S1024x2x1408 (truncf .bf16 (extractStridedSlice S1024x2816 ![0, 0] w slices_S1024x5632_S1024x2816_0_0) bitsLt_bf16_f32 : FVec Ideal S1024x2816 .bf16) shapeCasts_S1024x2816_S1024x2x1408) transposes_S1024x2x1408_S2x1024x1408_1_0_2
/-- The other half, in two blocks of columns. -/
def upW (w : FVec Ideal S1024x5632 .f32) : FVec Ideal S2x1024x1408 .bf16 :=
  transpose S2x1024x1408 [1, 0, 2] (shapeCast S1024x2x1408 (truncf .bf16 (extractStridedSlice S1024x2816 ![0, 2816] w slices_S1024x5632_S1024x2816_0_2816) bitsLt_bf16_f32 : FVec Ideal S1024x2816 .bf16) shapeCasts_S1024x2816_S1024x2x1408) transposes_S1024x2x1408_S2x1024x1408_1_0_2
/-- The weights back, in two blocks of rows. -/
def downW (w : FVec Ideal S2816x1024 .f32) : FVec Ideal S2x1408x1024 .bf16 :=
  shapeCast S2x1408x1024 (truncf .bf16 w bitsLt_bf16_f32 : FVec Ideal S2816x1024 .bf16) shapeCasts_S2816x1024_S2x1408x1024

theorem V_v12 (c : Dev nD) : V m c main_v12 = shapeCast S1x1024 (m ((c : Thread nD τ).loc main_arg1)) shapeCasts_S1024_S1x1024 := by
  show StableHlo.after (List.flatten [hostOps0]) _ (Proc.devRef .tc main_v12) = _
  simp only [hostOps0, List.flatten_cons, List.flatten_nil, List.append_nil, List.cons_append, List.nil_append, TRef.binary, TRef.nullary, TRef.unary, TRef.toBuf, TRef.ofBuf, cast_eq]
  after_results_simp
  rfl

theorem V_v13 (c : Dev nD) : V m c main_v13 = shapeCast S1x1024 (m ((c : Thread nD τ).loc main_arg6)) shapeCasts_S1024_S1x1024 := by
  show StableHlo.after (List.flatten [hostOps0]) _ (Proc.devRef .tc main_v13) = _
  simp only [hostOps0, List.flatten_cons, List.flatten_nil, List.append_nil, List.cons_append, List.nil_append, TRef.binary, TRef.nullary, TRef.unary, TRef.toBuf, TRef.ofBuf, cast_eq]
  after_results_simp
  rfl

theorem V_v5 (c : Dev nD) : V m c main_v5 = gateW (m ((c : Thread nD τ).loc main_arg4)) := by
  show StableHlo.after (List.flatten [hostOps0]) _ (Proc.devRef .tc main_v5) = _
  simp only [hostOps0, List.flatten_cons, List.flatten_nil, List.append_nil, List.cons_append, List.nil_append, TRef.binary, TRef.nullary, TRef.unary, TRef.toBuf, TRef.ofBuf, cast_eq]
  after_results_simp
  rfl

theorem V_v7 (c : Dev nD) : V m c main_v7 = upW (m ((c : Thread nD τ).loc main_arg4)) := by
  show StableHlo.after (List.flatten [hostOps0]) _ (Proc.devRef .tc main_v7) = _
  simp only [hostOps0, List.flatten_cons, List.flatten_nil, List.append_nil, List.cons_append, List.nil_append, TRef.binary, TRef.nullary, TRef.unary, TRef.toBuf, TRef.ofBuf, cast_eq]
  after_results_simp
  rfl

theorem V_v9 (c : Dev nD) : V m c main_v9 = downW (m ((c : Thread nD τ).loc main_arg5)) := by
  show StableHlo.after (List.flatten [hostOps0]) _ (Proc.devRef .tc main_v9) = _
  simp only [hostOps0, List.flatten_cons, List.flatten_nil, List.append_nil, List.cons_append, List.nil_append, TRef.binary, TRef.nullary, TRef.unary, TRef.toBuf, TRef.ofBuf, cast_eq]
  after_results_simp
  rfl

theorem idx0 : ∀ (b : Fin 4) (i : Fin 16) (e : Fin 2), win0_0.index (point b i e) = ![b.val, i.val, 0] ∧ win0_1.index (point b i e) = ![0, 0]
    ∧ win0_2.index (point b i e) = ![b.val, 0, 0] ∧ win0_3.index (point b i e) = ![b.val, 0, 0]
    ∧ win0_6.index (point b i e) = ![e.val, 0, 0] ∧ win0_7.index (point b i e) = ![e.val, 0, 0]
    ∧ win0_8.index (point b i e) = ![e.val, 0, 0] ∧ win0_9.index (point b i e) = ![0, 0] ∧ win0_10.index (point b i e) = ![b.val, 0, 0] := by
  decide +kernel

theorem blk0 (c : Dev nD) (b : Fin 4) (i : Fin 16) (e : Fin 2) (r : Fin 512) (k : Fin 1024) :
    (iblk m c 0 (point b i e) : Vec Ideal S1x512x1024 .f32) (ix3 0 r k)
      = m ((c : Thread nD τ).loc main_arg0) (ix3 b ⟨512 * i.val + r.val, by omega⟩ k) := by
  have hi := congrFun (idx0 b i e).1
  unfold iblk
  rw [View.read_apply]
  rw [← V_main_arg0 m c]
  show V m c main_arg0 _ = V m c main_arg0 _
  congr 1
  funext a
  apply Fin.ext
  match a with
  | ⟨0, _⟩ => show win0_0.index (point b i e) 0 * 1 + 1 * 0 = b.val; rw [hi 0]; show b.val * 1 + 1 * 0 = b.val; omega
  | ⟨1, _⟩ => show win0_0.index (point b i e) 1 * 512 + 1 * r.val = 512 * i.val + r.val; rw [hi 1]; show i.val * 512 + 1 * r.val = 512 * i.val + r.val; omega
  | ⟨2, _⟩ => show win0_0.index (point b i e) 2 * 1024 + 1 * k.val = k.val; rw [hi 2]; show 0 * 1024 + 1 * k.val = k.val; omega

theorem blk1 (c : Dev nD) (b : Fin 4) (i : Fin 16) (e : Fin 2) (k : Fin 1024) :
    (iblk m c 1 (point b i e) : Vec Ideal S1x1024 .f32) (ix2 0 k)
      = V m c main_v12 (ix2 0 k) := by
  have hi := congrFun (idx0 b i e).2.1
  unfold iblk
  rw [View.read_apply]
  show V m c main_v12 _ = V m c main_v12 _
  congr 1
  funext a
  apply Fin.ext
  match a with
  | ⟨0, _⟩ => show win0_1.index (point b i e) 0 * 1 + 1 * 0 = 0; rw [hi 0]; show 0 * 1 + 1 * 0 = 0; omega
  | ⟨1, _⟩ => show win0_1.index (point b i e) 1 * 1024 + 1 * k.val = k.val; rw [hi 1]; show 0 * 1024 + 1 * k.val = k.val; omega

theorem blk2 (c : Dev nD) (b : Fin 4) (i : Fin 16) (e : Fin 2) (k : Fin 1024) :
    (iblk m c 2 (point b i e) : Vec Ideal S1x1x1024 .f32) (ix3 0 0 k)
      = m ((c : Thread nD τ).loc main_arg2) (ix3 b 0 k) := by
  have hi := congrFun (idx0 b i e).2.2.1
  unfold iblk
  rw [View.read_apply]
  rw [← V_main_arg2 m c]
  show V m c main_arg2 _ = V m c main_arg2 _
  congr 1
  funext a
  apply Fin.ext
  match a with
  | ⟨0, _⟩ => show win0_2.index (point b i e) 0 * 1 + 1 * 0 = b.val; rw [hi 0]; show b.val * 1 + 1 * 0 = b.val; omega
  | ⟨1, _⟩ => show win0_2.index (point b i e) 1 * 1 + 1 * 0 = 0; rw [hi 1]; show 0 * 1 + 1 * 0 = 0; omega
  | ⟨2, _⟩ => show win0_2.index (point b i e) 2 * 1024 + 1 * k.val = k.val; rw [hi 2]; show 0 * 1024 + 1 * k.val = k.val; omega

theorem blk3 (c : Dev nD) (b : Fin 4) (i : Fin 16) (e : Fin 2) (k : Fin 1024) :
    (iblk m c 3 (point b i e) : Vec Ideal S1x1x1024 .f32) (ix3 0 0 k)
      = m ((c : Thread nD τ).loc main_arg3) (ix3 b 0 k) := by
  have hi := congrFun (idx0 b i e).2.2.2.1
  unfold iblk
  rw [View.read_apply]
  rw [← V_main_arg3 m c]
  show V m c main_arg3 _ = V m c main_arg3 _
  congr 1
  funext a
  apply Fin.ext
  match a with
  | ⟨0, _⟩ => show win0_3.index (point b i e) 0 * 1 + 1 * 0 = b.val; rw [hi 0]; show b.val * 1 + 1 * 0 = b.val; omega
  | ⟨1, _⟩ => show win0_3.index (point b i e) 1 * 1 + 1 * 0 = 0; rw [hi 1]; show 0 * 1 + 1 * 0 = 0; omega
  | ⟨2, _⟩ => show win0_3.index (point b i e) 2 * 1024 + 1 * k.val = k.val; rw [hi 2]; show 0 * 1024 + 1 * k.val = k.val; omega

theorem blk6 (c : Dev nD) (b : Fin 4) (i : Fin 16) (e : Fin 2) (j : Fin 1024) (f : Fin 1408) :
    (iblk m c 6 (point b i e) : Vec Ideal S1x1024x1408 .bf16) (ix3 0 j f)
      = V m c main_v5 (ix3 e j f) := by
  have hi := congrFun (idx0 b i e).2.2.2.2.1
  unfold iblk
  rw [View.read_apply]
  show V m c main_v5 _ = V m c main_v5 _
  congr 1
  funext a
  apply Fin.ext
  match a with
  | ⟨0, _⟩ => show win0_6.index (point b i e) 0 * 1 + 1 * 0 = e.val; rw [hi 0]; show e.val * 1 + 1 * 0 = e.val; omega
  | ⟨1, _⟩ => show win0_6.index (point b i e) 1 * 1024 + 1 * j.val = j.val; rw [hi 1]; show 0 * 1024 + 1 * j.val = j.val; omega
  | ⟨2, _⟩ => show win0_6.index (point b i e) 2 * 1408 + 1 * f.val = f.val; rw [hi 2]; show 0 * 1408 + 1 * f.val = f.val; omega

theorem blk7 (c : Dev nD) (b : Fin 4) (i : Fin 16) (e : Fin 2) (j : Fin 1024) (f : Fin 1408) :
    (iblk m c 7 (point b i e) : Vec Ideal S1x1024x1408 .bf16) (ix3 0 j f)
      = V m c main_v7 (ix3 e j f) := by
  have hi := congrFun (idx0 b i e).2.2.2.2.2.1
  unfold iblk
  rw [View.read_apply]
  show V m c main_v7 _ = V m c main_v7 _
  congr 1
  funext a
  apply Fin.ext
  match a with
  | ⟨0, _⟩ => show win0_7.index (point b i e) 0 * 1 + 1 * 0 = e.val; rw [hi 0]; show e.val * 1 + 1 * 0 = e.val; omega
  | ⟨1, _⟩ => show win0_7.index (point b i e) 1 * 1024 + 1 * j.val = j.val; rw [hi 1]; show 0 * 1024 + 1 * j.val = j.val; omega
  | ⟨2, _⟩ => show win0_7.index (point b i e) 2 * 1408 + 1 * f.val = f.val; rw [hi 2]; show 0 * 1408 + 1 * f.val = f.val; omega

theorem blk8 (c : Dev nD) (b : Fin 4) (i : Fin 16) (e : Fin 2) (f : Fin 1408) (k : Fin 1024) :
    (iblk m c 8 (point b i e) : Vec Ideal S1x1408x1024 .bf16) (ix3 0 f k)
      = V m c main_v9 (ix3 e f k) := by
  have hi := congrFun (idx0 b i e).2.2.2.2.2.2.1
  unfold iblk
  rw [View.read_apply]
  show V m c main_v9 _ = V m c main_v9 _
  congr 1
  funext a
  apply Fin.ext
  match a with
  | ⟨0, _⟩ => show win0_8.index (point b i e) 0 * 1 + 1 * 0 = e.val; rw [hi 0]; show e.val * 1 + 1 * 0 = e.val; omega
  | ⟨1, _⟩ => show win0_8.index (point b i e) 1 * 1408 + 1 * f.val = f.val; rw [hi 1]; show 0 * 1408 + 1 * f.val = f.val; omega
  | ⟨2, _⟩ => show win0_8.index (point b i e) 2 * 1024 + 1 * k.val = k.val; rw [hi 2]; show 0 * 1024 + 1 * k.val = k.val; omega

theorem blk9 (c : Dev nD) (b : Fin 4) (i : Fin 16) (e : Fin 2) (k : Fin 1024) :
    (iblk m c 9 (point b i e) : Vec Ideal S1x1024 .f32) (ix2 0 k)
      = V m c main_v13 (ix2 0 k) := by
  have hi := congrFun (idx0 b i e).2.2.2.2.2.2.2.1
  unfold iblk
  rw [View.read_apply]
  show V m c main_v13 _ = V m c main_v13 _
  congr 1
  funext a
  apply Fin.ext
  match a with
  | ⟨0, _⟩ => show win0_9.index (point b i e) 0 * 1 + 1 * 0 = 0; rw [hi 0]; show 0 * 1 + 1 * 0 = 0; omega
  | ⟨1, _⟩ => show win0_9.index (point b i e) 1 * 1024 + 1 * k.val = k.val; rw [hi 1]; show 0 * 1024 + 1 * k.val = k.val; omega

theorem blk10 (c : Dev nD) (b : Fin 4) (i : Fin 16) (e : Fin 2) (k : Fin 1024) :
    (iblk m c 10 (point b i e) : Vec Ideal S1x1x1024 .f32) (ix3 0 0 k)
      = m ((c : Thread nD τ).loc main_arg7) (ix3 b 0 k) := by
  have hi := congrFun (idx0 b i e).2.2.2.2.2.2.2.2
  unfold iblk
  rw [View.read_apply]
  rw [← V_main_arg7 m c]
  show V m c main_arg7 _ = V m c main_arg7 _
  congr 1
  funext a
  apply Fin.ext
  match a with
  | ⟨0, _⟩ => show win0_10.index (point b i e) 0 * 1 + 1 * 0 = b.val; rw [hi 0]; show b.val * 1 + 1 * 0 = b.val; omega
  | ⟨1, _⟩ => show win0_10.index (point b i e) 1 * 1 + 1 * 0 = 0; rw [hi 1]; show 0 * 1 + 1 * 0 = 0; omega
  | ⟨2, _⟩ => show win0_10.index (point b i e) 2 * 1024 + 1 * k.val = k.val; rw [hi 2]; show 0 * 1024 + 1 * k.val = k.val; omega

theorem gain_at (c : Dev nD) (k : Fin 1024) : V m c main_v12 (ix2 0 k) = m ((c : Thread nD τ).loc main_arg1) (ix1 k) := by
  rw [V_v12]
  generalize m ((c : Thread nD τ).loc main_arg1) = g
  clean_types
  pointwise
theorem post_at (c : Dev nD) (k : Fin 1024) : V m c main_v13 (ix2 0 k) = m ((c : Thread nD τ).loc main_arg6) (ix1 k) := by
  rw [V_v13]
  generalize m ((c : Thread nD τ).loc main_arg6) = g
  clean_types
  pointwise

theorem gateW_pt (w : FVec Ideal S1024x5632 .f32) (e : Fin 2) (j : Fin 1024) (f : Fin 1408) :
    gateW w (ix3 e j f) = w (ix2 j ⟨e.val * 1408 + f.val, by omega⟩) := by
  pointwise [gateW]
theorem upW_pt (w : FVec Ideal S1024x5632 .f32) (e : Fin 2) (j : Fin 1024) (f : Fin 1408) :
    upW w (ix3 e j f) = w (ix2 j ⟨2816 + (e.val * 1408 + f.val), by omega⟩) := by
  pointwise [upW]
theorem downW_pt (w : FVec Ideal S2816x1024 .f32) (e : Fin 2) (f : Fin 1408) (k : Fin 1024) :
    downW w (ix3 e f k) = w (ix2 ⟨e.val * 1408 + f.val, by omega⟩ k) := by
  pointwise [downW]

end Cert.Proof.Ffn

end
-- ==== Proof.FfnKernel.lean ====
/- The dense feed-forward kernel's result, entry by entry. -/
module

public import proofs.«01_k».proof.Proof.FfnMath
public import proofs.«01_k».proof.Proof.FfnHost

@[expose] public section

set_option maxRecDepth 16384

noncomputable section

open Idealize.ShloMosaic Idealize.ShloMosaic.TcCoe Idealize.SL.Sem

namespace Cert.Proof.Ffn

open Cert.Kernel3Ideal Cert.Kernel3Ideal.Gen
open Cert.Proof.Moe (hid invRms hrow silu_eq)

variable (x0 : Vec Ideal S1x512x1024 .f32) (x1 : Vec Ideal S1x1024 .f32) (x2 x3 : Vec Ideal S1x1x1024 .f32)
  (x6 x7 : Vec Ideal S1x1024x1408 .bf16)
  (x8 : Vec Ideal S1x1408x1024 .bf16) (x9 : Vec Ideal S1x1024 .f32) (x10 : Vec Ideal S1x1x1024 .f32)

/-- A row of the block, normalised. -/
def brow (r : Fin 512) : Fin 1024 → EReal :=
  hid (fun k => x0 (ix3 0 r k)) (fun k => x1 (ix2 0 k)) (fun k => x2 (ix3 0 0 k)) (fun k => x3 (ix3 0 0 k))

theorem pay1_at (r : Fin 512) (k : Fin 1024) : k0_pay1 x0 x1 x2 x3 (ix2 r k) = brow x0 x1 x2 x3 r k := by
  pointwise [k0_pay1]
  rfl
theorem pay2_at (r : Fin 512) (k : Fin 1024) : k0_pay2 (F := Ideal) (ix2 r k) = 0 := by
  pointwise [k0_pay2]
theorem pay3_at (y0 : Vec Ideal S512x1024 .bf16) (y2 : Vec Ideal S512x1024 .f32) (r : Fin 512) (k : Fin 1024) :
    k0_pay3 (F := Ideal) y0 x6 x7 x8 y2 (ix2 r k)
      = y2 (ix2 r k) + ∑ f : Fin 1408, (Ideal.div (∑ j, y0 (ix2 r j) * x6 (ix3 0 j f)) (1 + Ideal.exp (0 - ∑ j, y0 (ix2 r j) * x6 (ix3 0 j f)))
          * ∑ j, y0 (ix2 r j) * x7 (ix3 0 j f)) * x8 (ix3 0 f k) := by
  pointwise [k0_pay3]
theorem pay4_at (v : Vec Ideal S512x1024 .f32) (r : Fin 512) (k : Fin 1024) :
    k0_pay4 (F := Ideal) x0 x10 v x9 (ix3 0 r k)
      = x0 (ix3 0 r k) + x10 (ix3 0 0 k) * (v (ix2 r k) * invRms (fun k => v (ix2 r k)) * x9 (ix2 0 k)) := by
  pointwise [k0_pay4]
  rfl

section Points
variable (m : (ℓ : Loc nD τ sig) → Buf (Elt Ideal) ℓ) (c : Dev nD)

set_option maxHeartbeats 1000000 in
theorem first_point (t : Fin cfg0.N) (h0 : t.val % 2 = 0) (h1 : ¬t.val % 2 = 1) :
    (outsAt0 m c t.val t.isLt).2.1 = k0_pay1 (iblk m c 0 t) (iblk m c 1 t) (iblk m c 2 t) (iblk m c 3 t)
    ∧ (outsAt0 m c t.val t.isLt).2.2 = k0_pay3 (k0_pay1 (iblk m c 0 t) (iblk m c 1 t) (iblk m c 2 t) (iblk m c 3 t))
        (iblk m c 6 t) (iblk m c 7 t) (iblk m c 8 t) (k0_pay2 (F := Ideal)) := by
  rw [outsAt0_A m c t h0 h1]
  dsimp only
  rw [first_h, first_acc]
  exact ⟨rfl, rfl⟩

set_option maxHeartbeats 1000000 in
theorem last_point (t : Fin cfg0.N) (h0 : ¬t.val % 2 = 0) (h1 : t.val % 2 = 1) (n : Nat) (hn : n < cfg0.N) (hp : t.val - 1 = n) :
    (outsAt0 m c t.val t.isLt).1 = k0_pay4 (iblk m c 0 t) (iblk m c 10 t) (k0_pay3 (outsAt0 m c n hn).2.1
        (iblk m c 6 t) (iblk m c 7 t) (iblk m c 8 t) (outsAt0 m c n hn).2.2) (iblk m c 9 t) := by
  subst hp
  generalize ho : outsAt0 m c (t.val - 1) hn = o
  rw [outsAt0_B m c t h0 h1]
  dsimp only
  rw [last_out, ho]

/-- The layer's arrays. -/
abbrev aX : (⟨3, ![4, 8192, 1024]⟩ : Shape).Idx → EReal := m ((c : Thread nD τ).loc main_arg0)
abbrev aG : (⟨1, ![1024]⟩ : Shape).Idx → EReal := m ((c : Thread nD τ).loc main_arg1)
abbrev aSc : (⟨3, ![4, 1, 1024]⟩ : Shape).Idx → EReal := m ((c : Thread nD τ).loc main_arg2)
abbrev aSh : (⟨3, ![4, 1, 1024]⟩ : Shape).Idx → EReal := m ((c : Thread nD τ).loc main_arg3)
abbrev aWgu : (⟨2, ![1024, 5632]⟩ : Shape).Idx → EReal := m ((c : Thread nD τ).loc main_arg4)
abbrev aWd : (⟨2, ![2816, 1024]⟩ : Shape).Idx → EReal := m ((c : Thread nD τ).loc main_arg5)
abbrev aGp : (⟨1, ![1024]⟩ : Shape).Idx → EReal := m ((c : Thread nD τ).loc main_arg6)
abbrev aGa : (⟨3, ![4, 1, 1024]⟩ : Shape).Idx → EReal := m ((c : Thread nD τ).loc main_arg7)

/-- The row of the sequence that row `r` of block `i` is. -/
def seqRow (i : Fin 16) (r : Fin 512) : Fin 8192 := ⟨512 * i.val + r.val, by omega⟩

/-- The normalised row. -/
abbrev rowH (b : Fin 4) (s : Fin 8192) : Fin 1024 → EReal := hrow (aX m c) (aG m c) (aSc m c) (aSh m c) b s

theorem gateW_at (e : Fin 2) (j : Fin 1024) (f : Fin 1408) :
    V m c main_v5 (ix3 e j f) = aWgu m c (ix2 j ⟨e.val * 1408 + f.val, by omega⟩) := by rw [V_v5]; exact gateW_pt _ e j f
theorem upW_at (e : Fin 2) (j : Fin 1024) (f : Fin 1408) :
    V m c main_v7 (ix3 e j f) = aWgu m c (ix2 j ⟨2816 + (e.val * 1408 + f.val), by omega⟩) := by rw [V_v7]; exact upW_pt _ e j f
theorem downW_at (e : Fin 2) (f : Fin 1408) (k : Fin 1024) :
    V m c main_v9 (ix3 e f k) = aWd m c (ix2 ⟨e.val * 1408 + f.val, by omega⟩ k) := by rw [V_v9]; exact downW_pt _ e f k

theorem blk1' (b : Fin 4) (i : Fin 16) (e : Fin 2) (k : Fin 1024) :
    (iblk m c 1 (point b i e) : Vec Ideal S1x1024 .f32) (ix2 0 k) = aG m c (ix1 k) := (blk1 m c b i e k).trans (gain_at m c k)
theorem blk6' (b : Fin 4) (i : Fin 16) (e : Fin 2) (j : Fin 1024) (f : Fin 1408) :
    (iblk m c 6 (point b i e) : Vec Ideal S1x1024x1408 .bf16) (ix3 0 j f) = aWgu m c (ix2 j ⟨e.val * 1408 + f.val, by omega⟩) :=
  (blk6 m c b i e j f).trans (gateW_at m c e j f)
theorem blk7' (b : Fin 4) (i : Fin 16) (e : Fin 2) (j : Fin 1024) (f : Fin 1408) :
    (iblk m c 7 (point b i e) : Vec Ideal S1x1024x1408 .bf16) (ix3 0 j f) = aWgu m c (ix2 j ⟨2816 + (e.val * 1408 + f.val), by omega⟩) :=
  (blk7 m c b i e j f).trans (upW_at m c e j f)
theorem blk8' (b : Fin 4) (i : Fin 16) (e : Fin 2) (f : Fin 1408) (k : Fin 1024) :
    (iblk m c 8 (point b i e) : Vec Ideal S1x1408x1024 .bf16) (ix3 0 f k) = aWd m c (ix2 ⟨e.val * 1408 + f.val, by omega⟩ k) :=
  (blk8 m c b i e f k).trans (downW_at m c e f k)
theorem blk9' (b : Fin 4) (i : Fin 16) (e : Fin 2) (k : Fin 1024) :
    (iblk m c 9 (point b i e) : Vec Ideal S1x1024 .f32) (ix2 0 k) = aGp m c (ix1 k) := (blk9 m c b i e k).trans (post_at m c k)

theorem brow_at (b : Fin 4) (i : Fin 16) (e : Fin 2) (r : Fin 512) :
    brow (iblk m c 0 (point b i e)) (iblk m c 1 (point b i e)) (iblk m c 2 (point b i e)) (iblk m c 3 (point b i e)) r
      = rowH m c b (seqRow i r) := by
  unfold brow rowH hrow
  simp only [blk0, blk1', blk2, blk3]
  rfl

theorem term_at (b : Fin 4) (i : Fin 16) (e : Fin 2) (r : Fin 512) (k : Fin 1024) (y0 : Vec Ideal S512x1024 .bf16) (y2 : Vec Ideal S512x1024 .f32)
    (hy0 : ∀ k, y0 (ix2 r k) = rowH m c b (seqRow i r) k) :
    k0_pay3 (F := Ideal) y0 (iblk m c 6 (point b i e)) (iblk m c 7 (point b i e)) (iblk m c 8 (point b i e)) y2 (ix2 r k)
      = y2 (ix2 r k) + half (aWgu m c) (aWd m c) (rowH m c b (seqRow i r)) k e := by
  rw [pay3_at]
  simp only [hy0, blk6', blk7', blk8']
  rfl

/-- The block the second half's point writes. -/
theorem out_at (b : Fin 4) (i : Fin 16) (r : Fin 512) (k : Fin 1024) :
    (outsAt0 m c (point b i 1).val (point b i 1).isLt).1 (ix3 0 r k)
      = layer (aX m c) (aG m c) (aSc m c) (aSh m c) (aWgu m c) (aWd m c) (aGp m c) (aGa m c) b (seqRow i r) k := by
  have hN : 32 * b.val + 2 * i.val + 0 < cfg0.N := lt_of_lt_of_eq (by omega) N_0.symm
  have hf := first_point m c (point b i 0) (by show (32 * b.val + 2 * i.val + 0) % 2 = 0; omega) (by show ¬(32 * b.val + 2 * i.val + 0) % 2 = 1; omega)
  have hp := last_point m c (point b i 1) (by show ¬(32 * b.val + 2 * i.val + 1) % 2 = 0; omega)
      (by show (32 * b.val + 2 * i.val + 1) % 2 = 1; omega) (32 * b.val + 2 * i.val + 0) hN rfl
  have hh : ∀ r k, (outsAt0 m c (32 * b.val + 2 * i.val + 0) hN).2.1 (ix2 r k) = rowH m c b (seqRow i r) k := fun r k =>
    (congrFun hf.1 _).trans ((pay1_at _ _ _ _ r k).trans (congrFun (brow_at m c b i 0 r) k))
  have ha : ∀ r k, (outsAt0 m c (32 * b.val + 2 * i.val + 0) hN).2.2 (ix2 r k)
      = 0 + half (aWgu m c) (aWd m c) (rowH m c b (seqRow i r)) k 0 := fun r k => by
    refine (congrFun hf.2 _).trans ?_
    rw [term_at m c b i 0 r k _ _ (fun k => (pay1_at _ _ _ _ r k).trans (congrFun (brow_at m c b i 0 r) k)), pay2_at]
  have hs : ∀ k, k0_pay3 (F := Ideal) (outsAt0 m c (32 * b.val + 2 * i.val + 0) hN).2.1
        (iblk m c 6 (point b i 1)) (iblk m c 7 (point b i 1)) (iblk m c 8 (point b i 1)) (outsAt0 m c (32 * b.val + 2 * i.val + 0) hN).2.2 (ix2 r k)
      = mixed (aX m c) (aG m c) (aSc m c) (aSh m c) (aWgu m c) (aWd m c) b (seqRow i r) k := fun k => by
    rw [term_at m c b i 1 r k _ _ (fun k => hh r k), ha]
    exact (halves _ _ _ _).symm
  rw [hp, pay4_at]
  simp only [hs, blk0, blk9', blk10]
  rfl

/-- The result array, entry by entry. -/
theorem result_at (b : Fin 4) (s : Fin 8192) (k : Fin 1024) :
    Value.G11 m c (ix3 b s k)
      = layer (aX m c) (aG m c) (aSc m c) (aSh m c) (aWgu m c) (aWd m c) (aGp m c) (aGa m c) b s k := by
  have hi : s.val / 512 < 16 := by omega
  have hr : s.val % 512 < 512 := by omega
  have hpt : Value.pt11Of (ix3 b s k) = (point b ⟨s.val / 512, hi⟩ 1).val := by
    unfold Value.pt11Of Value.run11Of
    show 2 * (16 * (b.val / 1 - 0) + 1 * (s.val / 512 - 0) + 1 * (k.val / 1024 - 0)) + 1 = 32 * b.val + 2 * (s.val / 512) + 1
    omega
  have hrow : seqRow ⟨s.val / 512, hi⟩ ⟨s.val % 512, hr⟩ = s := Fin.ext (Nat.div_add_mod s.val 512)
  have hloc : Value.loc11Of (ix3 b s k) = ix3 0 ⟨s.val % 512, hr⟩ k := by
    funext a
    match a with
    | ⟨0, _⟩ => exact Fin.ext (Nat.mod_one _)
    | ⟨1, _⟩ => rfl
    | ⟨2, _⟩ => exact Fin.ext (Nat.mod_eq_of_lt k.isLt)
  have h := out_at m c b ⟨s.val / 512, hi⟩ ⟨s.val % 512, hr⟩ k
  rw [hrow] at h
  rw [← h]
  unfold Value.G11
  rw [dif_pos (by rw [hpt]; exact (point b ⟨s.val / 512, hi⟩ 1).isLt), hloc]
  rw [Value.outsAt0_sweep]
  exact congrFun (congrArg Prod.fst (Value.fold0_congr m c _ _ _ _ hpt)) _

end Points

end Cert.Proof.Ffn

end
-- ==== Proof.FfnRef.lean ====
/- The plain dense feed-forward layer's result, entry by entry. -/
module

public import proofs.«01_k».proof.Proof.FfnMath
public import proofs.«01_k».proof.Reference3Ideal
public import proofs.«01_k».proof.Proof.Gen.Reference3Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.Ffn.Plain

open Cert.Reference3Ideal Cert.Reference3Ideal.Gen
open Cert.Proof.Moe (hid invRms hrow silu_eq)

/-- The normalised rows. -/
def hT (a0 : FVec Ideal S4x8192x1024 .f32) (a1 : FVec Ideal S1024 .f32) (a2 : FVec Ideal S4x1x1024 .f32) (a3 : FVec Ideal S4x1x1024 .f32) : FVec Ideal S4x8192x1024 .f32 := addf (mulf (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1))) (broadcastInDim S4x8192x1024 ![0, 1, 2] bcast_S4x1x1024_S4x8192x1024_0_1_2 (addf (broadcastInDim S4x1x1024 ![] bcast_S_S4x1x1024 (constant S_ .f32 0x3F800000#32)) a2))) (broadcastInDim S4x8192x1024 ![0, 1, 2] bcast_S4x1x1024_S4x8192x1024_0_1_2 a3)
/-- The joint product. -/
def guT (a0 : FVec Ideal S4x8192x1024 .f32) (a1 : FVec Ideal S1024 .f32) (a2 : FVec Ideal S4x1x1024 .f32) (a3 : FVec Ideal S4x1x1024 .f32) (a4 : FVec Ideal S1024x5632 .f32) : FVec Ideal S4x8192x5632 .f32 := Host.dotGeneral dot_S4x8192x1024_S1024x5632_S4x8192x5632_2_0_01_1_n_n none (hT a0 a1 a2 a3) a4
/-- The output before the last normalisation. -/
def yT (a0 : FVec Ideal S4x8192x1024 .f32) (a1 : FVec Ideal S1024 .f32) (a2 : FVec Ideal S4x1x1024 .f32) (a3 : FVec Ideal S4x1x1024 .f32) (a4 : FVec Ideal S1024x5632 .f32) (a5 : FVec Ideal S2816x1024 .f32) : FVec Ideal S4x8192x1024 .f32 := Host.dotGeneral dot_S4x8192x2816_S2816x1024_S4x8192x1024_2_0_01_1_n_n none (mulf (mulf (extractStridedSlice S4x8192x2816 ![0, 0, 0] (guT a0 a1 a2 a3 a4) slices_S4x8192x5632_S4x8192x2816_0_0_0) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (extractStridedSlice S4x8192x2816 ![0, 0, 0] (guT a0 a1 a2 a3 a4) slices_S4x8192x5632_S4x8192x2816_0_0_0)))))) (extractStridedSlice S4x8192x2816 ![0, 0, 2816] (guT a0 a1 a2 a3 a4) slices_S4x8192x5632_S4x8192x2816_0_0_2816)) a5
/-- The result. -/
def resT (a0 : FVec Ideal S4x8192x1024 .f32) (a1 : FVec Ideal S1024 .f32) (a2 : FVec Ideal S4x1x1024 .f32) (a3 : FVec Ideal S4x1x1024 .f32) (a4 : FVec Ideal S1024x5632 .f32) (a5 : FVec Ideal S2816x1024 .f32) (a6 : FVec Ideal S1024 .f32) (a7 : FVec Ideal S4x1x1024 .f32) : FVec Ideal S4x8192x1024 .f32 := addf a0 (mulf (broadcastInDim S4x8192x1024 ![0, 1, 2] bcast_S4x1x1024_S4x8192x1024_0_1_2 a7) (mulf (mulf (yT a0 a1 a2 a3 a4 a5) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (yT a0 a1 a2 a3 a4 a5) (yT a0 a1 a2 a3 a4 a5)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a6))))

theorem res_eq (m : (ℓ : Loc nD τ sig) → Buf (Elt Ideal) ℓ) (c : Dev nD) :
    Value.res_main_v40 (F := Ideal) m c = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Value.res_main_v40 resT yT guT hT
  rfl

variable (a0 : FVec Ideal S4x8192x1024 .f32) (a1 : FVec Ideal S1024 .f32) (a2 : FVec Ideal S4x1x1024 .f32) (a3 : FVec Ideal S4x1x1024 .f32) (a4 : FVec Ideal S1024x5632 .f32) (a5 : FVec Ideal S2816x1024 .f32) (a6 : FVec Ideal S1024 .f32) (a7 : FVec Ideal S4x1x1024 .f32)

theorem hT_at (b : Fin 4) (s : Fin 8192) (k : Fin 1024) : hT a0 a1 a2 a3 (ix3 b s k) = hrow a0 a1 a2 a3 b s k := by
  pointwise [hT]
  rfl
theorem guT_at (b : Fin 4) (s : Fin 8192) (k : Fin 5632) : guT a0 a1 a2 a3 a4 (ix3 b s k) = ∑ j, hrow a0 a1 a2 a3 b s j * a4 (ix2 j k) := by
  pointwise [guT]
  simp only [hT_at]
theorem yT_at (b : Fin 4) (s : Fin 8192) (k : Fin 1024) : yT a0 a1 a2 a3 a4 a5 (ix3 b s k) = mixed a0 a1 a2 a3 a4 a5 b s k := by
  pointwise [yT]
  simp only [guT_at, ← silu_eq]
  rfl
theorem resT_at (b : Fin 4) (s : Fin 8192) (k : Fin 1024) :
    resT a0 a1 a2 a3 a4 a5 a6 a7 (ix3 b s k) = layer a0 a1 a2 a3 a4 a5 a6 a7 b s k := by
  pointwise [resT]
  simp only [yT_at]
  rfl

end Cert.Proof.Ffn.Plain

end
-- ==== Proof.FfnTie.lean ====
/- The two programs of the dense feed-forward layer: their results side by side. -/
module

public import proofs.«01_k».proof.Defs
public import proofs.«01_k».proof.Proof.FfnKernel
public import proofs.«01_k».proof.Proof.FfnRef
public import proofs.«01_k».proof.Proof.Gen.Kernel3Ideal.Value
public import proofs.«01_k».proof.Proof.Gen.Reference3Ideal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem Idealize.SL.Sem

namespace Cert.Proof.Ffn

/-- Every index of the result has its three coordinates. -/
theorem idx_eta (i : (⟨3, ![4, 8192, 1024]⟩ : Shape).Idx) : i = ix3 (i 0) (i 1) (i 2) := by
  funext a
  match a with
  | ⟨0, _⟩ => rfl
  | ⟨1, _⟩ => rfl
  | ⟨2, _⟩ => rfl

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From memories that agree on the arguments the two programs' results are equal. -/
theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  obtain ⟨h0, h1, h2, h3, h4, h5, h6, h7⟩ := hagree c
  refine Eq.trans (b := Plain.resT (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7))) (Plain.res_eq m' c) ?_
  rw [h0, h1, h2, h3, h4, h5, h6, h7]
  funext i
  rw [idx_eta i]
  exact (Plain.resT_at _ _ _ _ _ _ _ _ _ _ _).trans (result_at m c _ _ _).symm

end Cert.Proof.Ffn

end
-- ==== Proof.FlashMath.lean ====
/- Running softmax sums on the extended reals: moving the reference point of the exponentials, adding a block, and the quotient in the end. -/
module

public import proofs.«01_k».proof.Proof.MoeMath

@[expose] public section

set_option maxRecDepth 16384

noncomputable section

open Idealize.ShloMosaic Idealize.ShloMosaic.TcCoe Idealize.SL.Sem

namespace Cert.Proof.Flash

open Cert.Proof.Moe (Fin' coe_sum')

/-- One term of a running sum: the value times the exponential of the score less the reference point. -/
abbrev term (V S : ℕ → EReal) (r : ℝ) (x : ℕ) : EReal := V x * Ideal.exp (S x - r)

theorem exp_shift (s : EReal) (hs : s ≠ ⊤) (r r' : ℝ) :
    Ideal.exp ((r : EReal) - r') * Ideal.exp (s - r) = Ideal.exp (s - r') := by
  induction s using EReal.rec with
  | bot => simp
  | coe a =>
    rw [← EReal.coe_sub, ← EReal.coe_sub, ← EReal.coe_sub, Ideal.exp_coe, Ideal.exp_coe, Ideal.exp_coe, ← EReal.coe_mul,
      ← Real.exp_add]
    congr 2; ring
  | top => exact absurd rfl hs

theorem mul_sum' {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The running sum after its reference point has moved. -/
theorem rescale (V S : ℕ → EReal) (P : Finset ℕ) (hS : ∀ x, S x ≠ ⊤) (r r' : ℝ) :
    Ideal.exp ((r : EReal) - r') * ∑ x ∈ P, term V S r x = ∑ x ∈ P, term V S r' x := by
  rw [← EReal.coe_sub, Ideal.exp_coe, mul_sum' _ (Real.exp_pos _).le]
  refine Finset.sum_congr rfl fun x _ => ?_
  unfold term
  rw [← exp_shift (S x) (hS x) r r', ← EReal.coe_sub, Ideal.exp_coe, ← mul_assoc, ← mul_assoc, mul_comm (V x)]

/-- One block of keys more. -/
theorem block (V S : ℕ → EReal) (n : ℕ) (hS : ∀ x, S x ≠ ⊤) (r r' : ℝ) :
    Ideal.exp ((r : EReal) - r') * (∑ x ∈ Finset.range (512 * n), term V S r x)
        + ∑ j : Fin 512, V (512 * n + j.val) * Ideal.exp (S (512 * n + j.val) - r')
      = ∑ x ∈ Finset.range (512 * (n + 1)), term V S r' x := by
  rw [rescale V S _ hS, Nat.mul_succ, Finset.sum_range_add, ← Finset.sum_range fun j => term V S r' (512 * n + j)]

/-- The greatest of a real and of a block without `+∞` is a real. -/
theorem max_real {n : ℕ} (r : ℝ) (f : Fin n → EReal) (hf : ∀ j, f j ≠ ⊤) :
    Fin' (max (r : EReal) (Finset.univ.fold max ⊥ f)) := by
  refine Fin'.of_ne (ne_of_gt (lt_of_lt_of_le (EReal.bot_lt_coe r) (le_max_left _ _))) (ne_of_lt (max_lt (EReal.coe_lt_top r) ?_))
  exact (Finset.fold_max_lt _).mpr ⟨bot_lt_top, fun j _ => lt_top_iff_ne_top.mpr (hf j)⟩

/-- The maximum of a row with a real entry and without `+∞` is a real. -/
theorem fold_real {n : ℕ} (f : Fin n → EReal) (hf : ∀ j, f j ≠ ⊤) (p : Fin n) (hp : f p ≠ ⊥) :
    Fin' (Finset.univ.fold max ⊥ f) := by
  refine Fin'.of_ne (ne_of_gt (lt_of_lt_of_le (bot_lt_iff_ne_bot.mpr hp) ?_)) (ne_of_lt ?_)
  · exact (Finset.le_fold_max _).mpr (Or.inr ⟨p, Finset.mem_univ p, le_rfl⟩)
  · exact (Finset.fold_max_lt _).mpr ⟨bot_lt_top, fun j _ => lt_top_iff_ne_top.mpr (hf j)⟩

/-- The sum of weights is a positive real. -/
theorem weights (S : ℕ → EReal) (P : Finset ℕ) (hS : ∀ x, S x ≠ ⊤) (p : ℕ) (hp : p ∈ P) (hpb : S p ≠ ⊥) (r : ℝ) :
    ∃ l : ℝ, 0 < l ∧ ∑ x ∈ P, Ideal.exp (S x - r) = (l : EReal) := by
  have hw : ∀ x, ∃ w : ℝ, 0 ≤ w ∧ (S x ≠ ⊥ → 0 < w) ∧ Ideal.exp (S x - r) = (w : EReal) := by
    intro x
    have hx := hS x
    induction hs : S x using EReal.rec with
    | bot => exact ⟨0, le_rfl, fun h => absurd rfl h, by simp⟩
    | coe a => exact ⟨Real.exp (a - r), (Real.exp_pos _).le, fun _ => Real.exp_pos _, by rw [← EReal.coe_sub, Ideal.exp_coe]⟩
    | top => exact absurd hs hx
  choose w h0 h1 h2 using hw
  exact ⟨∑ x ∈ P, w x, Finset.sum_pos' (fun x _ => h0 x) ⟨p, hp, h1 p hpb⟩, by
    rw [coe_sum']; exact Finset.sum_congr rfl fun x _ => h2 x⟩

/-- The quotient of the two running sums is the weighted sum of the softmax's terms, whatever the two reference points. -/
theorem quotient (V S : ℕ → EReal) (N : ℕ) (hS : ∀ x, S x ≠ ⊤) (p : ℕ) (hp : p < N) (hpb : S p ≠ ⊥) (r M : ℝ) :
    Ideal.div (∑ x ∈ Finset.range N, term V S r x) (∑ x ∈ Finset.range N, Ideal.exp (S x - r))
      = ∑ x ∈ Finset.range N, V x * Ideal.div (Ideal.exp (S x - M)) (∑ y ∈ Finset.range N, Ideal.exp (S y - M)) := by
  obtain ⟨l, hl, el⟩ := weights S (Finset.range N) hS p (Finset.mem_range.mpr hp) hpb r
  obtain ⟨l', hl', el'⟩ := weights S (Finset.range N) hS p (Finset.mem_range.mpr hp) hpb M
  rw [el, el', Ideal.div_coe hl.ne', mul_comm, mul_sum' _ (by positivity)]
  refine Finset.sum_congr rfl fun x _ => ?_
  rw [Ideal.div_coe hl'.ne']
  have hll : l' = Real.exp (r - M) * l := by
    have h := rescale (fun _ => 1) S (Finset.range N) hS r M
    simp only [term, one_mul] at h
    rw [el, el', ← EReal.coe_sub, Ideal.exp_coe, ← EReal.coe_mul] at h
    exact_mod_cast h.symm
  show _ * (V x * Ideal.exp (S x - r)) = _
  rw [mul_left_comm, ← exp_shift (S x) (hS x) r M, mul_comm (Ideal.exp _ * Ideal.exp _), ← mul_assoc _ (Ideal.exp ((r : EReal) - M)),
    ← EReal.coe_sub, Ideal.exp_coe, ← EReal.coe_mul]
  congr 3
  rw [hll]
  have := (Real.exp_pos (r - M)).ne'
  field_simp

/-- The same with the keys after the last block added, whose scores are minus infinity. -/
theorem quotient' (V S : ℕ → EReal) (N N' : ℕ) (hN : N ≤ N') (hS : ∀ x, S x ≠ ⊤) (hb : ∀ x, N ≤ x → S x = ⊥) (p : ℕ) (hp : p < N)
    (hpb : S p ≠ ⊥) (r M : ℝ) :
    Ideal.div (∑ x ∈ Finset.range N, term V S r x) (∑ x ∈ Finset.range N, Ideal.exp (S x - r))
      = ∑ x ∈ Finset.range N', V x * Ideal.div (Ideal.exp (S x - M)) (∑ y ∈ Finset.range N', Ideal.exp (S y - M)) := by
  have hsub : Finset.range N ⊆ Finset.range N' := Finset.range_subset_range.mpr hN
  have h0 : ∀ x, N ≤ x → Ideal.exp (S x - M) = 0 := fun x hx => by rw [hb x hx]; simp
  have e : ∑ y ∈ Finset.range N', Ideal.exp (S y - M) = ∑ y ∈ Finset.range N, Ideal.exp (S y - M) :=
    (Finset.sum_subset hsub fun x _ hx => h0 x (by simpa using hx)).symm
  obtain ⟨l, hl, el⟩ := weights S (Finset.range N) hS p (Finset.mem_range.mpr hp) hpb M
  rw [quotient V S N hS p hp hpb r M, e]
  refine Finset.sum_subset hsub fun x _ hx => ?_
  rw [h0 x (by simpa using hx), el, Ideal.div_coe hl.ne', zero_mul, mul_zero]

/-- The products of the scores, scaled after or before they are added, with columns of zeros or without. -/
theorem scale_sum (q k : Fin 192 → EReal) (hq : ∀ d, Fin' (q d)) (hk : ∀ d, Fin' (k d)) (c : EReal) (hc : Fin' c)
    (Q K : Fin 256 → EReal) (hQ : ∀ (d : Fin 256) (h : d.val < 192), Q d = q ⟨d.val, h⟩ * c)
    (hK : ∀ (d : Fin 256) (h : d.val < 192), K d = k ⟨d.val, h⟩) (hz : ∀ d : Fin 256, 192 ≤ d.val → K d = 0) :
    ∑ d, K d * Q d = (∑ d, q d * k d) * c := by
  choose q' hq' using hq
  choose k' hk' using hk
  obtain ⟨c', rfl⟩ := hc
  have e : ∑ d, q d * k d = ((∑ d, q' d * k' d : ℝ) : EReal) := by
    rw [coe_sum']; exact Finset.sum_congr rfl fun d _ => by rw [hq', hk', EReal.coe_mul]
  rw [e, ← EReal.coe_mul, Finset.sum_mul, coe_sum']
  refine (Fin.sum_univ_add (a := 192) (b := 64) fun d => K d * Q d).trans ?_
  have h2 : ∑ i : Fin 64, K (Fin.natAdd 192 i) * Q (Fin.natAdd 192 i) = 0 :=
    Finset.sum_eq_zero fun i _ => by rw [hz _ (by simp), zero_mul]
  rw [h2, add_zero]
  refine Finset.sum_congr rfl fun i _ => ?_
  rw [hQ (Fin.castAdd 64 i) i.isLt, hK (Fin.castAdd 64 i) i.isLt, EReal.coe_mul, EReal.coe_mul]
  show k i * (q i * _) = _
  rw [hq', hk', ← EReal.coe_mul, ← EReal.coe_mul, ← EReal.coe_mul, ← EReal.coe_mul]
  congr 1; ring

theorem cmp_le (a b : ℕ) (ha : a < 8192) (hb : b < 8192) : IntOp.cmpi .sle (BitVec.ofNat 32 a) (BitVec.ofNat 32 b) = BitVec.ofBool (decide (a ≤ b)) := by
  show BitVec.ofBool (BitVec.sle _ _) = _
  congr 1
  rw [BitVec.sle_eq_decide, BitVec.toInt_eq_toNat_of_lt, BitVec.toInt_eq_toNat_of_lt]
  all_goals simp only [BitVec.toNat_ofNat]
  · rw [decide_eq_decide]; omega
  all_goals omega

/-! ### The attention, entry by entry -/

/-- The score of key `x` for query `q` of head `h`: minus infinity for a key after the query. -/
def score (a0 a1 : FVec Ideal ⟨4, ![4, 8192, 8, 192]⟩ .f32) (b : Fin 4) (h : Fin 8) (q : Fin 8192) (x : ℕ) : EReal :=
  if hx : x < 8192 then
    if x ≤ q.val then (∑ d : Fin 192, a0 (ix4 b q h d) * a1 (ix4 b ⟨x, hx⟩ h d)) * Ideal.ofBits .f32 1033096506#32 else ⊥
  else ⊥
/-- The value of key `x` in column `d` of head `h`. -/
def value (a2 : FVec Ideal ⟨4, ![4, 8192, 8, 128]⟩ .f32) (b : Fin 4) (h : Fin 8) (d : Fin 128) (x : ℕ) : EReal :=
  if hx : x < 8192 then a2 (ix4 b ⟨x, hx⟩ h d) else 0
/-- The greatest score. -/
def top (a0 a1 : FVec Ideal ⟨4, ![4, 8192, 8, 192]⟩ .f32) (b : Fin 4) (h : Fin 8) (q : Fin 8192) : EReal :=
  Finset.univ.fold max ⊥ fun x : Fin 8192 => score a0 a1 b h q x.val
/-- The weighted sum of the values. -/
def attn (a0 a1 : FVec Ideal ⟨4, ![4, 8192, 8, 192]⟩ .f32) (a2 : FVec Ideal ⟨4, ![4, 8192, 8, 128]⟩ .f32) (b : Fin 4) (h : Fin 8) (q : Fin 8192)
    (d : Fin 128) : EReal :=
  ∑ x ∈ Finset.range 8192, value a2 b h d x * Ideal.div (Ideal.exp (score a0 a1 b h q x - top a0 a1 b h q))
    (∑ y ∈ Finset.range 8192, Ideal.exp (score a0 a1 b h q y - top a0 a1 b h q))

end Cert.Proof.Flash

end
-- ==== Proof.FlashCase.lean ====
/- What the body of the latent attention leaves in its output block, as a recursion over the blocks of keys. -/
module

public import proofs.«01_k».proof.Defs
public import proofs.«01_k».proof.Proof.Gen.Kernel6Ideal.Value
public import Idealize.ShloMosaic.Lib.Tactic

@[expose] public section

set_option maxRecDepth 16384
set_option maxRecDepth 16384

noncomputable section

open Idealize.ShloMosaic Idealize.ShloMosaic.TcCoe Idealize.SL.Sem Idealize.SL.Sem

namespace Cert.Proof.Flash

open Cert.Kernel6Ideal Cert.Kernel6Ideal.Gen

variable {F : FTy → Type} [FloatOps F] [Named F]

theorem hz3 : (![0, 0, 0] : Fin 3 → Nat) = fun _ => 0 := funext fun a => by fin_cases a <;> rfl

/-- The keys and the values one trip reads. -/
def keys (x1 : Vec F S1x8192x256 .bf16) (i : grid0.Coords) (k : Fin (k0_t1_loop i).trips) : Vec F S1x512x256 .bf16 :=
  View.ld x1 (Rect.unit (s := S1x8192x256) (k0_off1 i k) S1x512x256.size (k0_off1_inb i k))
def vals (x2 : Vec F S1x144x8192 .bf16) (i : grid0.Coords) (k : Fin (k0_t1_loop i).trips) : Vec F S1x144x512 .bf16 :=
  View.ld x2 (Rect.unit (s := S1x144x8192) (k0_off2 i k) S1x144x512.size (k0_off2_inb i k))

theorem trip_eq (c : Dev nD) (i : grid0.Coords) (a0 : Memref sig .tc .vmem S1x512x256 .bf16) (h0 : a0.IsWhole) (a1 : Memref sig .tc .vmem S1x8192x256 .bf16) (h1 : a1.IsWhole) (a2 : Memref sig .tc .vmem S1x144x8192 .bf16) (h2 : a2.IsWhole) (a3 : Memref sig .tc .vmem S1x512x128 .bf16) (h3 : a3.IsWhole) (v0 : Vec F S1x512x256 .bf16) (x1 : Vec F S1x8192x256 .bf16) (x2 : Vec F S1x144x8192 .bf16)
    (k : Fin (k0_t1_loop i).trips) (acc : FVec F S1x512 .f32 × FVec F S144x512 .f32) :
    tripR_k0_t1 Variants.none c none i a0 h0 a1 h1 a2 h2 a3 h3 v0 (h1.unread x1) (h2.unread x2) k acc
      = (k0_pay6 v0 acc.1 (keys x1 i k), k0_pay7 v0 acc.1 acc.2 (keys x1 i k) (vals x2 i k)) := by
  unfold tripR_k0_t1 trip_k0_t1
  dsimp only
  simp only [View.readAt_eq_ld, h1.read_unread, h2.read_unread]
  rfl

/-- The numbers of trips: one for each block of keys before the queries' own, and none in the second loop. -/
theorem trips1 (i : grid0.Coords) : (k0_t1_loop i).trips = (i 2).val :=
  (by decide +kernel : ∀ n : Fin 16, Scf.trips (0#32) (Scalar.addi (0#32) (Scalar.muli (Scalar.divsi (Scalar.subi (BitVec.ofNat 32 n.val) 0#32) 1#32) 1#32)) 1#32 = n.val) (i 2)
theorem trips2 (i : grid0.Coords) : Scf.trips
    (Scalar.addi (0#32) (Scalar.muli (Scalar.divsi (Scalar.subi (BitVec.ofNat 32 (i 2).val) 0#32) 1#32) 1#32))
    (Scalar.addi (0#32) (Scalar.subi (BitVec.ofNat 32 (i 2).val) 0#32)) 1#32 = 0 :=
  (by decide +kernel : ∀ n : Fin 16, Scf.trips
    (Scalar.addi (0#32) (Scalar.muli (Scalar.divsi (Scalar.subi (BitVec.ofNat 32 n.val) 0#32) 1#32) 1#32))
    (Scalar.addi (0#32) (Scalar.subi (BitVec.ofNat 32 n.val) 0#32)) 1#32 = 0) (i 2)

/-- Where the blocks start. -/
theorem off1 (i : grid0.Coords) (k : Fin (k0_t1_loop i).trips) : k0_off1 i k = ![0, 512 * k.val, 0] := by
  have hk : k.val < 16 := lt_of_lt_of_le k.isLt (by rw [trips1]; exact (i 2).isLt.le)
  exact (by decide +kernel : ∀ k : Fin 16, (![0, (Scalar.indexCast (Scalar.muli (Scf.iv (0#32) (1#32) k.val) 512#32)).toNat, 0] : Fin 3 → Nat) = ![0, 512 * k.val, 0]) ⟨k.val, hk⟩
theorem off2 (i : grid0.Coords) (k : Fin (k0_t1_loop i).trips) : k0_off2 i k = ![0, 0, 512 * k.val] := by
  have hk : k.val < 16 := lt_of_lt_of_le k.isLt (by rw [trips1]; exact (i 2).isLt.le)
  exact (by decide +kernel : ∀ k : Fin 16, (![0, 0, (Scalar.indexCast (Scalar.muli (Scf.iv (0#32) (1#32) k.val) 512#32)).toNat] : Fin 3 → Nat) = ![0, 0, 512 * k.val]) ⟨k.val, hk⟩
theorem off5 (i : grid0.Coords) : k0_off5 i = ![0, 512 * (i 2).val, 0] :=
  (by decide +kernel : ∀ n : Fin 16, (![0, (Scalar.indexCast (Scalar.muli (BitVec.ofNat 32 n.val) 512#32)).toNat, 0] : Fin 3 → Nat) = ![0, 512 * n.val, 0]) (i 2)
theorem off6 (i : grid0.Coords) : k0_off6 i = ![0, 0, 512 * (i 2).val] :=
  (by decide +kernel : ∀ n : Fin 16, (![0, 0, (Scalar.indexCast (Scalar.muli (BitVec.ofNat 32 n.val) 512#32)).toNat] : Fin 3 → Nat) = ![0, 0, 512 * n.val]) (i 2)

/-- The keys and the values of the queries' own block. -/
def ownKeys (x1 : Vec F S1x8192x256 .bf16) (i : grid0.Coords) : Vec F S1x512x256 .bf16 :=
  View.ld x1 (Rect.unit (s := S1x8192x256) (k0_off5 i) S1x512x256.size (k0_off5_inb i))
def ownVals (x2 : Vec F S1x144x8192 .bf16) (i : grid0.Coords) : Vec F S1x144x512 .bf16 :=
  View.ld x2 (Rect.unit (s := S1x144x8192) (k0_off6 i) S1x144x512.size (k0_off6_inb i))

/-- The maximum and the sums carried before trip `n`. -/
def state (x0 : Vec F S1x512x256 .bf16) (x1 : Vec F S1x8192x256 .bf16) (x2 : Vec F S1x144x8192 .bf16) (i : grid0.Coords) :
    ℕ → FVec F S1x512 .f32 × FVec F S144x512 .f32
  | 0 => (k0_pay3, k0_pay4)
  | n + 1 => if h : n < (k0_t1_loop i).trips then
      (k0_pay6 x0 (state x0 x1 x2 i n).1 (keys x1 i ⟨n, h⟩), k0_pay7 x0 (state x0 x1 x2 i n).1 (state x0 x1 x2 i n).2 (keys x1 i ⟨n, h⟩) (vals x2 i ⟨n, h⟩))
    else state x0 x1 x2 i n

theorem st_eq (c : Dev nD) (i : grid0.Coords) (a0 : Memref sig .tc .vmem S1x512x256 .bf16) (h0 : a0.IsWhole) (a1 : Memref sig .tc .vmem S1x8192x256 .bf16) (h1 : a1.IsWhole) (a2 : Memref sig .tc .vmem S1x144x8192 .bf16) (h2 : a2.IsWhole) (a3 : Memref sig .tc .vmem S1x512x128 .bf16) (h3 : a3.IsWhole) (x0 : Vec F S1x512x256 .bf16) (x1 : Vec F S1x8192x256 .bf16) (x2 : Vec F S1x144x8192 .bf16) (n : ℕ)
    (hn : n ≤ (k0_t1_loop i).trips) :
    st_k0_t1 Variants.none c none i a0 h0 a1 h1 a2 h2 a3 h3 x0 (h1.unread x1) (h2.unread x2) (k0_pay3, k0_pay4) n = state x0 x1 x2 i n := by
  induction n with
  | zero => rw [st_k0_t1_zero]; rfl
  | succ n ih =>
    have h : n < (k0_t1_loop i).trips := hn
    rw [show n + 1 = (⟨n, h⟩ : Fin (k0_t1_loop i).trips).val + 1 from rfl, st_k0_t1_succ]
    show tripR_k0_t1 _ _ _ _ _ _ _ _ _ _ _ _ _ _ _ _ (st_k0_t1 Variants.none c none i a0 h0 a1 h1 a2 h2 a3 h3 x0 (h1.unread x1) (h2.unread x2) (k0_pay3, k0_pay4) n) = _
    rw [ih h.le, trip_eq, state, dif_pos h]

/-- The block the body leaves: the quotient of the sums after the queries' own block. -/
theorem out_eq (c : Dev nD) (i : grid0.Coords) (a0 : Memref sig .tc .vmem S1x512x256 .bf16) (h0 : a0.IsWhole) (a1 : Memref sig .tc .vmem S1x8192x256 .bf16) (h1 : a1.IsWhole) (a2 : Memref sig .tc .vmem S1x144x8192 .bf16) (h2 : a2.IsWhole) (a3 : Memref sig .tc .vmem S1x512x128 .bf16) (h3 : a3.IsWhole) (x0 : Vec F S1x512x256 .bf16) (x1 : Vec F S1x8192x256 .bf16) (x2 : Vec F S1x144x8192 .bf16) :
    out0_A_3 c i a0 h0 a1 h1 a2 h2 a3 h3 x0 x1 x2 =
      k0_pay1 (k0_pay11 x0 (state x0 x1 x2 i (i 2).val).1 (state x0 x1 x2 i (i 2).val).2 (ownKeys x1 i) (ownVals x2 i))
        (k0_pay12 x0 (state x0 x1 x2 i (i 2).val).1 (state x0 x1 x2 i (i 2).val).2 (ownKeys x1 i) (ownVals x2 i)) := by
  unfold out0_A_3
  rw [View.read_writes_eq_canon _ _ _ (cover0_A_3 c i a0 h0 a1 h1 a2 h2 a3 h3 x0 x1 x2)]
  unfold kernelRun0_A
  dsimp only
  sl_unfold_words
  rw [View.canon_unit_zero hz3]
  simp only [View.readAt_eq_ld, h0.read_unread, h1.read_unread, h2.read_unread, View.ld_unit_zero (S := S1x512x256) hz3]
  have e := st_eq c i a0 h0 a1 h1 a2 h2 a3 h3 x0 x1 x2 (k0_t1_loop i).trips le_rfl
  rw [trips1] at e
  have e1 : Scf.trips (0#32) (Scalar.addi (0#32) (Scalar.muli (Scalar.divsi (Scalar.subi (BitVec.ofNat 32 (i 2).val) 0#32) 1#32) 1#32)) 1#32
    = (i 2).val := trips1 i
  rw [trips2, e1, e, st_k0_t2_zero]
  rfl

end Cert.Proof.Flash

end
-- ==== Proof.FlashPay.lean ====
/- The latent attention's arithmetic, entry by entry. -/
module

public import proofs.«01_k».proof.Proof.FlashMath
public import proofs.«01_k».proof.Proof.FlashCase
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Proof.Flash

open Cert.Kernel6Ideal Cert.Kernel6Ideal.Gen
open Cert.Proof.Moe (neg_inf_word)

variable (v0 : FVec Ideal S1x512x256 .bf16) (v50 : FVec Ideal S1x512x256 .bf16) (v54 : FVec Ideal S1x144x512 .bf16)
  (m : FVec Ideal S1x512 .f32) (acc : FVec Ideal S144x512 .f32)

/-- The product of key `j` and query `q`. -/
def prod (q j : Fin 512) : EReal := ∑ d : Fin 256, v50 (ix3 0 j d) * v0 (ix3 0 q d)
/-- The same, minus infinity for a key after the query. -/
def masked (q j : Fin 512) : EReal := if j.val ≤ q.val then prod v0 v50 q j else ⊥

theorem pay2_at (q : Fin 512) (d : Fin 256) : k0_pay2 (F := Ideal) v0 (ix2 q d) = v0 (ix3 0 q d) := by
  pointwise [k0_pay2]
theorem pay5_at (q j : Fin 512) : k0_pay5 (F := Ideal) v0 v50 (ix2 j q) = prod v0 v50 q j := by
  unfold k0_pay5
  generalize hA : k0_pay2 (F := Ideal) v0 = A
  pointwise
  subst hA
  simp only [pay2_at]
  rfl
theorem pay6_at (q : Fin 512) : k0_pay6 (F := Ideal) v0 m v50 (ix2 0 q) = max (m (ix2 0 q)) (Finset.univ.fold max ⊥ (prod v0 v50 q)) := by
  unfold k0_pay6
  generalize hA : k0_pay5 (F := Ideal) v0 v50 = A
  pointwise
  subst hA
  simp only [pay5_at, neg_inf_word]
  try rfl
theorem pay7_at (r : Fin 144) (q : Fin 512) : k0_pay7 (F := Ideal) v0 m acc v50 v54 (ix2 r q)
    = Ideal.exp (m (ix2 0 q) - k0_pay6 (F := Ideal) v0 m v50 (ix2 0 q)) * acc (ix2 r q)
      + ∑ j : Fin 512, v54 (ix3 0 r j) * Ideal.exp (prod v0 v50 q j - k0_pay6 (F := Ideal) v0 m v50 (ix2 0 q)) := by
  unfold k0_pay7
  generalize hA : k0_pay5 (F := Ideal) v0 v50 = A
  generalize hB : k0_pay6 (F := Ideal) v0 m v50 = B
  pointwise
  subst hA
  simp only [pay5_at]
  try rfl
theorem mask_word : (Named.named κ "mask" 4048155338#32 : Ideal .f32) = (⊥ : EReal) := rfl
theorem sel_masked (q x : Fin 512) : Scalar.select (IntOp.cmpi CmpIPredicate.sle (BitVec.ofNat 32 x.val) (BitVec.ofNat 32 q.val))
    (∑ d : Fin 256, v50 (ix3 0 x d) * v0 (ix3 0 q d)) (Named.named κ "mask" 4048155338#32 : Ideal .f32) = masked v0 v50 q x := by
  rw [cmp_le _ _ (by omega) (by omega), mask_word]
  unfold masked
  by_cases hq : x.val ≤ q.val
  · rw [if_pos hq, decide_eq_true hq]; rfl
  · rw [if_neg hq, decide_eq_false hq]; rfl
/-- The queries' own block: the scores masked. -/
theorem pay11_at (r : Fin 144) (q : Fin 512) : k0_pay11 (F := Ideal) v0 m acc v50 v54 (ix2 r q)
    = Ideal.exp (m (ix2 0 q) - max (m (ix2 0 q)) (Finset.univ.fold max ⊥ (masked v0 v50 q))) * acc (ix2 r q)
      + ∑ j : Fin 512, v54 (ix3 0 r j) * Ideal.exp (masked v0 v50 q j - max (m (ix2 0 q)) (Finset.univ.fold max ⊥ (masked v0 v50 q))) := by
  unfold k0_pay11
  generalize hA : k0_pay2 (F := Ideal) v0 = A
  pointwise
  subst hA
  simp only [pay2_at, sel_masked, neg_inf_word]
theorem pay1_at (v37 : FVec Ideal S144x512 .f32) (v38 : FVec Ideal S128x512 .f32) (q : Fin 512) (d : Fin 128) :
    k0_pay1 (F := Ideal) v37 v38 (ix3 0 q d) = Ideal.div (v38 (ix2 d q)) (v37 (ix2 ⟨128, by decide⟩ q)) := by
  pointwise [k0_pay1]
  try rfl
theorem pay12_at (q : Fin 512) (d : Fin 128) : k0_pay12 (F := Ideal) v0 m acc v50 v54 (ix2 d q) = k0_pay11 (F := Ideal) v0 m acc v50 v54 (ix2 ⟨d.val, by omega⟩ q) := by
  unfold k0_pay12
  generalize hA : k0_pay11 (F := Ideal) v0 m acc v50 v54 = A
  pointwise
  try rfl
theorem pay3_at (q : Fin 512) : k0_pay3 (F := Ideal) (ix2 0 q) = Ideal.ofBits .f32 3769465068#32 := by
  pointwise [k0_pay3]
theorem pay4_at (r : Fin 144) (q : Fin 512) : k0_pay4 (F := Ideal) (ix2 r q) = 0 := by
  pointwise [k0_pay4]

/-! ### The carried state -/

theorem low_word : Moe.Fin' (Ideal.ofBits .f32 3769465068#32) := ⟨_, by simp [Ideal.ofBits, Ideal.ieee, -EReal.coe_mul]; rfl⟩

section Body
variable (x0 : FVec Ideal S1x512x256 .bf16) (x1 : FVec Ideal S1x8192x256 .bf16) (x2 : FVec Ideal S1x144x8192 .bf16) (i : grid0.Coords)
  (q : Fin 512) (S : ℕ → EReal) (V : Fin 144 → ℕ → EReal)

theorem state_inv (hS : ∀ x, S x ≠ ⊤) (hk : ∀ (k : Fin (k0_t1_loop i).trips) (j : Fin 512), prod x0 (keys (F := Ideal) x1 i k) q j = S (512 * k.val + j.val))
    (hv : ∀ (k : Fin (k0_t1_loop i).trips) (r : Fin 144) (j : Fin 512), vals (F := Ideal) x2 i k (ix3 0 r j) = V r (512 * k.val + j.val))
    (n : ℕ) (hn : n ≤ (k0_t1_loop i).trips) :
    ∃ ρ : ℝ, (state (F := Ideal) x0 x1 x2 i n).1 (ix2 0 q) = (ρ : EReal)
      ∧ ∀ r : Fin 144, (state (F := Ideal) x0 x1 x2 i n).2 (ix2 r q) = ∑ x ∈ Finset.range (512 * n), term (V r) S ρ x := by
  induction n with
  | zero =>
    obtain ⟨ρ, hρ⟩ := low_word
    exact ⟨ρ, (pay3_at q).trans hρ, fun r => (pay4_at r q).trans (by simp)⟩
  | succ n ih =>
    have h : n < (k0_t1_loop i).trips := hn
    obtain ⟨ρ, e1, e2⟩ := ih h.le
    have hf : prod x0 (keys (F := Ideal) x1 i ⟨n, h⟩) q = fun j : Fin 512 => S (512 * n + j.val) := funext fun j => hk ⟨n, h⟩ j
    obtain ⟨ρ', e'⟩ := max_real ρ (fun j : Fin 512 => S (512 * n + j.val)) (fun j => hS _)
    have em : k0_pay6 (F := Ideal) x0 (state (F := Ideal) x0 x1 x2 i n).1 (keys (F := Ideal) x1 i ⟨n, h⟩) (ix2 0 q) = (ρ' : EReal) := by
      rw [pay6_at, e1, hf]; exact e'
    rw [state, dif_pos h]
    refine ⟨ρ', em, fun r => ?_⟩
    dsimp only
    rw [pay7_at, em, e1, e2, ← block _ _ _ hS ρ ρ']
    congr 1
    exact Finset.sum_congr rfl fun j _ => by rw [hv ⟨n, h⟩, hk ⟨n, h⟩]

theorem body_at (hS : ∀ x, S x ≠ ⊤) (hk : ∀ (k : Fin (k0_t1_loop i).trips) (j : Fin 512), prod x0 (keys (F := Ideal) x1 i k) q j = S (512 * k.val + j.val))
    (hv : ∀ (k : Fin (k0_t1_loop i).trips) (r : Fin 144) (j : Fin 512), vals (F := Ideal) x2 i k (ix3 0 r j) = V r (512 * k.val + j.val))
    (hk' : ∀ j : Fin 512, masked x0 (ownKeys (F := Ideal) x1 i) q j = S (512 * (i 2).val + j.val))
    (hv' : ∀ (r : Fin 144) (j : Fin 512), ownVals (F := Ideal) x2 i (ix3 0 r j) = V r (512 * (i 2).val + j.val))
    (h1 : ∀ x, x < 512 * ((i 2).val + 1) → V ⟨128, by decide⟩ x = 1) (d : Fin 128) :
    ∃ ρ : ℝ, k0_pay1 (F := Ideal) (k0_pay11 x0 (state x0 x1 x2 i (i 2).val).1 (state x0 x1 x2 i (i 2).val).2 (ownKeys x1 i) (ownVals x2 i))
        (k0_pay12 x0 (state x0 x1 x2 i (i 2).val).1 (state x0 x1 x2 i (i 2).val).2 (ownKeys x1 i) (ownVals x2 i)) (ix3 0 q d)
      = Ideal.div (∑ x ∈ Finset.range (512 * ((i 2).val + 1)), term (V ⟨d.val, by omega⟩) S ρ x)
          (∑ x ∈ Finset.range (512 * ((i 2).val + 1)), Ideal.exp (S x - ρ)) := by
  obtain ⟨ρ, e1, e2⟩ := state_inv x0 x1 x2 i q S V hS hk hv (i 2).val (trips1 i).ge
  have hf : masked x0 (ownKeys (F := Ideal) x1 i) q = fun j : Fin 512 => S (512 * (i 2).val + j.val) := funext fun j => hk' j
  obtain ⟨ρ', e'⟩ := max_real ρ (fun j : Fin 512 => S (512 * (i 2).val + j.val)) (fun j => hS _)
  have key : ∀ r : Fin 144, k0_pay11 (F := Ideal) x0 (state x0 x1 x2 i (i 2).val).1 (state x0 x1 x2 i (i 2).val).2 (ownKeys x1 i) (ownVals x2 i) (ix2 r q)
      = ∑ x ∈ Finset.range (512 * ((i 2).val + 1)), term (V r) S ρ' x := by
    intro r
    rw [pay11_at, e1, hf, e', e2, ← block _ _ _ hS ρ ρ']
    congr 1
    exact Finset.sum_congr rfl fun j _ => by rw [hv']
  refine ⟨ρ', ?_⟩
  rw [pay1_at, pay12_at, key, key]
  congr 1
  exact Finset.sum_congr rfl fun x hx => by rw [term, h1 x (Finset.mem_range.mp hx), one_mul]
end Body

end Cert.Proof.Flash

end
-- ==== Proof.FlashPack.lean ====
/- The latent attention kernel's blocks and arrays, entry by entry. -/
module

public import proofs.«01_k».proof.Proof.FlashPay
public import proofs.«01_k».proof.Proof.Gen.Kernel6Ideal.Value
public import Idealize.ShloMosaic.Lib.Tactic
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.Flash

open Cert.Kernel6Ideal Cert.Kernel6Ideal.Gen
variable (m : (ℓ : Loc nD τ sig) → Buf (Elt Ideal) ℓ)

/-- The call's arrays. -/
abbrev aQ (c : Dev nD) : FVec Ideal ⟨4, ![4, 8192, 8, 192]⟩ .f32 := m ((c : Thread nD τ).loc main_arg0)
abbrev aK (c : Dev nD) : FVec Ideal ⟨4, ![4, 8192, 8, 192]⟩ .f32 := m ((c : Thread nD τ).loc main_arg1)
abbrev aV (c : Dev nD) : FVec Ideal ⟨4, ![4, 8192, 8, 128]⟩ .f32 := m ((c : Thread nD τ).loc main_arg2)

/-- The packed queries, keys and values. -/
def packQ (a : FVec Ideal S4x8192x8x192 .f32) : FVec Ideal S4x8192x2048 .bf16 :=
  shapeCast S4x8192x2048 (truncf .bf16 (pad S4x8192x8x256 ![0, 0, 0, 0] ![0, 0, 0, 64] ![0, 0, 0, 0]
    (mulf a (broadcastInDim S4x8192x8x192 ![] bcast_S_S4x8192x8x192 (constant (F := Ideal) S_ .f32 0x3D93CD3A#32)))
    (sitofp (F := Ideal) .f32 (constantI S_ 32 0#32)) pads_S4x8192x8x192_S4x8192x8x256_000_000_000_0640 h_S_) bitsLt_bf16_f32) shapeCasts_S4x8192x8x256_S4x8192x2048
def packK (a : FVec Ideal S4x8192x8x192 .f32) : FVec Ideal S4x8192x2048 .bf16 :=
  shapeCast S4x8192x2048 (truncf .bf16 (pad S4x8192x8x256 ![0, 0, 0, 0] ![0, 0, 0, 64] ![0, 0, 0, 0] a
    (sitofp (F := Ideal) .f32 (constantI S_ 32 0#32)) pads_S4x8192x8x192_S4x8192x8x256_000_000_000_0640 h_S_) bitsLt_bf16_f32) shapeCasts_S4x8192x8x256_S4x8192x2048
def packV (a : FVec Ideal S4x8192x8x128 .f32) : FVec Ideal S4x1152x8192 .bf16 :=
  shapeCast S4x1152x8192 (concatenate S4x8x144x8192 2 [⟨S4x8x128x8192, truncf .bf16 (transpose S4x8x128x8192 [0, 2, 3, 1] a transposes_S4x8192x8x128_S4x8x128x8192_0_2_3_1) bitsLt_bf16_f32⟩,
    ⟨S4x8x16x8192, broadcastInDim S4x8x16x8192 ![] bcast_S_S4x8x16x8192 (constant (F := Ideal) S_ .bf16 0x3F80#16)⟩] concatenates_S4x8x128x8192_S4x8x16x8192_S4x8x144x8192_d2) shapeCasts_S4x8x144x8192_S4x1152x8192

theorem V_v4 (c : Dev nD) : V m c main_v4 = packQ (aQ m c) := by
  show StableHlo.after (List.flatten [hostOps0, hostOps0_1, hostOps0_2, hostOps0_3, hostOps0_4]) _ (Proc.devRef .tc main_v4) = _
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
  rfl

theorem V_v7 (c : Dev nD) : V m c main_v7 = packK (aK m c) := by
  show StableHlo.after (List.flatten [hostOps0, hostOps0_1, hostOps0_2, hostOps0_3, hostOps0_4]) _ (Proc.devRef .tc main_v7) = _
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
  rfl

theorem V_v12 (c : Dev nD) : V m c main_v12 = packV (aV m c) := by
  show StableHlo.after (List.flatten [hostOps0, hostOps0_1, hostOps0_2, hostOps0_3, hostOps0_4]) _ (Proc.devRef .tc main_v12) = _
  simp only [hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
  rfl

theorem zero_of_int : (FloatOps.sitofp FTy.f32 (0#32) : Ideal .f32) = (0 : EReal) := by
  show (((0#32 : BitVec 32).toInt : ℝ) : EReal) = 0
  simp
theorem packQ_at (a : FVec Ideal S4x8192x8x192 .f32) (b : Fin 4) (s : Fin 8192) (h : Fin 8) (d : Fin 256) :
    packQ a (ix3 b s ⟨256 * h.val + d.val, by omega⟩) = if hd : d.val < 192 then a (ix4 b s h ⟨d.val, hd⟩) * Ideal.ofBits .f32 1033096506#32 else 0 := by
  pointwise [packQ]
  rw [zero_of_int]
theorem packK_at (a : FVec Ideal S4x8192x8x192 .f32) (b : Fin 4) (s : Fin 8192) (h : Fin 8) (d : Fin 256) :
    packK a (ix3 b s ⟨256 * h.val + d.val, by omega⟩) = if hd : d.val < 192 then a (ix4 b s h ⟨d.val, hd⟩) else 0 := by
  pointwise [packK]
  rw [zero_of_int]
theorem packV_at (a : FVec Ideal S4x8192x8x128 .f32) (b : Fin 4) (h : Fin 8) (r : Fin 144) (s : Fin 8192) :
    packV a (ix3 b ⟨144 * h.val + r.val, by omega⟩ s) = if hr : r.val < 128 then a (ix4 b s h ⟨r.val, hr⟩) else 1 := by
  pointwise [packV]

end Cert.Proof.Flash

end
-- ==== Proof.FlashBlk.lean ====
/- The latent attention kernel's result, entry by entry. -/
module

public import proofs.«01_k».proof.Proof.FlashPack
public import Idealize.ShloMosaic.Lib.Tactic

@[expose] public section

set_option maxRecDepth 16384
set_option maxRecDepth 16384

noncomputable section

open Idealize.ShloMosaic Idealize.ShloMosaic.TcCoe Idealize.SL.Sem

namespace Cert.Proof.Flash

open Cert.Kernel6Ideal Cert.Kernel6Ideal.Gen
open Cert.Proof.Moe (Fin')
variable (m : (ℓ : Loc nD τ sig) → Buf (Elt Ideal) ℓ)

/-- The point of the grid for batch `b`, head `h` and query block `i`. -/
def point (b : Fin 4) (h : Fin 8) (i : Fin 16) : Fin cfg0.N := ⟨128 * b.val + 16 * h.val + i.val, lt_of_lt_of_eq (by omega) N_0.symm⟩
/-- Row `q` of block `i`. -/
def seqRow (i : Fin 16) (q : Fin 512) : Fin 8192 := ⟨512 * i.val + q.val, by omega⟩

theorem coord : ∀ (b : Fin 4) (h : Fin 8) (i : Fin 16), (grid0.coords (point b h i) 2).val = i.val := by
  decide +kernel
theorem idx0 : ∀ (b : Fin 4) (h : Fin 8) (i : Fin 16), win0_0.index (point b h i) = ![b.val, i.val, h.val]
    ∧ win0_1.index (point b h i) = ![b.val, 0, h.val] ∧ win0_2.index (point b h i) = ![b.val, h.val, 0]
    ∧ win0_3.index (point b h i) = ![b.val, i.val, h.val] := by
  decide +kernel
theorem flushes : ∀ (b : Fin 4) (h : Fin 8) (i : Fin 16), (cfg0.win 3).flush (point b h i) = true := by
  decide +kernel
theorem exists_point (t : Fin cfg0.N) : ∃ b h i, t = point b h i := by
  have ht : t.val < 512 := lt_of_lt_of_eq t.isLt N_0
  exact ⟨⟨t.val / 128, by omega⟩, ⟨t.val / 16 % 8, by omega⟩, ⟨t.val % 16, by omega⟩, Fin.ext (by simp only [point]; omega)⟩

theorem emb0 (b : Fin 4) (h : Fin 8) (i : Fin 16) (q : Fin 512) (d : Fin 256) :
    ((cfg0.win 0).blk (point b h i)).view.emb (ix3 0 q d : S1x512x256.Idx) = (ix3 b (seqRow i q) ⟨256 * h.val + d.val, by omega⟩ : S4x8192x2048.Idx) := by
  have hi := congrFun (idx0 b h i).1
  funext a
  apply Fin.ext
  match a with
  | ⟨0, _⟩ => show win0_0.index (point b h i) 0 * 1 + 1 * 0 = b.val; rw [hi 0]; show b.val * 1 + 1 * 0 = b.val; omega
  | ⟨1, _⟩ => show win0_0.index (point b h i) 1 * 512 + 1 * q.val = 512 * i.val + q.val; rw [hi 1]; show i.val * 512 + 1 * q.val = 512 * i.val + q.val; omega
  | ⟨2, _⟩ => show win0_0.index (point b h i) 2 * 256 + 1 * d.val = 256 * h.val + d.val; rw [hi 2]; show h.val * 256 + 1 * d.val = 256 * h.val + d.val; omega

theorem rd0 (A : S4x8192x2048.Idx → Ideal .bf16) (b : Fin 4) (h : Fin 8) (i : Fin 16) (q : Fin 512) (d : Fin 256) :
    (((cfg0.win 0).blk (point b h i)).view.read (Elt Ideal) A : Vec Ideal S1x512x256 .bf16) (ix3 0 q d) = A (ix3 b (seqRow i q) ⟨256 * h.val + d.val, by omega⟩) :=
  congrArg A (emb0 b h i q d)
theorem ib0 (c : Dev nD) (t : Fin cfg0.N) : iblk m c 0 t = ((cfg0.win 0).blk t).view.read (Elt Ideal) (V m c main_v4) := by
  unfold iblk
  rfl

theorem emb1 (b : Fin 4) (h : Fin 8) (i : Fin 16) (s : Fin 8192) (d : Fin 256) :
    ((cfg0.win 1).blk (point b h i)).view.emb (ix3 0 s d : S1x8192x256.Idx) = (ix3 b s ⟨256 * h.val + d.val, by omega⟩ : S4x8192x2048.Idx) := by
  have hi := congrFun (idx0 b h i).2.1
  funext a
  apply Fin.ext
  match a with
  | ⟨0, _⟩ => show win0_1.index (point b h i) 0 * 1 + 1 * 0 = b.val; rw [hi 0]; show b.val * 1 + 1 * 0 = b.val; omega
  | ⟨1, _⟩ => show win0_1.index (point b h i) 1 * 8192 + 1 * s.val = s.val; rw [hi 1]; show 0 * 8192 + 1 * s.val = s.val; omega
  | ⟨2, _⟩ => show win0_1.index (point b h i) 2 * 256 + 1 * d.val = 256 * h.val + d.val; rw [hi 2]; show h.val * 256 + 1 * d.val = 256 * h.val + d.val; omega

theorem rd1 (A : S4x8192x2048.Idx → Ideal .bf16) (b : Fin 4) (h : Fin 8) (i : Fin 16) (s : Fin 8192) (d : Fin 256) :
    (((cfg0.win 1).blk (point b h i)).view.read (Elt Ideal) A : Vec Ideal S1x8192x256 .bf16) (ix3 0 s d) = A (ix3 b s ⟨256 * h.val + d.val, by omega⟩) :=
  congrArg A (emb1 b h i s d)
theorem ib1 (c : Dev nD) (t : Fin cfg0.N) : iblk m c 1 t = ((cfg0.win 1).blk t).view.read (Elt Ideal) (V m c main_v7) := by
  unfold iblk
  rfl

theorem emb2 (b : Fin 4) (h : Fin 8) (i : Fin 16) (r : Fin 144) (s : Fin 8192) :
    ((cfg0.win 2).blk (point b h i)).view.emb (ix3 0 r s : S1x144x8192.Idx) = (ix3 b ⟨144 * h.val + r.val, by omega⟩ s : S4x1152x8192.Idx) := by
  have hi := congrFun (idx0 b h i).2.2.1
  funext a
  apply Fin.ext
  match a with
  | ⟨0, _⟩ => show win0_2.index (point b h i) 0 * 1 + 1 * 0 = b.val; rw [hi 0]; show b.val * 1 + 1 * 0 = b.val; omega
  | ⟨1, _⟩ => show win0_2.index (point b h i) 1 * 144 + 1 * r.val = 144 * h.val + r.val; rw [hi 1]; show h.val * 144 + 1 * r.val = 144 * h.val + r.val; omega
  | ⟨2, _⟩ => show win0_2.index (point b h i) 2 * 8192 + 1 * s.val = s.val; rw [hi 2]; show 0 * 8192 + 1 * s.val = s.val; omega

theorem rd2 (A : S4x1152x8192.Idx → Ideal .bf16) (b : Fin 4) (h : Fin 8) (i : Fin 16) (r : Fin 144) (s : Fin 8192) :
    (((cfg0.win 2).blk (point b h i)).view.read (Elt Ideal) A : Vec Ideal S1x144x8192 .bf16) (ix3 0 r s) = A (ix3 b ⟨144 * h.val + r.val, by omega⟩ s) :=
  congrArg A (emb2 b h i r s)
theorem ib2 (c : Dev nD) (t : Fin cfg0.N) : iblk m c 2 t = ((cfg0.win 2).blk t).view.read (Elt Ideal) (V m c main_v12) := by
  unfold iblk
  rfl

end Cert.Proof.Flash

end
-- ==== Proof.FlashKernel.lean ====
/- The latent attention kernel's result, entry by entry. -/
module

public import proofs.«01_k».proof.Proof.FlashBlk
public import Idealize.ShloMosaic.Lib.Tactic

@[expose] public section

set_option maxRecDepth 16384
set_option maxRecDepth 16384

noncomputable section

open Idealize.ShloMosaic Idealize.ShloMosaic.TcCoe Idealize.SL.Sem

namespace Cert.Proof.Flash

open Cert.Kernel6Ideal Cert.Kernel6Ideal.Gen
open Cert.Proof.Moe (Fin')
variable (m : (ℓ : Loc nD τ sig) → Buf (Elt Ideal) ℓ)

section Reads
variable (x1 : FVec Ideal S1x8192x256 .bf16) (x2 : FVec Ideal S1x144x8192 .bf16) (i : grid0.Coords)
theorem keys_at (k : Fin (k0_t1_loop i).trips) (j : Fin 512) (d : Fin 256) (hk : 512 * k.val + j.val < 8192) :
    keys (F := Ideal) x1 i k (ix3 0 j d) = x1 (ix3 0 ⟨512 * k.val + j.val, hk⟩ d) := by
  have ho := congrFun (off1 i k)
  unfold keys
  show x1 _ = x1 _
  congr 1
  funext a
  apply Fin.ext
  match a with
  | ⟨0, _⟩ => show k0_off1 i k 0 + 1 * 0 = 0; rw [ho 0]; rfl
  | ⟨1, _⟩ => show k0_off1 i k 1 + 1 * j.val = 512 * k.val + j.val; rw [ho 1]; show 512 * k.val + 1 * j.val = _; omega
  | ⟨2, _⟩ => show k0_off1 i k 2 + 1 * d.val = d.val; rw [ho 2]; show 0 + 1 * d.val = _; omega
theorem vals_at (k : Fin (k0_t1_loop i).trips) (r : Fin 144) (j : Fin 512) (hk : 512 * k.val + j.val < 8192) :
    vals (F := Ideal) x2 i k (ix3 0 r j) = x2 (ix3 0 r ⟨512 * k.val + j.val, hk⟩) := by
  have ho := congrFun (off2 i k)
  unfold vals
  show x2 _ = x2 _
  congr 1
  funext a
  apply Fin.ext
  match a with
  | ⟨0, _⟩ => show k0_off2 i k 0 + 1 * 0 = 0; rw [ho 0]; rfl
  | ⟨1, _⟩ => show k0_off2 i k 1 + 1 * r.val = r.val; rw [ho 1]; show 0 + 1 * r.val = _; omega
  | ⟨2, _⟩ => show k0_off2 i k 2 + 1 * j.val = 512 * k.val + j.val; rw [ho 2]; show 512 * k.val + 1 * j.val = _; omega
theorem ownKeys_at (j : Fin 512) (d : Fin 256) (hk : 512 * (i 2).val + j.val < 8192) :
    ownKeys (F := Ideal) x1 i (ix3 0 j d) = x1 (ix3 0 ⟨512 * (i 2).val + j.val, hk⟩ d) := by
  have ho := congrFun (off5 i)
  unfold ownKeys
  show x1 _ = x1 _
  congr 1
  funext a
  apply Fin.ext
  match a with
  | ⟨0, _⟩ => show k0_off5 i 0 + 1 * 0 = 0; rw [ho 0]; rfl
  | ⟨1, _⟩ => show k0_off5 i 1 + 1 * j.val = 512 * (i 2).val + j.val; rw [ho 1]; show 512 * (i 2).val + 1 * j.val = _; omega
  | ⟨2, _⟩ => show k0_off5 i 2 + 1 * d.val = d.val; rw [ho 2]; show 0 + 1 * d.val = _; omega
theorem ownVals_at (r : Fin 144) (j : Fin 512) (hk : 512 * (i 2).val + j.val < 8192) :
    ownVals (F := Ideal) x2 i (ix3 0 r j) = x2 (ix3 0 r ⟨512 * (i 2).val + j.val, hk⟩) := by
  have ho := congrFun (off6 i)
  unfold ownVals
  show x2 _ = x2 _
  congr 1
  funext a
  apply Fin.ext
  match a with
  | ⟨0, _⟩ => show k0_off6 i 0 + 1 * 0 = 0; rw [ho 0]; rfl
  | ⟨1, _⟩ => show k0_off6 i 1 + 1 * r.val = r.val; rw [ho 1]; show 0 + 1 * r.val = _; omega
  | ⟨2, _⟩ => show k0_off6 i 2 + 1 * j.val = 512 * (i 2).val + j.val; rw [ho 2]; show 512 * (i 2).val + 1 * j.val = _; omega
end Reads

theorem scale_word : Fin' (Ideal.ofBits .f32 1033096506#32) := ⟨_, by simp [Ideal.ofBits, Ideal.ieee, -EReal.coe_mul]; rfl⟩

section Score
variable (a0 a1 : FVec Ideal ⟨4, ![4, 8192, 8, 192]⟩ .f32) (hq : ∀ b s h d, Fin' (a0 (ix4 b s h d))) (hk : ∀ b s h d, Fin' (a1 (ix4 b s h d)))
include hq hk

theorem score_real (b : Fin 4) (h : Fin 8) (q : Fin 8192) (x : ℕ) (hx : x ≤ q.val) : Fin' (score a0 a1 b h q x) := by
  rw [score, dif_pos (by omega), if_pos hx]
  exact (Fin'.sum _ _ fun d _ => (hq _ _ _ _).mul (hk _ _ _ _)).mul scale_word
theorem score_ne_top (b : Fin 4) (h : Fin 8) (q : Fin 8192) (x : ℕ) : score a0 a1 b h q x ≠ ⊤ := by
  by_cases hx : x ≤ q.val
  · obtain ⟨r, hr⟩ := score_real a0 a1 hq hk b h q x hx
    rw [hr]; exact EReal.coe_ne_top r
  · rw [score]
    split_ifs
    all_goals simp
theorem top_real (b : Fin 4) (h : Fin 8) (q : Fin 8192) : Fin' (top a0 a1 b h q) := by
  refine fold_real _ (fun j => score_ne_top a0 a1 hq hk b h q j.val) q ?_
  obtain ⟨r, hr⟩ := score_real a0 a1 hq hk b h q q.val le_rfl
  rw [hr]; exact EReal.coe_ne_bot r
/-- The product the kernel forms of packed rows is the scaled score. -/
theorem packed (b : Fin 4) (h : Fin 8) (q : Fin 8192) (x : ℕ) (hx : x < 8192) (hxq : x ≤ q.val) :
    ∑ d : Fin 256, packK a1 (ix3 b ⟨x, hx⟩ ⟨256 * h.val + d.val, by omega⟩) * packQ a0 (ix3 b q ⟨256 * h.val + d.val, by omega⟩)
      = score a0 a1 b h q x := by
  rw [score, dif_pos hx, if_pos hxq]
  refine scale_sum (fun d => a0 (ix4 b q h d)) (fun d => a1 (ix4 b ⟨x, hx⟩ h d)) (fun d => hq _ _ _ _) (fun d => hk _ _ _ _) _ scale_word
    (fun d => packQ a0 (ix3 b q ⟨256 * h.val + d.val, by omega⟩)) (fun d => packK a1 (ix3 b ⟨x, hx⟩ ⟨256 * h.val + d.val, by omega⟩)) ?_ ?_ ?_
  · intro d hd; rw [packQ_at, dif_pos hd]
  · intro d hd; rw [packK_at, dif_pos hd]
  · intro d hd; rw [packK_at, dif_neg (by omega)]
end Score

theorem score_later (a0 a1 : FVec Ideal ⟨4, ![4, 8192, 8, 192]⟩ .f32) (b : Fin 4) (h : Fin 8) (q : Fin 8192) (x : ℕ) (hx : q.val < x) :
    score a0 a1 b h q x = ⊥ := by
  rw [score]
  split_ifs
  · omega
  all_goals rfl

/-- The rows of packed values, by key. -/
def rowV (a2 : FVec Ideal ⟨4, ![4, 8192, 8, 128]⟩ .f32) (b : Fin 4) (h : Fin 8) (r : Fin 144) (x : ℕ) : EReal :=
  if hx : x < 8192 then packV a2 (ix3 b ⟨144 * h.val + r.val, by omega⟩ ⟨x, hx⟩) else 0
theorem rowV_value (a2 : FVec Ideal ⟨4, ![4, 8192, 8, 128]⟩ .f32) (b : Fin 4) (h : Fin 8) (d : Fin 128) :
    rowV a2 b h ⟨d.val, by omega⟩ = value a2 b h d := by
  funext x
  rw [rowV, value]
  split_ifs with hx
  · rw [packV_at a2 b h ⟨d.val, by omega⟩, dif_pos d.isLt]
  · rfl

/-- What the body leaves at batch `b`, head `h`, query `q` of block `i` and column `d`. -/
theorem out_at (c : Dev nD) (hq : ∀ b s h d, Fin' (aQ m c (ix4 b s h d))) (hk : ∀ b s h d, Fin' (aK m c (ix4 b s h d)))
    (b : Fin 4) (h : Fin 8) (i : Fin 16) (q : Fin 512) (d : Fin 128) :
    out0_A_3 c (grid0.coords (point b h i)) (ms0_0 (point b h i)) (hs0_0 (point b h i)) (ms0_1 (point b h i)) (hs0_1 (point b h i))
        (ms0_2 (point b h i)) (hs0_2 (point b h i)) (ms0_3 (point b h i)) (hs0_3 (point b h i))
        (iblk m c 0 (point b h i)) (iblk m c 1 (point b h i)) (iblk m c 2 (point b h i)) (ix3 0 q d)
      = attn (aQ m c) (aK m c) (aV m c) b h (seqRow i q) d := by
  rw [out_eq]
  have hc := coord b h i
  rw [ib0, ib1, ib2, V_v4, V_v7, V_v12]
  have hb0 := rd0 (packQ (aQ m c)) b h i
  have hb1 := rd1 (packK (aK m c)) b h i
  have hb2 := rd2 (packV (aV m c)) b h i
  have ht := trips1 (grid0.coords (point b h i))
  revert hb0 hb1 hb2 hc ht
  generalize (((cfg0.win 0).blk (point b h i)).view.read (Elt Ideal) (packQ (aQ m c)) : Vec Ideal S1x512x256 .bf16) = x0
  generalize (((cfg0.win 1).blk (point b h i)).view.read (Elt Ideal) (packK (aK m c)) : Vec Ideal S1x8192x256 .bf16) = x1
  generalize (((cfg0.win 2).blk (point b h i)).view.read (Elt Ideal) (packV (aV m c)) : Vec Ideal S1x144x8192 .bf16) = x2
  generalize grid0.coords (point b h i) = g
  intro hc hb0 hb1 hb2 ht
  have hS := score_ne_top (aQ m c) (aK m c) hq hk b h (seqRow i q)
  refine Exists.elim (body_at x0 x1 x2 g q (score (aQ m c) (aK m c) b h (seqRow i q)) (rowV (aV m c) b h) hS ?_ ?_ ?_ ?_ ?_ d) fun ρ e => ?_
  · intro k j
    have hk2 : k.val < i.val := by have := k.isLt; omega
    have hx : 512 * k.val + j.val < 8192 := by omega
    unfold prod
    simp only [keys_at x1 g k j _ hx, hb0, hb1]
    exact packed (aQ m c) (aK m c) hq hk b h (seqRow i q) _ hx (show _ ≤ 512 * i.val + q.val by omega)
  · intro k r j
    have hk2 : k.val < i.val := by have := k.isLt; omega
    have hx : 512 * k.val + j.val < 8192 := by omega
    rw [vals_at x2 g k r j hx, hb2, rowV, dif_pos hx]
  · intro j
    have hx : 512 * (g 2).val + j.val < 8192 := by omega
    unfold masked prod
    split_ifs with hj
    · simp only [ownKeys_at x1 g j _ hx, hb0, hb1]
      exact packed (aQ m c) (aK m c) hq hk b h (seqRow i q) _ hx (show _ ≤ 512 * i.val + q.val by omega)
    · exact (score_later _ _ b h _ _ (show 512 * i.val + q.val < _ by omega)).symm
  · intro r j
    have hx : 512 * (g 2).val + j.val < 8192 := by omega
    rw [ownVals_at x2 g r j hx, hb2, rowV, dif_pos hx]
  · intro x hx
    have hx : x < 8192 := by omega
    rw [rowV, dif_pos hx, packV_at (aV m c) b h ⟨128, by decide⟩, dif_neg (by decide)]
  · rw [e, hc, rowV_value]
    obtain ⟨M, hM⟩ := top_real (aQ m c) (aK m c) hq hk b h (seqRow i q)
    unfold attn
    rw [hM]
    refine quotient' _ _ _ 8192 (by omega) hS ?_ (seqRow i q).val ?_ ?_ ρ M
    · intro x hx
      exact score_later _ _ b h _ x (lt_of_lt_of_le (show 512 * i.val + q.val < _ by omega) hx)
    · show 512 * i.val + q.val < _; omega
    · obtain ⟨r, hr⟩ := score_real (aQ m c) (aK m c) hq hk b h (seqRow i q) _ le_rfl
      rw [hr]; exact EReal.coe_ne_bot r

/-- The result array. -/
def resultArr (c : Dev nD) : Buf (Elt Ideal) ((c : Thread nD τ).loc main_v13) := fun (j : S4x8192x1024.Idx) =>
  attn (aQ m c) (aK m c) (aV m c) (j 0) ⟨(j 2).val / 128, by have : (j 2).val < 1024 := (j 2).isLt; omega⟩ (j 1) ⟨(j 2).val % 128, Nat.mod_lt _ (by decide)⟩

theorem flushed_eq (c : Dev nD) (hq : ∀ b s h d, Fin' (aQ m c (ix4 b s h d))) (hk : ∀ b s h d, Fin' (aK m c (ix4 b s h d)))
    (b : Fin 4) (h : Fin 8) (i : Fin 16) :
    (dats m 0 c).flushed 3 (point b h i) = ((cfg0.win 3).blk (point b h i)).view.read (Elt Ideal) (resultArr m c) := by
  have hi := congrFun (idx0 b h i).2.2.2
  rw [Value.flushed3_A]
  funext y
  have hy0 : (y 0).val < 1 := (y 0).isLt
  have hy1 : (y 1).val < 512 := (y 1).isLt
  have hy2 : (y 2).val < 128 := (y 2).isLt
  have hb0 : (((cfg0.win 3).blk (point b h i)).view.emb y 0).val = b.val := by
    show win0_3.index (point b h i) 0 * 1 + 1 * (y 0).val = _; rw [hi 0]; show b.val * 1 + 1 * (y 0).val = _; omega
  have hb1 : (((cfg0.win 3).blk (point b h i)).view.emb y 1).val = 512 * i.val + (y 1).val := by
    show win0_3.index (point b h i) 1 * 512 + 1 * (y 1).val = _; rw [hi 1]; show i.val * 512 + 1 * (y 1).val = _; omega
  have hb2 : (((cfg0.win 3).blk (point b h i)).view.emb y 2).val = 128 * h.val + (y 2).val := by
    show win0_3.index (point b h i) 2 * 128 + 1 * (y 2).val = _; rw [hi 2]; show h.val * 128 + 1 * (y 2).val = _; omega
  have hx : (cfg0.win 3).xinj (grid0.coords (point b h i)) y = (ix3 (0 : Fin 1) ⟨(y 1).val, hy1⟩ ⟨(y 2).val, hy2⟩ : S1x512x128.Idx) := by
    funext a
    apply Fin.ext
    match a with
    | ⟨0, _⟩ => show (y 0).val = 0; omega
    | ⟨1, _⟩ => rfl
    | ⟨2, _⟩ => rfl
  rw [View.read_apply]
  show out0_A_3 (F := Ideal) c _ _ _ _ _ _ _ _ _ _ _ _ ((cfg0.win 3).xinj (grid0.coords (point b h i)) y) = _
  rw [hx, out_at m c hq hk]
  unfold resultArr
  have e0 : ((cfg0.win 3).blk (point b h i)).view.emb y 0 = b := Fin.ext hb0
  have e1 : ((cfg0.win 3).blk (point b h i)).view.emb y 1 = seqRow i ⟨(y 1).val, hy1⟩ := Fin.ext hb1
  have e2 : (⟨(((cfg0.win 3).blk (point b h i)).view.emb y 2).val / 128, by omega⟩ : Fin 8) = h := Fin.ext (by show _ / 128 = h.val; rw [hb2]; omega)
  have e3 : (⟨(((cfg0.win 3).blk (point b h i)).view.emb y 2).val % 128, Nat.mod_lt _ (by decide)⟩ : Fin 128) = ⟨(y 2).val, hy2⟩ := Fin.ext (by show _ % 128 = (y 2).val; rw [hb2]; omega)
  exact (congr (congr (congr (congrArg (attn (aQ m c) (aK m c) (aV m c)) e0) e2) e1) e3).symm

theorem mem_blk3 (t : Fin cfg0.N) (j : S4x8192x1024.Idx) :
    j ∈ ((cfg0.win 3).blk t).view.set ↔ ∀ a : Fin 3, win0_3.index t a * S1x512x128.size a ≤ (j a).val ∧ (j a).val < win0_3.index t a * S1x512x128.size a + S1x512x128.size a := by
  show j ∈ ((View.whole main_v13).slice (win0_3.rect t)).set ↔ _
  rw [View.set_slice_whole, Rect.mem_set_unit]
  exact Iff.rfl

theorem covered (j : S4x8192x1024.Idx) : ∃ t : Fin cfg0.N, (cfg0.win 3).flush t = true ∧ j ∈ ((cfg0.win 3).blk t).view.set := by
  have h0 : (j 0).val < 4 := (j 0).isLt
  have h1 : (j 1).val < 8192 := (j 1).isLt
  have h2 : (j 2).val < 1024 := (j 2).isLt
  have hb : (j 1).val / 512 < 16 := by omega
  have hh : (j 2).val / 128 < 8 := by omega
  have hi := congrFun (idx0 ⟨(j 0).val, h0⟩ ⟨(j 2).val / 128, hh⟩ ⟨(j 1).val / 512, hb⟩).2.2.2
  refine ⟨point ⟨(j 0).val, h0⟩ ⟨(j 2).val / 128, hh⟩ ⟨(j 1).val / 512, hb⟩, flushes _ _ _, ?_⟩
  rw [mem_blk3]
  intro a
  match a with
  | ⟨0, _⟩ => show win0_3.index _ 0 * 1 ≤ (j 0).val ∧ (j 0).val < win0_3.index _ 0 * 1 + 1; rw [hi 0]; show (j 0).val * 1 ≤ _ ∧ _ < (j 0).val * 1 + 1; omega
  | ⟨1, _⟩ => show win0_3.index _ 1 * 512 ≤ (j 1).val ∧ (j 1).val < win0_3.index _ 1 * 512 + 512; rw [hi 1]; show (j 1).val / 512 * 512 ≤ _ ∧ _ < (j 1).val / 512 * 512 + 512; omega
  | ⟨2, _⟩ => show win0_3.index _ 2 * 128 ≤ (j 2).val ∧ (j 2).val < win0_3.index _ 2 * 128 + 128; rw [hi 2]; show (j 2).val / 128 * 128 ≤ _ ∧ _ < (j 2).val / 128 * 128 + 128; omega

/-- The array after the run. -/
theorem final_eq (c : Dev nD) (hq : ∀ b s h d, Fin' (aQ m c (ix4 b s h d))) (hk : ∀ b s h d, Fin' (aK m c (ix4 b s h d))) :
    (dats m 0 c).arrAt 3 cfg0.N = resultArr m c :=
  (dats m 0 c).arrAt_eq_of_cover 3 _ (fun t _ => by obtain ⟨b, h, i, rfl⟩ := exists_point t; exact flushed_eq m c hq hk b h i) covered

end Cert.Proof.Flash

end
-- ==== Proof.FlashRef.lean ====
/- The plain causal attention's result, entry by entry. -/
module

public import proofs.«01_k».proof.Proof.FlashMath
public import proofs.«01_k».proof.Reference6Ideal
public import proofs.«01_k».proof.Proof.Gen.Reference6Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.Flash.Plain

open Cert.Reference6Ideal Cert.Reference6Ideal.Gen
open Cert.Proof.Flash
open Cert.Proof.Moe (neg_inf_word)

/-- The scores. -/
def sT (a0 : FVec Ideal S4x8192x8x192 .f32) (a1 : FVec Ideal S4x8192x8x192 .f32) : FVec Ideal S4x8x8192x8192 .f32 := select (broadcastInDim S4x8x8192x8192 ![2, 3] bcast_S8192x8192_S4x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (Host.dotGeneral dot_S4x8192x8x192_S4x8192x8x192_S4x8x8192x8192_3_3_1_1_02_02 none a0 a1) (broadcastInDim S4x8x8192x8192 ![] bcast_S_S4x8x8192x8192 (constant S_ .f32 0x3D93CD3A#32))) (broadcastInDim S4x8x8192x8192 ![] bcast_S_S4x8x8192x8192 (id (constant S_ .f32 0xFF800000#32)))
/-- Their maxima, row by row. -/
def rT (a0 : FVec Ideal S4x8192x8x192 .f32) (a1 : FVec Ideal S4x8192x8x192 .f32) : FVec Ideal S4x8x8192 .f32 := Host.reduce FloatOps.maximumf (sT a0 a1) (constant S_ .f32 0xFF800000#32) reducesTo_S4x8x8192x8192_S4x8x8192_d3 h_S_
/-- Their maxima. -/
def mT (a0 : FVec Ideal S4x8192x8x192 .f32) (a1 : FVec Ideal S4x8192x8x192 .f32) : FVec Ideal S4x8x8192 .f32 := maximumf (broadcastInDim S4x8x8192 ![] bcast_S_S4x8x8192 (constant S_ .f32 0xFF800000#32)) (rT a0 a1)
/-- The exponentials. -/
def eT (a0 : FVec Ideal S4x8192x8x192 .f32) (a1 : FVec Ideal S4x8192x8x192 .f32) : FVec Ideal S4x8x8192x8192 .f32 := Host.exp (subf (sT a0 a1) (broadcastInDim S4x8x8192x8192 ![0, 1, 2, 3] bcast_S4x8x8192x1_S4x8x8192x8192_0_1_2_3 (broadcastInDim S4x8x8192x1 ![0, 1, 2] bcast_S4x8x8192_S4x8x8192x1_0_1_2 (mT a0 a1))))
/-- The weights. -/
def pT (a0 : FVec Ideal S4x8192x8x192 .f32) (a1 : FVec Ideal S4x8192x8x192 .f32) : FVec Ideal S4x8x8192x8192 .f32 := Host.divf (eT a0 a1) (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd (eT a0 a1) (constant S_ .f32 0x00000000#32) reducesTo_S4x8x8192x8192_S4x8x8192_d3 h_S_)))
/-- The weighted values. -/
def oT (a0 : FVec Ideal S4x8192x8x192 .f32) (a1 : FVec Ideal S4x8192x8x192 .f32) (a2 : FVec Ideal S4x8192x8x128 .f32) : FVec Ideal S4x8x128x8192 .f32 := Host.dotGeneral dot_S4x8192x8x128_S4x8x8192x8192_S4x8x128x8192_1_3_3_2_02_01 none a2 (pT a0 a1)
/-- The result. -/
def resT (a0 : FVec Ideal S4x8192x8x192 .f32) (a1 : FVec Ideal S4x8192x8x192 .f32) (a2 : FVec Ideal S4x8192x8x128 .f32) : FVec Ideal S4x8192x1024 .bf16 := truncf .bf16 (shapeCast _ (transpose S4x8192x8x128 [0, 3, 1, 2] (oT a0 a1 a2) transposes_S4x8x128x8192_S4x8192x8x128_0_3_1_2) shapeCasts_S4x8192x8x128_S4x8192x1024) bitsLt_bf16_f32

theorem res_eq (m : (ℓ : Loc nD τ sig) → Buf (Elt Ideal) ℓ) (c : Dev nD) :
    Value.res_main_v25 (F := Ideal) m c = resT (m ((c.tc : Thread nD τ).loc main_arg0)) (m ((c.tc : Thread nD τ).loc main_arg1)) (m ((c.tc : Thread nD τ).loc main_arg2)) := by
  unfold Value.res_main_v25 resT oT pT eT mT rT sT
  rfl

variable (a0 : FVec Ideal S4x8192x8x192 .f32) (a1 : FVec Ideal S4x8192x8x192 .f32) (a2 : FVec Ideal S4x8192x8x128 .f32)

theorem sT_at (b : Fin 4) (h : Fin 8) (q k : Fin 8192) : sT a0 a1 (ix4 b h q k) = score a0 a1 b h q k.val := by
  pointwise [sT]
  rw [score, dif_pos k.isLt]
  have hc : IntOp.cmpi .sle (BitVec.ofNat 32 k.val) (BitVec.ofNat 32 q.val) = BitVec.ofBool (decide (k.val ≤ q.val)) := cmp_le _ _ k.isLt q.isLt
  rw [hc]
  by_cases hq : k.val ≤ q.val
  · rw [if_pos hq, decide_eq_true hq]; rfl
  · rw [if_neg hq, decide_eq_false hq]; exact neg_inf_word
theorem redmax (s : FVec Ideal S4x8x8192x8192 .f32) (b : Fin 4) (h : Fin 8) (q : Fin 8192) :
    (Host.reduce FloatOps.maximumf s (constant (F := Ideal) S_ .f32 0xFF800000#32) reducesTo_S4x8x8192x8192_S4x8x8192_d3 h_S_ : FVec Ideal S4x8x8192 .f32) (ix3 b h q)
      = Finset.univ.fold max (Ideal.ofBits .f32 0xFF800000#32) fun x => s (ix4 b h q x) := by
  pointwise
theorem rT_at (b : Fin 4) (h : Fin 8) (q : Fin 8192) : rT a0 a1 (ix3 b h q) = top a0 a1 b h q := by
  unfold rT
  rw [redmax, neg_inf_word]
  simp only [sT_at]
  rfl
theorem max_of (r : FVec Ideal S4x8x8192 .f32) (b : Fin 4) (h : Fin 8) (q : Fin 8192) :
    (maximumf (broadcastInDim S4x8x8192 ![] bcast_S_S4x8x8192 (constant (F := Ideal) S_ .f32 0xFF800000#32)) r : FVec Ideal S4x8x8192 .f32) (ix3 b h q)
      = max (Ideal.ofBits .f32 0xFF800000#32) (r (ix3 b h q)) := rfl
theorem mT_at (b : Fin 4) (h : Fin 8) (q : Fin 8192) : mT a0 a1 (ix3 b h q) = top a0 a1 b h q := by
  unfold mT
  rw [max_of, rT_at, neg_inf_word, max_eq_right bot_le]
theorem eT_at (b : Fin 4) (h : Fin 8) (q k : Fin 8192) : eT a0 a1 (ix4 b h q k) = Ideal.exp (score a0 a1 b h q k.val - top a0 a1 b h q) := by
  pointwise [eT]
  simp only [sT_at, mT_at]
theorem pT_at (b : Fin 4) (h : Fin 8) (q k : Fin 8192) : pT a0 a1 (ix4 b h q k) = Ideal.div (Ideal.exp (score a0 a1 b h q k.val - top a0 a1 b h q))
    (∑ y : Fin 8192, Ideal.exp (score a0 a1 b h q y.val - top a0 a1 b h q)) := by
  pointwise [pT]
  simp only [eT_at]
theorem oT_at (b : Fin 4) (h : Fin 8) (d : Fin 128) (q : Fin 8192) : oT a0 a1 a2 (ix4 b h d q) = attn a0 a1 a2 b h q d := by
  pointwise [oT]
  simp only [pT_at]
  unfold attn
  rw [Finset.sum_range, Finset.sum_range]
  refine Finset.sum_congr rfl fun x _ => ?_
  rw [value, dif_pos x.isLt]
theorem resT_at (b : Fin 4) (q : Fin 8192) (e : Fin 1024) :
    resT a0 a1 a2 (ix3 b q e) = attn a0 a1 a2 b ⟨e.val / 128, by omega⟩ q ⟨e.val % 128, by omega⟩ := by
  pointwise [resT]
  simp only [oT_at]
  trace_state

end Cert.Proof.Flash.Plain

end
-- ==== Proof.FlashTie.lean ====
/- The two programs of the latent attention: their results side by side. -/
module

public import proofs.«01_k».proof.Defs
public import proofs.«01_k».proof.Proof.FlashKernel
public import proofs.«01_k».proof.Proof.MoeTie
public import proofs.«01_k».proof.Proof.FlashRef
public import proofs.«01_k».proof.Proof.Gen.Kernel6Ideal.Value
public import proofs.«01_k».proof.Proof.Gen.Reference6Ideal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem Idealize.SL.Sem

namespace Cert.Proof.Flash

/-- Every index of the result has its three coordinates. -/
theorem idx_eta (i : (⟨3, ![4, 8192, 1024]⟩ : Shape).Idx) : i = ix3 (i 0) (i 1) (i 2) := by
  funext a
  match a with
  | ⟨0, _⟩ => rfl
  | ⟨1, _⟩ => rfl
  | ⟨2, _⟩ => rfl

theorem pre_facts : Cert.Pre_finite_qk.Facts := by
  constructor <;> decide

/-- The queries and the keys are finite. -/
theorem pre_finite (m : (ℓ : Loc Cert.Kernel6Ideal.nD Cert.Kernel6Ideal.τ Cert.Kernel6Ideal.sig) → Buf (Elt Ideal) ℓ)
    (h : Cert.Pre_Kernel6Ideal_finite_qk (hPre_finite_qk := pre_facts) m) (c : Dev Cert.Kernel6Ideal.nD) :
    (∀ i, Moe.Fin' (aQ m c i)) ∧ (∀ i, Moe.Fin' (aK m c i)) := by
  obtain ⟨h1, h2⟩ := h c
  exact ⟨fun i => Moe.finite_of_abs _ (congrFun h1 i), fun i => Moe.finite_of_abs _ (congrFun h2 i)⟩

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem quiescent_Reference6Ideal_pre : quiescent_Reference6Ideal_pre_finite_qk (hPre_finite_qk := pre_facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves_mask : preserves_Kernel6_Kernel6Ideal := IdealRules.named_const.statement _ _ _ _ _ rfl

/-- From memories that agree on the arguments the two programs' results are equal, when the queries and the keys are finite. -/
theorem algebraic_Kernel6Ideal_Reference6Ideal : algebraic_Kernel6Ideal_Reference6Ideal_pre_finite_qk (hPre_finite_qk := pre_facts) := by
  intro m ρ m' ρ' hpre hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1]
  obtain ⟨h0, h1, h2⟩ := hagree c
  obtain ⟨f0, f1⟩ := pre_finite m hpre c
  rw [final_eq m c (fun _ _ _ _ => f0 _) (fun _ _ _ _ => f1 _)]
  refine (Plain.res_eq m' c).trans ?_
  rw [h0, h1, h2]
  refine funext fun (i : (⟨3, ![4, 8192, 1024]⟩ : Shape).Idx) => ?_
  rw [idx_eta i]
  exact Plain.resT_at _ _ _ _ _ _

end Cert.Proof.Flash

end
-- ==== Proof.DsaInMath.lean ====
/- The sparse attention's input projections row by row: one joint product, cut into queries, keys, values and the indexer's
   queries, key and weights, the heads rotated by their positions' angles. -/
module

public import proofs.«01_k».proof.Proof.MoeMath

@[expose] public section

set_option maxRecDepth 16384

noncomputable section

open Idealize.ShloMosaic Idealize.ShloMosaic.TcCoe Idealize.SL.Sem

namespace Cert.Proof.DsaIn

open Cert.Proof.Moe (hrow)

/-- The word of the query scale: the reciprocal of the square root of 128. -/
abbrev scale : EReal := Ideal.ofBits .f32 0x3DB504F3#32
/-- The word of the indexer's scale. -/
abbrev wscale : EReal := Ideal.ofBits .f32 0x3D3504F3#32

/-- A head rotated in its first `2 H` lanes, lane `l` of the first `H` paired with lane `l + H`. -/
def rope {N H : ℕ} (hN : 2 * H ≤ N) (y : Fin N → EReal) (c s : Fin H → EReal) (l : Fin N) : EReal :=
  if h : l.val < H then y l * c ⟨l.val, h⟩ - y ⟨H + l.val, by omega⟩ * s ⟨l.val, h⟩
  else if h' : l.val < 2 * H then y l * c ⟨l.val - H, by omega⟩ + y ⟨l.val - H, by omega⟩ * s ⟨l.val - H, by omega⟩
  else y l

/-- The table of cosines of a head: the `H` values twice, then ones. -/
def cosTab {H : ℕ} (c : Fin H → EReal) (l : ℕ) : EReal :=
  if h : l < H then c ⟨l, h⟩ else if h' : l < 2 * H then c ⟨l - H, by omega⟩ else 1
/-- The table of sines of a head: the `H` values negated, the `H` values, then zeros. -/
def sinTab {H : ℕ} (s : Fin H → EReal) (l : ℕ) : EReal :=
  if h : l < H then -s ⟨l, h⟩ else if h' : l < 2 * H then s ⟨l - H, by omega⟩ else 0

/-- Lanes turned by tables, as the kernel turns its 128 lanes: heads of `N` lanes side by side. -/
theorem rope_tables {N H : ℕ} (hN : 2 * H ≤ N) (y : Fin N → EReal) (c s : Fin H → EReal) (l : Fin N) (up dn : EReal)
    (hup : ∀ h : l.val < H, up = y ⟨H + l.val, by omega⟩) (hdn : ∀ h : ¬ l.val < H, ∀ h' : l.val < 2 * H, dn = y ⟨l.val - H, by omega⟩) :
    y l * cosTab c l.val + (if l.val < H then up else dn) * sinTab s l.val = rope hN y c s l := by
  unfold cosTab sinTab rope
  by_cases h : l.val < H
  · simp only [dif_pos h, if_pos h]
    rw [hup h, mul_neg, sub_eq_add_neg]
  · by_cases h' : l.val < 2 * H
    · simp only [dif_neg h, if_neg h, dif_pos h']
      rw [hdn h h']
    · simp only [dif_neg h, if_neg h, dif_neg h']
      rw [mul_one, mul_zero, add_zero]

section Layer
variable (x : (⟨3, ![4, 8192, 1024]⟩ : Shape).Idx → EReal) (g : (⟨1, ![1024]⟩ : Shape).Idx → EReal)
  (sc sh : (⟨3, ![4, 1, 1024]⟩ : Shape).Idx → EReal) (w : (⟨2, ![1024, 2120]⟩ : Shape).Idx → EReal)
  (gk : (⟨1, ![64]⟩ : Shape).Idx → EReal)
  (ca sa : (⟨3, ![4, 8192, 16]⟩ : Shape).Idx → EReal) (ci si : (⟨3, ![4, 8192, 8]⟩ : Shape).Idx → EReal)

/-- The joint product. -/
def proj (b : Fin 4) (s : Fin 8192) (k : Fin 2120) : EReal := ∑ j, hrow x g sc sh b s j * w (ix2 j k)

/-- The queries. -/
def outQ (b : Fin 4) (s : Fin 8192) (e : Fin 1024) : EReal :=
  rope (N := 128) (H := 16) (by omega) (fun l => proj x g sc sh w b s ⟨e.val / 128 * 128 + l.val, by omega⟩)
    (fun i => ca (ix3 b s i)) (fun i => sa (ix3 b s i)) ⟨e.val % 128, by omega⟩ * scale
/-- The keys. -/
def outK (b : Fin 4) (s : Fin 8192) (e : Fin 256) : EReal :=
  rope (N := 128) (H := 16) (by omega) (fun l => proj x g sc sh w b s ⟨1024 + (e.val / 128 * 128 + l.val), by omega⟩)
    (fun i => ca (ix3 b s i)) (fun i => sa (ix3 b s i)) ⟨e.val % 128, by omega⟩
/-- The values, transposed, each head followed by sixteen rows of ones. -/
def outV (b : Fin 4) (k : Fin 288) (s : Fin 8192) : EReal :=
  if h : k.val % 144 < 128 then proj x g sc sh w b s ⟨1280 + (k.val / 144 * 128 + k.val % 144), by omega⟩ else 1
/-- The indexer's queries. -/
def outQi (b : Fin 4) (s : Fin 8192) (e : Fin 512) : EReal :=
  rope (N := 64) (H := 8) (by omega) (fun l => proj x g sc sh w b s ⟨1536 + (e.val / 64 * 64 + l.val), by omega⟩)
    (fun i => ci (ix3 b s i)) (fun i => si (ix3 b s i)) ⟨e.val % 64, by omega⟩
/-- One over the root of a mean square over 64 lanes. -/
def invRms64 (y : Fin 64 → EReal) : EReal :=
  Ideal.rsqrt (Ideal.div (∑ k, y k * y k) (Ideal.ofBits .f32 0x42800000#32) + Ideal.ofBits .f32 0x358637BD#32)
/-- The indexer's key, normalised. -/
def keyN (b : Fin 4) (s : Fin 8192) (l : Fin 64) : EReal :=
  proj x g sc sh w b s ⟨2048 + l.val, by omega⟩ * invRms64 (fun l => proj x g sc sh w b s ⟨2048 + l.val, by omega⟩) * gk (ix1 l)
/-- The indexer's key, twice side by side. -/
def outKi (b : Fin 4) (s : Fin 8192) (e : Fin 128) : EReal :=
  rope (N := 64) (H := 8) (by omega) (keyN x g sc sh w gk b s) (fun i => ci (ix3 b s i)) (fun i => si (ix3 b s i)) ⟨e.val % 64, by omega⟩
/-- The indexer's weights, padded with zeros to 128 lanes. -/
def outWi (b : Fin 4) (s : Fin 8192) (k : Fin 128) : EReal :=
  if h : k.val < 8 then proj x g sc sh w b s ⟨2112 + k.val, by omega⟩ * wscale else 0
end Layer

theorem w64 : Ideal.ofBits .f32 0x42800000#32 = ((64 : ℝ) : EReal) := by
  simp [Ideal.ofBits, Ideal.ieee, -EReal.coe_mul]; norm_num
theorem winv64 : Ideal.ofBits .f32 0x3C800000#32 = ((1 / 64 : ℝ) : EReal) := by
  simp [Ideal.ofBits, Ideal.ieee, -EReal.coe_mul]; norm_num
theorem one_word : Ideal.ofBits .f32 0x3F800000#32 = 1 := by
  refine Eq.trans (b := ((1 : ℝ) : EReal)) ?_ EReal.coe_one
  simp [Ideal.ofBits, Ideal.ieee, -EReal.coe_mul, -EReal.coe_one]; norm_num
theorem one_word16 : Ideal.ofBits .bf16 0x3F80#16 = 1 := by
  refine Eq.trans (b := ((1 : ℝ) : EReal)) ?_ EReal.coe_one
  simp [Ideal.ofBits, Ideal.ieee, -EReal.coe_mul, -EReal.coe_one]; norm_num
theorem zero_int : FloatOps.sitofp (F := Ideal) .f32 (0#32 : BitVec 32) = (0 : EReal) := by
  show (((0#32 : BitVec 32).toInt : ℝ) : EReal) = 0
  simp

theorem div64 (a : EReal) : Ideal.div a (Ideal.ofBits .f32 0x42800000#32) = a * Ideal.ofBits .f32 0x3C800000#32 := by
  rw [w64, winv64, Ideal.div_coe (by norm_num)]

/-- A sum of squares over 128 lanes whose upper half is zero. -/
theorem sum_lower (y : Fin 128 → EReal) (h : ∀ l : Fin 128, 64 ≤ l.val → y l = 0) :
    ∑ l, y l * y l = ∑ l : Fin 64, y ⟨l.val, by omega⟩ * y ⟨l.val, by omega⟩ := by
  refine (Fin.sum_univ_add (a := 64) (b := 64) (fun l : Fin (64 + 64) => y l * y l)).trans ?_
  have hz : ∀ i : Fin 64, y (Fin.natAdd 64 i) = 0 := fun i => h _ (by simp)
  simp only [hz, mul_zero, Finset.sum_const_zero, add_zero]
  rfl

end Cert.Proof.DsaIn

end
-- ==== Proof.DsaInPay.lean ====
/- The values of the kernel's body of the sparse attention's input projections, entry by entry. -/
module

public import proofs.«01_k».proof.Proof.DsaInMath
public import proofs.«01_k».proof.Proof.Gen.Kernel7Ideal.Skeleton
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.Proof.DsaIn

open Cert.Kernel7Ideal Cert.Kernel7Ideal.Gen
open Cert.Proof.Moe (hid)

/-- A product with one block of columns. -/
def mm (h : FVec Ideal S512x1024 .bf16) (w : Vec Ideal S1024x128 .bf16) : FVec Ideal S512x128 .f32 :=
  matmul dot_S512x1024_S1024x128_S512x128_1_0_0_1_n_n none h (shapeCast S1024x128 w shapeCasts_S1024x128_S1024x128 : FVec Ideal S1024x128 .bf16) (constant S512x128 .f32 0x00000000#32)
/-- The lanes whose pair lies above them, in heads of 128 lanes. -/
def maskA : IVec S512x128 1 :=
  have v38 : IVec S512x128 32 := iota .tc S512x128 32 [1] iota_S512x128_d1_w32
  let v39 : BitVec 1 := Scalar.cmpi .eq 128#32 0#32
  let v40 : BitVec 32 := Scalar.select v39 1#32 128#32
  have v41 : IVec S512x128 32 := broadcast S512x128 v40
  have v42 : IVec S512x128 32 := remsi v38 v41
  have v43 : IVec S512x128 32 := broadcast S512x128 0#32
  have v44 : IVec S512x128 1 := cmpi .ne v42 v43
  have v45 : IVec S512x128 32 := broadcast S512x128 0#32
  have v46 : IVec S512x128 1 := cmpi .slt v42 v45
  let v47 : BitVec 1 := Scalar.cmpi .slt v40 0#32
  have v48 : IVec S512x128 1 := broadcast S512x128 v47
  have v49 : IVec S512x128 1 := broadcastTo S512x128 v48 broadcasts_S512x128_S512x128
  have v50 : IVec S512x128 1 := xori v46 v49
  have v51 : IVec S512x128 1 := andi v50 v44
  have v52 : IVec S512x128 32 := broadcast S512x128 v40
  have v53 : IVec S512x128 32 := addi v42 v52
  have v54 : IVec S512x128 32 := select v51 v53 v42
  have v55 : IVec S512x128 32 := broadcast S512x128 16#32
  have v56 : IVec S512x128 1 := cmpi .slt v54 v55
  v56
/-- The lanes whose pair lies above them, in heads of 64 lanes. -/
def maskI : IVec S512x128 1 :=
  have v470 : IVec S512x128 32 := iota .tc S512x128 32 [1] iota_S512x128_d1_w32
  let v471 : BitVec 1 := Scalar.cmpi .eq 64#32 0#32
  let v472 : BitVec 32 := Scalar.select v471 1#32 64#32
  have v473 : IVec S512x128 32 := broadcast S512x128 v472
  have v474 : IVec S512x128 32 := remsi v470 v473
  have v475 : IVec S512x128 32 := broadcast S512x128 0#32
  have v476 : IVec S512x128 1 := cmpi .ne v474 v475
  have v477 : IVec S512x128 32 := broadcast S512x128 0#32
  have v478 : IVec S512x128 1 := cmpi .slt v474 v477
  let v479 : BitVec 1 := Scalar.cmpi .slt v472 0#32
  have v480 : IVec S512x128 1 := broadcast S512x128 v479
  have v481 : IVec S512x128 1 := broadcastTo S512x128 v480 broadcasts_S512x128_S512x128
  have v482 : IVec S512x128 1 := xori v478 v481
  have v483 : IVec S512x128 1 := andi v482 v476
  have v484 : IVec S512x128 32 := broadcast S512x128 v472
  have v485 : IVec S512x128 32 := addi v474 v484
  have v486 : IVec S512x128 32 := select v483 v485 v474
  have v487 : IVec S512x128 32 := broadcast S512x128 8#32
  have v488 : IVec S512x128 1 := cmpi .slt v486 v487
  v488
/-- Lanes turned by a number of places. -/
def turn (n : BitVec 32) (y : FVec Ideal S512x128 .f32) : FVec Ideal S512x128 .f32 := dynamicRotate 1 n none y rotates_S512x128_d1
/-- Lanes turned with their pairs by tables. -/
def rot (k : IVec S512x128 1) (u d : BitVec 32) (y c s : FVec Ideal S512x128 .f32) : FVec Ideal S512x128 .f32 :=
  addf (mulf y c) (mulf (select k (turn u y) (turn d y)) s)

theorem mm_at (h : FVec Ideal S512x1024 .bf16) (w : Vec Ideal S1024x128 .bf16) (r : Fin 512) (l : Fin 128) :
    mm h w (ix2 r l) = ∑ j, h (ix2 r j) * w (ix2 j l) := by
  pointwise [mm]
theorem maskA_at (r : Fin 512) (l : Fin 128) : maskA (ix2 r l) = BitVec.ofBool (decide (l.val < 16)) := by
  unfold maskA
  have h : ∀ l : Fin 128, (fun v : BitVec 32 => IntOp.cmpi .slt v 16#32) (BitVec.ofNat 32 l.val) = BitVec.ofBool (decide (l.val < 16)) := by decide +kernel
  pointwise
  revert l
  decide +kernel
theorem maskI_at (r : Fin 512) (l : Fin 128) : maskI (ix2 r l) = BitVec.ofBool (decide (l.val % 64 < 8)) := by
  unfold maskI
  pointwise
  revert l
  decide +kernel
theorem turn_at (n : ℕ) (hn : n < 128) (y : FVec Ideal S512x128 .f32) (r : Fin 512) (l : Fin 128) :
    turn (BitVec.ofNat 32 n) y (ix2 r l) = y (ix2 r ⟨(l.val + 128 - n) % 128, by omega⟩) := by
  unfold turn
  refine dynamicRotate_apply 1 _ y rotates_S512x128_d1 (ix2 r l) (ix2 r ⟨(l.val + 128 - n) % 128, by omega⟩) fun b => ?_
  match b with
  | ⟨0, _⟩ => rfl
  | ⟨1, _⟩ =>
    show (l.val + 128 - n) % 128 = (l.val + 128 - (BitVec.ofNat 32 n).toNat % 128) % 128
    rw [BitVec.toNat_ofNat, Nat.mod_eq_of_lt (show n < 2 ^ 32 by omega), Nat.mod_eq_of_lt hn]
theorem rot_at (k : IVec S512x128 1) (p : Prop) [Decidable p] (u d : ℕ) (hu : u < 128) (hd : d < 128) (y c s : FVec Ideal S512x128 .f32) (r : Fin 512) (l : Fin 128)
    (hk : k (ix2 r l) = BitVec.ofBool (decide p)) :
    rot k (BitVec.ofNat 32 u) (BitVec.ofNat 32 d) y c s (ix2 r l) = y (ix2 r l) * c (ix2 r l)
      + (if p then y (ix2 r ⟨(l.val + 128 - u) % 128, by omega⟩) else y (ix2 r ⟨(l.val + 128 - d) % 128, by omega⟩)) * s (ix2 r l) := by
  rw [← turn_at u hu y r l, ← turn_at d hd y r l]
  show y (ix2 r l) * c (ix2 r l) + (if k (ix2 r l) = 1#1 then _ else _) * s (ix2 r l) = _
  rw [hk]
  by_cases hp : p
  · rw [decide_eq_true hp, if_pos hp]; rfl
  · rw [decide_eq_false hp, if_neg hp]; rfl

section Pay
variable (h : FVec Ideal S512x1024 .bf16) (c s : FVec Ideal S512x128 .f32) (w : Vec Ideal S1024x128 .bf16) (r : Fin 512) (l : Fin 128)
theorem pay2_at (x0 : Vec Ideal S1x512x1024 .f32) (x1 : Vec Ideal S1x1024 .f32) (x2 x3 : Vec Ideal S1x1x1024 .f32) (k : Fin 1024) :
    k0_pay2 x0 x1 x2 x3 (ix2 r k) = hid (fun k => x0 (ix3 0 r k)) (fun k => x1 (ix2 0 k)) (fun k => x2 (ix3 0 0 k)) (fun k => x3 (ix3 0 0 k)) k := by
  pointwise [k0_pay2]
  rfl
theorem pay3_at (x : Vec Ideal S1x512x128 .f32) : k0_pay3 x (ix2 r l) = x (ix3 0 r l) := by
  pointwise [k0_pay3]
/-- A scaled query head. -/
def qV : FVec Ideal S1x512x128 .bf16 := shapeCast S1x512x128 (truncf .bf16 (mulf (rot maskA 112#32 16#32 (mm h w) c s)
    (broadcast S512x128 (Scalar.ofBits (F := Ideal) .f32 0x3DB504F3#32))) bitsLt_bf16_f32) shapeCasts_S512x128_S1x512x128
/-- A key head. -/
def kV : FVec Ideal S1x512x128 .bf16 := shapeCast S1x512x128 (truncf .bf16 (rot maskA 112#32 16#32 (mm h w) c s) bitsLt_bf16_f32) shapeCasts_S512x128_S1x512x128
/-- Two of the indexer's query heads. -/
def qiV : FVec Ideal S1x512x128 .bf16 := shapeCast S1x512x128 (truncf .bf16 (rot maskI 120#32 8#32 (mm h w) c s) bitsLt_bf16_f32) shapeCasts_S512x128_S1x512x128
theorem qV_at : qV h c s w (ix3 0 r l) = rot maskA 112#32 16#32 (mm h w) c s (ix2 r l) * scale := by
  pointwise [qV]
theorem kV_at : kV h c s w (ix3 0 r l) = rot maskA 112#32 16#32 (mm h w) c s (ix2 r l) := by
  pointwise [kV]
theorem qiV_at : qiV h c s w (ix3 0 r l) = rot maskI 120#32 8#32 (mm h w) c s (ix2 r l) := by
  pointwise [qiV]
theorem payV_at (k : Fin 128) (t : Fin 512) : k0_pay34 (k0_pay33 h w) (ix3 0 k t) = ∑ j, h (ix2 t j) * w (ix2 j k) := by
  pointwise [k0_pay34, k0_pay33]
theorem pay1_at : k0_pay1 h (k0_pay52 w) (ix3 0 r l) = (∑ j, h (ix2 r j) * w (ix2 j l)) * wscale := by
  pointwise [k0_pay1, k0_pay52]
theorem ones_at (k : Fin 16) (t : Fin 512) : k0_pay35 (F := Ideal) (ix3 0 k t) = 1 := by
  refine Eq.trans ?_ one_word16
  rfl
theorem pay50_at : k0_pay50 h w (ix2 r 0) = (∑ l, mm h w (ix2 r l) * mm h w (ix2 r l)) * Ideal.ofBits .f32 0x3C800000#32 := by
  pointwise [k0_pay50]
  rfl
/-- The indexer's key before its rotation. -/
def keyV (y : FVec Ideal S512x128 .f32) (q : FVec Ideal S512x1 .f32) (g : Vec Ideal S1x128 .f32) : FVec Ideal S512x128 .f32 :=
  mulf (mulf y (broadcastTo S512x128 (rsqrt (addf q (broadcast S512x1 (Scalar.ofBits (F := Ideal) .f32 0x358637BD#32)))) broadcasts_S512x1_S512x128))
    (broadcastTo S512x128 (shapeCast S1x128 g shapeCasts_S1x128_S1x128) broadcasts_S1x128_S512x128)
theorem keyV_at (y : FVec Ideal S512x128 .f32) (q : FVec Ideal S512x1 .f32) (g : Vec Ideal S1x128 .f32) :
    keyV y q g (ix2 r l) = y (ix2 r l) * Ideal.rsqrt (q (ix2 r 0) + Ideal.ofBits .f32 0x358637BD#32) * g (ix2 0 l) := by
  pointwise [keyV]
theorem pay51_eq (y : FVec Ideal S512x128 .f32) (q : FVec Ideal S512x1 .f32) (g : Vec Ideal S1x128 .f32) :
    k0_pay51 c s y q (Scalar.ofBits (F := Ideal) .f32 0x358637BD#32) g = shapeCast S1x512x128 (truncf .bf16 (addf (rot maskI 120#32 8#32 (keyV y q g) c s)
      (turn 64#32 (rot maskI 120#32 8#32 (keyV y q g) c s))) bitsLt_bf16_f32) shapeCasts_S512x128_S1x512x128 := rfl
theorem add_cast (z t : FVec Ideal S512x128 .f32) :
    (shapeCast S1x512x128 (truncf .bf16 (addf z t) bitsLt_bf16_f32) shapeCasts_S512x128_S1x512x128 : FVec Ideal S1x512x128 .bf16) (ix3 0 r l) = z (ix2 r l) + t (ix2 r l) := by
  pointwise
theorem pay51_at (y : FVec Ideal S512x128 .f32) (q : FVec Ideal S512x1 .f32) (g : Vec Ideal S1x128 .f32) :
    k0_pay51 c s y q (Scalar.ofBits (F := Ideal) .f32 0x358637BD#32) g (ix3 0 r l) = rot maskI 120#32 8#32 (keyV y q g) c s (ix2 r l)
      + rot maskI 120#32 8#32 (keyV y q g) c s (ix2 r ⟨(l.val + 128 - 64) % 128, by omega⟩) := by
  rw [pay51_eq, add_cast, turn_at 64 (by omega)]
end Pay

end Cert.Proof.DsaIn

end
-- ==== Proof.DsaInRot.lean ====
/- The kernel's turned lanes are the rotation of the sparse attention's input projections. -/
module

public import proofs.«01_k».proof.Defs
public import proofs.«01_k».proof.Proof.DsaInPay
public import Idealize.ShloMosaic.Lib.Tactic
public import Idealize.ShloMosaic.Lib.Pointwise
public import Idealize.ShloMosaic.Lib.Tactic.CleanTypes
public import Idealize.ShloMosaic.Lib.Pipeline.ValueKit.Tiles

@[expose] public section

set_option maxRecDepth 16384

noncomputable section

open Idealize.ShloMosaic Idealize.ShloMosaic.TcCoe Idealize.SL.Sem Idealize.ShloMosaic.StableHlo

namespace Cert.Proof.DsaIn

open Cert.Kernel7Ideal Cert.Kernel7Ideal.Gen

/-- Lanes turned by the kernel's tables are rotated: heads of 128 lanes. -/
theorem ropeA (z c s : FVec Ideal S512x128 .f32) (r : Fin 512) (y : Fin 128 → EReal) (C S : Fin 16 → EReal)
    (hz : ∀ l, z (ix2 r l) = y l) (hc : ∀ l : Fin 128, c (ix2 r l) = cosTab C l.val) (hs : ∀ l : Fin 128, s (ix2 r l) = sinTab S l.val) (l : Fin 128) :
    rot maskA 112#32 16#32 z c s (ix2 r l) = rope (N := 128) (H := 16) (by omega) y C S l := by
  refine (rot_at maskA (l.val < 16) 112 16 (by omega) (by omega) z c s r l (maskA_at r l)).trans ?_
  simp only [hz, hc, hs]
  exact rope_tables _ y C S l _ _ (fun h => congrArg y (Fin.ext (by show (l.val + 128 - 112) % 128 = 16 + l.val; omega)))
    (fun h h' => congrArg y (Fin.ext (by show (l.val + 128 - 16) % 128 = l.val - 16; omega)))
/-- The same in heads of 64 lanes. -/
theorem ropeI (z c s : FVec Ideal S512x128 .f32) (r : Fin 512) (y : Fin 128 → EReal) (C S : Fin 8 → EReal)
    (hz : ∀ l, z (ix2 r l) = y l) (hc : ∀ l : Fin 128, c (ix2 r l) = cosTab C (l.val % 64)) (hs : ∀ l : Fin 128, s (ix2 r l) = sinTab S (l.val % 64)) (l : Fin 128) :
    rot maskI 120#32 8#32 z c s (ix2 r l)
      = rope (N := 64) (H := 8) (by omega) (fun j => y ⟨l.val / 64 * 64 + j.val, by omega⟩) C S ⟨l.val % 64, by omega⟩ := by
  refine (rot_at maskI (l.val % 64 < 8) 120 8 (by omega) (by omega) z c s r l (maskI_at r l)).trans ?_
  simp only [hz, hc, hs]
  have e : y l = y ⟨l.val / 64 * 64 + l.val % 64, by omega⟩ := congrArg y (Fin.ext (by show l.val = l.val / 64 * 64 + l.val % 64; omega))
  rw [e]
  exact rope_tables (N := 64) (H := 8) (by omega) (fun j => y ⟨l.val / 64 * 64 + j.val, by omega⟩) C S ⟨l.val % 64, by omega⟩ _ _
    (fun h => congrArg y (Fin.ext (by
      have h : l.val % 64 < 8 := h
      show (l.val + 128 - 120) % 128 = l.val / 64 * 64 + (8 + l.val % 64); omega)))
    (fun h h' => congrArg y (Fin.ext (by
      have h : ¬ l.val % 64 < 8 := h
      show (l.val + 128 - 8) % 128 = l.val / 64 * 64 + (l.val % 64 - 8); omega)))
theorem rope_zero {N H : ℕ} (hN : 2 * H ≤ N) (C S : Fin H → EReal) (l : Fin N) : rope hN (fun _ => 0) C S l = 0 := by
  unfold rope
  by_cases h : l.val < H
  · simp only [dif_pos h, zero_mul, sub_zero]
  · by_cases h' : l.val < 2 * H
    · simp only [dif_neg h, dif_pos h', zero_mul, add_zero]
    · simp only [dif_neg h, dif_neg h']
theorem rope_congr {N H : ℕ} (hN : 2 * H ≤ N) {y y' : Fin N → EReal} (C S : Fin H → EReal) {l l' : Fin N} (hy : ∀ j, y j = y' j) (hl : l = l') :
    rope hN y C S l = rope hN y' C S l' := by
  rw [funext hy, hl]
/-- A key's lanes: a head of 64 lanes, then zeros. -/
def wide (y : Fin 64 → EReal) (l : Fin 128) : EReal := if h : l.val < 64 then y ⟨l.val, h⟩ else 0
/-- A rotated key added to itself turned by half its lanes. -/
theorem rope_twice (y : Fin 64 → EReal) (C S : Fin 8 → EReal) (l : Fin 128) :
    rope (N := 64) (H := 8) (by omega) (fun j => wide y ⟨l.val / 64 * 64 + j.val, by omega⟩) C S ⟨l.val % 64, by omega⟩
      + rope (N := 64) (H := 8) (by omega) (fun j => wide y ⟨(l.val + 128 - 64) % 128 / 64 * 64 + j.val, by omega⟩) C S ⟨(l.val + 128 - 64) % 128 % 64, by omega⟩
      = rope (N := 64) (H := 8) (by omega) y C S ⟨l.val % 64, by omega⟩ := by
  by_cases h : l.val < 64
  · have h2 : rope (N := 64) (H := 8) (by omega) (fun j => wide y ⟨(l.val + 128 - 64) % 128 / 64 * 64 + j.val, by omega⟩) C S ⟨(l.val + 128 - 64) % 128 % 64, by omega⟩ = 0 :=
      (rope_congr (by omega) C S (fun j => dif_neg (by show ¬ (l.val + 128 - 64) % 128 / 64 * 64 + j.val < 64; omega)) rfl).trans (rope_zero (by omega) C S _)
    rw [h2, add_zero]
    refine rope_congr (by omega) C S (fun j => ?_) rfl
    exact (dif_pos (by show l.val / 64 * 64 + j.val < 64; omega)).trans (congrArg y (Fin.ext (by show l.val / 64 * 64 + j.val = j.val; omega)))
  · have h2 : rope (N := 64) (H := 8) (by omega) (fun j => wide y ⟨l.val / 64 * 64 + j.val, by omega⟩) C S ⟨l.val % 64, by omega⟩ = 0 :=
      (rope_congr (by omega) C S (fun j => dif_neg (by show ¬ l.val / 64 * 64 + j.val < 64; omega)) rfl).trans (rope_zero (by omega) C S _)
    rw [h2, zero_add]
    refine rope_congr (by omega) C S (fun j => ?_) (Fin.ext (by show (l.val + 128 - 64) % 128 % 64 = l.val % 64; omega))
    exact (dif_pos (by show (l.val + 128 - 64) % 128 / 64 * 64 + j.val < 64; omega)).trans (congrArg y (Fin.ext (by show (l.val + 128 - 64) % 128 / 64 * 64 + j.val = j.val; omega)))
theorem pay4_at (r : Fin 512) (l : Fin 128) (x : Vec Ideal S1x512x128 .f32) : k0_pay4 x (ix2 r l) = x (ix3 0 r l) := by
  pointwise [k0_pay4]
theorem pay5_at (r : Fin 512) (l : Fin 128) (x : Vec Ideal S1x512x128 .f32) : k0_pay5 x (ix2 r l) = x (ix3 0 r l) := by
  pointwise [k0_pay5]
theorem pay6_at (r : Fin 512) (l : Fin 128) (x : Vec Ideal S1x512x128 .f32) : k0_pay6 x (ix2 r l) = x (ix3 0 r l) := by
  pointwise [k0_pay6]

end Cert.Proof.DsaIn

end
-- ==== Proof.DsaInCase.lean ====
/- What the body of the sparse attention's input projections leaves in its scratch buffer and in its smaller blocks, as the body's own payloads of the blocks it
   reads. -/
module

public import proofs.«01_k».proof.Defs
public import proofs.«01_k».proof.Proof.DsaInPay
public import proofs.«01_k».proof.Proof.Gen.Kernel7Ideal.Value
public import Idealize.ShloMosaic.Lib.Tactic
public import Idealize.ShloMosaic.Lib.Pipeline.ValueKit.Tiles
public import Idealize.ShloMosaic.Lib.Pipeline.ValueKit.Acc

@[expose] public section

set_option maxRecDepth 16384

noncomputable section

open Idealize.ShloMosaic Idealize.ShloMosaic.TcCoe Idealize.SL.Sem

namespace Cert.Proof.DsaIn

open Cert.Kernel7Ideal Cert.Kernel7Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- A block of 128 columns of the weights. -/
def cut (x : Vec Ideal S1024x2304 .bf16) (n : ℕ) : Vec Ideal S1024x128 .bf16 := fun i =>
  (if h : n + (i 1).val < 2304 then x (ix2 (i 0) ⟨n + (i 1).val, h⟩) else (0 : EReal) : EReal)
theorem cut_at (x : Vec Ideal S1024x2304 .bf16) (n : ℕ) (j : Fin 1024) (l : Fin 128) (h : n + l.val < 2304) :
    cut x n (ix2 j l) = x (ix2 j ⟨n + l.val, h⟩) := dif_pos h
theorem ld_cut (x : Vec Ideal S1024x2304 .bf16) (n : ℕ) (inb : ∀ a, (![0, n] : Fin 2 → Nat) a + (![1024, 128] : Fin 2 → Nat) a ≤ S1024x2304.size a) :
    View.ld x (Rect.unit (s := S1024x2304) ![0, n] ![1024, 128] inb) = cut x n := by
  funext i
  have hn : n + 128 ≤ 2304 := inb 1
  have hi : (i 1).val < 128 := (i 1).isLt
  refine Eq.trans ?_ (dif_pos (show n + (i 1).val < 2304 by omega)).symm
  exact View.ld_unit_apply_of x _ _ inb _ _ fun a => by
    match a with
    | ⟨0, _⟩ => exact (Nat.zero_add _).symm
    | ⟨1, _⟩ => rfl

/-- A stored block of columns holds a value at a column when its payload does at the column's place in it. -/
theorem tile {W : ℕ} (n : ℕ) (w : S1x512x128.Idx → EReal) (r : Fin 512) (k : Fin W) (v : EReal)
    (H : ∀ k' : Fin 128, k.val = n + k'.val → w (ix3 0 r k') = v) :
    View.TileAt (Val := Elt Ideal) (e := .bf16) (ix3 0 r k : (⟨3, ![1, 512, W]⟩ : Shape).Idx) ![0, 0, n] S1x512x128.size w v := by
  intro x hx
  have h1 : r.val = 0 + (x 1).val := hx 1
  have h2 : k.val = n + (x 2).val := hx 2
  have hx' : x = ix3 0 r (x 2) := by
    funext a
    match a with
    | ⟨0, _⟩ => exact Fin.ext (by have : (x 0).val < 1 := (x 0).isLt; show (x 0).val = 0; omega)
    | ⟨1, _⟩ => exact Fin.ext (by show (x 1).val = r.val; omega)
    | ⟨2, _⟩ => rfl
  rw [hx']
  exact H _ h2
/-- The same of a stored block of rows. -/
theorem rowTile {M : ℕ} (n : ℕ) (w : (⟨3, ![1, M, 512]⟩ : Shape).Idx → EReal) (k : Fin 288) (t : Fin 512) (v : EReal)
    (H : ∀ k' : Fin M, k.val = n + k'.val → w (ix3 0 k' t) = v) :
    View.TileAt (Val := Elt Ideal) (e := .bf16) (ix3 0 k t : S1x288x512.Idx) ![0, n, 0] (⟨3, ![1, M, 512]⟩ : Shape).size w v := by
  intro x hx
  have h1 : k.val = n + (x 1).val := hx 1
  have h2 : t.val = 0 + (x 2).val := hx 2
  have hx' : x = ix3 0 (x 1) t := by
    funext a
    match a with
    | ⟨0, _⟩ => exact Fin.ext (by have : (x 0).val < 1 := (x 0).isLt; show (x 0).val = 0; omega)
    | ⟨1, _⟩ => rfl
    | ⟨2, _⟩ => exact Fin.ext (by show (x 2).val = t.val; omega)
  rw [hx']
  exact H _ h1

/-- The block of the indexer's keys. -/
theorem out14_eq (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S1024x2304 .bf16) (h4 : a4.IsWhole) (a5 : Memref sig .tc .vmem S1x128 .f32) (h5 : a5.IsWhole) (a6 : Memref sig .tc .vmem S1x512x128 .f32) (h6 : a6.IsWhole) (a7 : Memref sig .tc .vmem S1x512x128 .f32) (h7 : a7.IsWhole) (a8 : Memref sig .tc .vmem S1x512x128 .f32) (h8 : a8.IsWhole) (a9 : Memref sig .tc .vmem S1x512x128 .f32) (h9 : a9.IsWhole) (a10 : Memref sig .tc .vmem S1x512x1024 .bf16) (h10 : a10.IsWhole) (a11 : Memref sig .tc .vmem S1x512x256 .bf16) (h11 : a11.IsWhole) (a12 : Memref sig .tc .vmem S1x288x512 .bf16) (h12 : a12.IsWhole) (a13 : Memref sig .tc .vmem S1x512x512 .bf16) (h13 : a13.IsWhole) (a14 : Memref sig .tc .vmem S1x512x128 .bf16) (h14 : a14.IsWhole) (a15 : Memref sig .tc .vmem S1x512x128 .f32) (h15 : a15.IsWhole) (a16 : Memref sig .tc .vmem S512x128 .f32) (h16 : a16.IsWhole) (x0 : Vec Ideal S1x512x1024 .f32) (x1 : Vec Ideal S1x1024 .f32) (x2 : Vec Ideal S1x1x1024 .f32) (x3 : Vec Ideal S1x1x1024 .f32) (x4 : Vec Ideal S1024x2304 .bf16) (x5 : Vec Ideal S1x128 .f32) (x6 : Vec Ideal S1x512x128 .f32) (x7 : Vec Ideal S1x512x128 .f32) (x8 : Vec Ideal S1x512x128 .f32) (x9 : Vec Ideal S1x512x128 .f32) :
    out0_A_14 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9
      = k0_pay51 (k0_pay5 x8) (k0_pay6 x9) (mm (k0_pay2 x0 x1 x2 x3) (cut x4 2048)) (k0_pay50 (k0_pay2 x0 x1 x2 x3) (cut x4 2048)) (Scalar.ofBits (F := Ideal) .f32 0x358637BD#32) x5 := by
  unfold out0_A_14
  rw [View.read_writes_eq_canon _ _ _ (cover0_A_14 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9)]
  unfold kernelRun0_A
  dsimp only
  sl_unfold_words
  rw [View.canon_unit_zero hz3]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1x512x1024) hz3, View.ld_unit_zero (S := S1x1024) hz2, View.ld_unit_zero (S := S1x1x1024) hz3, View.ld_unit_zero (S := S1x128) hz2, View.ld_unit_zero (S := S1x512x128) hz3, View.ld_unit_zero (S := S512x128) hz2, View.readCov_unit_zero (S := S512x128) _ hz2, ld_cut]
  rfl

/-- The block of the indexer's weights. -/
theorem out15_eq (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S1024x2304 .bf16) (h4 : a4.IsWhole) (a5 : Memref sig .tc .vmem S1x128 .f32) (h5 : a5.IsWhole) (a6 : Memref sig .tc .vmem S1x512x128 .f32) (h6 : a6.IsWhole) (a7 : Memref sig .tc .vmem S1x512x128 .f32) (h7 : a7.IsWhole) (a8 : Memref sig .tc .vmem S1x512x128 .f32) (h8 : a8.IsWhole) (a9 : Memref sig .tc .vmem S1x512x128 .f32) (h9 : a9.IsWhole) (a10 : Memref sig .tc .vmem S1x512x1024 .bf16) (h10 : a10.IsWhole) (a11 : Memref sig .tc .vmem S1x512x256 .bf16) (h11 : a11.IsWhole) (a12 : Memref sig .tc .vmem S1x288x512 .bf16) (h12 : a12.IsWhole) (a13 : Memref sig .tc .vmem S1x512x512 .bf16) (h13 : a13.IsWhole) (a14 : Memref sig .tc .vmem S1x512x128 .bf16) (h14 : a14.IsWhole) (a15 : Memref sig .tc .vmem S1x512x128 .f32) (h15 : a15.IsWhole) (a16 : Memref sig .tc .vmem S512x128 .f32) (h16 : a16.IsWhole) (x0 : Vec Ideal S1x512x1024 .f32) (x1 : Vec Ideal S1x1024 .f32) (x2 : Vec Ideal S1x1x1024 .f32) (x3 : Vec Ideal S1x1x1024 .f32) (x4 : Vec Ideal S1024x2304 .bf16) (x5 : Vec Ideal S1x128 .f32) (x6 : Vec Ideal S1x512x128 .f32) (x7 : Vec Ideal S1x512x128 .f32) (x8 : Vec Ideal S1x512x128 .f32) (x9 : Vec Ideal S1x512x128 .f32) :
    out0_A_15 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 = k0_pay1 (k0_pay2 x0 x1 x2 x3) (k0_pay52 (cut x4 2176)) := by
  unfold out0_A_15
  rw [View.read_writes_eq_canon _ _ _ (cover0_A_15 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9)]
  unfold kernelRun0_A
  dsimp only
  sl_unfold_words
  rw [View.canon_unit_zero hz3]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1x512x1024) hz3, View.ld_unit_zero (S := S1x1024) hz2, View.ld_unit_zero (S := S1x1x1024) hz3, View.ld_unit_zero (S := S1x128) hz2, View.ld_unit_zero (S := S1x512x128) hz3, View.ld_unit_zero (S := S512x128) hz2, View.readCov_unit_zero (S := S512x128) _ hz2, ld_cut]

end Cert.Proof.DsaIn

end
-- ==== Proof.DsaInCaseQ.lean ====
/- What the body of the sparse attention's input projections leaves in its block of queries, as the body's own payloads of the blocks it
   reads. -/
module

public import proofs.«01_k».proof.Defs
public import proofs.«01_k».proof.Proof.DsaInCase
public import proofs.«01_k».proof.Proof.Gen.Kernel7Ideal.Value
public import Idealize.ShloMosaic.Lib.Tactic
public import Idealize.ShloMosaic.Lib.Pipeline.ValueKit.Tiles
public import Idealize.ShloMosaic.Lib.Pipeline.ValueKit.Acc

@[expose] public section

set_option maxRecDepth 16384

noncomputable section

open Idealize.ShloMosaic Idealize.ShloMosaic.TcCoe Idealize.SL.Sem

namespace Cert.Proof.DsaIn

open Cert.Kernel7Ideal Cert.Kernel7Ideal.Gen

/-- The block of queries. -/
theorem out10_at (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S1024x2304 .bf16) (h4 : a4.IsWhole) (a5 : Memref sig .tc .vmem S1x128 .f32) (h5 : a5.IsWhole) (a6 : Memref sig .tc .vmem S1x512x128 .f32) (h6 : a6.IsWhole) (a7 : Memref sig .tc .vmem S1x512x128 .f32) (h7 : a7.IsWhole) (a8 : Memref sig .tc .vmem S1x512x128 .f32) (h8 : a8.IsWhole) (a9 : Memref sig .tc .vmem S1x512x128 .f32) (h9 : a9.IsWhole) (a10 : Memref sig .tc .vmem S1x512x1024 .bf16) (h10 : a10.IsWhole) (a11 : Memref sig .tc .vmem S1x512x256 .bf16) (h11 : a11.IsWhole) (a12 : Memref sig .tc .vmem S1x288x512 .bf16) (h12 : a12.IsWhole) (a13 : Memref sig .tc .vmem S1x512x512 .bf16) (h13 : a13.IsWhole) (a14 : Memref sig .tc .vmem S1x512x128 .bf16) (h14 : a14.IsWhole) (a15 : Memref sig .tc .vmem S1x512x128 .f32) (h15 : a15.IsWhole) (a16 : Memref sig .tc .vmem S512x128 .f32) (h16 : a16.IsWhole) (x0 : Vec Ideal S1x512x1024 .f32) (x1 : Vec Ideal S1x1024 .f32) (x2 : Vec Ideal S1x1x1024 .f32) (x3 : Vec Ideal S1x1x1024 .f32) (x4 : Vec Ideal S1024x2304 .bf16) (x5 : Vec Ideal S1x128 .f32) (x6 : Vec Ideal S1x512x128 .f32) (x7 : Vec Ideal S1x512x128 .f32) (x8 : Vec Ideal S1x512x128 .f32) (x9 : Vec Ideal S1x512x128 .f32) (r : Fin 512) (k : Fin 1024) :
    out0_A_10 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 (ix3 0 r k) = qV (k0_pay2 x0 x1 x2 x3) (k0_pay3 x6) (k0_pay4 x7) (cut x4 (k.val / 128 * 128)) (ix3 0 r ⟨k.val % 128, by omega⟩) := by
  unfold out0_A_10
  rw [View.read_writes_eq_canon _ _ _ (cover0_A_10 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9)]
  refine View.canon_eq_of_allAt _ _ _ (cover0_A_10 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 (ix3 0 r k)) ?_
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1x512x1024) hz3, View.ld_unit_zero (S := S1x1024) hz2, View.ld_unit_zero (S := S1x1x1024) hz3, View.ld_unit_zero (S := S1x128) hz2, View.ld_unit_zero (S := S1x512x128) hz3, View.ld_unit_zero (S := S512x128) hz2, View.readCov_unit_zero (S := S512x128) _ hz2, ld_cut]
  refine View.allAt_cons_unit _ _ _ _ _ (tile 896 _ r k _ fun k' h => ?_) <| View.allAt_cons_unit _ _ _ _ _ (tile 768 _ r k _ fun k' h => ?_) <| View.allAt_cons_unit _ _ _ _ _ (tile 640 _ r k _ fun k' h => ?_) <| View.allAt_cons_unit _ _ _ _ _ (tile 512 _ r k _ fun k' h => ?_) <| View.allAt_cons_unit _ _ _ _ _ (tile 384 _ r k _ fun k' h => ?_) <| View.allAt_cons_unit _ _ _ _ _ (tile 256 _ r k _ fun k' h => ?_) <| View.allAt_cons_unit _ _ _ _ _ (tile 128 _ r k _ fun k' h => ?_) <| View.allAt_cons_unit _ _ _ _ _ (tile 0 _ r k _ fun k' h => ?_) <| View.allAt_nil _ _
  · rw [show k.val / 128 * 128 = 896 by omega, show (⟨k.val % 128, by omega⟩ : Fin 128) = k' from Fin.ext (by show k.val % 128 = k'.val; omega)]
    rfl
  · rw [show k.val / 128 * 128 = 768 by omega, show (⟨k.val % 128, by omega⟩ : Fin 128) = k' from Fin.ext (by show k.val % 128 = k'.val; omega)]
    rfl
  · rw [show k.val / 128 * 128 = 640 by omega, show (⟨k.val % 128, by omega⟩ : Fin 128) = k' from Fin.ext (by show k.val % 128 = k'.val; omega)]
    rfl
  · rw [show k.val / 128 * 128 = 512 by omega, show (⟨k.val % 128, by omega⟩ : Fin 128) = k' from Fin.ext (by show k.val % 128 = k'.val; omega)]
    rfl
  · rw [show k.val / 128 * 128 = 384 by omega, show (⟨k.val % 128, by omega⟩ : Fin 128) = k' from Fin.ext (by show k.val % 128 = k'.val; omega)]
    rfl
  · rw [show k.val / 128 * 128 = 256 by omega, show (⟨k.val % 128, by omega⟩ : Fin 128) = k' from Fin.ext (by show k.val % 128 = k'.val; omega)]
    rfl
  · rw [show k.val / 128 * 128 = 128 by omega, show (⟨k.val % 128, by omega⟩ : Fin 128) = k' from Fin.ext (by show k.val % 128 = k'.val; omega)]
    rfl
  · rw [show k.val / 128 * 128 = 0 by omega, show (⟨k.val % 128, by omega⟩ : Fin 128) = k' from Fin.ext (by show k.val % 128 = k'.val; omega)]
    rfl

end Cert.Proof.DsaIn

end
-- ==== Proof.DsaInCaseK.lean ====
/- What the body of the sparse attention's input projections leaves in its blocks of keys, values and the indexer's queries, as the body's own payloads of the blocks it
   reads. -/
module

public import proofs.«01_k».proof.Defs
public import proofs.«01_k».proof.Proof.DsaInCase
public import proofs.«01_k».proof.Proof.Gen.Kernel7Ideal.Value
public import Idealize.ShloMosaic.Lib.Tactic
public import Idealize.ShloMosaic.Lib.Pipeline.ValueKit.Tiles
public import Idealize.ShloMosaic.Lib.Pipeline.ValueKit.Acc

@[expose] public section

set_option maxRecDepth 16384

noncomputable section

open Idealize.ShloMosaic Idealize.ShloMosaic.TcCoe Idealize.SL.Sem

namespace Cert.Proof.DsaIn

open Cert.Kernel7Ideal Cert.Kernel7Ideal.Gen

/-- What the last of several stores of the whole scratch buffer leaves is read back. -/
theorem rd_cons (v : View sig .tc .vmem S512x128 .f32) (inb inb' : ∀ a, (![0, 0] : Fin 2 → Nat) a + (![512, 128] : Fin 2 → Nat) a ≤ S512x128.size a)
    (w : S512x128.Idx → EReal) (L : List (View.Piece (Elt Ideal) S512x128 .f32)) :
    v.readCov ((⟨Rect.unit (s := S512x128) ![0, 0] ![512, 128] inb, w⟩ : View.Piece (Elt Ideal) S512x128 .f32) :: L)
      (Rect.unit (s := S512x128) ![0, 0] ![512, 128] inb').toLoadRect = w :=
  View.readCov_cons_unit_lit' (S := S512x128) (Val := Elt Ideal) v inb inb' w L (fun a => congrFun hz2 a) (fun a => congrFun hz2 a)
theorem pay37_eq (h : FVec Ideal S512x1024 .bf16) (w : Vec Ideal S1024x128 .bf16) : k0_pay37 (k0_pay36 h w) = k0_pay34 (k0_pay33 h w) := rfl

/-- The block of keys. -/
theorem out11_at (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S1024x2304 .bf16) (h4 : a4.IsWhole) (a5 : Memref sig .tc .vmem S1x128 .f32) (h5 : a5.IsWhole) (a6 : Memref sig .tc .vmem S1x512x128 .f32) (h6 : a6.IsWhole) (a7 : Memref sig .tc .vmem S1x512x128 .f32) (h7 : a7.IsWhole) (a8 : Memref sig .tc .vmem S1x512x128 .f32) (h8 : a8.IsWhole) (a9 : Memref sig .tc .vmem S1x512x128 .f32) (h9 : a9.IsWhole) (a10 : Memref sig .tc .vmem S1x512x1024 .bf16) (h10 : a10.IsWhole) (a11 : Memref sig .tc .vmem S1x512x256 .bf16) (h11 : a11.IsWhole) (a12 : Memref sig .tc .vmem S1x288x512 .bf16) (h12 : a12.IsWhole) (a13 : Memref sig .tc .vmem S1x512x512 .bf16) (h13 : a13.IsWhole) (a14 : Memref sig .tc .vmem S1x512x128 .bf16) (h14 : a14.IsWhole) (a15 : Memref sig .tc .vmem S1x512x128 .f32) (h15 : a15.IsWhole) (a16 : Memref sig .tc .vmem S512x128 .f32) (h16 : a16.IsWhole) (x0 : Vec Ideal S1x512x1024 .f32) (x1 : Vec Ideal S1x1024 .f32) (x2 : Vec Ideal S1x1x1024 .f32) (x3 : Vec Ideal S1x1x1024 .f32) (x4 : Vec Ideal S1024x2304 .bf16) (x5 : Vec Ideal S1x128 .f32) (x6 : Vec Ideal S1x512x128 .f32) (x7 : Vec Ideal S1x512x128 .f32) (x8 : Vec Ideal S1x512x128 .f32) (x9 : Vec Ideal S1x512x128 .f32) (r : Fin 512) (k : Fin 256) :
    out0_A_11 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 (ix3 0 r k) = kV (k0_pay2 x0 x1 x2 x3) (k0_pay3 x6) (k0_pay4 x7) (cut x4 (1024 + k.val / 128 * 128)) (ix3 0 r ⟨k.val % 128, by omega⟩) := by
  unfold out0_A_11
  rw [View.read_writes_eq_canon _ _ _ (cover0_A_11 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9)]
  refine View.canon_eq_of_allAt _ _ _ (cover0_A_11 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 (ix3 0 r k)) ?_
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1x512x1024) hz3, View.ld_unit_zero (S := S1x1024) hz2, View.ld_unit_zero (S := S1x1x1024) hz3, View.ld_unit_zero (S := S1x128) hz2, View.ld_unit_zero (S := S1x512x128) hz3, View.ld_unit_zero (S := S512x128) hz2, View.readCov_unit_zero (S := S512x128) _ hz2, ld_cut]
  refine View.allAt_cons_unit _ _ _ _ _ (tile 128 _ r k _ fun k' h => ?_) <| View.allAt_cons_unit _ _ _ _ _ (tile 0 _ r k _ fun k' h => ?_) <| View.allAt_nil _ _
  · rw [show 1024 + k.val / 128 * 128 = 1152 by omega, show (⟨k.val % 128, by omega⟩ : Fin 128) = k' from Fin.ext (by show k.val % 128 = k'.val; omega)]
    rfl
  · rw [show 1024 + k.val / 128 * 128 = 1024 by omega, show (⟨k.val % 128, by omega⟩ : Fin 128) = k' from Fin.ext (by show k.val % 128 = k'.val; omega)]
    rfl

/-- The block of the indexer's queries. -/
theorem out13_at (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S1024x2304 .bf16) (h4 : a4.IsWhole) (a5 : Memref sig .tc .vmem S1x128 .f32) (h5 : a5.IsWhole) (a6 : Memref sig .tc .vmem S1x512x128 .f32) (h6 : a6.IsWhole) (a7 : Memref sig .tc .vmem S1x512x128 .f32) (h7 : a7.IsWhole) (a8 : Memref sig .tc .vmem S1x512x128 .f32) (h8 : a8.IsWhole) (a9 : Memref sig .tc .vmem S1x512x128 .f32) (h9 : a9.IsWhole) (a10 : Memref sig .tc .vmem S1x512x1024 .bf16) (h10 : a10.IsWhole) (a11 : Memref sig .tc .vmem S1x512x256 .bf16) (h11 : a11.IsWhole) (a12 : Memref sig .tc .vmem S1x288x512 .bf16) (h12 : a12.IsWhole) (a13 : Memref sig .tc .vmem S1x512x512 .bf16) (h13 : a13.IsWhole) (a14 : Memref sig .tc .vmem S1x512x128 .bf16) (h14 : a14.IsWhole) (a15 : Memref sig .tc .vmem S1x512x128 .f32) (h15 : a15.IsWhole) (a16 : Memref sig .tc .vmem S512x128 .f32) (h16 : a16.IsWhole) (x0 : Vec Ideal S1x512x1024 .f32) (x1 : Vec Ideal S1x1024 .f32) (x2 : Vec Ideal S1x1x1024 .f32) (x3 : Vec Ideal S1x1x1024 .f32) (x4 : Vec Ideal S1024x2304 .bf16) (x5 : Vec Ideal S1x128 .f32) (x6 : Vec Ideal S1x512x128 .f32) (x7 : Vec Ideal S1x512x128 .f32) (x8 : Vec Ideal S1x512x128 .f32) (x9 : Vec Ideal S1x512x128 .f32) (r : Fin 512) (k : Fin 512) :
    out0_A_13 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 (ix3 0 r k) = qiV (k0_pay2 x0 x1 x2 x3) (k0_pay5 x8) (k0_pay6 x9) (cut x4 (1536 + k.val / 128 * 128)) (ix3 0 r ⟨k.val % 128, by omega⟩) := by
  unfold out0_A_13
  rw [View.read_writes_eq_canon _ _ _ (cover0_A_13 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9)]
  refine View.canon_eq_of_allAt _ _ _ (cover0_A_13 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 (ix3 0 r k)) ?_
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1x512x1024) hz3, View.ld_unit_zero (S := S1x1024) hz2, View.ld_unit_zero (S := S1x1x1024) hz3, View.ld_unit_zero (S := S1x128) hz2, View.ld_unit_zero (S := S1x512x128) hz3, View.ld_unit_zero (S := S512x128) hz2, View.readCov_unit_zero (S := S512x128) _ hz2, ld_cut]
  refine View.allAt_cons_unit _ _ _ _ _ (tile 384 _ r k _ fun k' h => ?_) <| View.allAt_cons_unit _ _ _ _ _ (tile 256 _ r k _ fun k' h => ?_) <| View.allAt_cons_unit _ _ _ _ _ (tile 128 _ r k _ fun k' h => ?_) <| View.allAt_cons_unit _ _ _ _ _ (tile 0 _ r k _ fun k' h => ?_) <| View.allAt_nil _ _
  · rw [show 1536 + k.val / 128 * 128 = 1920 by omega, show (⟨k.val % 128, by omega⟩ : Fin 128) = k' from Fin.ext (by show k.val % 128 = k'.val; omega)]
    rfl
  · rw [show 1536 + k.val / 128 * 128 = 1792 by omega, show (⟨k.val % 128, by omega⟩ : Fin 128) = k' from Fin.ext (by show k.val % 128 = k'.val; omega)]
    rfl
  · rw [show 1536 + k.val / 128 * 128 = 1664 by omega, show (⟨k.val % 128, by omega⟩ : Fin 128) = k' from Fin.ext (by show k.val % 128 = k'.val; omega)]
    rfl
  · rw [show 1536 + k.val / 128 * 128 = 1536 by omega, show (⟨k.val % 128, by omega⟩ : Fin 128) = k' from Fin.ext (by show k.val % 128 = k'.val; omega)]
    rfl

/-- The block of values. -/
theorem out12_at (c : Dev nD) (i : grid0.Coords) (a0 : Memref sig .tc .vmem S1x512x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S1024x2304 .bf16) (h4 : a4.IsWhole) (a5 : Memref sig .tc .vmem S1x128 .f32) (h5 : a5.IsWhole) (a6 : Memref sig .tc .vmem S1x512x128 .f32) (h6 : a6.IsWhole) (a7 : Memref sig .tc .vmem S1x512x128 .f32) (h7 : a7.IsWhole) (a8 : Memref sig .tc .vmem S1x512x128 .f32) (h8 : a8.IsWhole) (a9 : Memref sig .tc .vmem S1x512x128 .f32) (h9 : a9.IsWhole) (a10 : Memref sig .tc .vmem S1x512x1024 .bf16) (h10 : a10.IsWhole) (a11 : Memref sig .tc .vmem S1x512x256 .bf16) (h11 : a11.IsWhole) (a12 : Memref sig .tc .vmem S1x288x512 .bf16) (h12 : a12.IsWhole) (a13 : Memref sig .tc .vmem S1x512x512 .bf16) (h13 : a13.IsWhole) (a14 : Memref sig .tc .vmem S1x512x128 .bf16) (h14 : a14.IsWhole) (a15 : Memref sig .tc .vmem S1x512x128 .f32) (h15 : a15.IsWhole) (a16 : Memref sig .tc .vmem S512x128 .f32) (h16 : a16.IsWhole) (x0 : Vec Ideal S1x512x1024 .f32) (x1 : Vec Ideal S1x1024 .f32) (x2 : Vec Ideal S1x1x1024 .f32) (x3 : Vec Ideal S1x1x1024 .f32) (x4 : Vec Ideal S1024x2304 .bf16) (x5 : Vec Ideal S1x128 .f32) (x6 : Vec Ideal S1x512x128 .f32) (x7 : Vec Ideal S1x512x128 .f32) (x8 : Vec Ideal S1x512x128 .f32) (x9 : Vec Ideal S1x512x128 .f32) (k : Fin 288) (t : Fin 512) :
    out0_A_12 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 (ix3 0 k t) = if h : k.val % 144 < 128 then k0_pay34 (k0_pay33 (k0_pay2 x0 x1 x2 x3) (cut x4 (1280 + k.val / 144 * 128))) (ix3 0 ⟨k.val % 144, by omega⟩ t) else 1 := by
  unfold out0_A_12
  rw [View.read_writes_eq_canon _ _ _ (cover0_A_12 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9)]
  refine View.canon_eq_of_allAt _ _ _ (cover0_A_12 c i a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 (ix3 0 k t)) ?_
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1x512x1024) hz3, View.ld_unit_zero (S := S1x1024) hz2, View.ld_unit_zero (S := S1x1x1024) hz3, View.ld_unit_zero (S := S1x128) hz2, View.ld_unit_zero (S := S1x512x128) hz3, View.ld_unit_zero (S := S512x128) hz2, View.readCov_unit_zero (S := S512x128) _ hz2, ld_cut]
  refine View.allAt_cons_unit _ _ _ _ _ (rowTile (M := 16) 272 _ k t _ fun k' h => ?_) <| View.allAt_cons_unit _ _ _ _ _ (rowTile (M := 128) 144 _ k t _ fun k' h => ?_) <| View.allAt_cons_unit _ _ _ _ _ (rowTile (M := 16) 128 _ k t _ fun k' h => ?_) <| View.allAt_cons_unit _ _ _ _ _ (rowTile (M := 128) 0 _ k t _ fun k' h => ?_) <| View.allAt_nil _ _
  · rw [dif_neg (by omega)]
    exact ones_at k' t
  · rw [dif_pos (by omega)]
    rw [show 1280 + k.val / 144 * 128 = 1408 by omega, show (⟨k.val % 144, by omega⟩ : Fin 128) = k' from Fin.ext (by show k.val % 144 = k'.val; omega)]
    exact (congrFun (congrArg k0_pay37 (rd_cons a16.view _ _ _ _)) _).trans (congrFun (pay37_eq _ _) _)
  · rw [dif_neg (by omega)]
    exact ones_at k' t
  · rw [dif_pos (by omega)]
    rw [show 1280 + k.val / 144 * 128 = 1280 by omega, show (⟨k.val % 144, by omega⟩ : Fin 128) = k' from Fin.ext (by show k.val % 144 = k'.val; omega)]

end Cert.Proof.DsaIn

end
-- ==== Proof.DsaInHost.lean ====
/- The arrays the call of the sparse attention's input projections prepares, entry by entry. -/
module

public import proofs.«01_k».proof.Defs
public import proofs.«01_k».proof.Proof.DsaInMath
public import proofs.«01_k».proof.Proof.Gen.Kernel7Ideal.Skeleton
public import Idealize.ShloMosaic.Lib.Tactic
public import Idealize.ShloMosaic.Lib.Pointwise
public import Idealize.ShloMosaic.Lib.Tactic.CleanTypes
public import Idealize.ShloMosaic.Lib.Pipeline.ValueKit.Tiles

@[expose] public section

set_option maxRecDepth 16384

noncomputable section

open Idealize.ShloMosaic Idealize.ShloMosaic.TcCoe Idealize.SL.Sem Idealize.ShloMosaic.StableHlo

namespace Cert.Proof.DsaIn

open Cert.Kernel7Ideal Cert.Kernel7Ideal.Gen

/-- The angles of the attention heads. -/
def kAngA (a4 : IVec S4x8192 32) : FVec Ideal S4x8192x16 .f32 := mulf (broadcastInDim S4x8192x16 ![0, 1, 2] bcast_S4x8192x1_S4x8192x16_0_1_2 (broadcastInDim S4x8192x1 ![0, 1] bcast_S4x8192_S4x8192x1_0_1 (sitofp .f32 a4))) (broadcastInDim S4x8192x16 ![0, 1, 2] bcast_S1x1x16_S4x8192x16_0_1_2 (broadcastInDim S1x1x16 ![2] bcast_S16_S1x1x16_2 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))
/-- The angles of the indexer heads. -/
def kAngI (a4 : IVec S4x8192 32) : FVec Ideal S4x8192x8 .f32 := mulf (broadcastInDim S4x8192x8 ![0, 1, 2] bcast_S4x8192x1_S4x8192x8_0_1_2 (broadcastInDim S4x8192x1 ![0, 1] bcast_S4x8192_S4x8192x1_0_1 (sitofp .f32 a4))) (broadcastInDim S4x8192x8 ![0, 1, 2] bcast_S1x1x8_S4x8192x8_0_1_2 (broadcastInDim S1x1x8 ![2] bcast_S8_S1x1x8_2 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))
/-- A table of 128 lanes as the kernel's call copies it. -/
def copyA (x : FVec Ideal S4x8192x128 .f32) : FVec Ideal S4x8192x128 .f32 :=
  shapeCast S4x8192x128 (broadcastInDim S1x4x1x8192x1x128 ![0, 1, 2, 3, 4, 5] bcast_S1x4x1x8192x1x128_S1x4x1x8192x1x128_0_1_2_3_4_5 (shapeCast S1x4x1x8192x1x128 x shapeCasts_S4x8192x128_S1x4x1x8192x1x128)) shapeCasts_S1x4x1x8192x1x128_S4x8192x128
/-- A table of 64 lanes laid twice side by side. -/
def copyI (x : FVec Ideal S4x8192x64 .f32) : FVec Ideal S4x8192x128 .f32 :=
  shapeCast S4x8192x128 (broadcastInDim S1x4x1x8192x2x64 ![0, 1, 2, 3, 4, 5] bcast_S1x4x1x8192x1x64_S1x4x1x8192x2x64_0_1_2_3_4_5 (shapeCast S1x4x1x8192x1x64 x shapeCasts_S4x8192x64_S1x4x1x8192x1x64)) shapeCasts_S1x4x1x8192x2x64_S4x8192x128
/-- The three parts of an attention table. -/
def catA (u v : FVec Ideal S4x8192x16 .f32) (w : FVec Ideal S4x8192x96 .f32) : FVec Ideal S4x8192x128 .f32 := concatenate S4x8192x128 2 [⟨S4x8192x16, u⟩, ⟨S4x8192x16, v⟩, ⟨S4x8192x96, w⟩] concatenates_S4x8192x16_S4x8192x16_S4x8192x96_S4x8192x128_d2
/-- The three parts of an indexer's table. -/
def catI (u v : FVec Ideal S4x8192x8 .f32) (w : FVec Ideal S4x8192x48 .f32) : FVec Ideal S4x8192x64 .f32 := concatenate S4x8192x64 2 [⟨S4x8192x8, u⟩, ⟨S4x8192x8, v⟩, ⟨S4x8192x48, w⟩] concatenates_S4x8192x8_S4x8192x8_S4x8192x48_S4x8192x64_d2
/-- The tables of the attention heads. -/
def tabCA (c : FVec Ideal S4x8192x16 .f32) : FVec Ideal S4x8192x128 .f32 := copyA (catA c c (broadcastInDim S4x8192x96 ![] bcast_S_S4x8192x96 (constant S_ .f32 0x3F800000#32)))
def tabSA (s : FVec Ideal S4x8192x16 .f32) : FVec Ideal S4x8192x128 .f32 := copyA (catA (Host.negf s) s (broadcastInDim S4x8192x96 ![] bcast_S_S4x8192x96 (constant S_ .f32 0x00000000#32)))
/-- The tables of the indexer heads. -/
def tabCI (c : FVec Ideal S4x8192x8 .f32) : FVec Ideal S4x8192x128 .f32 := copyI (catI c c (broadcastInDim S4x8192x48 ![] bcast_S_S4x8192x48 (constant S_ .f32 0x3F800000#32)))
def tabSI (s : FVec Ideal S4x8192x8 .f32) : FVec Ideal S4x8192x128 .f32 := copyI (catI (Host.negf s) s (broadcastInDim S4x8192x48 ![] bcast_S_S4x8192x48 (constant S_ .f32 0x00000000#32)))
/-- The weights, the indexer's key columns and weight columns padded with zeros to 128 columns each. -/
def wT (a5 : FVec Ideal S1024x2120 .f32) : FVec Ideal S1024x2304 .bf16 := truncf .bf16 (concatenate S1024x2304 1 [⟨S1024x2048, extractStridedSlice S1024x2048 ![0, 0] a5 slices_S1024x2120_S1024x2048_0_0⟩,
  ⟨S1024x128, pad S1024x128 ![0, 0] ![0, 64] ![0, 0] (extractStridedSlice S1024x64 ![0, 2048] a5 slices_S1024x2120_S1024x64_0_2048) (sitofp .f32 (constantI S_ 32 0#32)) pads_S1024x64_S1024x128_000_0640 h_S_⟩,
  ⟨S1024x128, pad S1024x128 ![0, 0] ![0, 120] ![0, 0] (extractStridedSlice S1024x8 ![0, 2112] a5 slices_S1024x2120_S1024x8_0_2112) (sitofp .f32 (constantI S_ 32 0#32)) pads_S1024x8_S1024x128_000_01200 h_S_⟩] concatenates_S1024x2048_S1024x128_S1024x128_S1024x2304_d1) bitsLt_bf16_f32
/-- The indexer key's gain, padded with zeros. -/
def gT (a6 : FVec Ideal S64 .f32) : FVec Ideal S1x128 .f32 := pad S1x128 ![0, 0] ![0, 64] ![0, 0] (shapeCast S1x64 a6 shapeCasts_S64_S1x64) (sitofp .f32 (constantI S_ 32 0#32)) pads_S1x64_S1x128_000_0640 h_S_

theorem copyA_at (x : FVec Ideal S4x8192x128 .f32) (b : Fin 4) (s : Fin 8192) (l : Fin 128) : copyA x (ix3 b s l) = x (ix3 b s l) := by
  pointwise [copyA]
theorem copyI_at (x : FVec Ideal S4x8192x64 .f32) (b : Fin 4) (s : Fin 8192) (l : Fin 128) : copyI x (ix3 b s l) = x (ix3 b s ⟨l.val % 64, by omega⟩) := by
  pointwise [copyI]
theorem catA_at (u v : FVec Ideal S4x8192x16 .f32) (w : FVec Ideal S4x8192x96 .f32) (b : Fin 4) (s : Fin 8192) (l : Fin 128) : catA u v w (ix3 b s l)
    = if h : l.val < 16 then u (ix3 b s ⟨l.val, h⟩) else if h' : l.val - 16 < 16 then v (ix3 b s ⟨l.val - 16, h'⟩) else w (ix3 b s ⟨l.val - 16 - 16, by omega⟩) := by
  pointwise [catA]
theorem catI_at (u v : FVec Ideal S4x8192x8 .f32) (w : FVec Ideal S4x8192x48 .f32) (b : Fin 4) (s : Fin 8192) (l : Fin 64) : catI u v w (ix3 b s l)
    = if h : l.val < 8 then u (ix3 b s ⟨l.val, h⟩) else if h' : l.val - 8 < 8 then v (ix3 b s ⟨l.val - 8, h'⟩) else w (ix3 b s ⟨l.val - 8 - 8, by omega⟩) := by
  pointwise [catI]
theorem wT_at (a5 : FVec Ideal S1024x2120 .f32) (j : Fin 1024) (k : Fin 2304) : wT a5 (ix2 j k)
    = if h : k.val < 2048 then a5 (ix2 j ⟨k.val, by omega⟩)
      else if h' : k.val - 2048 < 128 then (if h'' : k.val - 2048 < 64 then a5 (ix2 j ⟨2048 + (k.val - 2048), by omega⟩) else 0)
      else (if h'' : k.val - 2048 - 128 < 8 then a5 (ix2 j ⟨2112 + (k.val - 2048 - 128), by omega⟩) else 0) := by
  pointwise [wT]
  simp only [zero_int]
theorem wT_lo (a5 : FVec Ideal S1024x2120 .f32) (j : Fin 1024) (k : Fin 2304) (h : k.val < 2048) : wT a5 (ix2 j k) = a5 (ix2 j ⟨k.val, by omega⟩) := by
  rw [wT_at, dif_pos h]
theorem wT_key (a5 : FVec Ideal S1024x2120 .f32) (j : Fin 1024) (l : Fin 128) :
    wT a5 (ix2 j ⟨2048 + l.val, by omega⟩) = if h : l.val < 64 then a5 (ix2 j ⟨2048 + l.val, by omega⟩) else 0 := by
  rw [wT_at, dif_neg (by show ¬ 2048 + l.val < 2048; omega), dif_pos (by show 2048 + l.val - 2048 < 128; omega)]
  have e : 2048 + l.val - 2048 = l.val := by omega
  by_cases h : l.val < 64
  · rw [dif_pos h, dif_pos (by show 2048 + l.val - 2048 < 64; omega)]
    exact congrArg (fun q => a5 (ix2 j q)) (Fin.ext (by show 2048 + (2048 + l.val - 2048) = 2048 + l.val; omega))
  · rw [dif_neg h, dif_neg (by show ¬ 2048 + l.val - 2048 < 64; omega)]
theorem wT_wt (a5 : FVec Ideal S1024x2120 .f32) (j : Fin 1024) (l : Fin 128) :
    wT a5 (ix2 j ⟨2176 + l.val, by omega⟩) = if h : l.val < 8 then a5 (ix2 j ⟨2112 + l.val, by omega⟩) else 0 := by
  rw [wT_at, dif_neg (by show ¬ 2176 + l.val < 2048; omega), dif_neg (by show ¬ 2176 + l.val - 2048 < 128; omega)]
  by_cases h : l.val < 8
  · rw [dif_pos h, dif_pos (by show 2176 + l.val - 2048 - 128 < 8; omega)]
    exact congrArg (fun q => a5 (ix2 j q)) (Fin.ext (by show 2112 + (2176 + l.val - 2048 - 128) = 2112 + l.val; omega))
  · rw [dif_neg h, dif_neg (by show ¬ 2176 + l.val - 2048 - 128 < 8; omega)]
theorem gT_at (a6 : FVec Ideal S64 .f32) (l : Fin 128) : gT a6 (ix2 0 l) = if h : l.val < 64 then a6 (ix1 ⟨l.val, h⟩) else 0 := by
  pointwise [gT]
  simp only [zero_int]
theorem zero_word : Ideal.ofBits .f32 0x00000000#32 = 0 := by
  simp [Ideal.ofBits, Ideal.ieee]
section Tab
variable (b : Fin 4) (t : Fin 8192) (l : Fin 128)
theorem tabCA_at (c : FVec Ideal S4x8192x16 .f32) : tabCA c (ix3 b t l) = cosTab (fun i => c (ix3 b t i)) l.val := by
  unfold tabCA cosTab
  rw [copyA_at, catA_at]
  refine dite_congr rfl (fun _ => rfl) fun h => dite_congr (propext (show l.val - 16 < 16 ↔ l.val < 2 * 16 by omega)) (fun _ => rfl) fun h' => one_word
theorem tabSA_at (s : FVec Ideal S4x8192x16 .f32) : tabSA s (ix3 b t l) = sinTab (fun i => s (ix3 b t i)) l.val := by
  unfold tabSA sinTab
  rw [copyA_at, catA_at]
  refine dite_congr rfl (fun _ => rfl) fun h => dite_congr (propext (show l.val - 16 < 16 ↔ l.val < 2 * 16 by omega)) (fun _ => rfl) fun h' => zero_word
theorem tabCI_at (c : FVec Ideal S4x8192x8 .f32) : tabCI c (ix3 b t l) = cosTab (fun i => c (ix3 b t i)) (l.val % 64) := by
  unfold tabCI cosTab
  rw [copyI_at, catI_at]
  refine dite_congr rfl (fun _ => rfl) fun h => dite_congr (propext (show l.val % 64 - 8 < 8 ↔ l.val % 64 < 2 * 8 by omega)) (fun _ => rfl) fun h' => one_word
theorem tabSI_at (s : FVec Ideal S4x8192x8 .f32) : tabSI s (ix3 b t l) = sinTab (fun i => s (ix3 b t i)) (l.val % 64) := by
  unfold tabSI sinTab
  rw [copyI_at, catI_at]
  refine dite_congr rfl (fun _ => rfl) fun h => dite_congr (propext (show l.val % 64 - 8 < 8 ↔ l.val % 64 < 2 * 8 by omega)) (fun _ => rfl) fun h' => zero_word
end Tab

end Cert.Proof.DsaIn

end
-- ==== Proof.DsaInHostA.lean ====
/- The attention tables and the gains the call of the sparse attention's input projections prepares. -/
module

public import proofs.«01_k».proof.Defs
public import proofs.«01_k».proof.Proof.DsaInHost
public import proofs.«01_k».proof.Proof.Gen.Kernel7Ideal.Value
public import Idealize.ShloMosaic.Lib.Tactic
public import Idealize.ShloMosaic.Lib.Pointwise
public import Idealize.ShloMosaic.Lib.Tactic.CleanTypes
public import Idealize.ShloMosaic.Lib.Pipeline.ValueKit.Tiles

@[expose] public section

set_option maxRecDepth 16384

noncomputable section

open Idealize.ShloMosaic Idealize.ShloMosaic.TcCoe Idealize.SL.Sem Idealize.ShloMosaic.StableHlo

namespace Cert.Proof.DsaIn

open Cert.Kernel7Ideal Cert.Kernel7Ideal.Gen

variable (m : (ℓ : Loc nD τ sig) → Buf (Elt Ideal) ℓ)

theorem V_v25 (c : Dev nD) : V m c main_v25 = tabCA (Host.cos (kAngA (m ((c : Thread nD τ).loc main_arg4)))) := by
  show StableHlo.after (List.flatten [hostOps0, hostOps0_1, hostOps0_2, hostOps0_3, hostOps0_4, hostOps0_5, hostOps0_6]) _ (Proc.devRef .tc main_v25) = _
  simp only [hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
  rfl

theorem V_v28 (c : Dev nD) : V m c main_v28 = tabSA (Host.sin (kAngA (m ((c : Thread nD τ).loc main_arg4)))) := by
  show StableHlo.after (List.flatten [hostOps0, hostOps0_1, hostOps0_2, hostOps0_3, hostOps0_4, hostOps0_5, hostOps0_6]) _ (Proc.devRef .tc main_v28) = _
  simp only [hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
  rfl

theorem V_v66 (c : Dev nD) : V m c main_v66 = gT (m ((c : Thread nD τ).loc main_arg6)) := by
  show StableHlo.after (List.flatten [hostOps0, hostOps0_1, hostOps0_2, hostOps0_3, hostOps0_4, hostOps0_5, hostOps0_6]) _ (Proc.devRef .tc main_v66) = _
  simp only [hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
  rfl

theorem V_v67 (c : Dev nD) : V m c main_v67 = shapeCast S1x1024 (m ((c : Thread nD τ).loc main_arg1)) shapeCasts_S1024_S1x1024 := by
  show StableHlo.after (List.flatten [hostOps0, hostOps0_1, hostOps0_2, hostOps0_3, hostOps0_4, hostOps0_5, hostOps0_6]) _ (Proc.devRef .tc main_v67) = _
  simp only [hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
  rfl

end Cert.Proof.DsaIn

end
-- ==== Proof.DsaInHostI.lean ====
/- The indexer's tables and the weights the call of the sparse attention's input projections prepares. -/
module

public import proofs.«01_k».proof.Defs
public import proofs.«01_k».proof.Proof.DsaInHost
public import proofs.«01_k».proof.Proof.Gen.Kernel7Ideal.Value
public import Idealize.ShloMosaic.Lib.Tactic
public import Idealize.ShloMosaic.Lib.Pointwise
public import Idealize.ShloMosaic.Lib.Tactic.CleanTypes
public import Idealize.ShloMosaic.Lib.Pipeline.ValueKit.Tiles

@[expose] public section

set_option maxRecDepth 16384

noncomputable section

open Idealize.ShloMosaic Idealize.ShloMosaic.TcCoe Idealize.SL.Sem Idealize.ShloMosaic.StableHlo

namespace Cert.Proof.DsaIn

open Cert.Kernel7Ideal Cert.Kernel7Ideal.Gen

variable (m : (ℓ : Loc nD τ sig) → Buf (Elt Ideal) ℓ)

theorem V_v54 (c : Dev nD) : V m c main_v54 = tabCI (Host.cos (kAngI (m ((c : Thread nD τ).loc main_arg4)))) := by
  show StableHlo.after (List.flatten [hostOps0, hostOps0_1, hostOps0_2, hostOps0_3, hostOps0_4, hostOps0_5, hostOps0_6]) _ (Proc.devRef .tc main_v54) = _
  simp only [hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
  rfl

theorem V_v57 (c : Dev nD) : V m c main_v57 = tabSI (Host.sin (kAngI (m ((c : Thread nD τ).loc main_arg4)))) := by
  show StableHlo.after (List.flatten [hostOps0, hostOps0_1, hostOps0_2, hostOps0_3, hostOps0_4, hostOps0_5, hostOps0_6]) _ (Proc.devRef .tc main_v57) = _
  simp only [hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
  rfl

theorem V_v64 (c : Dev nD) : V m c main_v64 = wT (m ((c : Thread nD τ).loc main_arg5)) := by
  show StableHlo.after (List.flatten [hostOps0, hostOps0_1, hostOps0_2, hostOps0_3, hostOps0_4, hostOps0_5, hostOps0_6]) _ (Proc.devRef .tc main_v64) = _
  simp only [hostOps0, hostOps0_1, hostOps0_2, hostOps0_3, hostOps0_4, hostOps0_5, hostOps0_6, List.flatten_cons, List.flatten_nil, List.append_nil, List.cons_append, List.nil_append, TRef.binary, TRef.nullary, TRef.unary, TRef.toBuf, TRef.ofBuf, cast_eq]
  after_results_simp
  rfl

end Cert.Proof.DsaIn

end
-- ==== Proof.DsaInBlk.lean ====
/- The blocks the points of the sparse attention's input projections read. -/
module

public import proofs.«01_k».proof.Defs
public import proofs.«01_k».proof.Proof.Gen.Kernel7Ideal.Value
public import Idealize.ShloMosaic.Lib.Tactic
public import Idealize.ShloMosaic.Lib.Pointwise
public import Idealize.ShloMosaic.Lib.Tactic.CleanTypes
public import Idealize.ShloMosaic.Lib.Pipeline.ValueKit.Tiles

@[expose] public section

set_option maxRecDepth 16384

noncomputable section

open Idealize.ShloMosaic Idealize.ShloMosaic.TcCoe Idealize.SL.Sem Idealize.ShloMosaic.StableHlo

namespace Cert.Proof.DsaIn

open Cert.Kernel7Ideal Cert.Kernel7Ideal.Gen

variable (m : (ℓ : Loc nD τ sig) → Buf (Elt Ideal) ℓ)

/-- The point of the grid for batch `b`, row block `i`. -/
def point (b : Fin 4) (i : Fin 16) : Fin cfg0.N := ⟨16 * b.val + i.val, lt_of_lt_of_eq (by omega) N_0.symm⟩
/-- The row of the sequence that row `r` of block `i` is. -/
def seqRow (i : Fin 16) (r : Fin 512) : Fin 8192 := ⟨512 * i.val + r.val, by omega⟩
theorem rows (s : Fin 8192) : ∃ (i : Fin 16) (r : Fin 512), s = seqRow i r :=
  ⟨⟨s.val / 512, by omega⟩, ⟨s.val % 512, by omega⟩, Fin.ext (Nat.div_add_mod s.val 512).symm⟩

theorem idx0 : ∀ (b : Fin 4) (i : Fin 16), win0_0.index (point b i) = ![b.val, i.val, 0] := by
  decide +kernel
theorem idx1 : ∀ (b : Fin 4) (i : Fin 16), win0_1.index (point b i) = ![0, 0] := by
  decide +kernel
theorem idx2 : ∀ (b : Fin 4) (i : Fin 16), win0_2.index (point b i) = ![b.val, 0, 0] := by
  decide +kernel
theorem idx3 : ∀ (b : Fin 4) (i : Fin 16), win0_3.index (point b i) = ![b.val, 0, 0] := by
  decide +kernel
theorem idx4 : ∀ (b : Fin 4) (i : Fin 16), win0_4.index (point b i) = ![0, 0] := by
  decide +kernel
theorem idx5 : ∀ (b : Fin 4) (i : Fin 16), win0_5.index (point b i) = ![0, 0] := by
  decide +kernel
theorem idx6 : ∀ (b : Fin 4) (i : Fin 16), win0_6.index (point b i) = ![b.val, i.val, 0] := by
  decide +kernel
theorem idx7 : ∀ (b : Fin 4) (i : Fin 16), win0_7.index (point b i) = ![b.val, i.val, 0] := by
  decide +kernel
theorem idx8 : ∀ (b : Fin 4) (i : Fin 16), win0_8.index (point b i) = ![b.val, i.val, 0] := by
  decide +kernel
theorem idx9 : ∀ (b : Fin 4) (i : Fin 16), win0_9.index (point b i) = ![b.val, i.val, 0] := by
  decide +kernel
theorem idx10 : ∀ (b : Fin 4) (i : Fin 16), win0_10.index (point b i) = ![b.val, i.val, 0] := by
  decide +kernel
theorem idx11 : ∀ (b : Fin 4) (i : Fin 16), win0_11.index (point b i) = ![b.val, i.val, 0] := by
  decide +kernel
theorem idx12 : ∀ (b : Fin 4) (i : Fin 16), win0_12.index (point b i) = ![b.val, 0, i.val] := by
  decide +kernel
theorem idx13 : ∀ (b : Fin 4) (i : Fin 16), win0_13.index (point b i) = ![b.val, i.val, 0] := by
  decide +kernel
theorem idx14 : ∀ (b : Fin 4) (i : Fin 16), win0_14.index (point b i) = ![b.val, i.val, 0] := by
  decide +kernel
theorem idx15 : ∀ (b : Fin 4) (i : Fin 16), win0_15.index (point b i) = ![b.val, i.val, 0] := by
  decide +kernel
theorem flushes10 : ∀ (b : Fin 4) (i : Fin 16), (cfg0.win 10).flush (point b i) = true := by
  decide +kernel
theorem flushes11 : ∀ (b : Fin 4) (i : Fin 16), (cfg0.win 11).flush (point b i) = true := by
  decide +kernel
theorem flushes12 : ∀ (b : Fin 4) (i : Fin 16), (cfg0.win 12).flush (point b i) = true := by
  decide +kernel
theorem flushes13 : ∀ (b : Fin 4) (i : Fin 16), (cfg0.win 13).flush (point b i) = true := by
  decide +kernel
theorem flushes14 : ∀ (b : Fin 4) (i : Fin 16), (cfg0.win 14).flush (point b i) = true := by
  decide +kernel
theorem flushes15 : ∀ (b : Fin 4) (i : Fin 16), (cfg0.win 15).flush (point b i) = true := by
  decide +kernel

theorem blk0 (c : Dev nD) (b : Fin 4) (i : Fin 16) (r : Fin 512) (k : Fin 1024) :
    (iblk m c 0 (point b i) : Vec Ideal S1x512x1024 .f32) (ix3 0 r k) = (m ((c : Thread nD τ).loc main_arg0)) (ix3 b (seqRow i r) k) := by
  have hi := congrFun (idx0 b i)
  unfold iblk
  rw [View.read_apply]
  rw [← V_main_arg0 m c]
  generalize V m c = X
  refine (cast_eq _ _).trans ?_
  have hk : ((cfg0.win 0).blk (point b i)).view.emb (ix3 0 r k) = (ix3 b (seqRow i r) k) := by
    funext a
    apply Fin.ext
    match a with
    | ⟨0, _⟩ => show win0_0.index (point b i) 0 * 1 + 1 * 0 = b.val; rw [hi 0]; show b.val * 1 + 1 * 0 = b.val; omega
    | ⟨1, _⟩ => show win0_0.index (point b i) 1 * 512 + 1 * r.val = 512 * i.val + r.val; rw [hi 1]; show i.val * 512 + 1 * r.val = 512 * i.val + r.val; omega
    | ⟨2, _⟩ => show win0_0.index (point b i) 2 * 1024 + 1 * k.val = k.val; rw [hi 2]; show 0 * 1024 + 1 * k.val = k.val; omega
  rw [hk]

theorem blk1 (c : Dev nD) (b : Fin 4) (i : Fin 16) (k : Fin 1024) :
    (iblk m c 1 (point b i) : Vec Ideal S1x1024 .f32) (ix2 0 k) = V m c main_v67 (ix2 0 k) := by
  have hi := congrFun (idx1 b i)
  unfold iblk
  rw [View.read_apply]
  generalize V m c = X
  refine (cast_eq _ _).trans ?_
  have hk : ((cfg0.win 1).blk (point b i)).view.emb (ix2 0 k) = (ix2 0 k) := by
    funext a
    apply Fin.ext
    match a with
    | ⟨0, _⟩ => show win0_1.index (point b i) 0 * 1 + 1 * 0 = 0; rw [hi 0]; show 0 * 1 + 1 * 0 = 0; omega
    | ⟨1, _⟩ => show win0_1.index (point b i) 1 * 1024 + 1 * k.val = k.val; rw [hi 1]; show 0 * 1024 + 1 * k.val = k.val; omega
  rw [hk]

theorem blk2 (c : Dev nD) (b : Fin 4) (i : Fin 16) (k : Fin 1024) :
    (iblk m c 2 (point b i) : Vec Ideal S1x1x1024 .f32) (ix3 0 0 k) = (m ((c : Thread nD τ).loc main_arg2)) (ix3 b 0 k) := by
  have hi := congrFun (idx2 b i)
  unfold iblk
  rw [View.read_apply]
  rw [← V_main_arg2 m c]
  generalize V m c = X
  refine (cast_eq _ _).trans ?_
  have hk : ((cfg0.win 2).blk (point b i)).view.emb (ix3 0 0 k) = (ix3 b 0 k) := by
    funext a
    apply Fin.ext
    match a with
    | ⟨0, _⟩ => show win0_2.index (point b i) 0 * 1 + 1 * 0 = b.val; rw [hi 0]; show b.val * 1 + 1 * 0 = b.val; omega
    | ⟨1, _⟩ => show win0_2.index (point b i) 1 * 1 + 1 * 0 = 0; rw [hi 1]; show 0 * 1 + 1 * 0 = 0; omega
    | ⟨2, _⟩ => show win0_2.index (point b i) 2 * 1024 + 1 * k.val = k.val; rw [hi 2]; show 0 * 1024 + 1 * k.val = k.val; omega
  rw [hk]

theorem blk3 (c : Dev nD) (b : Fin 4) (i : Fin 16) (k : Fin 1024) :
    (iblk m c 3 (point b i) : Vec Ideal S1x1x1024 .f32) (ix3 0 0 k) = (m ((c : Thread nD τ).loc main_arg3)) (ix3 b 0 k) := by
  have hi := congrFun (idx3 b i)
  unfold iblk
  rw [View.read_apply]
  rw [← V_main_arg3 m c]
  generalize V m c = X
  refine (cast_eq _ _).trans ?_
  have hk : ((cfg0.win 3).blk (point b i)).view.emb (ix3 0 0 k) = (ix3 b 0 k) := by
    funext a
    apply Fin.ext
    match a with
    | ⟨0, _⟩ => show win0_3.index (point b i) 0 * 1 + 1 * 0 = b.val; rw [hi 0]; show b.val * 1 + 1 * 0 = b.val; omega
    | ⟨1, _⟩ => show win0_3.index (point b i) 1 * 1 + 1 * 0 = 0; rw [hi 1]; show 0 * 1 + 1 * 0 = 0; omega
    | ⟨2, _⟩ => show win0_3.index (point b i) 2 * 1024 + 1 * k.val = k.val; rw [hi 2]; show 0 * 1024 + 1 * k.val = k.val; omega
  rw [hk]

theorem blk4 (c : Dev nD) (b : Fin 4) (i : Fin 16) (j : Fin 1024) (k : Fin 2304) :
    (iblk m c 4 (point b i) : Vec Ideal S1024x2304 .bf16) (ix2 j k) = V m c main_v64 (ix2 j k) := by
  have hi := congrFun (idx4 b i)
  unfold iblk
  rw [View.read_apply]
  generalize V m c = X
  refine (cast_eq _ _).trans ?_
  have hk : ((cfg0.win 4).blk (point b i)).view.emb (ix2 j k) = (ix2 j k) := by
    funext a
    apply Fin.ext
    match a with
    | ⟨0, _⟩ => show win0_4.index (point b i) 0 * 1024 + 1 * j.val = j.val; rw [hi 0]; show 0 * 1024 + 1 * j.val = j.val; omega
    | ⟨1, _⟩ => show win0_4.index (point b i) 1 * 2304 + 1 * k.val = k.val; rw [hi 1]; show 0 * 2304 + 1 * k.val = k.val; omega
  rw [hk]

theorem blk5 (c : Dev nD) (b : Fin 4) (i : Fin 16) (l : Fin 128) :
    (iblk m c 5 (point b i) : Vec Ideal S1x128 .f32) (ix2 0 l) = V m c main_v66 (ix2 0 l) := by
  have hi := congrFun (idx5 b i)
  unfold iblk
  rw [View.read_apply]
  generalize V m c = X
  refine (cast_eq _ _).trans ?_
  have hk : ((cfg0.win 5).blk (point b i)).view.emb (ix2 0 l) = (ix2 0 l) := by
    funext a
    apply Fin.ext
    match a with
    | ⟨0, _⟩ => show win0_5.index (point b i) 0 * 1 + 1 * 0 = 0; rw [hi 0]; show 0 * 1 + 1 * 0 = 0; omega
    | ⟨1, _⟩ => show win0_5.index (point b i) 1 * 128 + 1 * l.val = l.val; rw [hi 1]; show 0 * 128 + 1 * l.val = l.val; omega
  rw [hk]

theorem blk6 (c : Dev nD) (b : Fin 4) (i : Fin 16) (r : Fin 512) (l : Fin 128) :
    (iblk m c 6 (point b i) : Vec Ideal S1x512x128 .f32) (ix3 0 r l) = V m c main_v25 (ix3 b (seqRow i r) l) := by
  have hi := congrFun (idx6 b i)
  unfold iblk
  rw [View.read_apply]
  generalize V m c = X
  refine (cast_eq _ _).trans ?_
  have hk : ((cfg0.win 6).blk (point b i)).view.emb (ix3 0 r l) = (ix3 b (seqRow i r) l) := by
    funext a
    apply Fin.ext
    match a with
    | ⟨0, _⟩ => show win0_6.index (point b i) 0 * 1 + 1 * 0 = b.val; rw [hi 0]; show b.val * 1 + 1 * 0 = b.val; omega
    | ⟨1, _⟩ => show win0_6.index (point b i) 1 * 512 + 1 * r.val = 512 * i.val + r.val; rw [hi 1]; show i.val * 512 + 1 * r.val = 512 * i.val + r.val; omega
    | ⟨2, _⟩ => show win0_6.index (point b i) 2 * 128 + 1 * l.val = l.val; rw [hi 2]; show 0 * 128 + 1 * l.val = l.val; omega
  rw [hk]

theorem blk7 (c : Dev nD) (b : Fin 4) (i : Fin 16) (r : Fin 512) (l : Fin 128) :
    (iblk m c 7 (point b i) : Vec Ideal S1x512x128 .f32) (ix3 0 r l) = V m c main_v28 (ix3 b (seqRow i r) l) := by
  have hi := congrFun (idx7 b i)
  unfold iblk
  rw [View.read_apply]
  generalize V m c = X
  refine (cast_eq _ _).trans ?_
  have hk : ((cfg0.win 7).blk (point b i)).view.emb (ix3 0 r l) = (ix3 b (seqRow i r) l) := by
    funext a
    apply Fin.ext
    match a with
    | ⟨0, _⟩ => show win0_7.index (point b i) 0 * 1 + 1 * 0 = b.val; rw [hi 0]; show b.val * 1 + 1 * 0 = b.val; omega
    | ⟨1, _⟩ => show win0_7.index (point b i) 1 * 512 + 1 * r.val = 512 * i.val + r.val; rw [hi 1]; show i.val * 512 + 1 * r.val = 512 * i.val + r.val; omega
    | ⟨2, _⟩ => show win0_7.index (point b i) 2 * 128 + 1 * l.val = l.val; rw [hi 2]; show 0 * 128 + 1 * l.val = l.val; omega
  rw [hk]

theorem blk8 (c : Dev nD) (b : Fin 4) (i : Fin 16) (r : Fin 512) (l : Fin 128) :
    (iblk m c 8 (point b i) : Vec Ideal S1x512x128 .f32) (ix3 0 r l) = V m c main_v54 (ix3 b (seqRow i r) l) := by
  have hi := congrFun (idx8 b i)
  unfold iblk
  rw [View.read_apply]
  generalize V m c = X
  refine (cast_eq _ _).trans ?_
  have hk : ((cfg0.win 8).blk (point b i)).view.emb (ix3 0 r l) = (ix3 b (seqRow i r) l) := by
    funext a
    apply Fin.ext
    match a with
    | ⟨0, _⟩ => show win0_8.index (point b i) 0 * 1 + 1 * 0 = b.val; rw [hi 0]; show b.val * 1 + 1 * 0 = b.val; omega
    | ⟨1, _⟩ => show win0_8.index (point b i) 1 * 512 + 1 * r.val = 512 * i.val + r.val; rw [hi 1]; show i.val * 512 + 1 * r.val = 512 * i.val + r.val; omega
    | ⟨2, _⟩ => show win0_8.index (point b i) 2 * 128 + 1 * l.val = l.val; rw [hi 2]; show 0 * 128 + 1 * l.val = l.val; omega
  rw [hk]

theorem blk9 (c : Dev nD) (b : Fin 4) (i : Fin 16) (r : Fin 512) (l : Fin 128) :
    (iblk m c 9 (point b i) : Vec Ideal S1x512x128 .f32) (ix3 0 r l) = V m c main_v57 (ix3 b (seqRow i r) l) := by
  have hi := congrFun (idx9 b i)
  unfold iblk
  rw [View.read_apply]
  generalize V m c = X
  refine (cast_eq _ _).trans ?_
  have hk : ((cfg0.win 9).blk (point b i)).view.emb (ix3 0 r l) = (ix3 b (seqRow i r) l) := by
    funext a
    apply Fin.ext
    match a with
    | ⟨0, _⟩ => show win0_9.index (point b i) 0 * 1 + 1 * 0 = b.val; rw [hi 0]; show b.val * 1 + 1 * 0 = b.val; omega
    | ⟨1, _⟩ => show win0_9.index (point b i) 1 * 512 + 1 * r.val = 512 * i.val + r.val; rw [hi 1]; show i.val * 512 + 1 * r.val = 512 * i.val + r.val; omega
    | ⟨2, _⟩ => show win0_9.index (point b i) 2 * 128 + 1 * l.val = l.val; rw [hi 2]; show 0 * 128 + 1 * l.val = l.val; omega
  rw [hk]

end Cert.Proof.DsaIn

end
-- ==== Proof.DsaInFinal.lean ====
/- The arrays of the sparse attention's input projections after the run, block by block. -/
module

public import proofs.«01_k».proof.Defs
public import proofs.«01_k».proof.Proof.DsaInBlk
public import Idealize.ShloMosaic.Lib.Tactic
public import Idealize.ShloMosaic.Lib.Pointwise
public import Idealize.ShloMosaic.Lib.Tactic.CleanTypes
public import Idealize.ShloMosaic.Lib.Pipeline.ValueKit.Tiles

@[expose] public section

set_option maxRecDepth 16384

noncomputable section

open Idealize.ShloMosaic Idealize.ShloMosaic.TcCoe Idealize.SL.Sem Idealize.ShloMosaic.StableHlo

namespace Cert.Proof.DsaIn

open Cert.Kernel7Ideal Cert.Kernel7Ideal.Gen

variable (m : (ℓ : Loc nD τ sig) → Buf (Elt Ideal) ℓ)

/-- The array of output 10 after the run at a point's block. -/
theorem final10 (c : Dev nD) (b : Fin 4) (i : Fin 16) (r : Fin 512) (k : Fin 1024) :
    (dats m 0 c).arrAt 10 cfg0.N (ix3 b (seqRow i r) k) = out0_A_10 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) (ix3 0 r k) := by
  have hi := congrFun (idx10 b i)
  have h := Value.blocks10 m c (point b i) (flushes10 b i)
  rw [Value.flushed10_A] at h
  have h' := congrFun h (ix3 (0 : Fin 1) r k : S1x512x1024.Idx)
  rw [View.read_apply] at h'
  have he : ((cfg0.win 10).blk (point b i)).view.emb (ix3 (0 : Fin 1) r k : S1x512x1024.Idx) = ix3 b (seqRow i r) k := by
    funext a
    apply Fin.ext
    match a with
    | ⟨0, _⟩ => show win0_10.index (point b i) 0 * 1 + 1 * 0 = b.val; rw [hi 0]; show b.val * 1 + 1 * 0 = b.val; omega
    | ⟨1, _⟩ => show win0_10.index (point b i) 1 * 512 + 1 * r.val = 512 * i.val + r.val; rw [hi 1]; show i.val * 512 + 1 * r.val = 512 * i.val + r.val; omega
    | ⟨2, _⟩ => show win0_10.index (point b i) 2 * 1024 + 1 * k.val = k.val; rw [hi 2]; show 0 * 1024 + 1 * k.val = k.val; omega
  generalize (dats m 0 c).arrAt 10 cfg0.N = A at h' ⊢
  rw [he] at h'
  refine ((cast_eq _ _).symm).trans (h'.trans ?_)
  show out0_A_10 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) ((cfg0.win 10).xinj (grid0.coords (point b i)) (ix3 (0 : Fin 1) r k : S1x512x1024.Idx)) = _
  refine congrArg _ ?_
  funext a
  match a with
  | ⟨0, _⟩ => rfl
  | ⟨1, _⟩ => rfl
  | ⟨2, _⟩ => rfl

/-- The array of output 11 after the run at a point's block. -/
theorem final11 (c : Dev nD) (b : Fin 4) (i : Fin 16) (r : Fin 512) (k : Fin 256) :
    (dats m 0 c).arrAt 11 cfg0.N (ix3 b (seqRow i r) k) = out0_A_11 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) (ix3 0 r k) := by
  have hi := congrFun (idx11 b i)
  have h := Value.blocks11 m c (point b i) (flushes11 b i)
  rw [Value.flushed11_A] at h
  have h' := congrFun h (ix3 (0 : Fin 1) r k : S1x512x256.Idx)
  rw [View.read_apply] at h'
  have he : ((cfg0.win 11).blk (point b i)).view.emb (ix3 (0 : Fin 1) r k : S1x512x256.Idx) = ix3 b (seqRow i r) k := by
    funext a
    apply Fin.ext
    match a with
    | ⟨0, _⟩ => show win0_11.index (point b i) 0 * 1 + 1 * 0 = b.val; rw [hi 0]; show b.val * 1 + 1 * 0 = b.val; omega
    | ⟨1, _⟩ => show win0_11.index (point b i) 1 * 512 + 1 * r.val = 512 * i.val + r.val; rw [hi 1]; show i.val * 512 + 1 * r.val = 512 * i.val + r.val; omega
    | ⟨2, _⟩ => show win0_11.index (point b i) 2 * 256 + 1 * k.val = k.val; rw [hi 2]; show 0 * 256 + 1 * k.val = k.val; omega
  generalize (dats m 0 c).arrAt 11 cfg0.N = A at h' ⊢
  rw [he] at h'
  refine ((cast_eq _ _).symm).trans (h'.trans ?_)
  show out0_A_11 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) ((cfg0.win 11).xinj (grid0.coords (point b i)) (ix3 (0 : Fin 1) r k : S1x512x256.Idx)) = _
  refine congrArg _ ?_
  funext a
  match a with
  | ⟨0, _⟩ => rfl
  | ⟨1, _⟩ => rfl
  | ⟨2, _⟩ => rfl

/-- The array of output 12 after the run at a point's block. -/
theorem final12 (c : Dev nD) (b : Fin 4) (i : Fin 16) (k : Fin 288) (r : Fin 512) :
    (dats m 0 c).arrAt 12 cfg0.N (ix3 b k (seqRow i r)) = out0_A_12 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) (ix3 0 k r) := by
  have hi := congrFun (idx12 b i)
  have h := Value.blocks12 m c (point b i) (flushes12 b i)
  rw [Value.flushed12_A] at h
  have h' := congrFun h (ix3 (0 : Fin 1) k r : S1x288x512.Idx)
  rw [View.read_apply] at h'
  have he : ((cfg0.win 12).blk (point b i)).view.emb (ix3 (0 : Fin 1) k r : S1x288x512.Idx) = ix3 b k (seqRow i r) := by
    funext a
    apply Fin.ext
    match a with
    | ⟨0, _⟩ => show win0_12.index (point b i) 0 * 1 + 1 * 0 = b.val; rw [hi 0]; show b.val * 1 + 1 * 0 = b.val; omega
    | ⟨1, _⟩ => show win0_12.index (point b i) 1 * 288 + 1 * k.val = k.val; rw [hi 1]; show 0 * 288 + 1 * k.val = k.val; omega
    | ⟨2, _⟩ => show win0_12.index (point b i) 2 * 512 + 1 * r.val = 512 * i.val + r.val; rw [hi 2]; show i.val * 512 + 1 * r.val = 512 * i.val + r.val; omega
  generalize (dats m 0 c).arrAt 12 cfg0.N = A at h' ⊢
  rw [he] at h'
  refine ((cast_eq _ _).symm).trans (h'.trans ?_)
  show out0_A_12 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) ((cfg0.win 12).xinj (grid0.coords (point b i)) (ix3 (0 : Fin 1) k r : S1x288x512.Idx)) = _
  refine congrArg _ ?_
  funext a
  match a with
  | ⟨0, _⟩ => rfl
  | ⟨1, _⟩ => rfl
  | ⟨2, _⟩ => rfl

/-- The array of output 13 after the run at a point's block. -/
theorem final13 (c : Dev nD) (b : Fin 4) (i : Fin 16) (r : Fin 512) (k : Fin 512) :
    (dats m 0 c).arrAt 13 cfg0.N (ix3 b (seqRow i r) k) = out0_A_13 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) (ix3 0 r k) := by
  have hi := congrFun (idx13 b i)
  have h := Value.blocks13 m c (point b i) (flushes13 b i)
  rw [Value.flushed13_A] at h
  have h' := congrFun h (ix3 (0 : Fin 1) r k : S1x512x512.Idx)
  rw [View.read_apply] at h'
  have he : ((cfg0.win 13).blk (point b i)).view.emb (ix3 (0 : Fin 1) r k : S1x512x512.Idx) = ix3 b (seqRow i r) k := by
    funext a
    apply Fin.ext
    match a with
    | ⟨0, _⟩ => show win0_13.index (point b i) 0 * 1 + 1 * 0 = b.val; rw [hi 0]; show b.val * 1 + 1 * 0 = b.val; omega
    | ⟨1, _⟩ => show win0_13.index (point b i) 1 * 512 + 1 * r.val = 512 * i.val + r.val; rw [hi 1]; show i.val * 512 + 1 * r.val = 512 * i.val + r.val; omega
    | ⟨2, _⟩ => show win0_13.index (point b i) 2 * 512 + 1 * k.val = k.val; rw [hi 2]; show 0 * 512 + 1 * k.val = k.val; omega
  generalize (dats m 0 c).arrAt 13 cfg0.N = A at h' ⊢
  rw [he] at h'
  refine ((cast_eq _ _).symm).trans (h'.trans ?_)
  show out0_A_13 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) ((cfg0.win 13).xinj (grid0.coords (point b i)) (ix3 (0 : Fin 1) r k : S1x512x512.Idx)) = _
  refine congrArg _ ?_
  funext a
  match a with
  | ⟨0, _⟩ => rfl
  | ⟨1, _⟩ => rfl
  | ⟨2, _⟩ => rfl

/-- The array of output 14 after the run at a point's block. -/
theorem final14 (c : Dev nD) (b : Fin 4) (i : Fin 16) (r : Fin 512) (k : Fin 128) :
    (dats m 0 c).arrAt 14 cfg0.N (ix3 b (seqRow i r) k) = out0_A_14 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) (ix3 0 r k) := by
  have hi := congrFun (idx14 b i)
  have h := Value.blocks14 m c (point b i) (flushes14 b i)
  rw [Value.flushed14_A] at h
  have h' := congrFun h (ix3 (0 : Fin 1) r k : S1x512x128.Idx)
  rw [View.read_apply] at h'
  have he : ((cfg0.win 14).blk (point b i)).view.emb (ix3 (0 : Fin 1) r k : S1x512x128.Idx) = ix3 b (seqRow i r) k := by
    funext a
    apply Fin.ext
    match a with
    | ⟨0, _⟩ => show win0_14.index (point b i) 0 * 1 + 1 * 0 = b.val; rw [hi 0]; show b.val * 1 + 1 * 0 = b.val; omega
    | ⟨1, _⟩ => show win0_14.index (point b i) 1 * 512 + 1 * r.val = 512 * i.val + r.val; rw [hi 1]; show i.val * 512 + 1 * r.val = 512 * i.val + r.val; omega
    | ⟨2, _⟩ => show win0_14.index (point b i) 2 * 128 + 1 * k.val = k.val; rw [hi 2]; show 0 * 128 + 1 * k.val = k.val; omega
  generalize (dats m 0 c).arrAt 14 cfg0.N = A at h' ⊢
  rw [he] at h'
  refine ((cast_eq _ _).symm).trans (h'.trans ?_)
  show out0_A_14 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) ((cfg0.win 14).xinj (grid0.coords (point b i)) (ix3 (0 : Fin 1) r k : S1x512x128.Idx)) = _
  refine congrArg _ ?_
  funext a
  match a with
  | ⟨0, _⟩ => rfl
  | ⟨1, _⟩ => rfl
  | ⟨2, _⟩ => rfl

/-- The array of output 15 after the run at a point's block. -/
theorem final15 (c : Dev nD) (b : Fin 4) (i : Fin 16) (r : Fin 512) (k : Fin 128) :
    (dats m 0 c).arrAt 15 cfg0.N (ix3 b (seqRow i r) k) = out0_A_15 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) (ix3 0 r k) := by
  have hi := congrFun (idx15 b i)
  have h := Value.blocks15 m c (point b i) (flushes15 b i)
  rw [Value.flushed15_A] at h
  have h' := congrFun h (ix3 (0 : Fin 1) r k : S1x512x128.Idx)
  rw [View.read_apply] at h'
  have he : ((cfg0.win 15).blk (point b i)).view.emb (ix3 (0 : Fin 1) r k : S1x512x128.Idx) = ix3 b (seqRow i r) k := by
    funext a
    apply Fin.ext
    match a with
    | ⟨0, _⟩ => show win0_15.index (point b i) 0 * 1 + 1 * 0 = b.val; rw [hi 0]; show b.val * 1 + 1 * 0 = b.val; omega
    | ⟨1, _⟩ => show win0_15.index (point b i) 1 * 512 + 1 * r.val = 512 * i.val + r.val; rw [hi 1]; show i.val * 512 + 1 * r.val = 512 * i.val + r.val; omega
    | ⟨2, _⟩ => show win0_15.index (point b i) 2 * 128 + 1 * k.val = k.val; rw [hi 2]; show 0 * 128 + 1 * k.val = k.val; omega
  generalize (dats m 0 c).arrAt 15 cfg0.N = A at h' ⊢
  rw [he] at h'
  refine ((cast_eq _ _).symm).trans (h'.trans ?_)
  show out0_A_15 c (grid0.coords (point b i)) (ms0_0 (point b i)) (hs0_0 (point b i)) (ms0_1 (point b i)) (hs0_1 (point b i)) (ms0_2 (point b i)) (hs0_2 (point b i)) (ms0_3 (point b i)) (hs0_3 (point b i)) (ms0_4 (point b i)) (hs0_4 (point b i)) (ms0_5 (point b i)) (hs0_5 (point b i)) (ms0_6 (point b i)) (hs0_6 (point b i)) (ms0_7 (point b i)) (hs0_7 (point b i)) (ms0_8 (point b i)) (hs0_8 (point b i)) (ms0_9 (point b i)) (hs0_9 (point b i)) (ms0_10 (point b i)) (hs0_10 (point b i)) (ms0_11 (point b i)) (hs0_11 (point b i)) (ms0_12 (point b i)) (hs0_12 (point b i)) (ms0_13 (point b i)) (hs0_13 (point b i)) (ms0_14 (point b i)) (hs0_14 (point b i)) (ms0_15 (point b i)) (hs0_15 (point b i)) scM0_0 (Memref.isWhole_whole _) (iblk m c 0 (point b i)) (iblk m c 1 (point b i)) (iblk m c 2 (point b i)) (iblk m c 3 (point b i)) (iblk m c 4 (point b i)) (iblk m c 5 (point b i)) (iblk m c 6 (point b i)) (iblk m c 7 (point b i)) (iblk m c 8 (point b i)) (iblk m c 9 (point b i)) ((cfg0.win 15).xinj (grid0.coords (point b i)) (ix3 (0 : Fin 1) r k : S1x512x128.Idx)) = _
  refine congrArg _ ?_
  funext a
  match a with
  | ⟨0, _⟩ => rfl
  | ⟨1, _⟩ => rfl
  | ⟨2, _⟩ => rfl

end Cert.Proof.DsaIn

end
-- ==== Proof.DsaInKernel.lean ====
/- The results of the kernel of the sparse attention's input projections, entry by entry. -/
module

public import proofs.«01_k».proof.Defs
public import proofs.«01_k».proof.Proof.DsaInRot
public import proofs.«01_k».proof.Proof.DsaInCaseQ
public import proofs.«01_k».proof.Proof.DsaInCaseK
public import proofs.«01_k».proof.Proof.DsaInHostA
public import proofs.«01_k».proof.Proof.DsaInHostI
public import proofs.«01_k».proof.Proof.DsaInBlk
public import proofs.«01_k».proof.Proof.DsaInFinal
public import Idealize.ShloMosaic.Lib.Tactic
public import Idealize.ShloMosaic.Lib.Pointwise
public import Idealize.ShloMosaic.Lib.Tactic.CleanTypes
public import Idealize.ShloMosaic.Lib.Pipeline.ValueKit.Tiles

@[expose] public section

set_option maxRecDepth 16384

noncomputable section

open Idealize.ShloMosaic Idealize.ShloMosaic.TcCoe Idealize.SL.Sem Idealize.ShloMosaic.StableHlo

namespace Cert.Proof.DsaIn

open Cert.Kernel7Ideal Cert.Kernel7Ideal.Gen

variable (m : (ℓ : Loc nD τ sig) → Buf (Elt Ideal) ℓ)

open Cert.Proof.Moe (hid hrow)

/-- The arrays of the call. -/
abbrev aX (c : Dev nD) : (⟨3, ![4, 8192, 1024]⟩ : Shape).Idx → EReal := m ((c : Thread nD τ).loc main_arg0)
abbrev aG (c : Dev nD) : (⟨1, ![1024]⟩ : Shape).Idx → EReal := m ((c : Thread nD τ).loc main_arg1)
abbrev aSc (c : Dev nD) : (⟨3, ![4, 1, 1024]⟩ : Shape).Idx → EReal := m ((c : Thread nD τ).loc main_arg2)
abbrev aSh (c : Dev nD) : (⟨3, ![4, 1, 1024]⟩ : Shape).Idx → EReal := m ((c : Thread nD τ).loc main_arg3)
abbrev aW (c : Dev nD) : (⟨2, ![1024, 2120]⟩ : Shape).Idx → EReal := m ((c : Thread nD τ).loc main_arg5)
abbrev aK (c : Dev nD) : (⟨1, ![64]⟩ : Shape).Idx → EReal := m ((c : Thread nD τ).loc main_arg6)
abbrev aCA (c : Dev nD) : FVec Ideal S4x8192x16 .f32 := Host.cos (kAngA (m ((c : Thread nD τ).loc main_arg4)))
abbrev aSA (c : Dev nD) : FVec Ideal S4x8192x16 .f32 := Host.sin (kAngA (m ((c : Thread nD τ).loc main_arg4)))
abbrev aCI (c : Dev nD) : FVec Ideal S4x8192x8 .f32 := Host.cos (kAngI (m ((c : Thread nD τ).loc main_arg4)))
abbrev aSI (c : Dev nD) : FVec Ideal S4x8192x8 .f32 := Host.sin (kAngI (m ((c : Thread nD τ).loc main_arg4)))

theorem gain_at (c : Dev nD) (k : Fin 1024) : V m c main_v67 (ix2 0 k) = aG m c (ix1 k) := by
  rw [V_v67]
  unfold aG
  generalize m ((c : Thread nD τ).loc main_arg1) = g
  clean_types
  pointwise

section Block
variable (c : Dev nD) (b : Fin 4) (i : Fin 16) (r : Fin 512)
/-- The normalised rows of a block. -/
abbrev hB : FVec Ideal S512x1024 .bf16 := k0_pay2 (iblk m c 0 (point b i)) (iblk m c 1 (point b i)) (iblk m c 2 (point b i)) (iblk m c 3 (point b i))
theorem hB_at (j : Fin 1024) : hB m c b i (ix2 r j) = hrow (aX m c) (aG m c) (aSc m c) (aSh m c) b (seqRow i r) j := by
  refine (pay2_at _ _ _ _ _ _).trans ?_
  unfold hrow
  simp only [blk0, blk1, blk2, blk3]
  exact congrArg (fun g => hid _ g _ _ j) (funext fun k => gain_at m c k)
/-- The product of a block's rows with a block of columns. -/
theorem sum_at (n : ℕ) (l : Fin 128) (hn : n + l.val < 2304) :
    ∑ j, hB m c b i (ix2 r j) * cut (iblk m c 4 (point b i)) n (ix2 j l)
      = ∑ j, hrow (aX m c) (aG m c) (aSc m c) (aSh m c) b (seqRow i r) j * wT (aW m c) (ix2 j ⟨n + l.val, hn⟩) :=
  Finset.sum_congr rfl fun j _ => by
    rw [hB_at]
    refine congrArg (fun t : EReal => hrow (aX m c) (aG m c) (aSc m c) (aSh m c) b (seqRow i r) j * t) ?_
    exact ((cut_at _ n j l hn).trans (blk4 m c b i j ⟨n + l.val, hn⟩)).trans (congrFun (V_v64 m c) _)
theorem sum_lo (n : ℕ) (l : Fin 128) (hn : n + l.val < 2048) :
    ∑ j, hB m c b i (ix2 r j) * cut (iblk m c 4 (point b i)) n (ix2 j l)
      = proj (aX m c) (aG m c) (aSc m c) (aSh m c) (aW m c) b (seqRow i r) ⟨n + l.val, by omega⟩ := by
  rw [sum_at m c b i r n l (by omega)]
  unfold proj
  exact Finset.sum_congr rfl fun j _ => congrArg (_ * ·) (wT_lo _ j ⟨n + l.val, by omega⟩ hn)
theorem mm_lo (n : ℕ) (hn : n + 128 ≤ 2048) (l : Fin 128) : mm (hB m c b i) (cut (iblk m c 4 (point b i)) n) (ix2 r l)
    = proj (aX m c) (aG m c) (aSc m c) (aSh m c) (aW m c) b (seqRow i r) ⟨n + l.val, by omega⟩ :=
  (mm_at _ _ r l).trans (sum_lo m c b i r n l (by omega))
theorem mm_key (l : Fin 128) : mm (hB m c b i) (cut (iblk m c 4 (point b i)) 2048) (ix2 r l)
    = wide (fun l => proj (aX m c) (aG m c) (aSc m c) (aSh m c) (aW m c) b (seqRow i r) ⟨2048 + l.val, by omega⟩) l := by
  refine (mm_at _ _ r l).trans ((sum_at m c b i r 2048 l (by omega)).trans ?_)
  unfold wide
  by_cases h : l.val < 64
  · rw [dif_pos h]
    exact Finset.sum_congr rfl fun j _ => congrArg (_ * ·) ((wT_key _ j l).trans (dif_pos h))
  · rw [dif_neg h]
    exact Finset.sum_eq_zero fun j _ => (congrArg (_ * ·) ((wT_key _ j l).trans (dif_neg h))).trans (mul_zero _)
theorem cosA_at (l : Fin 128) : k0_pay3 (iblk m c 6 (point b i)) (ix2 r l) = cosTab (fun e => aCA m c (ix3 b (seqRow i r) e)) l.val :=
  (pay3_at _ _ _).trans ((blk6 m c b i r l).trans ((congrFun (V_v25 m c) _).trans (tabCA_at b (seqRow i r) l _)))
theorem sinA_at (l : Fin 128) : k0_pay4 (iblk m c 7 (point b i)) (ix2 r l) = sinTab (fun e => aSA m c (ix3 b (seqRow i r) e)) l.val :=
  (pay4_at _ _ _).trans ((blk7 m c b i r l).trans ((congrFun (V_v28 m c) _).trans (tabSA_at b (seqRow i r) l _)))
theorem cosI_at (l : Fin 128) : k0_pay5 (iblk m c 8 (point b i)) (ix2 r l) = cosTab (fun e => aCI m c (ix3 b (seqRow i r) e)) (l.val % 64) :=
  (pay5_at _ _ _).trans ((blk8 m c b i r l).trans ((congrFun (V_v54 m c) _).trans (tabCI_at b (seqRow i r) l _)))
theorem sinI_at (l : Fin 128) : k0_pay6 (iblk m c 9 (point b i)) (ix2 r l) = sinTab (fun e => aSI m c (ix3 b (seqRow i r) e)) (l.val % 64) :=
  (pay6_at _ _ _).trans ((blk9 m c b i r l).trans ((congrFun (V_v57 m c) _).trans (tabSI_at b (seqRow i r) l _)))
end Block

section Result
variable (c : Dev nD) (b : Fin 4) (s : Fin 8192)
theorem resQ (e : Fin 1024) : (dats m 0 c).arrAt 10 cfg0.N (ix3 b s e)
    = outQ (aX m c) (aG m c) (aSc m c) (aSh m c) (aW m c) (aCA m c) (aSA m c) b s e := by
  obtain ⟨i, r, rfl⟩ := rows s
  rw [final10, out10_at]
  refine (qV_at _ _ _ _ _ _).trans ?_
  unfold outQ
  refine congrArg (· * scale) ?_
  exact ropeA _ _ _ r (fun l => proj (aX m c) (aG m c) (aSc m c) (aSh m c) (aW m c) b (seqRow i r) ⟨e.val / 128 * 128 + l.val, by omega⟩) _ _
    (mm_lo m c b i r (e.val / 128 * 128) (by omega)) (cosA_at m c b i r) (sinA_at m c b i r) _
theorem resK (e : Fin 256) : (dats m 0 c).arrAt 11 cfg0.N (ix3 b s e)
    = outK (aX m c) (aG m c) (aSc m c) (aSh m c) (aW m c) (aCA m c) (aSA m c) b s e := by
  obtain ⟨i, r, rfl⟩ := rows s
  rw [final11, out11_at]
  refine (kV_at _ _ _ _ _ _).trans ?_
  unfold outK
  exact ropeA _ _ _ r (fun l => proj (aX m c) (aG m c) (aSc m c) (aSh m c) (aW m c) b (seqRow i r) ⟨1024 + (e.val / 128 * 128 + l.val), by omega⟩) _ _
    (fun l => (mm_lo m c b i r (1024 + e.val / 128 * 128) (by omega) l).trans (congrArg (proj _ _ _ _ _ b (seqRow i r)) (Fin.ext (Nat.add_assoc _ _ _))))
    (cosA_at m c b i r) (sinA_at m c b i r) _
theorem resQi (e : Fin 512) : (dats m 0 c).arrAt 13 cfg0.N (ix3 b s e)
    = outQi (aX m c) (aG m c) (aSc m c) (aSh m c) (aW m c) (aCI m c) (aSI m c) b s e := by
  obtain ⟨i, r, rfl⟩ := rows s
  rw [final13, out13_at]
  refine (qiV_at _ _ _ _ _ _).trans ?_
  unfold outQi
  refine (ropeI _ _ _ r (fun l => proj (aX m c) (aG m c) (aSc m c) (aSh m c) (aW m c) b (seqRow i r) ⟨1536 + e.val / 128 * 128 + l.val, by omega⟩) _ _
    (mm_lo m c b i r (1536 + e.val / 128 * 128) (by omega)) (cosI_at m c b i r) (sinI_at m c b i r) _).trans ?_
  refine rope_congr _ _ _ (fun j => congrArg (proj _ _ _ _ _ b (seqRow i r)) (Fin.ext ?_)) (Fin.ext ?_)
  · show 1536 + e.val / 128 * 128 + (e.val % 128 / 64 * 64 + j.val) = 1536 + (e.val / 64 * 64 + j.val)
    omega
  · show e.val % 128 % 64 = e.val % 64
    omega
theorem resV (k : Fin 288) : (dats m 0 c).arrAt 12 cfg0.N (ix3 b k s)
    = outV (aX m c) (aG m c) (aSc m c) (aSh m c) (aW m c) b k s := by
  obtain ⟨i, r, rfl⟩ := rows s
  rw [final12, out12_at]
  unfold outV
  refine dite_congr rfl (fun h => ?_) fun _ => rfl
  refine (payV_at _ _ _ _).trans ((sum_lo m c b i r (1280 + k.val / 144 * 128) ⟨k.val % 144, h⟩ (by show 1280 + k.val / 144 * 128 + k.val % 144 < 2048; omega)).trans ?_)
  exact congrArg (proj _ _ _ _ _ b (seqRow i r)) (Fin.ext (Nat.add_assoc _ _ _))
theorem resWi (k : Fin 128) : (dats m 0 c).arrAt 15 cfg0.N (ix3 b s k)
    = outWi (aX m c) (aG m c) (aSc m c) (aSh m c) (aW m c) b s k := by
  obtain ⟨i, r, rfl⟩ := rows s
  rw [final15, out15_eq]
  refine (pay1_at _ _ _ _).trans ?_
  rw [sum_at m c b i r 2176 k (by omega)]
  unfold outWi
  by_cases h : k.val < 8
  · rw [dif_pos h]
    exact congrArg (· * wscale) (Finset.sum_congr rfl fun j _ => congrArg (_ * ·) ((wT_wt _ j k).trans (dif_pos h)))
  · rw [dif_neg h]
    refine (congrArg (· * wscale) (Finset.sum_eq_zero fun j _ => (congrArg (_ * ·) ((wT_wt _ j k).trans (dif_neg h))).trans (mul_zero _))).trans (zero_mul _)
theorem key_at (i : Fin 16) (r : Fin 512) (l : Fin 128) :
    keyV (mm (hB m c b i) (cut (iblk m c 4 (point b i)) 2048)) (k0_pay50 (hB m c b i) (cut (iblk m c 4 (point b i)) 2048)) (iblk m c 5 (point b i)) (ix2 r l)
      = wide (keyN (aX m c) (aG m c) (aSc m c) (aSh m c) (aW m c) (aK m c) b (seqRow i r)) l := by
  refine (keyV_at _ _ _ _ _).trans ?_
  have hg : (iblk m c 5 (point b i) : Vec Ideal S1x128 .f32) (ix2 0 l) = if h : l.val < 64 then aK m c (ix1 ⟨l.val, h⟩) else 0 :=
    (blk5 m c b i l).trans ((congrFun (V_v66 m c) _).trans (gT_at _ l))
  have hq := pay50_at (hB m c b i) (cut (iblk m c 4 (point b i)) 2048) r
  simp only [mm_key] at hq
  rw [sum_lower _ (fun l h => dif_neg (by omega))] at hq
  rw [mm_key, hg, hq]
  unfold wide
  by_cases h : l.val < 64
  · simp only [dif_pos h]
    unfold keyN invRms64
    rw [div64]
    refine congrArg (fun t => proj _ _ _ _ _ b (seqRow i r) _ * Ideal.rsqrt (t * Ideal.ofBits .f32 0x3C800000#32 + Ideal.ofBits .f32 0x358637BD#32) * _) ?_
    exact Finset.sum_congr rfl fun j _ => by rw [dif_pos j.isLt]
  · simp only [dif_neg h]
    rw [zero_mul, zero_mul]
theorem resKi (l : Fin 128) : (dats m 0 c).arrAt 14 cfg0.N (ix3 b s l)
    = outKi (aX m c) (aG m c) (aSc m c) (aSh m c) (aW m c) (aK m c) (aCI m c) (aSI m c) b s l := by
  obtain ⟨i, r, rfl⟩ := rows s
  rw [final14, out14_eq]
  refine (pay51_at _ _ _ _ _ _ _).trans ?_
  unfold outKi
  rw [ropeI _ _ _ r _ _ _ (key_at m c b i r) (cosI_at m c b i r) (sinI_at m c b i r), ropeI _ _ _ r _ _ _ (key_at m c b i r) (cosI_at m c b i r) (sinI_at m c b i r)]
  exact rope_twice _ _ _ l
end Result

end Cert.Proof.DsaIn

end
-- ==== Proof.DsaInRef.lean ====
/- The results of the sparse attention's plain projections, entry by entry. -/
module

public import proofs.«01_k».proof.Proof.DsaInMath
public import proofs.«01_k».proof.Reference7Ideal
public import proofs.«01_k».proof.Proof.Gen.Reference7Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.DsaIn.Plain

open Cert.Reference7Ideal Cert.Reference7Ideal.Gen
open Cert.Proof.Moe (hrow)

/-- The angles of the attention heads. -/
def angA (a4 : IVec S4x8192 32) : FVec Ideal S4x8192x16 .f32 := mulf (broadcastInDim S4x8192x16 ![0, 1, 2] bcast_S4x8192x1_S4x8192x16_0_1_2 (broadcastInDim S4x8192x1 ![0, 1] bcast_S4x8192_S4x8192x1_0_1 (sitofp .f32 a4))) (broadcastInDim S4x8192x16 ![0, 1, 2] bcast_S1x1x16_S4x8192x16_0_1_2 (broadcastInDim S1x1x16 ![2] bcast_S16_S1x1x16_2 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))
/-- The angles of the indexer heads. -/
def angI (a4 : IVec S4x8192 32) : FVec Ideal S4x8192x8 .f32 := mulf (broadcastInDim S4x8192x8 ![0, 1, 2] bcast_S4x8192x1_S4x8192x8_0_1_2 (broadcastInDim S4x8192x1 ![0, 1] bcast_S4x8192_S4x8192x1_0_1 (sitofp .f32 a4))) (broadcastInDim S4x8192x8 ![0, 1, 2] bcast_S1x1x8_S4x8192x8_0_1_2 (broadcastInDim S1x1x8 ![2] bcast_S8_S1x1x8_2 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))
/-- The normalised rows. -/
def hT (a0 : FVec Ideal S4x8192x1024 .f32) (a1 : FVec Ideal S1024 .f32) (a2 a3 : FVec Ideal S4x1x1024 .f32) : FVec Ideal S4x8192x1024 .f32 := addf (mulf (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1))) (broadcastInDim S4x8192x1024 ![0, 1, 2] bcast_S4x1x1024_S4x8192x1024_0_1_2 (addf (broadcastInDim S4x1x1024 ![] bcast_S_S4x1x1024 (constant S_ .f32 0x3F800000#32)) a2))) (broadcastInDim S4x8192x1024 ![0, 1, 2] bcast_S4x1x1024_S4x8192x1024_0_1_2 a3)
/-- The joint product. -/
def yT (a0 : FVec Ideal S4x8192x1024 .f32) (a1 : FVec Ideal S1024 .f32) (a2 a3 : FVec Ideal S4x1x1024 .f32) (a5 : FVec Ideal S1024x2120 .f32) : FVec Ideal S4x8192x2120 .f32 := Host.dotGeneral dot_S4x8192x1024_S1024x2120_S4x8192x2120_2_0_01_1_n_n none (hT a0 a1 a2 a3) a5
/-- The query heads, rotated. -/
def q4 (x : FVec Ideal S4x8192x8x128 .f32) (c s : FVec Ideal S4x8192x16 .f32) : FVec Ideal S4x8192x8x128 .f32 := concatenate S4x8192x8x128 3 [⟨S4x8192x8x32, (concatenate S4x8192x8x32 3 [⟨S4x8192x8x16, (subf (mulf (extractStridedSlice S4x8192x8x16 ![0, 0, 0, 0] (extractStridedSlice S4x8192x8x32 ![0, 0, 0, 0] x slices_S4x8192x8x128_S4x8192x8x32_0_0_0_0) slices_S4x8192x8x32_S4x8192x8x16_0_0_0_0) (broadcastInDim S4x8192x8x16 ![0, 1, 2, 3] bcast_S4x8192x1x16_S4x8192x8x16_0_1_2_3 (broadcastInDim S4x8192x1x16 ![0, 1, 3] bcast_S4x8192x16_S4x8192x1x16_0_1_3 c))) (mulf (extractStridedSlice S4x8192x8x16 ![0, 0, 0, 16] (extractStridedSlice S4x8192x8x32 ![0, 0, 0, 0] x slices_S4x8192x8x128_S4x8192x8x32_0_0_0_0) slices_S4x8192x8x32_S4x8192x8x16_0_0_0_16) (broadcastInDim S4x8192x8x16 ![0, 1, 2, 3] bcast_S4x8192x1x16_S4x8192x8x16_0_1_2_3 (broadcastInDim S4x8192x1x16 ![0, 1, 3] bcast_S4x8192x16_S4x8192x1x16_0_1_3 s))))⟩, ⟨S4x8192x8x16, (addf (mulf (extractStridedSlice S4x8192x8x16 ![0, 0, 0, 16] (extractStridedSlice S4x8192x8x32 ![0, 0, 0, 0] x slices_S4x8192x8x128_S4x8192x8x32_0_0_0_0) slices_S4x8192x8x32_S4x8192x8x16_0_0_0_16) (broadcastInDim S4x8192x8x16 ![0, 1, 2, 3] bcast_S4x8192x1x16_S4x8192x8x16_0_1_2_3 (broadcastInDim S4x8192x1x16 ![0, 1, 3] bcast_S4x8192x16_S4x8192x1x16_0_1_3 c))) (mulf (extractStridedSlice S4x8192x8x16 ![0, 0, 0, 0] (extractStridedSlice S4x8192x8x32 ![0, 0, 0, 0] x slices_S4x8192x8x128_S4x8192x8x32_0_0_0_0) slices_S4x8192x8x32_S4x8192x8x16_0_0_0_0) (broadcastInDim S4x8192x8x16 ![0, 1, 2, 3] bcast_S4x8192x1x16_S4x8192x8x16_0_1_2_3 (broadcastInDim S4x8192x1x16 ![0, 1, 3] bcast_S4x8192x16_S4x8192x1x16_0_1_3 s))))⟩] concatenates_S4x8192x8x16_S4x8192x8x16_S4x8192x8x32_d3)⟩, ⟨S4x8192x8x96, (extractStridedSlice S4x8192x8x96 ![0, 0, 0, 32] x slices_S4x8192x8x128_S4x8192x8x96_0_0_0_32)⟩] concatenates_S4x8192x8x32_S4x8192x8x96_S4x8192x8x128_d3
/-- The key heads, rotated. -/
def k4 (x : FVec Ideal S4x8192x2x128 .f32) (c s : FVec Ideal S4x8192x16 .f32) : FVec Ideal S4x8192x2x128 .f32 := concatenate S4x8192x2x128 3 [⟨S4x8192x2x32, (concatenate S4x8192x2x32 3 [⟨S4x8192x2x16, (subf (mulf (extractStridedSlice S4x8192x2x16 ![0, 0, 0, 0] (extractStridedSlice S4x8192x2x32 ![0, 0, 0, 0] x slices_S4x8192x2x128_S4x8192x2x32_0_0_0_0) slices_S4x8192x2x32_S4x8192x2x16_0_0_0_0) (broadcastInDim S4x8192x2x16 ![0, 1, 2, 3] bcast_S4x8192x1x16_S4x8192x2x16_0_1_2_3 (broadcastInDim S4x8192x1x16 ![0, 1, 3] bcast_S4x8192x16_S4x8192x1x16_0_1_3 c))) (mulf (extractStridedSlice S4x8192x2x16 ![0, 0, 0, 16] (extractStridedSlice S4x8192x2x32 ![0, 0, 0, 0] x slices_S4x8192x2x128_S4x8192x2x32_0_0_0_0) slices_S4x8192x2x32_S4x8192x2x16_0_0_0_16) (broadcastInDim S4x8192x2x16 ![0, 1, 2, 3] bcast_S4x8192x1x16_S4x8192x2x16_0_1_2_3 (broadcastInDim S4x8192x1x16 ![0, 1, 3] bcast_S4x8192x16_S4x8192x1x16_0_1_3 s))))⟩, ⟨S4x8192x2x16, (addf (mulf (extractStridedSlice S4x8192x2x16 ![0, 0, 0, 16] (extractStridedSlice S4x8192x2x32 ![0, 0, 0, 0] x slices_S4x8192x2x128_S4x8192x2x32_0_0_0_0) slices_S4x8192x2x32_S4x8192x2x16_0_0_0_16) (broadcastInDim S4x8192x2x16 ![0, 1, 2, 3] bcast_S4x8192x1x16_S4x8192x2x16_0_1_2_3 (broadcastInDim S4x8192x1x16 ![0, 1, 3] bcast_S4x8192x16_S4x8192x1x16_0_1_3 c))) (mulf (extractStridedSlice S4x8192x2x16 ![0, 0, 0, 0] (extractStridedSlice S4x8192x2x32 ![0, 0, 0, 0] x slices_S4x8192x2x128_S4x8192x2x32_0_0_0_0) slices_S4x8192x2x32_S4x8192x2x16_0_0_0_0) (broadcastInDim S4x8192x2x16 ![0, 1, 2, 3] bcast_S4x8192x1x16_S4x8192x2x16_0_1_2_3 (broadcastInDim S4x8192x1x16 ![0, 1, 3] bcast_S4x8192x16_S4x8192x1x16_0_1_3 s))))⟩] concatenates_S4x8192x2x16_S4x8192x2x16_S4x8192x2x32_d3)⟩, ⟨S4x8192x2x96, (extractStridedSlice S4x8192x2x96 ![0, 0, 0, 32] x slices_S4x8192x2x128_S4x8192x2x96_0_0_0_32)⟩] concatenates_S4x8192x2x32_S4x8192x2x96_S4x8192x2x128_d3
/-- The indexer's query heads, rotated. -/
def qi4 (x : FVec Ideal S4x8192x8x64 .f32) (c s : FVec Ideal S4x8192x8 .f32) : FVec Ideal S4x8192x8x64 .f32 := concatenate S4x8192x8x64 3 [⟨S4x8192x8x16, (concatenate S4x8192x8x16 3 [⟨S4x8192x8x8, (subf (mulf (extractStridedSlice S4x8192x8x8 ![0, 0, 0, 0] (extractStridedSlice S4x8192x8x16 ![0, 0, 0, 0] x slices_S4x8192x8x64_S4x8192x8x16_0_0_0_0) slices_S4x8192x8x16_S4x8192x8x8_0_0_0_0) (broadcastInDim S4x8192x8x8 ![0, 1, 2, 3] bcast_S4x8192x1x8_S4x8192x8x8_0_1_2_3 (broadcastInDim S4x8192x1x8 ![0, 1, 3] bcast_S4x8192x8_S4x8192x1x8_0_1_3 c))) (mulf (extractStridedSlice S4x8192x8x8 ![0, 0, 0, 8] (extractStridedSlice S4x8192x8x16 ![0, 0, 0, 0] x slices_S4x8192x8x64_S4x8192x8x16_0_0_0_0) slices_S4x8192x8x16_S4x8192x8x8_0_0_0_8) (broadcastInDim S4x8192x8x8 ![0, 1, 2, 3] bcast_S4x8192x1x8_S4x8192x8x8_0_1_2_3 (broadcastInDim S4x8192x1x8 ![0, 1, 3] bcast_S4x8192x8_S4x8192x1x8_0_1_3 s))))⟩, ⟨S4x8192x8x8, (addf (mulf (extractStridedSlice S4x8192x8x8 ![0, 0, 0, 8] (extractStridedSlice S4x8192x8x16 ![0, 0, 0, 0] x slices_S4x8192x8x64_S4x8192x8x16_0_0_0_0) slices_S4x8192x8x16_S4x8192x8x8_0_0_0_8) (broadcastInDim S4x8192x8x8 ![0, 1, 2, 3] bcast_S4x8192x1x8_S4x8192x8x8_0_1_2_3 (broadcastInDim S4x8192x1x8 ![0, 1, 3] bcast_S4x8192x8_S4x8192x1x8_0_1_3 c))) (mulf (extractStridedSlice S4x8192x8x8 ![0, 0, 0, 0] (extractStridedSlice S4x8192x8x16 ![0, 0, 0, 0] x slices_S4x8192x8x64_S4x8192x8x16_0_0_0_0) slices_S4x8192x8x16_S4x8192x8x8_0_0_0_0) (broadcastInDim S4x8192x8x8 ![0, 1, 2, 3] bcast_S4x8192x1x8_S4x8192x8x8_0_1_2_3 (broadcastInDim S4x8192x1x8 ![0, 1, 3] bcast_S4x8192x8_S4x8192x1x8_0_1_3 s))))⟩] concatenates_S4x8192x8x8_S4x8192x8x8_S4x8192x8x16_d3)⟩, ⟨S4x8192x8x48, (extractStridedSlice S4x8192x8x48 ![0, 0, 0, 16] x slices_S4x8192x8x64_S4x8192x8x48_0_0_0_16)⟩] concatenates_S4x8192x8x16_S4x8192x8x48_S4x8192x8x64_d3
/-- The indexer's key, rotated. -/
def ki3 (x : FVec Ideal S4x8192x64 .f32) (c s : FVec Ideal S4x8192x8 .f32) : FVec Ideal S4x8192x64 .f32 := concatenate S4x8192x64 2 [⟨S4x8192x16, (concatenate S4x8192x16 2 [⟨S4x8192x8, (subf (mulf (extractStridedSlice S4x8192x8 ![0, 0, 0] (extractStridedSlice S4x8192x16 ![0, 0, 0] x slices_S4x8192x64_S4x8192x16_0_0_0) slices_S4x8192x16_S4x8192x8_0_0_0) c) (mulf (extractStridedSlice S4x8192x8 ![0, 0, 8] (extractStridedSlice S4x8192x16 ![0, 0, 0] x slices_S4x8192x64_S4x8192x16_0_0_0) slices_S4x8192x16_S4x8192x8_0_0_8) s))⟩, ⟨S4x8192x8, (addf (mulf (extractStridedSlice S4x8192x8 ![0, 0, 8] (extractStridedSlice S4x8192x16 ![0, 0, 0] x slices_S4x8192x64_S4x8192x16_0_0_0) slices_S4x8192x16_S4x8192x8_0_0_8) c) (mulf (extractStridedSlice S4x8192x8 ![0, 0, 0] (extractStridedSlice S4x8192x16 ![0, 0, 0] x slices_S4x8192x64_S4x8192x16_0_0_0) slices_S4x8192x16_S4x8192x8_0_0_0) s))⟩] concatenates_S4x8192x8_S4x8192x8_S4x8192x16_d2)⟩, ⟨S4x8192x48, (extractStridedSlice S4x8192x48 ![0, 0, 16] x slices_S4x8192x64_S4x8192x48_0_0_16)⟩] concatenates_S4x8192x16_S4x8192x48_S4x8192x64_d2
/-- The indexer's key, normalised. -/
def nrm (x : FVec Ideal S4x8192x64 .f32) (a6 : FVec Ideal S64 .f32) : FVec Ideal S4x8192x64 .f32 := mulf (mulf x (broadcastInDim S4x8192x64 ![0, 1, 2] bcast_S4x8192x1_S4x8192x64_0_1_2 (Host.rsqrt (addf (Host.divf (broadcastInDim S4x8192x1 ![0, 1] bcast_S4x8192_S4x8192x1_0_1 (Host.reduceAdd (mulf x x) (constant S_ .f32 0x00000000#32) reducesTo_S4x8192x64_S4x8192_d2 h_S_)) (broadcastInDim S4x8192x1 ![] bcast_S_S4x8192x1 (constant S_ .f32 0x42800000#32))) (broadcastInDim S4x8192x1 ![] bcast_S_S4x8192x1 (constant S_ .f32 0x358637BD#32)))))) (broadcastInDim S4x8192x64 ![0, 1, 2] bcast_S1x1x64_S4x8192x64_0_1_2 (broadcastInDim S1x1x64 ![2] bcast_S64_S1x1x64_2 a6))
/-- The query heads. -/
def x62 (y : FVec Ideal S4x8192x2120 .f32) : FVec Ideal S4x8192x8x128 .f32 := shapeCast _ (extractStridedSlice S4x8192x1024 ![0, 0, 0] y slices_S4x8192x2120_S4x8192x1024_0_0_0) shapeCasts_S4x8192x1024_S4x8192x8x128
/-- The key heads. -/
def x83 (y : FVec Ideal S4x8192x2120 .f32) : FVec Ideal S4x8192x2x128 .f32 := shapeCast _ (extractStridedSlice S4x8192x256 ![0, 0, 1024] y slices_S4x8192x2120_S4x8192x256_0_0_1024) shapeCasts_S4x8192x256_S4x8192x2x128
/-- The indexer's query heads. -/
def x106 (y : FVec Ideal S4x8192x2120 .f32) : FVec Ideal S4x8192x8x64 .f32 := shapeCast _ (extractStridedSlice S4x8192x512 ![0, 0, 1536] y slices_S4x8192x2120_S4x8192x512_0_0_1536) shapeCasts_S4x8192x512_S4x8192x8x64
/-- The indexer's key. -/
def x60 (y : FVec Ideal S4x8192x2120 .f32) : FVec Ideal S4x8192x64 .f32 := extractStridedSlice S4x8192x64 ![0, 0, 2048] y slices_S4x8192x2120_S4x8192x64_0_0_2048
/-- The scaled queries of a product's query heads. -/
def qT (x : FVec Ideal S4x8192x8x128 .f32) (c s : FVec Ideal S4x8192x16 .f32) : FVec Ideal S4x8192x1024 .bf16 := truncf .bf16 (shapeCast _ (mulf (q4 x c s) (broadcastInDim S4x8192x8x128 ![] bcast_S_S4x8192x8x128 (constant S_ .f32 0x3DB504F3#32))) shapeCasts_S4x8192x8x128_S4x8192x1024) bitsLt_bf16_f32
/-- The keys. -/
def kT (x : FVec Ideal S4x8192x2x128 .f32) (c s : FVec Ideal S4x8192x16 .f32) : FVec Ideal S4x8192x256 .bf16 := truncf .bf16 (shapeCast _ (k4 x c s) shapeCasts_S4x8192x2x128_S4x8192x256) bitsLt_bf16_f32
/-- The values. -/
def vT (y : FVec Ideal S4x8192x2120 .f32) : FVec Ideal S4x288x8192 .bf16 := truncf .bf16 (shapeCast _ (concatenate S4x2x144x8192 2 [⟨S4x2x128x8192, (transpose S4x2x128x8192 [0, 2, 3, 1] (shapeCast _ (extractStridedSlice S4x8192x256 ![0, 0, 1280] y slices_S4x8192x2120_S4x8192x256_0_0_1280) shapeCasts_S4x8192x256_S4x8192x2x128) transposes_S4x8192x2x128_S4x2x128x8192_0_2_3_1)⟩, ⟨S4x2x16x8192, (broadcastInDim S4x2x16x8192 ![] bcast_S_S4x2x16x8192 (constant S_ .f32 0x3F800000#32))⟩] concatenates_S4x2x128x8192_S4x2x16x8192_S4x2x144x8192_d2) shapeCasts_S4x2x144x8192_S4x288x8192) bitsLt_bf16_f32
/-- The indexer's queries. -/
def qiT (x : FVec Ideal S4x8192x8x64 .f32) (c s : FVec Ideal S4x8192x8 .f32) : FVec Ideal S4x8192x512 .bf16 := truncf .bf16 (shapeCast _ (qi4 x c s) shapeCasts_S4x8192x8x64_S4x8192x512) bitsLt_bf16_f32
/-- The indexer's keys. -/
def kiT (x : FVec Ideal S4x8192x64 .f32) (c s : FVec Ideal S4x8192x8 .f32) : FVec Ideal S4x8192x128 .bf16 := truncf .bf16 (concatenate S4x8192x128 2 [⟨S4x8192x64, (ki3 x c s)⟩, ⟨S4x8192x64, (ki3 x c s)⟩] concatenates_S4x8192x64_S4x8192x64_S4x8192x128_d2) bitsLt_bf16_f32
/-- The indexer's weights. -/
def wiT (y : FVec Ideal S4x8192x2120 .f32) : FVec Ideal S4x8192x128 .f32 := pad S4x8192x128 ![0, 0, 0] ![0, 0, 120] ![0, 0, 0] (mulf (extractStridedSlice S4x8192x8 ![0, 0, 2112] y slices_S4x8192x2120_S4x8192x8_0_0_2112) (broadcastInDim S4x8192x8 ![] bcast_S_S4x8192x8 (constant S_ .f32 0x3D3504F3#32))) (sitofp .f32 (constantI S_ 32 0#32)) pads_S4x8192x8_S4x8192x128_000_000_01200 h_S_

end Cert.Proof.DsaIn.Plain

end
-- ==== Proof.DsaInRefCut.lean ====
/- The cuts of the joint product of the reference of the sparse attention's input projections, entry by entry. -/
module

public import proofs.«01_k».proof.Proof.DsaInRef

public import proofs.«01_k».proof.Proof.DsaInMath
public import proofs.«01_k».proof.Reference7Ideal
public import proofs.«01_k».proof.Proof.Gen.Reference7Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.DsaIn.Plain

open Cert.Reference7Ideal Cert.Reference7Ideal.Gen
open Cert.Proof.Moe (hrow)

variable (a0 : FVec Ideal S4x8192x1024 .f32) (a1 : FVec Ideal S1024 .f32) (a2 a3 : FVec Ideal S4x1x1024 .f32) (a5 : FVec Ideal S1024x2120 .f32)

theorem hT_at (b : Fin 4) (s : Fin 8192) (k : Fin 1024) : hT a0 a1 a2 a3 (ix3 b s k) = hrow a0 a1 a2 a3 b s k := by
  pointwise [hT]
  rfl
theorem yT_at (b : Fin 4) (s : Fin 8192) (k : Fin 2120) : yT a0 a1 a2 a3 a5 (ix3 b s k) = proj a0 a1 a2 a3 a5 b s k := by
  pointwise [yT]
  simp only [hT_at]
  rfl

section Cut
variable (y : FVec Ideal S4x8192x2120 .f32)
theorem x62_at (b : Fin 4) (t : Fin 8192) (h : Fin 8) (l : Fin 128) : x62 y (ix4 b t h l) = y (ix3 b t ⟨h.val * 128 + l.val, by omega⟩) := by
  pointwise [x62]
theorem x83_at (b : Fin 4) (t : Fin 8192) (h : Fin 2) (l : Fin 128) : x83 y (ix4 b t h l) = y (ix3 b t ⟨1024 + (h.val * 128 + l.val), by omega⟩) := by
  pointwise [x83]
theorem x106_at (b : Fin 4) (t : Fin 8192) (h : Fin 8) (l : Fin 64) : x106 y (ix4 b t h l) = y (ix3 b t ⟨1536 + (h.val * 64 + l.val), by omega⟩) := by
  pointwise [x106]
theorem x60_at (b : Fin 4) (t : Fin 8192) (l : Fin 64) : x60 y (ix3 b t l) = y (ix3 b t ⟨2048 + l.val, by omega⟩) := by
  pointwise [x60]
theorem nrm_at (x : FVec Ideal S4x8192x64 .f32) (a6 : FVec Ideal S64 .f32) (b : Fin 4) (t : Fin 8192) (l : Fin 64) :
    nrm x a6 (ix3 b t l) = x (ix3 b t l) * invRms64 (fun l => x (ix3 b t l)) * a6 (ix1 l) := by
  pointwise [nrm]
  rfl
theorem wiT_at (b : Fin 4) (t : Fin 8192) (k : Fin 128) : wiT y (ix3 b t k)
    = if h : k.val < 8 then y (ix3 b t ⟨2112 + k.val, by omega⟩) * wscale else 0 := by
  pointwise [wiT]
  rw [zero_int]
end Cut

end Cert.Proof.DsaIn.Plain

end
-- ==== Proof.DsaInRefOut.lean ====
/- The results of the reference of the sparse attention's input projections, entry by entry. -/
module

public import proofs.«01_k».proof.Proof.DsaInRef

public import proofs.«01_k».proof.Proof.DsaInMath
public import proofs.«01_k».proof.Reference7Ideal
public import proofs.«01_k».proof.Proof.Gen.Reference7Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.DsaIn.Plain

open Cert.Reference7Ideal Cert.Reference7Ideal.Gen
open Cert.Proof.Moe (hrow)

theorem trunc_at {s : Shape} (v : FVec Ideal s .f32) (h : FTy.bits .bf16 < FTy.bits .f32) (i : s.Idx) : truncf .bf16 v h i = v i := rfl
theorem scaled_at (z : FVec Ideal S4x8192x8x128 .f32) (i : S4x8192x8x128.Idx) :
    mulf z (broadcastInDim S4x8192x8x128 ![] bcast_S_S4x8192x8x128 (constant S_ .f32 0x3DB504F3#32)) i = z i * scale := rfl
/-- Heads side by side. -/
theorem flat8 (x : S4x8192x8x128.Idx → EReal) (h : S4x8192x8x128.ShapeCasts S4x8192x1024) (b : Fin 4) (t : Fin 8192) (e : Fin 1024) :
    shapeCast S4x8192x1024 x h (ix3 b t e) = x (ix4 b t ⟨e.val / 128, by omega⟩ ⟨e.val % 128, by omega⟩) :=
  shapeCast_apply x h _ _ (by
    rw [Shape.rowMajor_val_four, Shape.rowMajor_val_three]
    show ((b.val * 8192 + t.val) * 8 + e.val / 128) * 128 + e.val % 128 = (b.val * 8192 + t.val) * 1024 + e.val
    omega)
theorem flat2 (x : S4x8192x2x128.Idx → EReal) (h : S4x8192x2x128.ShapeCasts S4x8192x256) (b : Fin 4) (t : Fin 8192) (e : Fin 256) :
    shapeCast S4x8192x256 x h (ix3 b t e) = x (ix4 b t ⟨e.val / 128, by omega⟩ ⟨e.val % 128, by omega⟩) :=
  shapeCast_apply x h _ _ (by
    rw [Shape.rowMajor_val_four, Shape.rowMajor_val_three]
    show ((b.val * 8192 + t.val) * 2 + e.val / 128) * 128 + e.val % 128 = (b.val * 8192 + t.val) * 256 + e.val
    omega)
theorem flat64 (x : S4x8192x8x64.Idx → EReal) (h : S4x8192x8x64.ShapeCasts S4x8192x512) (b : Fin 4) (t : Fin 8192) (e : Fin 512) :
    shapeCast S4x8192x512 x h (ix3 b t e) = x (ix4 b t ⟨e.val / 64, by omega⟩ ⟨e.val % 64, by omega⟩) :=
  shapeCast_apply x h _ _ (by
    rw [Shape.rowMajor_val_four, Shape.rowMajor_val_three]
    show ((b.val * 8192 + t.val) * 8 + e.val / 64) * 64 + e.val % 64 = (b.val * 8192 + t.val) * 512 + e.val
    omega)
theorem qT_at (c s : FVec Ideal S4x8192x16 .f32) (x : FVec Ideal S4x8192x8x128 .f32) (b : Fin 4) (t : Fin 8192) (e : Fin 1024) :
    qT x c s (ix3 b t e) = q4 x c s (ix4 b t ⟨e.val / 128, by omega⟩ ⟨e.val % 128, by omega⟩) * scale := by
  unfold qT
  exact (trunc_at _ _ _).trans ((flat8 _ _ b t e).trans (scaled_at _ _))
theorem kT_at (c s : FVec Ideal S4x8192x16 .f32) (x : FVec Ideal S4x8192x2x128 .f32) (b : Fin 4) (t : Fin 8192) (e : Fin 256) :
    kT x c s (ix3 b t e) = k4 x c s (ix4 b t ⟨e.val / 128, by omega⟩ ⟨e.val % 128, by omega⟩) := by
  unfold kT
  exact (trunc_at _ _ _).trans (flat2 _ _ b t e)
theorem qiT_at (c s : FVec Ideal S4x8192x8 .f32) (x : FVec Ideal S4x8192x8x64 .f32) (b : Fin 4) (t : Fin 8192) (e : Fin 512) :
    qiT x c s (ix3 b t e) = qi4 x c s (ix4 b t ⟨e.val / 64, by omega⟩ ⟨e.val % 64, by omega⟩) := by
  unfold qiT
  exact (trunc_at _ _ _).trans (flat64 _ _ b t e)
theorem kiT_at (c s : FVec Ideal S4x8192x8 .f32) (x : FVec Ideal S4x8192x64 .f32) (b : Fin 4) (t : Fin 8192) (e : Fin 128) :
    kiT x c s (ix3 b t e) = ki3 x c s (ix3 b t ⟨e.val % 64, by omega⟩) := by
  pointwise [kiT]
  by_cases h : e.val < 64
  · rw [dif_pos h]
    exact congrArg (fun l => ki3 x c s (ix3 b t l)) (Fin.ext (by show e.val = e.val % 64; omega))
  · rw [dif_neg h]
    exact congrArg (fun l => ki3 x c s (ix3 b t l)) (Fin.ext (by show e.val - 64 = e.val % 64; omega))

end Cert.Proof.DsaIn.Plain

end
-- ==== Proof.DsaInRefRope.lean ====
/- The rotations of the reference of the sparse attention's input projections, entry by entry. -/
module

public import proofs.«01_k».proof.Proof.DsaInRef

public import proofs.«01_k».proof.Proof.DsaInMath
public import proofs.«01_k».proof.Reference7Ideal
public import proofs.«01_k».proof.Proof.Gen.Reference7Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.DsaIn.Plain

open Cert.Reference7Ideal Cert.Reference7Ideal.Gen
open Cert.Proof.Moe (hrow)

section Rope
variable (c s : FVec Ideal S4x8192x16 .f32) (ci si : FVec Ideal S4x8192x8 .f32)
theorem q4_at (x : FVec Ideal S4x8192x8x128 .f32) (b : Fin 4) (t : Fin 8192) (h : Fin 8) (l : Fin 128) :
    q4 x c s (ix4 b t h l) = rope (N := 128) (H := 16) (by omega) (fun l => x (ix4 b t h l)) (fun i => c (ix3 b t i)) (fun i => s (ix3 b t i)) l := by
  pointwise [q4]
  unfold rope
  by_cases h1 : l.val < 16
  · simp only [dif_pos h1, dif_pos (show l.val < 32 by omega)]
  · by_cases h2 : l.val < 32
    · have e : ∀ p, (⟨16 + (l.val - 16), p⟩ : Fin 128) = l := fun p => Fin.ext (by show 16 + (l.val - 16) = l.val; omega)
      simp only [dif_neg h1, dif_pos h2, dif_pos (show l.val < 2 * 16 by omega), e]
    · have e : ∀ p, (⟨32 + (l.val - 32), p⟩ : Fin 128) = l := fun p => Fin.ext (by show 32 + (l.val - 32) = l.val; omega)
      simp only [dif_neg h1, dif_neg h2, dif_neg (show ¬ l.val < 2 * 16 by omega), e]
theorem k4_at (x : FVec Ideal S4x8192x2x128 .f32) (b : Fin 4) (t : Fin 8192) (h : Fin 2) (l : Fin 128) :
    k4 x c s (ix4 b t h l) = rope (N := 128) (H := 16) (by omega) (fun l => x (ix4 b t h l)) (fun i => c (ix3 b t i)) (fun i => s (ix3 b t i)) l := by
  pointwise [k4]
  unfold rope
  by_cases h1 : l.val < 16
  · simp only [dif_pos h1, dif_pos (show l.val < 32 by omega)]
  · by_cases h2 : l.val < 32
    · have e : ∀ p, (⟨16 + (l.val - 16), p⟩ : Fin 128) = l := fun p => Fin.ext (by show 16 + (l.val - 16) = l.val; omega)
      simp only [dif_neg h1, dif_pos h2, dif_pos (show l.val < 2 * 16 by omega), e]
    · have e : ∀ p, (⟨32 + (l.val - 32), p⟩ : Fin 128) = l := fun p => Fin.ext (by show 32 + (l.val - 32) = l.val; omega)
      simp only [dif_neg h1, dif_neg h2, dif_neg (show ¬ l.val < 2 * 16 by omega), e]
theorem qi4_at (x : FVec Ideal S4x8192x8x64 .f32) (b : Fin 4) (t : Fin 8192) (h : Fin 8) (l : Fin 64) :
    qi4 x ci si (ix4 b t h l) = rope (N := 64) (H := 8) (by omega) (fun l => x (ix4 b t h l)) (fun i => ci (ix3 b t i)) (fun i => si (ix3 b t i)) l := by
  pointwise [qi4]
  unfold rope
  by_cases h1 : l.val < 8
  · simp only [dif_pos h1, dif_pos (show l.val < 16 by omega)]
  · by_cases h2 : l.val < 16
    · have e : ∀ p, (⟨8 + (l.val - 8), p⟩ : Fin 64) = l := fun p => Fin.ext (by show 8 + (l.val - 8) = l.val; omega)
      simp only [dif_neg h1, dif_pos h2, dif_pos (show l.val < 2 * 8 by omega), e]
    · have e : ∀ p, (⟨16 + (l.val - 16), p⟩ : Fin 64) = l := fun p => Fin.ext (by show 16 + (l.val - 16) = l.val; omega)
      simp only [dif_neg h1, dif_neg h2, dif_neg (show ¬ l.val < 2 * 8 by omega), e]
theorem ki3_at (x : FVec Ideal S4x8192x64 .f32) (b : Fin 4) (t : Fin 8192) (l : Fin 64) :
    ki3 x ci si (ix3 b t l) = rope (N := 64) (H := 8) (by omega) (fun l => x (ix3 b t l)) (fun i => ci (ix3 b t i)) (fun i => si (ix3 b t i)) l := by
  pointwise [ki3]
  unfold rope
  by_cases h1 : l.val < 8
  · simp only [dif_pos h1, dif_pos (show l.val < 16 by omega)]
  · by_cases h2 : l.val < 16
    · have e : ∀ p, (⟨8 + (l.val - 8), p⟩ : Fin 64) = l := fun p => Fin.ext (by show 8 + (l.val - 8) = l.val; omega)
      simp only [dif_neg h1, dif_pos h2, dif_pos (show l.val < 2 * 8 by omega), e]
    · have e : ∀ p, (⟨16 + (l.val - 16), p⟩ : Fin 64) = l := fun p => Fin.ext (by show 16 + (l.val - 16) = l.val; omega)
      simp only [dif_neg h1, dif_neg h2, dif_neg (show ¬ l.val < 2 * 8 by omega), e]
end Rope

end Cert.Proof.DsaIn.Plain

end
-- ==== Proof.DsaInRefV.lean ====
/- The values of the reference of the sparse attention's input projections, entry by entry. -/
module

public import proofs.«01_k».proof.Proof.DsaInRef

public import proofs.«01_k».proof.Proof.DsaInMath
public import proofs.«01_k».proof.Reference7Ideal
public import proofs.«01_k».proof.Proof.Gen.Reference7Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.DsaIn.Plain

open Cert.Reference7Ideal Cert.Reference7Ideal.Gen
open Cert.Proof.Moe (hrow)

theorem trunc_v {s : Shape} (v : FVec Ideal s .f32) (h : FTy.bits .bf16 < FTy.bits .f32) (i : s.Idx) : truncf .bf16 v h i = v i := rfl
theorem flatV (x : S4x2x144x8192.Idx → EReal) (h : S4x2x144x8192.ShapeCasts S4x288x8192) (b : Fin 4) (k : Fin 288) (t : Fin 8192) :
    shapeCast S4x288x8192 x h (ix3 b k t) = x (ix4 b ⟨k.val / 144, by omega⟩ ⟨k.val % 144, by omega⟩ t) :=
  shapeCast_apply x h _ _ (by
    rw [Shape.rowMajor_val_four, Shape.rowMajor_val_three]
    show ((b.val * 2 + k.val / 144) * 144 + k.val % 144) * 8192 + t.val = (b.val * 288 + k.val) * 8192 + t.val
    omega)
theorem headsV (x : S4x8192x256.Idx → EReal) (h : S4x8192x256.ShapeCasts S4x8192x2x128) (b : Fin 4) (t : Fin 8192) (g : Fin 2) (l : Fin 128) :
    shapeCast S4x8192x2x128 x h (ix4 b t g l) = x (ix3 b t ⟨g.val * 128 + l.val, by omega⟩) :=
  shapeCast_apply x h _ _ (by
    rw [Shape.rowMajor_val_four, Shape.rowMajor_val_three]
    show (b.val * 8192 + t.val) * 256 + (g.val * 128 + l.val) = ((b.val * 8192 + t.val) * 2 + g.val) * 128 + l.val
    omega)
theorem catV_at (u : FVec Ideal S4x2x128x8192 .f32) (w : FVec Ideal S4x2x16x8192 .f32) (b : Fin 4) (g : Fin 2) (k : Fin 144) (t : Fin 8192) :
    concatenate S4x2x144x8192 2 [⟨S4x2x128x8192, u⟩, ⟨S4x2x16x8192, w⟩] concatenates_S4x2x128x8192_S4x2x16x8192_S4x2x144x8192_d2 (ix4 b g k t)
      = if h : k.val < 128 then u (ix4 b g ⟨k.val, h⟩ t) else w (ix4 b g ⟨k.val - 128, by omega⟩ t) := by
  pointwise
theorem turnV_at (x : FVec Ideal S4x8192x2x128 .f32) (b : Fin 4) (g : Fin 2) (k : Fin 128) (t : Fin 8192) :
    transpose S4x2x128x8192 [0, 2, 3, 1] x transposes_S4x8192x2x128_S4x2x128x8192_0_2_3_1 (ix4 b g k t) = x (ix4 b t g k) := by
  pointwise
theorem cutV_at (y : FVec Ideal S4x8192x2120 .f32) (b : Fin 4) (t : Fin 8192) (l : Fin 256) :
    extractStridedSlice S4x8192x256 ![0, 0, 1280] y slices_S4x8192x2120_S4x8192x256_0_0_1280 (ix3 b t l) = y (ix3 b t ⟨1280 + l.val, by omega⟩) := by
  pointwise
theorem onesV_at (i : S4x2x16x8192.Idx) : (broadcastInDim S4x2x16x8192 ![] bcast_S_S4x2x16x8192 (constant S_ .f32 0x3F800000#32) : FVec Ideal S4x2x16x8192 .f32) i = 1 := one_word
theorem vT_at (y : FVec Ideal S4x8192x2120 .f32) (b : Fin 4) (k : Fin 288) (t : Fin 8192) : vT y (ix3 b k t)
    = if h : k.val % 144 < 128 then y (ix3 b t ⟨1280 + (k.val / 144 * 128 + k.val % 144), by omega⟩) else 1 := by
  unfold vT
  rw [trunc_v, flatV, catV_at]
  refine dite_congr rfl (fun h => ?_) fun _ => ?_
  · rw [turnV_at, headsV, cutV_at]
  · rw [onesV_at]

end Cert.Proof.DsaIn.Plain

end
-- ==== Proof.DsaInRefRes.lean ====
/- The results of the plain lines of the sparse attention's input projections, entry by entry. -/
module

public import proofs.«01_k».proof.Defs
public import proofs.«01_k».proof.Proof.DsaInRef
public import proofs.«01_k».proof.Proof.DsaInRefCut
public import proofs.«01_k».proof.Proof.DsaInRefOut
public import proofs.«01_k».proof.Proof.DsaInRefRope
public import proofs.«01_k».proof.Proof.DsaInRefV

@[expose] public section

set_option maxRecDepth 16384

noncomputable section

open Idealize.ShloMosaic Idealize.ShloMosaic.TcCoe Idealize.SL.Sem

namespace Cert.Proof.DsaIn.Plain

open Cert.Reference7Ideal Cert.Reference7Ideal.Gen
open Cert.Proof.Moe (hrow)

variable (a0 : FVec Ideal S4x8192x1024 .f32) (a1 : FVec Ideal S1024 .f32) (a2 a3 : FVec Ideal S4x1x1024 .f32) (a5 : FVec Ideal S1024x2120 .f32)
  (a6 : FVec Ideal S64 .f32) (ca sa : FVec Ideal S4x8192x16 .f32) (ci si : FVec Ideal S4x8192x8 .f32)

theorem resQ_at (b : Fin 4) (t : Fin 8192) (e : Fin 1024) : qT (x62 (yT a0 a1 a2 a3 a5)) ca sa (ix3 b t e) = outQ a0 a1 a2 a3 a5 ca sa b t e := by
  rw [qT_at, q4_at]
  simp only [x62_at, yT_at]
  unfold outQ
  rfl
theorem resK_at (b : Fin 4) (t : Fin 8192) (e : Fin 256) : kT (x83 (yT a0 a1 a2 a3 a5)) ca sa (ix3 b t e) = outK a0 a1 a2 a3 a5 ca sa b t e := by
  rw [kT_at, k4_at]
  simp only [x83_at, yT_at]
  unfold outK
  rfl
theorem resV_at (b : Fin 4) (k : Fin 288) (t : Fin 8192) : vT (yT a0 a1 a2 a3 a5) (ix3 b k t) = outV a0 a1 a2 a3 a5 b k t := by
  rw [vT_at]
  simp only [yT_at]
  unfold outV
  rfl
theorem resQi_at (b : Fin 4) (t : Fin 8192) (e : Fin 512) : qiT (x106 (yT a0 a1 a2 a3 a5)) ci si (ix3 b t e) = outQi a0 a1 a2 a3 a5 ci si b t e := by
  rw [qiT_at, qi4_at]
  simp only [x106_at, yT_at]
  unfold outQi
  rfl
theorem resKi_at (b : Fin 4) (t : Fin 8192) (e : Fin 128) : kiT (nrm (x60 (yT a0 a1 a2 a3 a5)) a6) ci si (ix3 b t e) = outKi a0 a1 a2 a3 a5 a6 ci si b t e := by
  rw [kiT_at, ki3_at]
  simp only [nrm_at, x60_at, yT_at]
  unfold outKi keyN
  rfl
theorem resWi_at (b : Fin 4) (t : Fin 8192) (k : Fin 128) : wiT (yT a0 a1 a2 a3 a5) (ix3 b t k) = outWi a0 a1 a2 a3 a5 b t k := by
  rw [wiT_at]
  simp only [yT_at]
  unfold outWi
  rfl

end Cert.Proof.DsaIn.Plain

end
-- ==== Proof.DsaInRefRun.lean ====
/- The six results of a run of the reference of the sparse attention's input projections. -/
module

public import proofs.«01_k».proof.Proof.DsaInRef

public import proofs.«01_k».proof.Proof.DsaInMath
public import proofs.«01_k».proof.Reference7Ideal
public import proofs.«01_k».proof.Proof.Gen.Reference7Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.DsaIn.Plain

open Cert.Reference7Ideal Cert.Reference7Ideal.Gen
open Cert.Proof.Moe (hrow)

/-- The six results of a run. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v153) = qT (x62 (yT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))) (Host.cos (angA (m ((c.tc : Thread nD τ).loc main_arg4)))) (Host.sin (angA (m ((c.tc : Thread nD τ).loc main_arg4))))
      ∧ r.2.mem ((c.tc : Thread nD τ).loc main_v155) = kT (x83 (yT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))) (Host.cos (angA (m ((c.tc : Thread nD τ).loc main_arg4)))) (Host.sin (angA (m ((c.tc : Thread nD τ).loc main_arg4))))
      ∧ r.2.mem ((c.tc : Thread nD τ).loc main_v157) = vT (yT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))
      ∧ r.2.mem ((c.tc : Thread nD τ).loc main_v159) = qiT (x106 (yT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))) (Host.cos (angI (m ((c.tc : Thread nD τ).loc main_arg4)))) (Host.sin (angI (m ((c.tc : Thread nD τ).loc main_arg4))))
      ∧ r.2.mem ((c.tc : Thread nD τ).loc main_v161) = kiT (nrm (x60 (yT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))) (m ((c.tc : Thread nD τ).loc main_arg6))) (Host.cos (angI (m ((c.tc : Thread nD τ).loc main_arg4)))) (Host.sin (angI (m ((c.tc : Thread nD τ).loc main_arg4))))
      ∧ r.2.mem ((c.tc : Thread nD τ).loc main_v162) = wiT (yT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  Value.run (F := Ideal) m ρ

end Cert.Proof.DsaIn.Plain

end
-- ==== Proof.DsaInTie.lean ====
/- The two programs of the sparse attention's input projections: their results side by side. -/
module

public import proofs.«01_k».proof.Defs
public import proofs.«01_k».proof.Proof.DsaInKernel
public import proofs.«01_k».proof.Proof.DsaInRefRes
public import proofs.«01_k».proof.Proof.DsaInRefRun
public import proofs.«01_k».proof.Proof.Gen.Kernel7Ideal.Value
public import proofs.«01_k».proof.Proof.Gen.Reference7Ideal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Proof.DsaIn

/-- Every index of a result has its three coordinates. -/
theorem idx_eta {n0 n1 n2 : ℕ} (i : (⟨3, ![n0, n1, n2]⟩ : Shape).Idx) : i = ix3 (i 0) (i 1) (i 2) := by
  funext a
  match a with
  | ⟨0, _⟩ => rfl
  | ⟨1, _⟩ => rfl
  | ⟨2, _⟩ => rfl
theorem ext3 {n0 n1 n2 : ℕ} {f g : (⟨3, ![n0, n1, n2]⟩ : Shape).Idx → EReal} (h : ∀ a b c, f (ix3 a b c) = g (ix3 a b c)) : f = g := by
  funext i
  rw [idx_eta i]
  exact h _ _ _
theorem angles_A (a4 : IVec Cert.Kernel7Ideal.S4x8192 32) : Plain.angA a4 = kAngA a4 := by
  unfold Plain.angA kAngA
  rfl
theorem angles_I (a4 : IVec Cert.Kernel7Ideal.S4x8192 32) : Plain.angI a4 = kAngI a4 := by
  unfold Plain.angI kAngI
  rfl

theorem quiescent_Reference7Ideal : quiescent_Reference7Ideal := fun m ρ _ =>
  (θ_run Cert.Reference7Ideal.defs _ _).mono (fun r h => ⟨fun c => (h c).2.2.2.2.2.2, sem_eq_zero_of_no_sems (by decide) r.2⟩)
    (Plain.run_results m ρ)

/-- From memories that agree on the arguments the two programs' six results are equal. -/
theorem algebraic_Kernel7Ideal_Reference7Ideal : algebraic_Kernel7Ideal_Reference7Ideal := by
  intro m ρ m' ρ' _ hagree
  refine ⟨_, _, _, _, _, _, Cert.Kernel7Ideal.Value.run_blocks (F := Ideal) m ρ, ?_⟩
  refine (θ_run Cert.Reference7Ideal.defs _ _).mono (fun _ h c => ?_) (Plain.run_results m' ρ')
  obtain ⟨e0, e1, e2, e3, e4, e5, hA⟩ := h c
  obtain ⟨h0, h1, h2, h3, h4, h5, h6⟩ := hagree c
  rw [h0, h1, h2, h3, h5, h4, angles_A] at e0 e1
  rw [h0, h1, h2, h3, h5] at e2 e5
  rw [h0, h1, h2, h3, h5, h4, angles_I] at e3
  rw [h0, h1, h2, h3, h5, h4, h6, angles_I] at e4
  refine ⟨e0.trans ?_, e1.trans ?_, e2.trans ?_, e3.trans ?_, e4.trans ?_, e5.trans ?_, hA⟩
  · exact ext3 fun _ _ _ => (Plain.resQ_at _ _ _ _ _ _ _ _ _ _).trans (resQ m c _ _ _).symm
  · exact ext3 fun _ _ _ => (Plain.resK_at _ _ _ _ _ _ _ _ _ _).trans (resK m c _ _ _).symm
  · exact ext3 fun _ _ _ => (Plain.resV_at _ _ _ _ _ _ _ _).trans (resV m c _ _ _).symm
  · exact ext3 fun _ _ _ => (Plain.resQi_at _ _ _ _ _ _ _ _ _ _).trans (resQi m c _ _ _).symm
  · exact ext3 fun _ _ _ => (Plain.resKi_at _ _ _ _ _ _ _ _ _ _ _).trans (resKi m c _ _ _).symm
  · exact ext3 fun _ _ _ => (Plain.resWi_at _ _ _ _ _ _ _ _).trans (resWi m c _ _ _).symm

end Cert.Proof.DsaIn

end
-- ==== Proof.lean ====
/- The proof of the claim: the frames (the sparse attention's first), the routed feed-forward layer's value under its precondition, and the values of the
   dense feed-forward layer, the stick-breaking layer's projections, the output projection, the latent attention and the sparse
   attention's input projections. -/
module

public import proofs.«01_k».proof.Defs
public import proofs.«01_k».proof.Proof.Gen.Kernel
public import proofs.«01_k».proof.Proof.DsaFrame
public import proofs.«01_k».proof.Proof.MoeTie
public import proofs.«01_k».proof.Proof.OutTie
public import proofs.«01_k».proof.Proof.SbInTie
public import proofs.«01_k».proof.Proof.FfnTie
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.FlashTie
public import proofs.«01_k».proof.Proof.DsaInTie
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference2Ideal_pre : quiescent_Reference2Ideal_pre_finite_scales (hPre_finite_scales := Moe.pre_facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal :
    algebraic_Kernel2Ideal_Reference2Ideal_pre_finite_scales (hPre_finite_scales := Moe.pre_facts) := by
  intro m ρ m' ρ' hpre hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨h0, h1, h2, h3, h4, h5, h6, h7, h8, h9⟩ := hagree c
  exact Moe.tie m c _ h0 h1 h2 h3 h4 h5 h6 h7 h8 h9 hpre

theorem claim : Cert.Claim := ⟨Cert.Kernel.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Moe.pre_facts, Flash.pre_facts,
  fun m ρ _ => Dsa.frame m ρ, fun m ρ _ => Cert.Kernel2.Gen.frame m ρ, fun m ρ _ => Cert.Kernel2Ideal.Gen.frame m ρ, fun m ρ _ => Cert.Kernel2Ideal.Gen.frame m ρ,
  quiescent_Reference2Ideal, quiescent_Reference2Ideal_pre,
  fun m ρ _ => Cert.Kernel3.Gen.frame m ρ, fun m ρ _ => Cert.Kernel3Ideal.Gen.frame m ρ, Ffn.quiescent_Reference3Ideal,
  fun m ρ _ => Cert.Kernel4.Gen.frame m ρ, fun m ρ _ => Cert.Kernel4Ideal.Gen.frame m ρ, SbIn.quiescent_Reference4Ideal,
  fun m ρ _ => Cert.Kernel5.Gen.frame m ρ, fun m ρ _ => Cert.Kernel5Ideal.Gen.frame m ρ, Out.quiescent_Reference5Ideal,
  fun m ρ _ => Cert.Kernel6.Gen.frame m ρ, fun m ρ _ => Cert.Kernel6Ideal.Gen.frame m ρ, fun m ρ _ => Cert.Kernel6Ideal.Gen.frame m ρ,
  Flash.quiescent_Reference6Ideal, Flash.quiescent_Reference6Ideal_pre,
  fun m ρ _ => Cert.Kernel7.Gen.frame m ρ, fun m ρ _ => Cert.Kernel7Ideal.Gen.frame m ρ, DsaIn.quiescent_Reference7Ideal,
  (trivial : preserves_Kernel2_Kernel2Ideal), algebraic_Kernel2Ideal_Reference2Ideal,
  (trivial : preserves_Kernel3_Kernel3Ideal), Ffn.algebraic_Kernel3Ideal_Reference3Ideal,
  (trivial : preserves_Kernel4_Kernel4Ideal), SbIn.algebraic_Kernel4Ideal_Reference4Ideal,
  (trivial : preserves_Kernel5_Kernel5Ideal), Out.algebraic_Kernel5Ideal_Reference5Ideal,
  Flash.preserves_mask, Flash.algebraic_Kernel6Ideal_Reference6Ideal,
  (trivial : preserves_Kernel7_Kernel7Ideal), DsaIn.algebraic_Kernel7Ideal_Reference7Ideal⟩

end Cert.Proof

end
